-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_open_forget_gate [hPre_open_forget_gate : Cert.Pre_open_forget_gate.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_open_forget_gate.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_open_forget_gate [hPre_open_forget_gate : Cert.Pre_open_forget_gate.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_open_forget_gate.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_open_forget_gate [hKernel6Ideal : Cert.Kernel6Ideal.Facts] [hPre_open_forget_gate : Cert.Pre_open_forget_gate.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_open_forget_gate m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_open_forget_gate [hReference6Ideal : Cert.Reference6Ideal.Facts] [hPre_open_forget_gate : Cert.Pre_open_forget_gate.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_open_forget_gate m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15))
      ∧ r.2.sem = fun _ => 0)

def preserves_Kernel_KernelIdeal : Prop :=
  IdealRules.named_const.Statement Cert.KernelIdeal.κ "mask_tenth" .f32 0xEFA18F08#32 ⊥

def algebraic_KernelIdeal_ReferenceIdeal_on_own_lanes [hKernelIdeal : Cert.KernelIdeal.Facts] [hReferenceIdeal : Cert.ReferenceIdeal.Facts] [hOn_own_lanes : Cert.On_own_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![128, 8, 128]⟩ : Shape).Idx, (Cert.On_own_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v11_0) i = v0 c i)
          ∧ (∀ i : (⟨3, ![128, 1, 512]⟩ : Shape).Idx, (Cert.On_own_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v11_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![128, 8, 128]⟩ : Shape).Idx, (Cert.On_own_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v76) i = v0 c i)
          ∧ (∀ i : (⟨3, ![128, 1, 512]⟩ : Shape).Idx, (Cert.On_own_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v77) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v29_0)) (v1 : (c : Dev Cert.Kernel4Ideal.nD) → Buf (Elt Ideal) ((c.tc : Thread Cert.Kernel4Ideal.nD Cert.Kernel4Ideal.τ).loc Cert.Kernel4Ideal.main_v29_1)) (v2 : (c : Dev Cert.Kernel4Ideal.nD) → Buf (Elt Ideal) ((c.tc : Thread Cert.Kernel4Ideal.nD Cert.Kernel4Ideal.τ).loc Cert.Kernel4Ideal.main_v29_2)) (v3 : (c : Dev Cert.Kernel4Ideal.nD) → Buf (Elt Ideal) ((c.tc : Thread Cert.Kernel4Ideal.nD Cert.Kernel4Ideal.τ).loc Cert.Kernel4Ideal.main_v29_3)) (v4 : (c : Dev Cert.Kernel4Ideal.nD) → Buf (Elt Ideal) ((c.tc : Thread Cert.Kernel4Ideal.nD Cert.Kernel4Ideal.τ).loc Cert.Kernel4Ideal.main_v29_4)) (v5 : (c : Dev Cert.Kernel4Ideal.nD) → Buf (Elt Ideal) ((c.tc : Thread Cert.Kernel4Ideal.nD Cert.Kernel4Ideal.τ).loc Cert.Kernel4Ideal.main_v29_5)) (v6 : (c : Dev Cert.Kernel4Ideal.nD) → Buf (Elt Ideal) ((c.tc : Thread Cert.Kernel4Ideal.nD Cert.Kernel4Ideal.τ).loc Cert.Kernel4Ideal.main_v29_6)) (v7 : (c : Dev Cert.Kernel4Ideal.nD) → Buf (Elt Ideal) ((c.tc : Thread Cert.Kernel4Ideal.nD Cert.Kernel4Ideal.τ).loc Cert.Kernel4Ideal.main_v29_7)) (v8 : (c : Dev Cert.Kernel4Ideal.nD) → Buf (Elt Ideal) ((c.tc : Thread Cert.Kernel4Ideal.nD Cert.Kernel4Ideal.τ).loc Cert.Kernel4Ideal.main_v29_8)) (v9 : (c : Dev Cert.Kernel4Ideal.nD) → Buf (Elt Ideal) ((c.tc : Thread Cert.Kernel4Ideal.nD Cert.Kernel4Ideal.τ).loc Cert.Kernel4Ideal.main_v29_9)) (v10 : (c : Dev Cert.Kernel4Ideal.nD) → Buf (Elt Ideal) ((c.tc : Thread Cert.Kernel4Ideal.nD Cert.Kernel4Ideal.τ).loc Cert.Kernel4Ideal.main_v29_10)) (v11 : (c : Dev Cert.Kernel4Ideal.nD) → Buf (Elt Ideal) ((c.tc : Thread Cert.Kernel4Ideal.nD Cert.Kernel4Ideal.τ).loc Cert.Kernel4Ideal.main_v29_11)) (v12 : (c : Dev Cert.Kernel4Ideal.nD) → Buf (Elt Ideal) ((c.tc : Thread Cert.Kernel4Ideal.nD Cert.Kernel4Ideal.τ).loc Cert.Kernel4Ideal.main_v29_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29_0) = v0 c
          ∧ r.2.mem ((c.tc : Thread Cert.Kernel4Ideal.nD Cert.Kernel4Ideal.τ).loc Cert.Kernel4Ideal.main_v29_1) = v1 c
          ∧ r.2.mem ((c.tc : Thread Cert.Kernel4Ideal.nD Cert.Kernel4Ideal.τ).loc Cert.Kernel4Ideal.main_v29_2) = v2 c
          ∧ r.2.mem ((c.tc : Thread Cert.Kernel4Ideal.nD Cert.Kernel4Ideal.τ).loc Cert.Kernel4Ideal.main_v29_3) = v3 c
          ∧ r.2.mem ((c.tc : Thread Cert.Kernel4Ideal.nD Cert.Kernel4Ideal.τ).loc Cert.Kernel4Ideal.main_v29_4) = v4 c
          ∧ r.2.mem ((c.tc : Thread Cert.Kernel4Ideal.nD Cert.Kernel4Ideal.τ).loc Cert.Kernel4Ideal.main_v29_5) = v5 c
          ∧ r.2.mem ((c.tc : Thread Cert.Kernel4Ideal.nD Cert.Kernel4Ideal.τ).loc Cert.Kernel4Ideal.main_v29_6) = v6 c
          ∧ r.2.mem ((c.tc : Thread Cert.Kernel4Ideal.nD Cert.Kernel4Ideal.τ).loc Cert.Kernel4Ideal.main_v29_7) = v7 c
          ∧ r.2.mem ((c.tc : Thread Cert.Kernel4Ideal.nD Cert.Kernel4Ideal.τ).loc Cert.Kernel4Ideal.main_v29_8) = v8 c
          ∧ r.2.mem ((c.tc : Thread Cert.Kernel4Ideal.nD Cert.Kernel4Ideal.τ).loc Cert.Kernel4Ideal.main_v29_9) = v9 c
          ∧ r.2.mem ((c.tc : Thread Cert.Kernel4Ideal.nD Cert.Kernel4Ideal.τ).loc Cert.Kernel4Ideal.main_v29_10) = v10 c
          ∧ r.2.mem ((c.tc : Thread Cert.Kernel4Ideal.nD Cert.Kernel4Ideal.τ).loc Cert.Kernel4Ideal.main_v29_11) = v11 c
          ∧ r.2.mem ((c.tc : Thread Cert.Kernel4Ideal.nD Cert.Kernel4Ideal.τ).loc Cert.Kernel4Ideal.main_v29_12) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_v17) = v4 c
          ∧ r.2.mem ((c.tc : Thread Cert.Reference4Ideal.nD Cert.Reference4Ideal.τ).loc Cert.Reference4Ideal.main_v18) = v5 c
          ∧ r.2.mem ((c.tc : Thread Cert.Reference4Ideal.nD Cert.Reference4Ideal.τ).loc Cert.Reference4Ideal.main_v19) = v6 c
          ∧ r.2.mem ((c.tc : Thread Cert.Reference4Ideal.nD Cert.Reference4Ideal.τ).loc Cert.Reference4Ideal.main_v20) = v7 c
          ∧ r.2.mem ((c.tc : Thread Cert.Reference4Ideal.nD Cert.Reference4Ideal.τ).loc Cert.Reference4Ideal.main_v22) = v8 c
          ∧ r.2.mem ((c.tc : Thread Cert.Reference4Ideal.nD Cert.Reference4Ideal.τ).loc Cert.Reference4Ideal.main_v23) = v9 c
          ∧ r.2.mem ((c.tc : Thread Cert.Reference4Ideal.nD Cert.Reference4Ideal.τ).loc Cert.Reference4Ideal.main_v25) = v10 c
          ∧ r.2.mem ((c.tc : Thread Cert.Reference4Ideal.nD Cert.Reference4Ideal.τ).loc Cert.Reference4Ideal.main_v26) = v11 c
          ∧ r.2.mem ((c.tc : Thread Cert.Reference4Ideal.nD Cert.Reference4Ideal.τ).loc Cert.Reference4Ideal.main_v39) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_open_forget_gate [hKernel6Ideal : Cert.Kernel6Ideal.Facts] [hReference6Ideal : Cert.Reference6Ideal.Facts] [hPre_open_forget_gate : Cert.Pre_open_forget_gate.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_open_forget_gate m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)) (v4 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_v2) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v144) = v0 c
          ∧ r.2.mem ((c.tc : Thread Cert.Reference6Ideal.nD Cert.Reference6Ideal.τ).loc Cert.Reference6Ideal.main_v120) = v1 c
          ∧ r.2.mem ((c.tc : Thread Cert.Reference6Ideal.nD Cert.Reference6Ideal.τ).loc Cert.Reference6Ideal.main_v145) = v2 c
          ∧ r.2.mem ((c.tc : Thread Cert.Reference6Ideal.nD Cert.Reference6Ideal.τ).loc Cert.Reference6Ideal.main_v147) = v3 c
          ∧ r.2.mem ((c.tc : Thread Cert.Reference6Ideal.nD Cert.Reference6Ideal.τ).loc Cert.Reference6Ideal.main_v143) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal_on_complete_blocks [hKernel7Ideal : Cert.Kernel7Ideal.Facts] [hReference7Ideal : Cert.Reference7Ideal.Facts] [hOn_complete_blocks : Cert.On_complete_blocks.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v66_0)) (v1 : (c : Dev Cert.Kernel7Ideal.nD) → Buf (Elt Ideal) ((c.tc : Thread Cert.Kernel7Ideal.nD Cert.Kernel7Ideal.τ).loc Cert.Kernel7Ideal.main_v66_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨3, ![2, 512, 128]⟩ : Shape).Idx, (Cert.On_complete_blocks.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 i = 1#1 → r.2.mem ((c.tc : Thread Cert.Kernel7Ideal.nD Cert.Kernel7Ideal.τ).loc Cert.Kernel7Ideal.main_v66_0) i = v0 c i)
          ∧ (∀ i : (⟨3, ![2, 512, 128]⟩ : Shape).Idx, (Cert.On_complete_blocks.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2 i = 1#1 → r.2.mem ((c.tc : Thread Cert.Kernel7Ideal.nD Cert.Kernel7Ideal.τ).loc Cert.Kernel7Ideal.main_v66_1) i = v1 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨3, ![2, 512, 128]⟩ : Shape).Idx, (Cert.On_complete_blocks.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 i = 1#1 → r.2.mem ((c.tc : Thread Cert.Reference7Ideal.nD Cert.Reference7Ideal.τ).loc Cert.Reference7Ideal.main_v33) i = v0 c i)
          ∧ (∀ i : (⟨3, ![2, 512, 128]⟩ : Shape).Idx, (Cert.On_complete_blocks.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2 i = 1#1 → r.2.mem ((c.tc : Thread Cert.Reference7Ideal.nD Cert.Reference7Ideal.τ).loc Cert.Reference7Ideal.main_v66) i = v1 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)) →
    ∃ (v0 : (c : Dev Cert.Kernel8Ideal.nD) → Buf (Elt Ideal) ((c.tc : Thread Cert.Kernel8Ideal.nD Cert.Kernel8Ideal.τ).loc Cert.Kernel8Ideal.main_v20_1)) (v1 : (c : Dev Cert.Kernel8Ideal.nD) → Buf (Elt Ideal) ((c.tc : Thread Cert.Kernel8Ideal.nD Cert.Kernel8Ideal.τ).loc Cert.Kernel8Ideal.main_v20_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_1) = v0 c
          ∧ r.2.mem ((c.tc : Thread Cert.Kernel8Ideal.nD Cert.Kernel8Ideal.τ).loc Cert.Kernel8Ideal.main_v20_2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_open_forget_gate : Cert.Pre_open_forget_gate.Facts) (hOn_own_lanes : Cert.On_own_lanes.Facts) (hOn_complete_blocks : Cert.On_complete_blocks.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_open_forget_gate (hKernel6Ideal := hKernel6Ideal) (hPre_open_forget_gate := hPre_open_forget_gate)
    ∧ quiescent_Reference6Ideal (hReference6Ideal := hReference6Ideal)
    ∧ quiescent_Reference6Ideal_pre_open_forget_gate (hReference6Ideal := hReference6Ideal) (hPre_open_forget_gate := hPre_open_forget_gate)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_on_own_lanes (hKernelIdeal := hKernelIdeal) (hReferenceIdeal := hReferenceIdeal) (hOn_own_lanes := hOn_own_lanes)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_open_forget_gate (hKernel6Ideal := hKernel6Ideal) (hReference6Ideal := hReference6Ideal) (hPre_open_forget_gate := hPre_open_forget_gate)
    ∧ preserves_Kernel7_Kernel7Ideal
    ∧ algebraic_Kernel7Ideal_Reference7Ideal_on_complete_blocks (hKernel7Ideal := hKernel7Ideal) (hReference7Ideal := hReference7Ideal) (hOn_complete_blocks := hOn_complete_blocks)
    ∧ preserves_Kernel8_Kernel8Ideal
    ∧ algebraic_Kernel8Ideal_Reference8Ideal (hKernel8Ideal := hKernel8Ideal) (hReference8Ideal := hReference8Ideal)
-- ==== On_complete_blocks.lean ====
abbrev S2x8192x2x64 : Shape := ⟨4, ![2, 8192, 2, 64]⟩
abbrev S32x64 : Shape := ⟨2, ![32, 64]⟩
abbrev S32x64x128 : Shape := ⟨3, ![32, 64, 128]⟩
abbrev S128x64 : Shape := ⟨2, ![128, 64]⟩
abbrev S2x512x128 : Shape := ⟨3, ![2, 512, 128]⟩
abbrev S_ : Shape := ⟨0, ![]⟩

class Facts : Prop where
  bcast_S_S2x512x128 : S_.BroadcastsInDim S2x512x128 (![] : Fin 0 → Fin S2x512x128.rank)

variable [Facts]

def fn {F : FTy → Type} [FloatOps F] (main_arg0 : FVec F S2x8192x2x64 .f32) (main_arg1 : FVec F S2x8192x2x64 .f32) (main_arg2 : FVec F S32x64 .f32) (main_arg3 : FVec F S32x64x128 .f32) (main_arg4 : FVec F S128x64 .f32) (main_arg5 : FVec F S32x64 .f32) (main_arg6 : FVec F S32x64x128 .f32) (main_arg7 : FVec F S128x64 .f32) : IVec S2x512x128 1 × IVec S2x512x128 1 :=
  let main_v0 : IVec S2x512x128 32 := iotaInDim S2x512x128 32 1
  let main_c : IVec S_ 32 := constantI S_ 32 510#32
  let main_v1 : IVec S2x512x128 32 := broadcastInDim S2x512x128 ![] bcast_S_S2x512x128 main_c
  let main_v2 : IVec S2x512x128 1 := cmpi .sle main_v0 main_v1
  let main_c_0 : IVec S_ 32 := constantI S_ 32 510#32
  let main_v3 : IVec S2x512x128 32 := broadcastInDim S2x512x128 ![] bcast_S_S2x512x128 main_c_0
  let main_v4 : IVec S2x512x128 1 := cmpi .sle main_v0 main_v3
  (main_v2, main_v4)
-- ==== On_own_lanes.lean ====
abbrev S128x8x64 : Shape := ⟨3, ![128, 8, 64]⟩
abbrev S128x512x128 : Shape := ⟨3, ![128, 512, 128]⟩
abbrev S8x512 : Shape := ⟨2, ![8, 512]⟩
abbrev S128x8x128 : Shape := ⟨3, ![128, 8, 128]⟩
abbrev S128x1x512 : Shape := ⟨3, ![128, 1, 512]⟩
abbrev S_ : Shape := ⟨0, ![]⟩

class Facts : Prop where
  bcast_S_S128x1x512 : S_.BroadcastsInDim S128x1x512 (![] : Fin 0 → Fin S128x1x512.rank)
  bcast_S_S128x8x128 : S_.BroadcastsInDim S128x8x128 (![] : Fin 0 → Fin S128x8x128.rank)

variable [Facts]

def fn {F : FTy → Type} [FloatOps F] (main_arg0 : FVec F S128x8x64 .f32) (main_arg1 : FVec F S128x512x128 .bf16) (main_arg2 : FVec F S128x512x128 .bf16) (main_arg3 : FVec F S8x512 .f32) : IVec S128x8x128 1 × IVec S128x1x512 1 :=
  let main_v0 : IVec S128x8x128 32 := iotaInDim S128x8x128 32 1
  let main_v1 : IVec S128x8x128 32 := iotaInDim S128x8x128 32 2
  let main_v2 : IVec S128x1x512 32 := iotaInDim S128x1x512 32 0
  let main_c : IVec S_ 32 := constantI S_ 32 0#32
  let main_v3 : IVec S128x1x512 32 := broadcastInDim S128x1x512 ![] bcast_S_S128x1x512 main_c
  let main_v4 : IVec S128x1x512 1 := cmpi .sge main_v2 main_v3
  let main_c_0 : IVec S_ 32 := constantI S_ 32 4#32
  let main_v5 : IVec S128x8x128 32 := broadcastInDim S128x8x128 ![] bcast_S_S128x8x128 main_c_0
  let main_v6 : IVec S128x8x128 1 := cmpi .sge main_v0 main_v5
  let main_c_1 : IVec S_ 32 := constantI S_ 32 64#32
  let main_v7 : IVec S128x8x128 32 := broadcastInDim S128x8x128 ![] bcast_S_S128x8x128 main_c_1
  let main_v8 : IVec S128x8x128 1 := cmpi .sge main_v1 main_v7
  let main_v9 : IVec S128x8x128 1 := cmpi .eq main_v6 main_v8
  (main_v9, main_v4)
-- ==== Pre_open_forget_gate.lean ====
abbrev S128x512 : Shape := ⟨2, ![128, 512]⟩
abbrev S128x128 : Shape := ⟨2, ![128, 128]⟩
abbrev S128x4x128x128 : Shape := ⟨4, ![128, 4, 128, 128]⟩
abbrev S128x4x128 : Shape := ⟨3, ![128, 4, 128]⟩
abbrev S128x4 : Shape := ⟨2, ![128, 4]⟩
abbrev S128x3x512 : Shape := ⟨3, ![128, 3, 512]⟩
abbrev S4x512 : Shape := ⟨2, ![4, 512]⟩
abbrev S512 : Shape := ⟨1, ![512]⟩
abbrev S4x128x128 : Shape := ⟨3, ![4, 128, 128]⟩
abbrev S2x4 : Shape := ⟨2, ![2, 4]⟩
abbrev S1x4 : Shape := ⟨2, ![1, 4]⟩
abbrev S4 : Shape := ⟨1, ![4]⟩
abbrev S_ : Shape := ⟨0, ![]⟩

class Facts : Prop where
  slices_S128x128_S128x4_0_28 : S128x128.Slices ![0, 28] S128x4
  slices_S2x4_S1x4_1_0 : S2x4.Slices ![1, 0] S1x4
  shapeCasts_S1x4_S4 : S1x4.ShapeCasts S4
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  bcast_S_S128x4 : S_.BroadcastsInDim S128x4 (![] : Fin 0 → Fin S128x4.rank)
  reducesTo_S128x4_S_d0_1 : S128x4.ReducesTo [0, 1] S_
  h_S_ : 0 < S_.numel

variable [Facts]

def fn {F : FTy → Type} [FloatOps F] (main_arg0 : FVec F S128x512 .f32) (main_arg1 : FVec F S128x512 .f32) (main_arg2 : FVec F S128x512 .f32) (main_arg3 : FVec F S128x128 .f32) (main_arg4 : FVec F S128x4x128x128 .f32) (main_arg5 : FVec F S128x4x128 .f32) (main_arg6 : FVec F S128x4 .f32) (main_arg7 : FVec F S128x3x512 .f32) (main_arg8 : FVec F S4x512 .f32) (main_arg9 : FVec F S512 .f32) (main_arg10 : FVec F S4x128x128 .f32) (main_arg11 : FVec F S4x128x128 .f32) (main_arg12 : FVec F S2x4 .f32) (main_arg13 : FVec F S512 .f32) : IVec S_ 1 :=
  let main_v0 : FVec F S128x4 .f32 := (extractStridedSlice S128x4 ![0, 28] · slices_S128x128_S128x4_0_28) main_arg3
  let main_v1 : FVec F S1x4 .f32 := (extractStridedSlice S1x4 ![1, 0] · slices_S2x4_S1x4_1_0) main_arg12
  let main_v2 : FVec F S4 .f32 := shapeCast S4 main_v1 shapeCasts_S1x4_S4
  let main_v3 : FVec F S1x4 .f32 := broadcastInDim S1x4 ![1] bcast_S4_S1x4_1 main_v2
  let main_v4 : FVec F S128x4 .f32 := broadcastInDim S128x4 ![0, 1] bcast_S1x4_S128x4_0_1 main_v3
  let main_v5 : FVec F S128x4 .f32 := addf main_v0 main_v4
  let main_cst : FVec F S_ .f32 := constant S_ .f32 0xFF800000#32
  let main_v6 : FVec F S128x4 .f32 := broadcastInDim S128x4 ![] bcast_S_S128x4 main_cst
  let main_v7 : IVec S128x4 1 := cmpf .ogt main_v5 main_v6
  let main_c : IVec S_ 1 := constantI S_ 1 1#1
  let main_v8 : IVec S_ 1 := (fun x v => Host.reduce IntOp.andi x v reducesTo_S128x4_S_d0_1 h_S_) main_v7 main_c
  main_v8
-- ==== Kernel.lean ====
abbrev S128x8x64 : Shape := ⟨3, ![128, 8, 64]⟩
abbrev S128x512x128 : Shape := ⟨3, ![128, 512, 128]⟩
abbrev S8x512 : Shape := ⟨2, ![8, 512]⟩
abbrev S512 : Shape := ⟨1, ![512]⟩
abbrev S1x512 : Shape := ⟨2, ![1, 512]⟩
abbrev S_ : Shape := ⟨0, ![]⟩
abbrev S128x4x64 : Shape := ⟨3, ![128, 4, 64]⟩
abbrev S128x4x128 : Shape := ⟨3, ![128, 4, 128]⟩
abbrev S128x8x128 : Shape := ⟨3, ![128, 8, 128]⟩
abbrev S128x1x512 : Shape := ⟨3, ![128, 1, 512]⟩
abbrev S1x8x128 : Shape := ⟨3, ![1, 8, 128]⟩
abbrev S1x512x128 : Shape := ⟨3, ![1, 512, 128]⟩
abbrev S1x1x512 : Shape := ⟨3, ![1, 1, 512]⟩
abbrev S8x128 : Shape := ⟨2, ![8, 128]⟩
abbrev S512x128 : Shape := ⟨2, ![512, 128]⟩
abbrev S8 : Shape := ⟨1, ![8]⟩
abbrev S8x1 : Shape := ⟨2, ![8, 1]⟩
abbrev S512x256 : Shape := ⟨2, ![512, 256]⟩
abbrev S8x256 : Shape := ⟨2, ![8, 256]⟩
abbrev S256 : Shape := ⟨1, ![256]⟩
abbrev S1x256 : Shape := ⟨2, ![1, 256]⟩

abbrev nBuf : Space → Nat
  | .hbm => 24
  | .vmem => 11
  | .smem => 0
  | _ => 0

abbrev bufTy : (tb : Table) → Fin (tcTables nBuf tb) → BufTy
  | .hbm, ⟨0, _⟩ => ⟨S128x8x64, .f32⟩
  | .hbm, ⟨1, _⟩ => ⟨S128x512x128, .bf16⟩
  | .hbm, ⟨2, _⟩ => ⟨S128x512x128, .bf16⟩
  | .hbm, ⟨3, _⟩ => ⟨S8x512, .f32⟩
  | .hbm, ⟨4, _⟩ => ⟨S512, .i1⟩
  | .hbm, ⟨5, _⟩ => ⟨S1x512, .i1⟩
  | .hbm, ⟨6, _⟩ => ⟨S_, .f32⟩
  | .hbm, ⟨7, _⟩ => ⟨S_, .f32⟩
  | .hbm, ⟨8, _⟩ => ⟨S8x512, .i1⟩
  | .hbm, ⟨9, _⟩ => ⟨S8x512, .f32⟩
  | .hbm, ⟨10, _⟩ => ⟨S8x512, .f32⟩
  | .hbm, ⟨11, _⟩ => ⟨S_, .f32⟩
  | .hbm, ⟨12, _⟩ => ⟨S128x4x64, .f32⟩
  | .hbm, ⟨13, _⟩ => ⟨S_, .f32⟩
  | .hbm, ⟨14, _⟩ => ⟨S128x8x64, .f32⟩
  | .hbm, ⟨15, _⟩ => ⟨S128x8x64, .f32⟩
  | .hbm, ⟨16, _⟩ => ⟨S128x4x64, .f32⟩
  | .hbm, ⟨17, _⟩ => ⟨S128x4x128, .f32⟩
  | .hbm, ⟨18, _⟩ => ⟨S128x4x64, .f32⟩
  | .hbm, ⟨19, _⟩ => ⟨S128x4x128, .f32⟩
  | .hbm, ⟨20, _⟩ => ⟨S128x8x128, .f32⟩
  | .hbm, ⟨21, _⟩ => ⟨S128x8x128, .bf16⟩
  | .hbm, ⟨22, _⟩ => ⟨S128x8x128, .f32⟩
  | .hbm, ⟨23, _⟩ => ⟨S128x1x512, .f32⟩
  | .local _ .vmem, ⟨0, _⟩ => ⟨S1x8x128, .bf16⟩
  | .local _ .vmem, ⟨1, _⟩ => ⟨S1x8x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S8x512, .f32⟩
  | .local _ .vmem, ⟨7, _⟩ => ⟨S1x8x128, .f32⟩
  | .local _ .vmem, ⟨8, _⟩ => ⟨S1x8x128, .f32⟩
  | .local _ .vmem, ⟨9, _⟩ => ⟨S1x1x512, .f32⟩
  | .local _ .vmem, ⟨10, _⟩ => ⟨S1x1x512, .f32⟩
  | _, _ => ⟨S128x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask_tenth" => some ⊥
  | _ => none
-- ==== ReferenceIdeal.lean ====
abbrev S128x8x64 : Shape := ⟨3, ![128, 8, 64]⟩
abbrev S128x512x128 : Shape := ⟨3, ![128, 512, 128]⟩
abbrev S8x512 : Shape := ⟨2, ![8, 512]⟩
abbrev S128x511x128 : Shape := ⟨3, ![128, 511, 128]⟩
abbrev S128x511x2x64 : Shape := ⟨4, ![128, 511, 2, 64]⟩
abbrev S1 : Shape := ⟨1, ![1]⟩
abbrev S_ : Shape := ⟨0, ![]⟩
abbrev S128x1x2x4x64 : Shape := ⟨5, ![128, 1, 2, 4, 64]⟩
abbrev S511 : Shape := ⟨1, ![511]⟩
abbrev S1x1 : Shape := ⟨2, ![1, 1]⟩
abbrev S1x511 : Shape := ⟨2, ![1, 511]⟩
abbrev S8x511 : Shape := ⟨2, ![8, 511]⟩
abbrev S2x4x1x511 : Shape := ⟨4, ![2, 4, 1, 511]⟩
abbrev S128x2x511x1x4 : Shape := ⟨5, ![128, 2, 511, 1, 4]⟩
abbrev S128x2x4x1x511 : Shape := ⟨5, ![128, 2, 4, 1, 511]⟩
abbrev S1x2x4x1x511 : Shape := ⟨5, ![1, 2, 4, 1, 511]⟩
abbrev S128x2x4x1 : Shape := ⟨4, ![128, 2, 4, 1]⟩
abbrev S128x2x4x1x1 : Shape := ⟨5, ![128, 2, 4, 1, 1]⟩
abbrev S128x2x64x4x1 : Shape := ⟨5, ![128, 2, 64, 4, 1]⟩
abbrev S256 : Shape := ⟨1, ![256]⟩
abbrev S511x1 : Shape := ⟨2, ![511, 1]⟩
abbrev S1x256 : Shape := ⟨2, ![1, 256]⟩
abbrev S511x256 : Shape := ⟨2, ![511, 256]⟩
abbrev S128x2x1x511 : Shape := ⟨4, ![128, 2, 1, 511]⟩
abbrev S128x2x1x256 : Shape := ⟨4, ![128, 2, 1, 256]⟩
abbrev S128x8x128 : Shape := ⟨3, ![128, 8, 128]⟩
abbrev S128x1x512 : Shape := ⟨3, ![128, 1, 512]⟩

abbrev nBuf : Space → Nat
  | .hbm => 105
  | .vmem => 0
  | .smem => 0
  | _ => 0

abbrev bufTy : (tb : Table) → Fin (tcTables nBuf tb) → BufTy
  | .hbm, ⟨0, _⟩ => ⟨S128x8x64, .f32⟩
  | .hbm, ⟨1, _⟩ => ⟨S128x512x128, .bf16⟩
  | .hbm, ⟨2, _⟩ => ⟨S128x512x128, .bf16⟩
  | .hbm, ⟨3, _⟩ => ⟨S8x512, .f32⟩
  | .hbm, ⟨4, _⟩ => ⟨S128x511x128, .bf16⟩
  | .hbm, ⟨5, _⟩ => ⟨S128x511x128, .f32⟩
  | .hbm, ⟨6, _⟩ => ⟨S128x511x2x64, .f32⟩
  | .hbm, ⟨7, _⟩ => ⟨S128x511x128, .bf16⟩
  | .hbm, ⟨8, _⟩ => ⟨S128x511x128, .f32⟩
  | .hbm, ⟨9, _⟩ => ⟨S128x511x2x64, .f32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S128x1x2x4x64, .f32⟩
  | .hbm, ⟨15, _⟩ => ⟨S511, .i32⟩
  | .hbm, ⟨16, _⟩ => ⟨S_, .i32⟩
  | .hbm, ⟨17, _⟩ => ⟨S511, .i32⟩
  | .hbm, ⟨18, _⟩ => ⟨S511, .i32⟩
  | .hbm, ⟨19, _⟩ => ⟨S1x1, .i32⟩
  | .hbm, ⟨20, _⟩ => ⟨S_, .i32⟩
  | .hbm, ⟨21, _⟩ => ⟨S511, .i32⟩
  | .hbm, ⟨22, _⟩ => ⟨S511, .i32⟩
  | .hbm, ⟨23, _⟩ => ⟨S_, .i32⟩
  | .hbm, ⟨24, _⟩ => ⟨S511, .i32⟩
  | .hbm, ⟨25, _⟩ => ⟨S511, .i32⟩
  | .hbm, ⟨26, _⟩ => ⟨S1x511, .i32⟩
  | .hbm, ⟨27, _⟩ => ⟨S1x511, .i32⟩
  | .hbm, ⟨28, _⟩ => ⟨S1x511, .i32⟩
  | .hbm, ⟨29, _⟩ => ⟨S8x511, .f32⟩
  | .hbm, ⟨30, _⟩ => ⟨S2x4x1x511, .f32⟩
  | .hbm, ⟨31, _⟩ => ⟨S128x2x511x1x4, .f32⟩
  | .hbm, ⟨32, _⟩ => ⟨S128x2x4x1x511, .f32⟩
  | .hbm, ⟨33, _⟩ => ⟨S_, .f32⟩
  | .hbm, ⟨34, _⟩ => ⟨S128x2x4x1x511, .f32⟩
  | .hbm, ⟨35, _⟩ => ⟨S128x2x4x1x511, .f32⟩
  | .hbm, ⟨36, _⟩ => ⟨S1x2x4x1x511, .f32⟩
  | .hbm, ⟨37, _⟩ => ⟨S128x2x4x1x511, .f32⟩
  | .hbm, ⟨38, _⟩ => ⟨S128x2x4x1x511, .f32⟩
  | .hbm, ⟨39, _⟩ => ⟨S_, .i32⟩
  | .hbm, ⟨40, _⟩ => ⟨S1x511, .i32⟩
  | .hbm, ⟨41, _⟩ => ⟨S1x511, .i1⟩
  | .hbm, ⟨42, _⟩ => ⟨S_, .f32⟩
  | .hbm, ⟨43, _⟩ => ⟨S_, .f32⟩
  | .hbm, ⟨44, _⟩ => ⟨S128x2x4x1x511, .i1⟩
  | .hbm, ⟨45, _⟩ => ⟨S128x2x4x1x511, .f32⟩
  | .hbm, ⟨46, _⟩ => ⟨S128x2x4x1x511, .f32⟩
  | .hbm, ⟨47, _⟩ => ⟨S_, .f32⟩
  | .hbm, ⟨48, _⟩ => ⟨S128x2x4x1, .f32⟩
  | .hbm, ⟨49, _⟩ => ⟨S128x2x4x1x1, .f32⟩
  | .hbm, ⟨50, _⟩ => ⟨S128x2x4x1x1, .f32⟩
  | .hbm, ⟨51, _⟩ => ⟨S_, .f32⟩
  | .hbm, ⟨52, _⟩ => ⟨S128x2x4x1x1, .f32⟩
  | .hbm, ⟨53, _⟩ => ⟨S128x2x4x1x1, .i1⟩
  | .hbm, ⟨54, _⟩ => ⟨S_, .f32⟩
  | .hbm, ⟨55, _⟩ => ⟨S_, .f32⟩
  | .hbm, ⟨56, _⟩ => ⟨S128x2x4x1x1, .f32⟩
  | .hbm, ⟨57, _⟩ => ⟨S128x2x4x1x1, .f32⟩
  | .hbm, ⟨58, _⟩ => ⟨S128x2x4x1x511, .f32⟩
  | .hbm, ⟨59, _⟩ => ⟨S128x2x4x1x511, .f32⟩
  | .hbm, ⟨60, _⟩ => ⟨S128x2x4x1x511, .f32⟩
  | .hbm, ⟨61, _⟩ => ⟨S_, .f32⟩
  | .hbm, ⟨62, _⟩ => ⟨S128x2x4x1, .f32⟩
  | .hbm, ⟨63, _⟩ => ⟨S128x2x4x1x1, .f32⟩
  | .hbm, ⟨64, _⟩ => ⟨S_, .f32⟩
  | .hbm, ⟨65, _⟩ => ⟨S128x2x4x1x1, .f32⟩
  | .hbm, ⟨66, _⟩ => ⟨S128x2x4x1x1, .f32⟩
  | .hbm, ⟨67, _⟩ => ⟨S128x2x4x1x511, .f32⟩
  | .hbm, ⟨68, _⟩ => ⟨S128x2x4x1x511, .f32⟩
  | .hbm, ⟨69, _⟩ => ⟨S128x2x64x4x1, .f32⟩
  | .hbm, ⟨70, _⟩ => ⟨S128x1x2x4x64, .f32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S511x1, .i32⟩
  | .hbm, ⟨76, _⟩ => ⟨S1x256, .i32⟩
  | .hbm, ⟨77, _⟩ => ⟨S_, .i32⟩
  | .hbm, ⟨78, _⟩ => ⟨S1x256, .i32⟩
  | .hbm, ⟨79, _⟩ => ⟨S1x256, .i32⟩
  | .hbm, ⟨80, _⟩ => ⟨S_, .i32⟩
  | .hbm, ⟨81, _⟩ => ⟨S1x256, .i32⟩
  | .hbm, ⟨82, _⟩ => ⟨S1x256, .i32⟩
  | .hbm, ⟨83, _⟩ => ⟨S511x256, .i32⟩
  | .hbm, ⟨84, _⟩ => ⟨S511x256, .i32⟩
  | .hbm, ⟨85, _⟩ => ⟨S511x256, .i1⟩
  | .hbm, ⟨86, _⟩ => ⟨S511x1, .i32⟩
  | .hbm, ⟨87, _⟩ => ⟨S_, .i32⟩
  | .hbm, ⟨88, _⟩ => ⟨S511x1, .i32⟩
  | .hbm, ⟨89, _⟩ => ⟨S511x1, .i32⟩
  | .hbm, ⟨90, _⟩ => ⟨S_, .i32⟩
  | .hbm, ⟨91, _⟩ => ⟨S511x1, .i32⟩
  | .hbm, ⟨92, _⟩ => ⟨S511x1, .i32⟩
  | .hbm, ⟨93, _⟩ => ⟨S1x256, .i32⟩
  | .hbm, ⟨94, _⟩ => ⟨S511x256, .i32⟩
  | .hbm, ⟨95, _⟩ => ⟨S511x256, .i32⟩
  | .hbm, ⟨96, _⟩ => ⟨S511x256, .i1⟩
  | .hbm, ⟨97, _⟩ => ⟨S511x256, .i1⟩
  | .hbm, ⟨98, _⟩ => ⟨S511x256, .f32⟩
  | .hbm, ⟨99, _⟩ => ⟨S_, .f32⟩
  | .hbm, ⟨100, _⟩ => ⟨S128x2x1x511, .f32⟩
  | .hbm, ⟨101, _⟩ => ⟨S128x2x1x256, .f32⟩
  | .hbm, ⟨102, _⟩ => ⟨S128x8x64, .f32⟩
  | .hbm, ⟨103, _⟩ => ⟨S128x8x128, .f32⟩
  | .hbm, ⟨104, _⟩ => ⟨S128x1x512, .f32⟩
  | _, _ => ⟨S128x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x4896 : Shape := ⟨2, ![1024, 4896]⟩
abbrev S1024x512 : Shape := ⟨2, ![1024, 512]⟩
abbrev S_ : Shape := ⟨0, ![]⟩
abbrev S1024x64 : Shape := ⟨2, ![1024, 64]⟩
abbrev S1024x24 : Shape := ⟨2, ![1024, 24]⟩
abbrev S1024x8 : Shape := ⟨2, ![1024, 8]⟩
abbrev S1024x96 : Shape := ⟨2, ![1024, 96]⟩
abbrev S1024x128 : Shape := ⟨2, ![1024, 128]⟩
abbrev S1024x2048 : Shape := ⟨2, ![1024, 2048]⟩
abbrev S1024x1024 : Shape := ⟨2, ![1024, 1024]⟩
abbrev S1024x4480 : Shape := ⟨2, ![1024, 4480]⟩
abbrev S1024x5504 : Shape := ⟨2, ![1024, 5504]⟩
abbrev S1x1024 : Shape := ⟨2, ![1, 1024]⟩
abbrev S16384x768 : Shape := ⟨2, ![16384, 768]⟩
abbrev S16384x128 : Shape := ⟨2, ![16384, 128]⟩
abbrev S16384x512 : Shape := ⟨2, ![16384, 512]⟩
abbrev S16384x2048 : Shape := ⟨2, ![16384, 2048]⟩
abbrev S512x1024 : Shape := ⟨2, ![512, 1024]⟩
abbrev S512x768 : Shape := ⟨2, ![512, 768]⟩
abbrev S512x128 : Shape := ⟨2, ![512, 128]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x768 : Shape := ⟨2, ![1024, 768]⟩

abbrev nBuf : Space → Nat
  | .hbm => 47
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4896, .f32⟩
  | .hbm, ⟨3, _⟩ => ⟨S1024x512, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x24, .f32⟩
  | .hbm, ⟨15, _⟩ => ⟨S1024x8, .f32⟩
  | .hbm, ⟨16, _⟩ => ⟨S_, .f32⟩
  | .hbm, ⟨17, _⟩ => ⟨S1024x96, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x2048, .f32⟩
  | .hbm, ⟨29, _⟩ => ⟨S1024x1024, .f32⟩
  | .hbm, ⟨30, _⟩ => ⟨S1024x4480, .f32⟩
  | .hbm, ⟨31, _⟩ => ⟨S1024x5504, .f32⟩
  | .hbm, ⟨32, _⟩ => ⟨S1024x5504, .bf16⟩
  | .hbm, ⟨33, _⟩ => ⟨S1x1024, .f32⟩
  | .hbm, ⟨34, _⟩ => ⟨S16384x1024, .bf16⟩
  | .hbm, ⟨35, _⟩ => ⟨S16384x768, .bf16⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x2048, .f32⟩
  | .hbm, ⟨46, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5504, .bf16⟩
  | .local _ .vmem, ⟨4, _⟩ => ⟨S512x1024, .bf16⟩
  | .local _ .vmem, ⟨5, _⟩ => ⟨S512x1024, .bf16⟩
  | .local _ .vmem, ⟨6, _⟩ => ⟨S512x768, .bf16⟩
  | .local _ .vmem, ⟨7, _⟩ => ⟨S512x768, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x2048, .f32⟩
  | .local _ .vmem, ⟨27, _⟩ => ⟨S512x2048, .f32⟩
  | .local _ .vmem, ⟨28, _⟩ => ⟨S512x128, .f32⟩
  | .local _ .vmem, ⟨29, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev main_v29_2 : Ref sig .tc := ⟨.hbm, 36, rfl⟩
abbrev main_v29_3 : Ref sig .tc := ⟨.hbm, 37, rfl⟩
abbrev main_v29_4 : Ref sig .tc := ⟨.hbm, 38, rfl⟩
abbrev main_v29_5 : Ref sig .tc := ⟨.hbm, 39, rfl⟩
abbrev main_v29_6 : Ref sig .tc := ⟨.hbm, 40, rfl⟩
abbrev main_v29_7 : Ref sig .tc := ⟨.hbm, 41, rfl⟩
abbrev main_v29_8 : Ref sig .tc := ⟨.hbm, 42, rfl⟩
abbrev main_v29_9 : Ref sig .tc := ⟨.hbm, 43, rfl⟩
abbrev main_v29_10 : Ref sig .tc := ⟨.hbm, 44, rfl⟩
abbrev main_v29_11 : Ref sig .tc := ⟨.hbm, 45, rfl⟩
abbrev main_v29_12 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S1024 : Shape := ⟨1, ![1024]⟩
abbrev S1024x4896 : Shape := ⟨2, ![1024, 4896]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4896 : Shape := ⟨2, ![16384, 4896]⟩
abbrev S16384x512 : Shape := ⟨2, ![16384, 512]⟩
abbrev S16384x128 : Shape := ⟨2, ![16384, 128]⟩
abbrev S16384x24 : Shape := ⟨2, ![16384, 24]⟩
abbrev S16384x8 : Shape := ⟨2, ![16384, 8]⟩
abbrev S16384x2048 : Shape := ⟨2, ![16384, 2048]⟩
abbrev S16384x8x64 : Shape := ⟨3, ![16384, 8, 64]⟩
abbrev S16384x4x64 : Shape := ⟨3, ![16384, 4, 64]⟩
abbrev S16384x4x128 : Shape := ⟨3, ![16384, 4, 128]⟩
abbrev S16384x8x128 : Shape := ⟨3, ![16384, 8, 128]⟩
abbrev S16384x768 : Shape := ⟨2, ![16384, 768]⟩
abbrev S16384x96 : Shape := ⟨2, ![16384, 96]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4896, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4896, .f32⟩
  | .hbm, ⟨20, _⟩ => ⟨S16384x512, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x24, .f32⟩
  | .hbm, ⟨28, _⟩ => ⟨S16384x512, .f32⟩
  | .hbm, ⟨29, _⟩ => ⟨S16384x512, .f32⟩
  | .hbm, ⟨30, _⟩ => ⟨S16384x8, .f32⟩
  | .hbm, ⟨31, _⟩ => ⟨S16384x512, .f32⟩
  | .hbm, ⟨32, _⟩ => ⟨S16384x2048, .f32⟩
  | .hbm, ⟨33, _⟩ => ⟨S16384x8x64, .f32⟩
  | .hbm, ⟨34, _⟩ => ⟨S_, .f32⟩
  | .hbm, ⟨35, _⟩ => ⟨S16384x8x64, .f32⟩
  | .hbm, ⟨36, _⟩ => ⟨S16384x8x64, .f32⟩
  | .hbm, ⟨37, _⟩ => ⟨S_, .f32⟩
  | .hbm, ⟨38, _⟩ => ⟨S16384x4x64, .f32⟩
  | .hbm, ⟨39, _⟩ => ⟨S16384x4x64, .f32⟩
  | .hbm, ⟨40, _⟩ => ⟨S16384x4x128, .f32⟩
  | .hbm, ⟨41, _⟩ => ⟨S16384x4x64, .f32⟩
  | .hbm, ⟨42, _⟩ => ⟨S16384x4x128, .f32⟩
  | .hbm, ⟨43, _⟩ => ⟨S16384x8x128, .f32⟩
  | .hbm, ⟨44, _⟩ => ⟨S16384x1024, .f32⟩
  | .hbm, ⟨45, _⟩ => ⟨S16384x768, .f32⟩
  | .hbm, ⟨46, _⟩ => ⟨S_, .f32⟩
  | .hbm, ⟨47, _⟩ => ⟨S16384x96, .f32⟩
  | .hbm, ⟨48, _⟩ => ⟨S16384x128, .f32⟩
  | .hbm, ⟨49, _⟩ => ⟨S16384x1024, .bf16⟩
  | .hbm, ⟨50, _⟩ => ⟨S16384x768, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S_ : Shape := ⟨0, ![]⟩
abbrev S64x1024 : Shape := ⟨2, ![64, 1024]⟩
abbrev S512x512 : Shape := ⟨2, ![512, 512]⟩
abbrev S512x2048 : Shape := ⟨2, ![512, 2048]⟩

abbrev nBuf : Space → Nat
  | .hbm => 22
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .f32⟩
  | .hbm, ⟨3, _⟩ => ⟨S16384x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S64x1024, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S1024x1024, .f32⟩
  | .hbm, ⟨18, _⟩ => ⟨S1024x1024, .bf16⟩
  | .hbm, ⟨19, _⟩ => ⟨S512x1024, .bf16⟩
  | .hbm, ⟨20, _⟩ => ⟨S1024x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S16384x8x128 : Shape := ⟨3, ![16384, 8, 128]⟩
abbrev S16384x4x64 : Shape := ⟨3, ![16384, 4, 64]⟩
abbrev S16384x8x64 : Shape := ⟨3, ![16384, 8, 64]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .f32⟩
  | .hbm, ⟨3, _⟩ => ⟨S16384x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16384x1024, .f32⟩
  | .hbm, ⟨8, _⟩ => ⟨S16384x8x128, .f32⟩
  | .hbm, ⟨9, _⟩ => ⟨S16384x4x64, .f32⟩
  | .hbm, ⟨10, _⟩ => ⟨S16384x4x64, .f32⟩
  | .hbm, ⟨11, _⟩ => ⟨S16384x8x64, .f32⟩
  | .hbm, ⟨12, _⟩ => ⟨S16384x512, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel6.lean ====
abbrev S128x512 : Shape := ⟨2, ![128, 512]⟩
abbrev S128x128 : Shape := ⟨2, ![128, 128]⟩
abbrev S128x4x128x128 : Shape := ⟨4, ![128, 4, 128, 128]⟩
abbrev S128x4x128 : Shape := ⟨3, ![128, 4, 128]⟩
abbrev S128x4 : Shape := ⟨2, ![128, 4]⟩
abbrev S128x3x512 : Shape := ⟨3, ![128, 3, 512]⟩
abbrev S4x512 : Shape := ⟨2, ![4, 512]⟩
abbrev S512 : Shape := ⟨1, ![512]⟩
abbrev S4x128x128 : Shape := ⟨3, ![4, 128, 128]⟩
abbrev S2x4 : Shape := ⟨2, ![2, 4]⟩
abbrev S128x2x512 : Shape := ⟨3, ![128, 2, 512]⟩
abbrev S128x1x512 : Shape := ⟨3, ![128, 1, 512]⟩
abbrev S2x4x128 : Shape := ⟨3, ![2, 4, 128]⟩
abbrev S2x512 : Shape := ⟨2, ![2, 512]⟩
abbrev S1x512 : Shape := ⟨2, ![1, 512]⟩
abbrev S3x128x512 : Shape := ⟨3, ![3, 128, 512]⟩
abbrev S8x512 : Shape := ⟨2, ![8, 512]⟩
abbrev S3x8x512 : Shape := ⟨3, ![3, 8, 512]⟩
abbrev S8x128 : Shape := ⟨2, ![8, 128]⟩
abbrev S8x4x128x128 : Shape := ⟨4, ![8, 4, 128, 128]⟩
abbrev S1x8x512 : Shape := ⟨3, ![1, 8, 512]⟩
abbrev S120x128 : Shape := ⟨2, ![120, 128]⟩
abbrev S1x128x128 : Shape := ⟨3, ![1, 128, 128]⟩
abbrev S8x1 : Shape := ⟨2, ![8, 1]⟩
abbrev S1x128 : Shape := ⟨2, ![1, 128]⟩
abbrev S8 : Shape := ⟨1, ![8]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 31
  | .vmem => 30
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x128, .f32⟩
  | .hbm, ⟨4, _⟩ => ⟨S128x4x128x128, .f32⟩
  | .hbm, ⟨5, _⟩ => ⟨S128x4x128, .f32⟩
  | .hbm, ⟨6, _⟩ => ⟨S128x4, .f32⟩
  | .hbm, ⟨7, _⟩ => ⟨S128x3x512, .f32⟩
  | .hbm, ⟨8, _⟩ => ⟨S4x512, .f32⟩
  | .hbm, ⟨9, _⟩ => ⟨S512, .f32⟩
  | .hbm, ⟨10, _⟩ => ⟨S4x128x128, .f32⟩
  | .hbm, ⟨11, _⟩ => ⟨S4x128x128, .f32⟩
  | .hbm, ⟨12, _⟩ => ⟨S2x4, .f32⟩
  | .hbm, ⟨13, _⟩ => ⟨S512, .f32⟩
  | .hbm, ⟨14, _⟩ => ⟨S128x2x512, .f32⟩
  | .hbm, ⟨15, _⟩ => ⟨S128x1x512, .f32⟩
  | .hbm, ⟨16, _⟩ => ⟨S128x3x512, .f32⟩
  | .hbm, ⟨17, _⟩ => ⟨S2x4x128, .f32⟩
  | .hbm, ⟨18, _⟩ => ⟨S2x512, .f32⟩
  | .hbm, ⟨19, _⟩ => ⟨S1x512, .f32⟩
  | .hbm, ⟨20, _⟩ => ⟨S4x128x128, .bf16⟩
  | .hbm, ⟨21, _⟩ => ⟨S4x128x128, .bf16⟩
  | .hbm, ⟨22, _⟩ => ⟨S1x512, .f32⟩
  | .hbm, ⟨23, _⟩ => ⟨S3x128x512, .f32⟩
  | .hbm, ⟨24, _⟩ => ⟨S128x4x128, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x4x128x128, .f32⟩
  | .hbm, ⟨29, _⟩ => ⟨S128x512, .f32⟩
  | .hbm, ⟨30, _⟩ => ⟨S128x512, .f32⟩
  | .local _ .vmem, ⟨0, _⟩ => ⟨S8x512, .f32⟩
  | .local _ .vmem, ⟨1, _⟩ => ⟨S8x512, .f32⟩
  | .local _ .vmem, ⟨2, _⟩ => ⟨S3x8x512, .f32⟩
  | .local _ .vmem, ⟨3, _⟩ => ⟨S3x8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x128, .f32⟩
  | .local _ .vmem, ⟨9, _⟩ => ⟨S8x128, .f32⟩
  | .local _ .vmem, ⟨10, _⟩ => ⟨S8x4x128x128, .f32⟩
  | .local _ .vmem, ⟨11, _⟩ => ⟨S8x4x128x128, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S4x512, .f32⟩
  | .local _ .vmem, ⟨17, _⟩ => ⟨S1x512, .f32⟩
  | .local _ .vmem, ⟨18, _⟩ => ⟨S4x128x128, .bf16⟩
  | .local _ .vmem, ⟨19, _⟩ => ⟨S4x128x128, .bf16⟩
  | .local _ .vmem, ⟨20, _⟩ => ⟨S2x512, .f32⟩
  | .local _ .vmem, ⟨21, _⟩ => ⟨S1x512, .f32⟩
  | .local _ .vmem, ⟨22, _⟩ => ⟨S8x512, .f32⟩
  | .local _ .vmem, ⟨23, _⟩ => ⟨S8x512, .f32⟩
  | .local _ .vmem, ⟨24, _⟩ => ⟨S8x4x128x128, .f32⟩
  | .local _ .vmem, ⟨25, _⟩ => ⟨S8x4x128x128, .f32⟩
  | .local _ .vmem, ⟨26, _⟩ => ⟨S8x512, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S128x512 : Shape := ⟨2, ![128, 512]⟩
abbrev S128x128 : Shape := ⟨2, ![128, 128]⟩
abbrev S128x4x128x128 : Shape := ⟨4, ![128, 4, 128, 128]⟩
abbrev S128x4x128 : Shape := ⟨3, ![128, 4, 128]⟩
abbrev S128x4 : Shape := ⟨2, ![128, 4]⟩
abbrev S128x3x512 : Shape := ⟨3, ![128, 3, 512]⟩
abbrev S4x512 : Shape := ⟨2, ![4, 512]⟩
abbrev S512 : Shape := ⟨1, ![512]⟩
abbrev S4x128x128 : Shape := ⟨3, ![4, 128, 128]⟩
abbrev S2x4 : Shape := ⟨2, ![2, 4]⟩
abbrev S128x8 : Shape := ⟨2, ![128, 8]⟩
abbrev S128x1x8 : Shape := ⟨3, ![128, 1, 8]⟩
abbrev S128x1x512 : Shape := ⟨3, ![128, 1, 512]⟩
abbrev S128x4x512 : Shape := ⟨3, ![128, 4, 512]⟩
abbrev S1x512 : Shape := ⟨2, ![1, 512]⟩
abbrev S1x1x512 : Shape := ⟨3, ![1, 1, 512]⟩
abbrev S_ : Shape := ⟨0, ![]⟩
abbrev S128x1x4x128 : Shape := ⟨4, ![128, 1, 4, 128]⟩
abbrev S4x128x128x1 : Shape := ⟨4, ![4, 128, 128, 1]⟩
abbrev S128x4x1x128 : Shape := ⟨4, ![128, 4, 1, 128]⟩
abbrev S128x1x2x4 : Shape := ⟨4, ![128, 1, 2, 4]⟩
abbrev S1x1x2x4 : Shape := ⟨4, ![1, 1, 2, 4]⟩
abbrev S128x1x1x4 : Shape := ⟨4, ![128, 1, 1, 4]⟩
abbrev S128x1x4 : Shape := ⟨3, ![128, 1, 4]⟩
abbrev S128x4x1 : Shape := ⟨3, ![128, 4, 1]⟩
abbrev S1x1 : Shape := ⟨2, ![1, 1]⟩
abbrev S128x4x1x1 : Shape := ⟨4, ![128, 4, 1, 1]⟩
abbrev S128x1x4x1 : Shape := ⟨4, ![128, 1, 4, 1]⟩
abbrev S4x128 : Shape := ⟨2, ![4, 128]⟩
abbrev S1x1x4x128 : Shape := ⟨4, ![1, 1, 4, 128]⟩

abbrev nBuf : Space → Nat
  | .hbm => 209
  | .vmem => 0
  | .smem => 0
  | _ => 0

abbrev hbmTy0_0 (i : Nat) : BufTy := match i % 128 with
  | 0 => ⟨S128x512, .f32⟩
  | 1 => ⟨S128x512, .f32⟩
  | 2 => ⟨S128x512, .f32⟩
  | 3 => ⟨S128x128, .f32⟩
  | 4 => ⟨S128x4x128x128, .f32⟩
  | 5 => ⟨S128x4x128, .f32⟩
  | 6 => ⟨S128x4, .f32⟩
  | 7 => ⟨S128x3x512, .f32⟩
  | 8 => ⟨S4x512, .f32⟩
  | 9 => ⟨S512, .f32⟩
  | 10 => ⟨S4x128x128, .f32⟩
  | 11 => ⟨S4x128x128, .f32⟩
  | 12 => ⟨S2x4, .f32⟩
  | 13 => ⟨S512, .f32⟩
  | 14 => ⟨S128x8, .f32⟩
  | 15 => ⟨S128x1x8, .f32⟩
  | 16 => ⟨S128x1x512, .f32⟩
  | 17 => ⟨S128x4x512, .f32⟩
  | 18 => ⟨S128x1x512, .f32⟩
  | 19 => ⟨S128x1x512, .f32⟩
  | 20 => ⟨S128x1x512, .f32⟩
  | 21 => ⟨S1x512, .f32⟩
  | 22 => ⟨S512, .f32⟩
  | 23 => ⟨S1x1x512, .f32⟩
  | 24 => ⟨S128x1x512, .f32⟩
  | 25 => ⟨S128x1x512, .f32⟩
  | 26 => ⟨S1x1x512, .f32⟩
  | 27 => ⟨S128x1x512, .f32⟩
  | 28 => ⟨S128x1x512, .f32⟩
  | 29 => ⟨S128x1x512, .f32⟩
  | 30 => ⟨S1x512, .f32⟩
  | 31 => ⟨S512, .f32⟩
  | 32 => ⟨S1x1x512, .f32⟩
  | 33 => ⟨S128x1x512, .f32⟩
  | 34 => ⟨S128x1x512, .f32⟩
  | 35 => ⟨S128x1x512, .f32⟩
  | 36 => ⟨S128x1x512, .f32⟩
  | 37 => ⟨S1x512, .f32⟩
  | 38 => ⟨S512, .f32⟩
  | 39 => ⟨S1x1x512, .f32⟩
  | 40 => ⟨S128x1x512, .f32⟩
  | 41 => ⟨S128x1x512, .f32⟩
  | 42 => ⟨S128x1x512, .f32⟩
  | 43 => ⟨S128x1x512, .f32⟩
  | 44 => ⟨S1x512, .f32⟩
  | 45 => ⟨S512, .f32⟩
  | 46 => ⟨S1x1x512, .f32⟩
  | 47 => ⟨S128x1x512, .f32⟩
  | 48 => ⟨S128x1x512, .f32⟩
  | 49 => ⟨S128x1x512, .f32⟩
  | 50 => ⟨S128x1x512, .f32⟩
  | 51 => ⟨S128x1x512, .f32⟩
  | 52 => ⟨S_, .f32⟩
  | 53 => ⟨S128x1x512, .f32⟩
  | 54 => ⟨S128x1x512, .f32⟩
  | 55 => ⟨S_, .f32⟩
  | 56 => ⟨S128x1x512, .f32⟩
  | 57 => ⟨S128x1x512, .f32⟩
  | 58 => ⟨S128x1x512, .f32⟩
  | 59 => ⟨S128x1x4x128, .f32⟩
  | 60 => ⟨S4x128x128x1, .f32⟩
  | 61 => ⟨S128x4x1x128, .f32⟩
  | 62 => ⟨S4x128x128x1, .f32⟩
  | 63 => ⟨S128x4x1x128, .f32⟩
  | 64 => ⟨S_, .f32⟩
  | 65 => ⟨S128x4x1x128, .f32⟩
  | 66 => ⟨S128x4x1x128, .f32⟩
  | 67 => ⟨S128x1x4x128, .f32⟩
  | 68 => ⟨S128x4x1x128, .f32⟩
  | 69 => ⟨S128x1x2x4, .f32⟩
  | 70 => ⟨S1x1x2x4, .f32⟩
  | 71 => ⟨S128x1x2x4, .f32⟩
  | 72 => ⟨S128x1x2x4, .f32⟩
  | 73 => ⟨S128x1x1x4, .f32⟩
  | 74 => ⟨S128x1x4, .f32⟩
  | 75 => ⟨S128x4x1, .f32⟩
  | 76 => ⟨S128x1x1x4, .f32⟩
  | 77 => ⟨S128x1x4, .f32⟩
  | 78 => ⟨S128x1x4, .f32⟩
  | 79 => ⟨S_, .f32⟩
  | 80 => ⟨S128x1x4, .f32⟩
  | 81 => ⟨S128x1x4, .f32⟩
  | 82 => ⟨S128x1x4, .f32⟩
  | 83 => ⟨S128x1x4, .f32⟩
  | 84 => ⟨S128x1x4, .i1⟩
  | 85 => ⟨S128x1x4, .f32⟩
  | 86 => ⟨S128x1x4, .f32⟩
  | 87 => ⟨S128x1x4, .f32⟩
  | 88 => ⟨S128x1x4, .f32⟩
  | 89 => ⟨S128x1x4, .f32⟩
  | 90 => ⟨S128x1x4, .f32⟩
  | 91 => ⟨S128x1x4, .f32⟩
  | 92 => ⟨S128x1x4, .f32⟩
  | 93 => ⟨S128x1x4, .f32⟩
  | 94 => ⟨S128x4x1, .f32⟩
  | 95 => ⟨S128x1x512, .f32⟩
  | 96 => ⟨S128x1x512, .f32⟩
  | 97 => ⟨S_, .f32⟩
  | 98 => ⟨S128x1x512, .f32⟩
  | 99 => ⟨S128x1x512, .f32⟩
  | 100 => ⟨S_, .f32⟩
  | 101 => ⟨S128x1x512, .f32⟩
  | 102 => ⟨S128x1x512, .f32⟩
  | 103 => ⟨S_, .f32⟩
  | 104 => ⟨S_, .f32⟩
  | 105 => ⟨S128x4x1, .f32⟩
  | 106 => ⟨S_, .i1⟩
  | 107 => ⟨S1x1, .i1⟩
  | 108 => ⟨S1x1, .i32⟩
  | 109 => ⟨S_, .i32⟩
  | 110 => ⟨S1x1, .i32⟩
  | 111 => ⟨S1x1, .i32⟩
  | 112 => ⟨S1x1, .i32⟩
  | 113 => ⟨S1x1, .i1⟩
  | 114 => ⟨S_, .i1⟩
  | 115 => ⟨S1x1, .i1⟩
  | 116 => ⟨S1x1, .i1⟩
  | 117 => ⟨S128x4x1x1, .f32⟩
  | 118 => ⟨S128x4x1x1, .f32⟩
  | 119 => ⟨S128x4x1x1, .f32⟩
  | 120 => ⟨S128x4x1x1, .f32⟩
  | 121 => ⟨S128x4x1x1, .f32⟩
  | 122 => ⟨S_, .f32⟩
  | 123 => ⟨S_, .f32⟩
  | 124 => ⟨S128x4x1x1, .i1⟩
  | 125 => ⟨S128x4x1x1, .f32⟩
  | 126 => ⟨S128x4x1x1, .f32⟩
  | 127 => ⟨S128x4x1, .f32⟩
  | _ => ⟨S128x512, .f32⟩

abbrev hbmTy0_1 (i : Nat) : BufTy := match i % 128 with
  | 0 => ⟨S128x4x1, .f32⟩
  | 1 => ⟨S_, .f32⟩
  | 2 => ⟨S128x4x1, .f32⟩
  | 3 => ⟨S128x4x1, .f32⟩
  | 4 => ⟨S128x4x1x1, .f32⟩
  | 5 => ⟨S128x4x1x1, .f32⟩
  | 6 => ⟨S128x4x1x1, .f32⟩
  | 7 => ⟨S128x4x1x1, .f32⟩
  | 8 => ⟨S128x4x1x1, .f32⟩
  | 9 => ⟨S128x4x1, .f32⟩
  | 10 => ⟨S128x4x1, .f32⟩
  | 11 => ⟨S128x4x1x1, .f32⟩
  | 12 => ⟨S128x4x1x128, .f32⟩
  | 13 => ⟨S128x4x1x128, .f32⟩
  | 14 => ⟨S128x4x1x128, .f32⟩
  | 15 => ⟨S128x4x1x128, .f32⟩
  | 16 => ⟨S128x4x1x128, .f32⟩
  | 17 => ⟨S128x4x1, .f32⟩
  | 18 => ⟨S128x4x1, .f32⟩
  | 19 => ⟨S_, .f32⟩
  | 20 => ⟨S128x4x1, .f32⟩
  | 21 => ⟨S128x4x1, .f32⟩
  | 22 => ⟨S128x4x1, .f32⟩
  | 23 => ⟨S128x4x1, .f32⟩
  | 24 => ⟨S128x4x1, .f32⟩
  | 25 => ⟨S128x4x1, .f32⟩
  | 26 => ⟨S128x4x1x1, .f32⟩
  | 27 => ⟨S128x4x1x128, .f32⟩
  | 28 => ⟨S128x4x1x128, .f32⟩
  | 29 => ⟨S128x4, .f32⟩
  | 30 => ⟨S128x4x1, .f32⟩
  | 31 => ⟨S128x4x1, .f32⟩
  | 32 => ⟨S128x4x1, .f32⟩
  | 33 => ⟨S128x4, .f32⟩
  | 34 => ⟨S_, .f32⟩
  | 35 => ⟨S128x4, .f32⟩
  | 36 => ⟨S128x4, .f32⟩
  | 37 => ⟨S128x4x1, .f32⟩
  | 38 => ⟨S128x4x1, .f32⟩
  | 39 => ⟨S128x4x1, .f32⟩
  | 40 => ⟨S128x4, .f32⟩
  | 41 => ⟨S128x4, .f32⟩
  | 42 => ⟨S128x4, .f32⟩
  | 43 => ⟨S128x4x1x1, .f32⟩
  | 44 => ⟨S128x4x128x128, .f32⟩
  | 45 => ⟨S128x4x128x128, .f32⟩
  | 46 => ⟨S128x4x1x1, .f32⟩
  | 47 => ⟨S128x4x1x128, .f32⟩
  | 48 => ⟨S128x4x1x128, .f32⟩
  | 49 => ⟨S128x4x128x128, .f32⟩
  | 50 => ⟨S128x4x128x128, .f32⟩
  | 51 => ⟨S128x4x1, .f32⟩
  | 52 => ⟨S128x4x128, .f32⟩
  | 53 => ⟨S128x4x128, .f32⟩
  | 54 => ⟨S128x4x128, .f32⟩
  | 55 => ⟨S128x4x128, .f32⟩
  | 56 => ⟨S128x1x4x128, .f32⟩
  | 57 => ⟨S128x1x4x128, .f32⟩
  | 58 => ⟨S_, .f32⟩
  | 59 => ⟨S128x1x4, .f32⟩
  | 60 => ⟨S128x1x4x1, .f32⟩
  | 61 => ⟨S_, .f32⟩
  | 62 => ⟨S128x1x4x1, .f32⟩
  | 63 => ⟨S128x1x4x1, .f32⟩
  | 64 => ⟨S_, .f32⟩
  | 65 => ⟨S128x1x4x1, .f32⟩
  | 66 => ⟨S128x1x4x1, .f32⟩
  | 67 => ⟨S128x1x4x1, .f32⟩
  | 68 => ⟨S128x1x4x128, .f32⟩
  | 69 => ⟨S128x1x4x128, .f32⟩
  | 70 => ⟨S4x128, .f32⟩
  | 71 => ⟨S1x1x4x128, .f32⟩
  | 72 => ⟨S128x1x4x128, .f32⟩
  | 73 => ⟨S128x1x4x128, .f32⟩
  | 74 => ⟨S128x1x512, .f32⟩
  | 75 => ⟨S128x1x512, .f32⟩
  | 76 => ⟨S128x3x512, .f32⟩
  | 77 => ⟨S128x512, .f32⟩
  | 78 => ⟨S128x512, .f32⟩
  | 79 => ⟨S128x4x128, .f32⟩
  | 80 => ⟨S128x512, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_v0 : Ref sig .tc := ⟨.hbm, 78, rfl⟩
abbrev main_call1_call0_cst : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_call0_v2 : Ref sig .tc := ⟨.hbm, 82, rfl⟩
abbrev main_call1_call0_v3 : Ref sig .tc := ⟨.hbm, 83, rfl⟩
abbrev main_call1_call0_v4 : Ref sig .tc := ⟨.hbm, 84, rfl⟩
abbrev main_call1_call0_v5 : Ref sig .tc := ⟨.hbm, 85, rfl⟩
abbrev main_call1_call0_v6 : Ref sig .tc := ⟨.hbm, 86, rfl⟩
abbrev main_call1_call0_v7 : Ref sig .tc := ⟨.hbm, 87, rfl⟩
abbrev main_call1_call0_v8 : Ref sig .tc := ⟨.hbm, 88, rfl⟩
abbrev main_call1_call0_v9 : Ref sig .tc := ⟨.hbm, 89, rfl⟩
abbrev main_call1_call0_v10 : Ref sig .tc := ⟨.hbm, 90, rfl⟩
abbrev main_call1_call0_v11 : Ref sig .tc := ⟨.hbm, 91, rfl⟩
abbrev main_call1_v1 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_0 : Ref sig .tc := ⟨.hbm, 97, rfl⟩
abbrev main_v59 : Ref sig .tc := ⟨.hbm, 98, rfl⟩
abbrev main_v60 : Ref sig .tc := ⟨.hbm, 99, rfl⟩
abbrev main_cst_1 : Ref sig .tc := ⟨.hbm, 100, rfl⟩
abbrev main_v61 : Ref sig .tc := ⟨.hbm, 101, rfl⟩
abbrev main_v62 : Ref sig .tc := ⟨.hbm, 102, rfl⟩
abbrev main_call2_call0_cst : Ref sig .tc := ⟨.hbm, 103, rfl⟩
abbrev main_call2_call0_v0 : Ref sig .tc := ⟨.hbm, 104, rfl⟩
abbrev main_v63 : Ref sig .tc := ⟨.hbm, 105, rfl⟩
abbrev main_c : Ref sig .tc := ⟨.hbm, 106, rfl⟩
abbrev main_v64 : Ref sig .tc := ⟨.hbm, 107, rfl⟩
abbrev main_call3_v0 : Ref sig .tc := ⟨.hbm, 108, rfl⟩
abbrev main_call3_c : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_c_0 : Ref sig .tc := ⟨.hbm, 114, rfl⟩
abbrev main_call3_v5 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_2 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_3 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_4 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_5 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_6 : Ref sig .tc := ⟨.hbm, 186, rfl⟩
abbrev main_v128 : Ref sig .tc := ⟨.hbm, 187, rfl⟩
abbrev main_v129 : Ref sig .tc := ⟨.hbm, 188, rfl⟩
abbrev main_cst_7 : Ref sig .tc := ⟨.hbm, 189, rfl⟩
abbrev main_v130 : Ref sig .tc := ⟨.hbm, 190, rfl⟩
abbrev main_v131 : Ref sig .tc := ⟨.hbm, 191, rfl⟩
abbrev main_cst_8 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩

abbrev nD : Nat := 1
abbrev τ : Topo := Topo.v7x

variable {F : FTy → Type} [FloatOps F]
-- ==== Kernel7.lean ====
abbrev S2x8192x2x64 : Shape := ⟨4, ![2, 8192, 2, 64]⟩
abbrev S32x64 : Shape := ⟨2, ![32, 64]⟩
abbrev S32x64x128 : Shape := ⟨3, ![32, 64, 128]⟩
abbrev S128x64 : Shape := ⟨2, ![128, 64]⟩
abbrev S2x2 : Shape := ⟨2, ![2, 2]⟩
abbrev S_ : Shape := ⟨0, ![]⟩
abbrev S16x64x128 : Shape := ⟨3, ![16, 64, 128]⟩
abbrev S16x1x64x1x128 : Shape := ⟨5, ![16, 1, 64, 1, 128]⟩
abbrev S1x2x1x2x1 : Shape := ⟨5, ![1, 2, 1, 2, 1]⟩
abbrev S16x2x64x2x128 : Shape := ⟨5, ![16, 2, 64, 2, 128]⟩
abbrev S2048x256 : Shape := ⟨2, ![2048, 256]⟩
abbrev S2048x512 : Shape := ⟨2, ![2048, 512]⟩
abbrev S2x16x1x64 : Shape := ⟨4, ![2, 16, 1, 64]⟩
abbrev S2x16x2x64 : Shape := ⟨4, ![2, 16, 2, 64]⟩
abbrev S1x128x1x64 : Shape := ⟨4, ![1, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S2x1x2048 : Shape := ⟨3, ![2, 1, 2048]⟩
abbrev S2x512x2048 : Shape := ⟨3, ![2, 512, 2048]⟩
abbrev S2x512x128 : Shape := ⟨3, ![2, 512, 128]⟩
abbrev S1x512x2048 : Shape := ⟨3, ![1, 512, 2048]⟩
abbrev S1x512x128 : Shape := ⟨3, ![1, 512, 128]⟩
abbrev S512x2048 : Shape := ⟨2, ![512, 2048]⟩
abbrev S1x1x2048 : Shape := ⟨3, ![1, 1, 2048]⟩
abbrev S1x2048 : Shape := ⟨2, ![1, 2048]⟩
abbrev S512x256 : Shape := ⟨2, ![512, 256]⟩
abbrev S512x128 : Shape := ⟨2, ![512, 128]⟩

abbrev nBuf : Space → Nat
  | .hbm => 78
  | .vmem => 14
  | .smem => 0
  | _ => 0

abbrev bufTy : (tb : Table) → Fin (tcTables nBuf tb) → BufTy
  | .hbm, ⟨0, _⟩ => ⟨S2x8192x2x64, .f32⟩
  | .hbm, ⟨1, _⟩ => ⟨S2x8192x2x64, .f32⟩
  | .hbm, ⟨2, _⟩ => ⟨S32x64, .f32⟩
  | .hbm, ⟨3, _⟩ => ⟨S32x64x128, .f32⟩
  | .hbm, ⟨4, _⟩ => ⟨S128x64, .f32⟩
  | .hbm, ⟨5, _⟩ => ⟨S32x64, .f32⟩
  | .hbm, ⟨6, _⟩ => ⟨S32x64x128, .f32⟩
  | .hbm, ⟨7, _⟩ => ⟨S128x64, .f32⟩
  | .hbm, ⟨8, _⟩ => ⟨S2x2, .i32⟩
  | .hbm, ⟨9, _⟩ => ⟨S2x2, .i32⟩
  | .hbm, ⟨10, _⟩ => ⟨S_, .i32⟩
  | .hbm, ⟨11, _⟩ => ⟨S2x2, .i32⟩
  | .hbm, ⟨12, _⟩ => ⟨S2x2, .i32⟩
  | .hbm, ⟨13, _⟩ => ⟨S2x2, .i1⟩
  | .hbm, ⟨14, _⟩ => ⟨S2x2, .f32⟩
  | .hbm, ⟨15, _⟩ => ⟨S16x64x128, .f32⟩
  | .hbm, ⟨16, _⟩ => ⟨S16x1x64x1x128, .f32⟩
  | .hbm, ⟨17, _⟩ => ⟨S1x2x1x2x1, .f32⟩
  | .hbm, ⟨18, _⟩ => ⟨S16x2x64x2x128, .f32⟩
  | .hbm, ⟨19, _⟩ => ⟨S16x2x64x2x128, .f32⟩
  | .hbm, ⟨20, _⟩ => ⟨S16x2x64x2x128, .f32⟩
  | .hbm, ⟨21, _⟩ => ⟨S2048x256, .f32⟩
  | .hbm, ⟨22, _⟩ => ⟨S16x64x128, .f32⟩
  | .hbm, ⟨23, _⟩ => ⟨S16x1x64x1x128, .f32⟩
  | .hbm, ⟨24, _⟩ => ⟨S1x2x1x2x1, .f32⟩
  | .hbm, ⟨25, _⟩ => ⟨S16x2x64x2x128, .f32⟩
  | .hbm, ⟨26, _⟩ => ⟨S16x2x64x2x128, .f32⟩
  | .hbm, ⟨27, _⟩ => ⟨S16x2x64x2x128, .f32⟩
  | .hbm, ⟨28, _⟩ => ⟨S2048x256, .f32⟩
  | .hbm, ⟨29, _⟩ => ⟨S2048x512, .f32⟩
  | .hbm, ⟨30, _⟩ => ⟨S2048x512, .bf16⟩
  | .hbm, ⟨31, _⟩ => ⟨S2x16x1x64, .f32⟩
  | .hbm, ⟨32, _⟩ => ⟨S2x16x2x64, .f32⟩
  | .hbm, ⟨33, _⟩ => ⟨S1x128x1x64, .f32⟩
  | .hbm, ⟨34, _⟩ => ⟨S2x1x2x1, .f32⟩
  | .hbm, ⟨35, _⟩ => ⟨S2x128x2x64, .f32⟩
  | .hbm, ⟨36, _⟩ => ⟨S2x128x2x64, .f32⟩
  | .hbm, ⟨37, _⟩ => ⟨S2x128x2x64, .f32⟩
  | .hbm, ⟨38, _⟩ => ⟨S256x128, .f32⟩
  | .hbm, ⟨39, _⟩ => ⟨S256x128, .bf16⟩
  | .hbm, ⟨40, _⟩ => ⟨S2x1x2048, .f32⟩
  | .hbm, ⟨41, _⟩ => ⟨S2x2, .i32⟩
  | .hbm, ⟨42, _⟩ => ⟨S2x2, .i32⟩
  | .hbm, ⟨43, _⟩ => ⟨S_, .i32⟩
  | .hbm, ⟨44, _⟩ => ⟨S2x2, .i32⟩
  | .hbm, ⟨45, _⟩ => ⟨S2x2, .i32⟩
  | .hbm, ⟨46, _⟩ => ⟨S2x2, .i1⟩
  | .hbm, ⟨47, _⟩ => ⟨S2x2, .f32⟩
  | .hbm, ⟨48, _⟩ => ⟨S16x64x128, .f32⟩
  | .hbm, ⟨49, _⟩ => ⟨S16x1x64x1x128, .f32⟩
  | .hbm, ⟨50, _⟩ => ⟨S1x2x1x2x1, .f32⟩
  | .hbm, ⟨51, _⟩ => ⟨S16x2x64x2x128, .f32⟩
  | .hbm, ⟨52, _⟩ => ⟨S16x2x64x2x128, .f32⟩
  | .hbm, ⟨53, _⟩ => ⟨S16x2x64x2x128, .f32⟩
  | .hbm, ⟨54, _⟩ => ⟨S2048x256, .f32⟩
  | .hbm, ⟨55, _⟩ => ⟨S16x64x128, .f32⟩
  | .hbm, ⟨56, _⟩ => ⟨S16x1x64x1x128, .f32⟩
  | .hbm, ⟨57, _⟩ => ⟨S1x2x1x2x1, .f32⟩
  | .hbm, ⟨58, _⟩ => ⟨S16x2x64x2x128, .f32⟩
  | .hbm, ⟨59, _⟩ => ⟨S16x2x64x2x128, .f32⟩
  | .hbm, ⟨60, _⟩ => ⟨S16x2x64x2x128, .f32⟩
  | .hbm, ⟨61, _⟩ => ⟨S2048x256, .f32⟩
  | .hbm, ⟨62, _⟩ => ⟨S2048x512, .f32⟩
  | .hbm, ⟨63, _⟩ => ⟨S2048x512, .bf16⟩
  | .hbm, ⟨64, _⟩ => ⟨S2x16x1x64, .f32⟩
  | .hbm, ⟨65, _⟩ => ⟨S2x16x2x64, .f32⟩
  | .hbm, ⟨66, _⟩ => ⟨S1x128x1x64, .f32⟩
  | .hbm, ⟨67, _⟩ => ⟨S2x1x2x1, .f32⟩
  | .hbm, ⟨68, _⟩ => ⟨S2x128x2x64, .f32⟩
  | .hbm, ⟨69, _⟩ => ⟨S2x128x2x64, .f32⟩
  | .hbm, ⟨70, _⟩ => ⟨S2x128x2x64, .f32⟩
  | .hbm, ⟨71, _⟩ => ⟨S256x128, .f32⟩
  | .hbm, ⟨72, _⟩ => ⟨S256x128, .bf16⟩
  | .hbm, ⟨73, _⟩ => ⟨S2x1x2048, .f32⟩
  | .hbm, ⟨74, _⟩ => ⟨S2x512x2048, .f32⟩
  | .hbm, ⟨75, _⟩ => ⟨S2x512x2048, .f32⟩
  | .hbm, ⟨76, _⟩ => ⟨S2x512x128, .bf16⟩
  | .hbm, ⟨77, _⟩ => ⟨S2x512x128, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S2048x512, .bf16⟩
  | .local _ .vmem, ⟨5, _⟩ => ⟨S2x1x2048, .f32⟩
  | .local _ .vmem, ⟨6, _⟩ => ⟨S256x128, .bf16⟩
  | .local _ .vmem, ⟨7, _⟩ => ⟨S2048x512, .bf16⟩
  | .local _ .vmem, ⟨8, _⟩ => ⟨S2x1x2048, .f32⟩
  | .local _ .vmem, ⟨9, _⟩ => ⟨S256x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | _, _ => ⟨S2x8192x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66_0 : Ref sig .tc := ⟨.hbm, 76, rfl⟩
abbrev main_v66_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S2x8192x2x64 : Shape := ⟨4, ![2, 8192, 2, 64]⟩
abbrev S32x64 : Shape := ⟨2, ![32, 64]⟩
abbrev S32x64x128 : Shape := ⟨3, ![32, 64, 128]⟩
abbrev S128x64 : Shape := ⟨2, ![128, 64]⟩
abbrev S_ : Shape := ⟨0, ![]⟩
abbrev S2x1x128 : Shape := ⟨3, ![2, 1, 128]⟩
abbrev S2x512x16x2x64 : Shape := ⟨5, ![2, 512, 16, 2, 64]⟩
abbrev S2x511x16x2x64 : Shape := ⟨5, ![2, 511, 16, 2, 64]⟩
abbrev S16x64 : Shape := ⟨2, ![16, 64]⟩
abbrev S1x1x16x1x64 : Shape := ⟨5, ![1, 1, 16, 1, 64]⟩
abbrev S16x64x128 : Shape := ⟨3, ![16, 64, 128]⟩
abbrev S2x511x2x128 : Shape := ⟨4, ![2, 511, 2, 128]⟩
abbrev S2x511x2x64 : Shape := ⟨4, ![2, 511, 2, 64]⟩
abbrev S2x511x128 : Shape := ⟨3, ![2, 511, 128]⟩
abbrev S2x512x128 : Shape := ⟨3, ![2, 512, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x2x64, .f32⟩
  | .hbm, ⟨1, _⟩ => ⟨S2x8192x2x64, .f32⟩
  | .hbm, ⟨2, _⟩ => ⟨S32x64, .f32⟩
  | .hbm, ⟨3, _⟩ => ⟨S32x64x128, .f32⟩
  | .hbm, ⟨4, _⟩ => ⟨S128x64, .f32⟩
  | .hbm, ⟨5, _⟩ => ⟨S32x64, .f32⟩
  | .hbm, ⟨6, _⟩ => ⟨S32x64x128, .f32⟩
  | .hbm, ⟨7, _⟩ => ⟨S128x64, .f32⟩
  | .hbm, ⟨8, _⟩ => ⟨S_, .bf16⟩
  | .hbm, ⟨9, _⟩ => ⟨S2x1x128, .bf16⟩
  | .hbm, ⟨10, _⟩ => ⟨S2x512x16x2x64, .f32⟩
  | .hbm, ⟨11, _⟩ => ⟨S2x511x16x2x64, .f32⟩
  | .hbm, ⟨12, _⟩ => ⟨S16x64, .f32⟩
  | .hbm, ⟨13, _⟩ => ⟨S1x1x16x1x64, .f32⟩
  | .hbm, ⟨14, _⟩ => ⟨S2x511x16x2x64, .f32⟩
  | .hbm, ⟨15, _⟩ => ⟨S2x511x16x2x64, .f32⟩
  | .hbm, ⟨16, _⟩ => ⟨S16x64x128, .f32⟩
  | .hbm, ⟨17, _⟩ => ⟨S2x511x2x128, .f32⟩
  | .hbm, ⟨18, _⟩ => ⟨S2x511x16x2x64, .f32⟩
  | .hbm, ⟨19, _⟩ => ⟨S16x64, .f32⟩
  | .hbm, ⟨20, _⟩ => ⟨S1x1x16x1x64, .f32⟩
  | .hbm, ⟨21, _⟩ => ⟨S2x511x16x2x64, .f32⟩
  | .hbm, ⟨22, _⟩ => ⟨S2x511x16x2x64, .f32⟩
  | .hbm, ⟨23, _⟩ => ⟨S16x64x128, .f32⟩
  | .hbm, ⟨24, _⟩ => ⟨S2x511x2x128, .f32⟩
  | .hbm, ⟨25, _⟩ => ⟨S2x511x2x128, .f32⟩
  | .hbm, ⟨26, _⟩ => ⟨S2x511x2x128, .f32⟩
  | .hbm, ⟨27, _⟩ => ⟨S2x511x2x128, .f32⟩
  | .hbm, ⟨28, _⟩ => ⟨S_, .f32⟩
  | .hbm, ⟨29, _⟩ => ⟨S2x511x2x128, .f32⟩
  | .hbm, ⟨30, _⟩ => ⟨S2x511x2x128, .f32⟩
  | .hbm, ⟨31, _⟩ => ⟨S2x511x2x128, .f32⟩
  | .hbm, ⟨32, _⟩ => ⟨S_, .f32⟩
  | .hbm, ⟨33, _⟩ => ⟨S2x511x2x128, .f32⟩
  | .hbm, ⟨34, _⟩ => ⟨S2x511x2x128, .f32⟩
  | .hbm, ⟨35, _⟩ => ⟨S2x511x2x128, .f32⟩
  | .hbm, ⟨36, _⟩ => ⟨S_, .f32⟩
  | .hbm, ⟨37, _⟩ => ⟨S2x511x2x128, .f32⟩
  | .hbm, ⟨38, _⟩ => ⟨S2x511x2x128, .f32⟩
  | .hbm, ⟨39, _⟩ => ⟨S_, .f32⟩
  | .hbm, ⟨40, _⟩ => ⟨S2x511x2x128, .f32⟩
  | .hbm, ⟨41, _⟩ => ⟨S2x511x2x128, .f32⟩
  | .hbm, ⟨42, _⟩ => ⟨S2x511x2x128, .f32⟩
  | .hbm, ⟨43, _⟩ => ⟨S2x511x2x64, .f32⟩
  | .hbm, ⟨44, _⟩ => ⟨S2x511x128, .f32⟩
  | .hbm, ⟨45, _⟩ => ⟨S2x511x128, .bf16⟩
  | .hbm, ⟨46, _⟩ => ⟨S2x512x128, .bf16⟩
  | .hbm, ⟨47, _⟩ => ⟨S2x512x16x2x64, .f32⟩
  | .hbm, ⟨48, _⟩ => ⟨S2x511x16x2x64, .f32⟩
  | .hbm, ⟨49, _⟩ => ⟨S16x64, .f32⟩
  | .hbm, ⟨50, _⟩ => ⟨S1x1x16x1x64, .f32⟩
  | .hbm, ⟨51, _⟩ => ⟨S2x511x16x2x64, .f32⟩
  | .hbm, ⟨52, _⟩ => ⟨S2x511x16x2x64, .f32⟩
  | .hbm, ⟨53, _⟩ => ⟨S16x64x128, .f32⟩
  | .hbm, ⟨54, _⟩ => ⟨S2x511x2x128, .f32⟩
  | .hbm, ⟨55, _⟩ => ⟨S2x511x16x2x64, .f32⟩
  | .hbm, ⟨56, _⟩ => ⟨S16x64, .f32⟩
  | .hbm, ⟨57, _⟩ => ⟨S1x1x16x1x64, .f32⟩
  | .hbm, ⟨58, _⟩ => ⟨S2x511x16x2x64, .f32⟩
  | .hbm, ⟨59, _⟩ => ⟨S2x511x16x2x64, .f32⟩
  | .hbm, ⟨60, _⟩ => ⟨S16x64x128, .f32⟩
  | .hbm, ⟨61, _⟩ => ⟨S2x511x2x128, .f32⟩
  | .hbm, ⟨62, _⟩ => ⟨S2x511x2x128, .f32⟩
  | .hbm, ⟨63, _⟩ => ⟨S2x511x2x128, .f32⟩
  | .hbm, ⟨64, _⟩ => ⟨S2x511x2x128, .f32⟩
  | .hbm, ⟨65, _⟩ => ⟨S_, .f32⟩
  | .hbm, ⟨66, _⟩ => ⟨S2x511x2x128, .f32⟩
  | .hbm, ⟨67, _⟩ => ⟨S2x511x2x128, .f32⟩
  | .hbm, ⟨68, _⟩ => ⟨S2x511x2x128, .f32⟩
  | .hbm, ⟨69, _⟩ => ⟨S_, .f32⟩
  | .hbm, ⟨70, _⟩ => ⟨S2x511x2x128, .f32⟩
  | .hbm, ⟨71, _⟩ => ⟨S2x511x2x128, .f32⟩
  | .hbm, ⟨72, _⟩ => ⟨S2x511x2x128, .f32⟩
  | .hbm, ⟨73, _⟩ => ⟨S_, .f32⟩
  | .hbm, ⟨74, _⟩ => ⟨S2x511x2x128, .f32⟩
  | .hbm, ⟨75, _⟩ => ⟨S2x511x2x128, .f32⟩
  | .hbm, ⟨76, _⟩ => ⟨S_, .f32⟩
  | .hbm, ⟨77, _⟩ => ⟨S2x511x2x128, .f32⟩
  | .hbm, ⟨78, _⟩ => ⟨S2x511x2x128, .f32⟩
  | .hbm, ⟨79, _⟩ => ⟨S2x511x2x128, .f32⟩
  | .hbm, ⟨80, _⟩ => ⟨S2x511x2x64, .f32⟩
  | .hbm, ⟨81, _⟩ => ⟨S2x511x128, .f32⟩
  | .hbm, ⟨82, _⟩ => ⟨S2x511x128, .bf16⟩
  | .hbm, ⟨83, _⟩ => ⟨S2x512x128, .bf16⟩
  | _, _ => ⟨S2x8192x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel8.lean ====
abbrev S128x8x128 : Shape := ⟨3, ![128, 8, 128]⟩
abbrev S128x128 : Shape := ⟨2, ![128, 128]⟩
abbrev S10240x128x2x64 : Shape := ⟨4, ![10240, 128, 2, 64]⟩
abbrev S128x512x2x64 : Shape := ⟨4, ![128, 512, 2, 64]⟩
abbrev S128x64 : Shape := ⟨2, ![128, 64]⟩
abbrev S128x32 : Shape := ⟨2, ![128, 32]⟩
abbrev S3x8x128 : Shape := ⟨3, ![3, 8, 128]⟩
abbrev S8x128 : Shape := ⟨2, ![8, 128]⟩
abbrev S8x512 : Shape := ⟨2, ![8, 512]⟩
abbrev S_ : Shape := ⟨0, ![]⟩
abbrev S128x32x1 : Shape := ⟨3, ![128, 32, 1]⟩
abbrev S128x24 : Shape := ⟨2, ![128, 24]⟩
abbrev S128x8x3 : Shape := ⟨3, ![128, 8, 3]⟩
abbrev S128x3x8 : Shape := ⟨3, ![128, 3, 8]⟩
abbrev S128x3x8x1 : Shape := ⟨4, ![128, 3, 8, 1]⟩
abbrev S128x3x8x128 : Shape := ⟨4, ![128, 3, 8, 128]⟩
abbrev S10240x2x64x128 : Shape := ⟨4, ![10240, 2, 64, 128]⟩
abbrev S20480x64x128 : Shape := ⟨3, ![20480, 64, 128]⟩
abbrev S128x1x128 : Shape := ⟨3, ![128, 1, 128]⟩
abbrev S128x2x64x512 : Shape := ⟨4, ![128, 2, 64, 512]⟩
abbrev S128x128x512 : Shape := ⟨3, ![128, 128, 512]⟩
abbrev S1x64x128 : Shape := ⟨3, ![1, 64, 128]⟩
abbrev S1x1 : Shape := ⟨2, ![1, 1]⟩
abbrev S1x8x128 : Shape := ⟨3, ![1, 8, 128]⟩
abbrev S1x3x8x128 : Shape := ⟨4, ![1, 3, 8, 128]⟩
abbrev S1x1x128 : Shape := ⟨3, ![1, 1, 128]⟩
abbrev S1x128x512 : Shape := ⟨3, ![1, 128, 512]⟩
abbrev S64x128 : Shape := ⟨2, ![64, 128]⟩
abbrev S128x2048 : Shape := ⟨2, ![128, 2048]⟩
abbrev S8x2048 : Shape := ⟨2, ![8, 2048]⟩
abbrev S8x1 : Shape := ⟨2, ![8, 1]⟩
abbrev S1x128 : Shape := ⟨2, ![1, 128]⟩
abbrev S8 : Shape := ⟨1, ![8]⟩
abbrev S128x512 : Shape := ⟨2, ![128, 512]⟩
abbrev S128x1 : Shape := ⟨2, ![128, 1]⟩

abbrev nBuf : Space → Nat
  | .hbm => 69
  | .vmem => 155
  | .smem => 2
  | _ => 0

abbrev vmemTy0_0 (i : Nat) : BufTy := match i % 128 with
  | 0 => ⟨S1x64x128, .f32⟩
  | 1 => ⟨S1x64x128, .f32⟩
  | 2 => ⟨S1x64x128, .f32⟩
  | 3 => ⟨S1x64x128, .f32⟩
  | 4 => ⟨S1x64x128, .f32⟩
  | 5 => ⟨S1x64x128, .f32⟩
  | 6 => ⟨S1x64x128, .f32⟩
  | 7 => ⟨S1x64x128, .f32⟩
  | 8 => ⟨S1x64x128, .f32⟩
  | 9 => ⟨S1x64x128, .f32⟩
  | 10 => ⟨S1x64x128, .f32⟩
  | 11 => ⟨S1x64x128, .f32⟩
  | 12 => ⟨S1x64x128, .f32⟩
  | 13 => ⟨S1x64x128, .f32⟩
  | 14 => ⟨S1x64x128, .f32⟩
  | 15 => ⟨S1x64x128, .f32⟩
  | 16 => ⟨S1x64x128, .f32⟩
  | 17 => ⟨S1x64x128, .f32⟩
  | 18 => ⟨S1x64x128, .f32⟩
  | 19 => ⟨S1x64x128, .f32⟩
  | 20 => ⟨S1x64x128, .f32⟩
  | 21 => ⟨S1x64x128, .f32⟩
  | 22 => ⟨S1x64x128, .f32⟩
  | 23 => ⟨S1x64x128, .f32⟩
  | 24 => ⟨S1x64x128, .f32⟩
  | 25 => ⟨S1x64x128, .f32⟩
  | 26 => ⟨S1x64x128, .f32⟩
  | 27 => ⟨S1x64x128, .f32⟩
  | 28 => ⟨S1x64x128, .f32⟩
  | 29 => ⟨S1x64x128, .f32⟩
  | 30 => ⟨S1x64x128, .f32⟩
  | 31 => ⟨S1x64x128, .f32⟩
  | 32 => ⟨S1x64x128, .f32⟩
  | 33 => ⟨S1x64x128, .f32⟩
  | 34 => ⟨S1x64x128, .f32⟩
  | 35 => ⟨S1x64x128, .f32⟩
  | 36 => ⟨S1x64x128, .f32⟩
  | 37 => ⟨S1x64x128, .f32⟩
  | 38 => ⟨S1x64x128, .f32⟩
  | 39 => ⟨S1x64x128, .f32⟩
  | 40 => ⟨S1x64x128, .f32⟩
  | 41 => ⟨S1x64x128, .f32⟩
  | 42 => ⟨S1x64x128, .f32⟩
  | 43 => ⟨S1x64x128, .f32⟩
  | 44 => ⟨S1x64x128, .f32⟩
  | 45 => ⟨S1x64x128, .f32⟩
  | 46 => ⟨S1x64x128, .f32⟩
  | 47 => ⟨S1x64x128, .f32⟩
  | 48 => ⟨S1x64x128, .f32⟩
  | 49 => ⟨S1x64x128, .f32⟩
  | 50 => ⟨S1x64x128, .f32⟩
  | 51 => ⟨S1x64x128, .f32⟩
  | 52 => ⟨S1x64x128, .f32⟩
  | 53 => ⟨S1x64x128, .f32⟩
  | 54 => ⟨S1x64x128, .f32⟩
  | 55 => ⟨S1x64x128, .f32⟩
  | 56 => ⟨S1x64x128, .f32⟩
  | 57 => ⟨S1x64x128, .f32⟩
  | 58 => ⟨S1x64x128, .f32⟩
  | 59 => ⟨S1x64x128, .f32⟩
  | 60 => ⟨S1x64x128, .f32⟩
  | 61 => ⟨S1x64x128, .f32⟩
  | 62 => ⟨S1x64x128, .f32⟩
  | 63 => ⟨S1x64x128, .f32⟩
  | 64 => ⟨S1x64x128, .f32⟩
  | 65 => ⟨S1x64x128, .f32⟩
  | 66 => ⟨S1x64x128, .f32⟩
  | 67 => ⟨S1x64x128, .f32⟩
  | 68 => ⟨S1x64x128, .f32⟩
  | 69 => ⟨S1x64x128, .f32⟩
  | 70 => ⟨S1x64x128, .f32⟩
  | 71 => ⟨S1x64x128, .f32⟩
  | 72 => ⟨S1x64x128, .f32⟩
  | 73 => ⟨S1x64x128, .f32⟩
  | 74 => ⟨S1x64x128, .f32⟩
  | 75 => ⟨S1x64x128, .f32⟩
  | 76 => ⟨S1x64x128, .f32⟩
  | 77 => ⟨S1x64x128, .f32⟩
  | 78 => ⟨S1x64x128, .f32⟩
  | 79 => ⟨S1x64x128, .f32⟩
  | 80 => ⟨S1x64x128, .f32⟩
  | 81 => ⟨S1x64x128, .f32⟩
  | 82 => ⟨S1x64x128, .f32⟩
  | 83 => ⟨S1x64x128, .f32⟩
  | 84 => ⟨S1x64x128, .f32⟩
  | 85 => ⟨S1x64x128, .f32⟩
  | 86 => ⟨S1x64x128, .f32⟩
  | 87 => ⟨S1x64x128, .f32⟩
  | 88 => ⟨S1x64x128, .f32⟩
  | 89 => ⟨S1x64x128, .f32⟩
  | 90 => ⟨S1x64x128, .f32⟩
  | 91 => ⟨S1x64x128, .f32⟩
  | 92 => ⟨S1x64x128, .f32⟩
  | 93 => ⟨S1x64x128, .f32⟩
  | 94 => ⟨S1x64x128, .f32⟩
  | 95 => ⟨S1x64x128, .f32⟩
  | 96 => ⟨S1x64x128, .f32⟩
  | 97 => ⟨S1x64x128, .f32⟩
  | 98 => ⟨S1x64x128, .f32⟩
  | 99 => ⟨S1x64x128, .f32⟩
  | 100 => ⟨S1x64x128, .f32⟩
  | 101 => ⟨S1x64x128, .f32⟩
  | 102 => ⟨S1x64x128, .f32⟩
  | 103 => ⟨S1x64x128, .f32⟩
  | 104 => ⟨S1x64x128, .f32⟩
  | 105 => ⟨S1x64x128, .f32⟩
  | 106 => ⟨S1x64x128, .f32⟩
  | 107 => ⟨S1x64x128, .f32⟩
  | 108 => ⟨S1x64x128, .f32⟩
  | 109 => ⟨S1x64x128, .f32⟩
  | 110 => ⟨S1x64x128, .f32⟩
  | 111 => ⟨S1x64x128, .f32⟩
  | 112 => ⟨S1x64x128, .f32⟩
  | 113 => ⟨S1x64x128, .f32⟩
  | 114 => ⟨S1x64x128, .f32⟩
  | 115 => ⟨S1x64x128, .f32⟩
  | 116 => ⟨S1x64x128, .f32⟩
  | 117 => ⟨S1x64x128, .f32⟩
  | 118 => ⟨S1x64x128, .f32⟩
  | 119 => ⟨S1x64x128, .f32⟩
  | 120 => ⟨S1x64x128, .f32⟩
  | 121 => ⟨S1x64x128, .f32⟩
  | 122 => ⟨S1x64x128, .f32⟩
  | 123 => ⟨S1x64x128, .f32⟩
  | 124 => ⟨S1x64x128, .f32⟩
  | 125 => ⟨S1x64x128, .f32⟩
  | 126 => ⟨S1x64x128, .f32⟩
  | 127 => ⟨S1x64x128, .f32⟩
  | _ => ⟨S128x8x128, .bf16⟩

abbrev vmemTy0_1 (i : Nat) : BufTy := match i % 128 with
  | 0 => ⟨S1x8x128, .bf16⟩
  | 1 => ⟨S1x8x128, .bf16⟩
  | 2 => ⟨S1x8x128, .f32⟩
  | 3 => ⟨S1x8x128, .f32⟩
  | 4 => ⟨S1x3x8x128, .f32⟩
  | 5 => ⟨S1x3x8x128, .f32⟩
  | 6 => ⟨S1x1x128, .f32⟩
  | 7 => ⟨S1x1x128, .f32⟩
  | 8 => ⟨S1x1x128, .f32⟩
  | 9 => ⟨S1x1x128, .f32⟩
  | 10 => ⟨S1x1x128, .f32⟩
  | 11 => ⟨S1x1x128, .f32⟩
  | 12 => ⟨S1x1x128, .f32⟩
  | 13 => ⟨S1x1x128, .f32⟩
  | 14 => ⟨S1x128x512, .f32⟩
  | 15 => ⟨S1x128x512, .f32⟩
  | 16 => ⟨S1x128x512, .f32⟩
  | 17 => ⟨S1x128x512, .f32⟩
  | 18 => ⟨S3x8x128, .f32⟩
  | 19 => ⟨S8x128, .f32⟩
  | 20 => ⟨S8x512, .f32⟩
  | 21 => ⟨S1x8x128, .bf16⟩
  | 22 => ⟨S1x8x128, .bf16⟩
  | 23 => ⟨S1x128x512, .f32⟩
  | 24 => ⟨S1x128x512, .f32⟩
  | 25 => ⟨S1x128x512, .f32⟩
  | 26 => ⟨S1x128x512, .f32⟩
  | _ => ⟨S128x8x128, .bf16⟩

abbrev vmemTy (i : Nat) : BufTy := match i / 128 with
  | 0 => vmemTy0_0 i
  | 1 => vmemTy0_1 i
  | _ => ⟨S128x8x128, .bf16⟩

abbrev bufTy : (tb : Table) → Fin (tcTables nBuf tb) → BufTy
  | .hbm, ⟨0, _⟩ => ⟨S128x8x128, .bf16⟩
  | .hbm, ⟨1, _⟩ => ⟨S128x8x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S10240x128x2x64, .f32⟩
  | .hbm, ⟨8, _⟩ => ⟨S10240x128x2x64, .f32⟩
  | .hbm, ⟨9, _⟩ => ⟨S128x512x2x64, .f32⟩
  | .hbm, ⟨10, _⟩ => ⟨S128x512x2x64, .f32⟩
  | .hbm, ⟨11, _⟩ => ⟨S128x64, .i32⟩
  | .hbm, ⟨12, _⟩ => ⟨S3x8x128, .f32⟩
  | .hbm, ⟨13, _⟩ => ⟨S8x128, .f32⟩
  | .hbm, ⟨14, _⟩ => ⟨S8x512, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S128x32, .i32⟩
  | .hbm, ⟨19, _⟩ => ⟨S128x32, .i32⟩
  | .hbm, ⟨20, _⟩ => ⟨S_, .i32⟩
  | .hbm, ⟨21, _⟩ => ⟨S128x32, .i32⟩
  | .hbm, ⟨22, _⟩ => ⟨S128x32, .i32⟩
  | .hbm, ⟨23, _⟩ => ⟨S_, .i32⟩
  | .hbm, ⟨24, _⟩ => ⟨S_, .i32⟩
  | .hbm, ⟨25, _⟩ => ⟨S128x32, .i32⟩
  | .hbm, ⟨26, _⟩ => ⟨S128x32, .i32⟩
  | .hbm, ⟨27, _⟩ => ⟨S128x32, .i32⟩
  | .hbm, ⟨28, _⟩ => ⟨S_, .i32⟩
  | .hbm, ⟨29, _⟩ => ⟨S128x32, .i32⟩
  | .hbm, ⟨30, _⟩ => ⟨S128x32, .i1⟩
  | .hbm, ⟨31, _⟩ => ⟨S128x32, .i32⟩
  | .hbm, ⟨32, _⟩ => ⟨S128x32, .i32⟩
  | .hbm, ⟨33, _⟩ => ⟨S_, .i32⟩
  | .hbm, ⟨34, _⟩ => ⟨S128x32, .i32⟩
  | .hbm, ⟨35, _⟩ => ⟨S128x32, .i1⟩
  | .hbm, ⟨36, _⟩ => ⟨S128x32, .i1⟩
  | .hbm, ⟨37, _⟩ => ⟨S_, .i32⟩
  | .hbm, ⟨38, _⟩ => ⟨S128x32, .i32⟩
  | .hbm, ⟨39, _⟩ => ⟨S128x32, .i32⟩
  | .hbm, ⟨40, _⟩ => ⟨S128x32, .i32⟩
  | .hbm, ⟨41, _⟩ => ⟨S_, .i32⟩
  | .hbm, ⟨42, _⟩ => ⟨S128x32, .i32⟩
  | .hbm, ⟨43, _⟩ => ⟨S128x32, .i1⟩
  | .hbm, ⟨44, _⟩ => ⟨S_, .i32⟩
  | .hbm, ⟨45, _⟩ => ⟨S128x32, .i32⟩
  | .hbm, ⟨46, _⟩ => ⟨S128x32, .i32⟩
  | .hbm, ⟨47, _⟩ => ⟨S128x32, .i32⟩
  | .hbm, ⟨48, _⟩ => ⟨S128x32x1, .i32⟩
  | .hbm, ⟨49, _⟩ => ⟨S128x24, .f32⟩
  | .hbm, ⟨50, _⟩ => ⟨S128x8x3, .f32⟩
  | .hbm, ⟨51, _⟩ => ⟨S128x3x8, .f32⟩
  | .hbm, ⟨52, _⟩ => ⟨S128x3x8x1, .f32⟩
  | .hbm, ⟨53, _⟩ => ⟨S128x3x8x128, .f32⟩
  | .hbm, ⟨54, _⟩ => ⟨S10240x2x64x128, .f32⟩
  | .hbm, ⟨55, _⟩ => ⟨S20480x64x128, .f32⟩
  | .hbm, ⟨56, _⟩ => ⟨S10240x2x64x128, .f32⟩
  | .hbm, ⟨57, _⟩ => ⟨S20480x64x128, .f32⟩
  | .hbm, ⟨58, _⟩ => ⟨S128x1x128, .f32⟩
  | .hbm, ⟨59, _⟩ => ⟨S128x1x128, .f32⟩
  | .hbm, ⟨60, _⟩ => ⟨S128x1x128, .f32⟩
  | .hbm, ⟨61, _⟩ => ⟨S128x1x128, .f32⟩
  | .hbm, ⟨62, _⟩ => ⟨S128x2x64x512, .f32⟩
  | .hbm, ⟨63, _⟩ => ⟨S128x128x512, .f32⟩
  | .hbm, ⟨64, _⟩ => ⟨S128x2x64x512, .f32⟩
  | .hbm, ⟨65, _⟩ => ⟨S128x128x512, .f32⟩
  | .hbm, ⟨66, _⟩ => ⟨S128x8x128, .bf16⟩
  | .hbm, ⟨67, _⟩ => ⟨S128x128x512, .f32⟩
  | .hbm, ⟨68, _⟩ => ⟨S128x128x512, .f32⟩
  | .local _ .vmem, ⟨i, _⟩ => vmemTy i
  | .local _ .smem, ⟨0, _⟩ => ⟨S128x32, .i32⟩
  | .local _ .smem, ⟨1, _⟩ => ⟨S128x32, .i32⟩
  | _, _ => ⟨S128x8x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 155 → Bool
  | ⟨i, _⟩ => dmaSemScopedAt i

abbrev sig : RefSig :=
  ofTc nBuf bufTy 0 155 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v0 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v1 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20_0 : Ref sig .tc := ⟨.hbm, 66, rfl⟩
abbrev main_v20_1 : Ref sig .tc := ⟨.hbm, 67, rfl⟩
abbrev main_v20_2 : Ref sig .tc := ⟨.hbm, 68, rfl⟩
abbrev main_v2 : Ref sig .tc := ⟨.smem, 0, rfl⟩
abbrev main_arg12 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_stg67_0 : Ref sig .tc := ⟨.vmem, 134, rfl⟩
abbrev cc0_stg67_1 : Ref sig .tc := ⟨.vmem, 135, rfl⟩
abbrev cc0_stg68_0 : Ref sig .tc := ⟨.vmem, 136, rfl⟩
abbrev cc0_stg68_1 : Ref sig .tc := ⟨.vmem, 137, rfl⟩
abbrev cc0_stg69_0 : Ref sig .tc := ⟨.vmem, 138, rfl⟩
abbrev cc0_stg69_1 : Ref sig .tc := ⟨.vmem, 139, rfl⟩
abbrev cc0_stg70_0 : Ref sig .tc := ⟨.vmem, 140, rfl⟩
abbrev cc0_stg70_1 : Ref sig .tc := ⟨.vmem, 141, rfl⟩
abbrev cc0_stg71_0 : Ref sig .tc := ⟨.vmem, 142, rfl⟩
abbrev cc0_stg71_1 : Ref sig .tc := ⟨.vmem, 143, rfl⟩
abbrev cc0_stg72_0 : Ref sig .tc := ⟨.vmem, 144, rfl⟩
abbrev cc0_stg72_1 : Ref sig .tc := ⟨.vmem, 145, rfl⟩
abbrev cc0_stg73_0 : Ref sig .tc := ⟨.vmem, 146, rfl⟩
abbrev cc0_stg74_0 : Ref sig .tc := ⟨.vmem, 147, rfl⟩
abbrev cc0_stg75_0 : Ref sig .tc := ⟨.vmem, 148, rfl⟩
abbrev cc0_stg76_0 : Ref sig .tc := ⟨.vmem, 149, rfl⟩
abbrev cc0_stg76_1 : Ref sig .tc := ⟨.vmem, 150, rfl⟩
abbrev cc0_stg77_0 : Ref sig .tc := ⟨.vmem, 151, rfl⟩
abbrev cc0_stg77_1 : Ref sig .tc := ⟨.vmem, 152, rfl⟩
abbrev cc0_stg78_0 : Ref sig .tc := ⟨.vmem, 153, rfl⟩
abbrev cc0_stg78_1 : Ref sig .tc := ⟨.vmem, 154, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133
abbrev cc0_sem67_0 : DmaSem sig := 134
abbrev cc0_sem67_1 : DmaSem sig := 135
abbrev cc0_sem68_0 : DmaSem sig := 136
abbrev cc0_sem68_1 : DmaSem sig := 137
abbrev cc0_sem69_0 : DmaSem sig := 138
abbrev cc0_sem69_1 : DmaSem sig := 139
abbrev cc0_sem70_0 : DmaSem sig := 140
abbrev cc0_sem70_1 : DmaSem sig := 141
abbrev cc0_sem71_0 : DmaSem sig := 142
abbrev cc0_sem71_1 : DmaSem sig := 143
abbrev cc0_sem72_0 : DmaSem sig := 144
abbrev cc0_sem72_1 : DmaSem sig := 145
abbrev cc0_sem73_0 : DmaSem sig := 146
abbrev cc0_sem74_0 : DmaSem sig := 147
abbrev cc0_sem75_0 : DmaSem sig := 148
abbrev cc0_sem76_0 : DmaSem sig := 149
abbrev cc0_sem76_1 : DmaSem sig := 150
abbrev cc0_sem77_0 : DmaSem sig := 151
abbrev cc0_sem77_1 : DmaSem sig := 152
abbrev cc0_sem78_0 : DmaSem sig := 153
abbrev cc0_sem78_1 : DmaSem sig := 154

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_v2.idx, main_arg12.idx], fun | 0 => main_v2.names | 1 => main_arg12.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c0 : Index := 0#32
  ![v1.toNat, 0]
def k0_off2 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c1 : Index := 1#32
  ![v1.toNat, 1]
def k0_off3 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c2 : Index := 2#32
  ![v1.toNat, 2]
def k0_off4 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c3 : Index := 3#32
  ![v1.toNat, 3]
def k0_off5 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c4 : Index := 4#32
  ![v1.toNat, 4]
def k0_off6 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c5 : Index := 5#32
  ![v1.toNat, 5]
def k0_off7 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c6 : Index := 6#32
  ![v1.toNat, 6]
def k0_off8 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c7 : Index := 7#32
  ![v1.toNat, 7]
def k0_off9 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c8 : Index := 8#32
  ![v1.toNat, 8]
def k0_off10 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c9 : Index := 9#32
  ![v1.toNat, 9]
def k0_off11 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c10 : Index := 10#32
  ![v1.toNat, 10]
def k0_off12 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c11 : Index := 11#32
  ![v1.toNat, 11]
def k0_off13 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c12 : Index := 12#32
  ![v1.toNat, 12]
def k0_off14 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c13 : Index := 13#32
  ![v1.toNat, 13]
def k0_off15 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c14 : Index := 14#32
  ![v1.toNat, 14]
def k0_off16 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c15 : Index := 15#32
  ![v1.toNat, 15]
def k0_off17 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c16 : Index := 16#32
  ![v1.toNat, 16]
def k0_off18 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c17 : Index := 17#32
  ![v1.toNat, 17]
def k0_off19 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c18 : Index := 18#32
  ![v1.toNat, 18]
def k0_off20 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c19 : Index := 19#32
  ![v1.toNat, 19]
def k0_off21 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c20 : Index := 20#32
  ![v1.toNat, 20]
def k0_off22 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c21 : Index := 21#32
  ![v1.toNat, 21]
def k0_off23 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c22 : Index := 22#32
  ![v1.toNat, 22]
def k0_off24 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c23 : Index := 23#32
  ![v1.toNat, 23]
def k0_off25 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c24 : Index := 24#32
  ![v1.toNat, 24]
def k0_off26 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c25 : Index := 25#32
  ![v1.toNat, 25]
def k0_off27 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c26 : Index := 26#32
  ![v1.toNat, 26]
def k0_off28 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c27 : Index := 27#32
  ![v1.toNat, 27]
def k0_off29 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c28 : Index := 28#32
  ![v1.toNat, 28]
def k0_off30 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c29 : Index := 29#32
  ![v1.toNat, 29]
def k0_off31 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c30 : Index := 30#32
  ![v1.toNat, 30]
def k0_off32 (i : grid0.Coords) : Fin 2 → Nat :=
  let arg0 : BitVec 32 := BitVec.ofNat 32 (i 0).val
  let c127_i32 : BitVec 32 := 127#32
  let v0 : BitVec 32 := Scalar.minsi arg0 c127_i32
  let v1 : Index := Scalar.indexCast v0
  let c31 : Index := 31#32
  ![v1.toNat, 31]
def k0_off33 (i : grid0.Coords) : Fin 2 → Nat :=
  let arg0 : BitVec 32 := BitVec.ofNat 32 (i 0).val
  let v11 : Index := Scalar.indexCast arg0
  let c0_3 : Index := 0#32
  ![v11.toNat, 0]
def k0_off34 (i : grid0.Coords) : Fin 2 → Nat :=
  let arg0 : BitVec 32 := BitVec.ofNat 32 (i 0).val
  let v13 : Index := Scalar.indexCast arg0
  let c1 : Index := 1#32
  ![v13.toNat, 1]
def k0_off35 (i : grid0.Coords) : Fin 2 → Nat :=
  let arg0 : BitVec 32 := BitVec.ofNat 32 (i 0).val
  let v15 : Index := Scalar.indexCast arg0
  let c2 : Index := 2#32
  ![v15.toNat, 2]
def k0_off36 (i : grid0.Coords) : Fin 2 → Nat :=
  let arg0 : BitVec 32 := BitVec.ofNat 32 (i 0).val
  let v17 : Index := Scalar.indexCast arg0
  let c3 : Index := 3#32
  ![v17.toNat, 3]
def k0_off37 (i : grid0.Coords) : Fin 2 → Nat :=
  let arg0 : BitVec 32 := BitVec.ofNat 32 (i 0).val
  let v19 : Index := Scalar.indexCast arg0
  let c4 : Index := 4#32
  ![v19.toNat, 4]
def k0_off38 (i : grid0.Coords) : Fin 2 → Nat :=
  let arg0 : BitVec 32 := BitVec.ofNat 32 (i 0).val
  let v21 : Index := Scalar.indexCast arg0
  let c5 : Index := 5#32
  ![v21.toNat, 5]
def k0_off39 (i : grid0.Coords) : Fin 2 → Nat :=
  let arg0 : BitVec 32 := BitVec.ofNat 32 (i 0).val
  let v23 : Index := Scalar.indexCast arg0
  let c6 : Index := 6#32
  ![v23.toNat, 6]
def k0_off40 (i : grid0.Coords) : Fin 2 → Nat :=
  let arg0 : BitVec 32 := BitVec.ofNat 32 (i 0).val
  let v25 : Index := Scalar.indexCast arg0
  let c7 : Index := 7#32
  ![v25.toNat, 7]
def k0_off41 (i : grid0.Coords) : Fin 2 → Nat :=
  let arg0 : BitVec 32 := BitVec.ofNat 32 (i 0).val
  let v27 : Index := Scalar.indexCast arg0
  let c8 : Index := 8#32
  ![v27.toNat, 8]
def k0_off42 (i : grid0.Coords) : Fin 2 → Nat :=
  let arg0 : BitVec 32 := BitVec.ofNat 32 (i 0).val
  let v29 : Index := Scalar.indexCast arg0
  let c9 : Index := 9#32
  ![v29.toNat, 9]
def k0_off43 (i : grid0.Coords) : Fin 2 → Nat :=
  let arg0 : BitVec 32 := BitVec.ofNat 32 (i 0).val
  let v31 : Index := Scalar.indexCast arg0
  let c10 : Index := 10#32
  ![v31.toNat, 10]
def k0_off44 (i : grid0.Coords) : Fin 2 → Nat :=
  let arg0 : BitVec 32 := BitVec.ofNat 32 (i 0).val
  let v33 : Index := Scalar.indexCast arg0
  let c11 : Index := 11#32
  ![v33.toNat, 11]
def k0_off45 (i : grid0.Coords) : Fin 2 → Nat :=
  let arg0 : BitVec 32 := BitVec.ofNat 32 (i 0).val
  let v35 : Index := Scalar.indexCast arg0
  let c12 : Index := 12#32
  ![v35.toNat, 12]
def k0_off46 (i : grid0.Coords) : Fin 2 → Nat :=
  let arg0 : BitVec 32 := BitVec.ofNat 32 (i 0).val
  let v37 : Index := Scalar.indexCast arg0
  let c13 : Index := 13#32
  ![v37.toNat, 13]
def k0_off47 (i : grid0.Coords) : Fin 2 → Nat :=
  let arg0 : BitVec 32 := BitVec.ofNat 32 (i 0).val
  let v39 : Index := Scalar.indexCast arg0
  let c14 : Index := 14#32
  ![v39.toNat, 14]
def k0_off48 (i : grid0.Coords) : Fin 2 → Nat :=
  let arg0 : BitVec 32 := BitVec.ofNat 32 (i 0).val
  let v41 : Index := Scalar.indexCast arg0
  let c15 : Index := 15#32
  ![v41.toNat, 15]
def k0_off49 (i : grid0.Coords) : Fin 2 → Nat :=
  let arg0 : BitVec 32 := BitVec.ofNat 32 (i 0).val
  let v512 : Index := Scalar.indexCast arg0
  let c16 : Index := 16#32
  ![v512.toNat, 16]
def k0_off50 (i : grid0.Coords) : Fin 2 → Nat :=
  let arg0 : BitVec 32 := BitVec.ofNat 32 (i 0).val
  let v514 : Index := Scalar.indexCast arg0
  let c17 : Index := 17#32
  ![v514.toNat, 17]
def k0_off51 (i : grid0.Coords) : Fin 2 → Nat :=
  let arg0 : BitVec 32 := BitVec.ofNat 32 (i 0).val
  let v516 : Index := Scalar.indexCast arg0
  let c18 : Index := 18#32
  ![v516.toNat, 18]
def k0_off52 (i : grid0.Coords) : Fin 2 → Nat :=
  let arg0 : BitVec 32 := BitVec.ofNat 32 (i 0).val
  let v518 : Index := Scalar.indexCast arg0
  let c19 : Index := 19#32
  ![v518.toNat, 19]
def k0_off53 (i : grid0.Coords) : Fin 2 → Nat :=
  let arg0 : BitVec 32 := BitVec.ofNat 32 (i 0).val
  let v520 : Index := Scalar.indexCast arg0
  let c20 : Index := 20#32
  ![v520.toNat, 20]
def k0_off54 (i : grid0.Coords) : Fin 2 → Nat :=
  let arg0 : BitVec 32 := BitVec.ofNat 32 (i 0).val
  let v522 : Index := Scalar.indexCast arg0
  let c21 : Index := 21#32
  ![v522.toNat, 21]
def k0_off55 (i : grid0.Coords) : Fin 2 → Nat :=
  let arg0 : BitVec 32 := BitVec.ofNat 32 (i 0).val
  let v524 : Index := Scalar.indexCast arg0
  let c22 : Index := 22#32
  ![v524.toNat, 22]
def k0_off56 (i : grid0.Coords) : Fin 2 → Nat :=
  let arg0 : BitVec 32 := BitVec.ofNat 32 (i 0).val
  let v526 : Index := Scalar.indexCast arg0
  let c23 : Index := 23#32
  ![v526.toNat, 23]
def k0_off57 (i : grid0.Coords) : Fin 2 → Nat :=
  let arg0 : BitVec 32 := BitVec.ofNat 32 (i 0).val
  let v528 : Index := Scalar.indexCast arg0
  let c24 : Index := 24#32
  ![v528.toNat, 24]
def k0_off58 (i : grid0.Coords) : Fin 2 → Nat :=
  let arg0 : BitVec 32 := BitVec.ofNat 32 (i 0).val
  let v530 : Index := Scalar.indexCast arg0
  let c25 : Index := 25#32
  ![v530.toNat, 25]
def k0_off59 (i : grid0.Coords) : Fin 2 → Nat :=
  let arg0 : BitVec 32 := BitVec.ofNat 32 (i 0).val
  let v532 : Index := Scalar.indexCast arg0
  let c26 : Index := 26#32
  ![v532.toNat, 26]
def k0_off60 (i : grid0.Coords) : Fin 2 → Nat :=
  let arg0 : BitVec 32 := BitVec.ofNat 32 (i 0).val
  let v534 : Index := Scalar.indexCast arg0
  let c27 : Index := 27#32
  ![v534.toNat, 27]
def k0_off61 (i : grid0.Coords) : Fin 2 → Nat :=
  let arg0 : BitVec 32 := BitVec.ofNat 32 (i 0).val
  let v536 : Index := Scalar.indexCast arg0
  let c28 : Index := 28#32
  ![v536.toNat, 28]
def k0_off62 (i : grid0.Coords) : Fin 2 → Nat :=
  let arg0 : BitVec 32 := BitVec.ofNat 32 (i 0).val
  let v538 : Index := Scalar.indexCast arg0
  let c29 : Index := 29#32
  ![v538.toNat, 29]
def k0_off63 (i : grid0.Coords) : Fin 2 → Nat :=
  let arg0 : BitVec 32 := BitVec.ofNat 32 (i 0).val
  let v540 : Index := Scalar.indexCast arg0
  let c30 : Index := 30#32
  ![v540.toNat, 30]
def k0_off64 (i : grid0.Coords) : Fin 2 → Nat :=
  let arg0 : BitVec 32 := BitVec.ofNat 32 (i 0).val
  let v542 : Index := Scalar.indexCast arg0
  let c31 : Index := 31#32
  ![v542.toNat, 31]
def cc0_transform_0 (k0_off1_inb : ∀ i : grid0.Coords, ∀ a, (k0_off1 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c0 : Index := 0#32
  let v2 : BitVec 32 := pf.at 0 (Rect.unit (s := S128x32) ![v1.toNat, 0] S1x1.size (k0_off1_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_1 (k0_off2_inb : ∀ i : grid0.Coords, ∀ a, (k0_off2 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c1 : Index := 1#32
  let v2 : BitVec 32 := pf.at 0 (Rect.unit (s := S128x32) ![v1.toNat, 1] S1x1.size (k0_off2_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_2 (k0_off3_inb : ∀ i : grid0.Coords, ∀ a, (k0_off3 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c2 : Index := 2#32
  let v2 : BitVec 32 := pf.at 0 (Rect.unit (s := S128x32) ![v1.toNat, 2] S1x1.size (k0_off3_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_3 (k0_off4_inb : ∀ i : grid0.Coords, ∀ a, (k0_off4 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c3 : Index := 3#32
  let v2 : BitVec 32 := pf.at 0 (Rect.unit (s := S128x32) ![v1.toNat, 3] S1x1.size (k0_off4_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_4 (k0_off5_inb : ∀ i : grid0.Coords, ∀ a, (k0_off5 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c4 : Index := 4#32
  let v2 : BitVec 32 := pf.at 0 (Rect.unit (s := S128x32) ![v1.toNat, 4] S1x1.size (k0_off5_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_5 (k0_off6_inb : ∀ i : grid0.Coords, ∀ a, (k0_off6 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c5 : Index := 5#32
  let v2 : BitVec 32 := pf.at 0 (Rect.unit (s := S128x32) ![v1.toNat, 5] S1x1.size (k0_off6_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_6 (k0_off7_inb : ∀ i : grid0.Coords, ∀ a, (k0_off7 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c6 : Index := 6#32
  let v2 : BitVec 32 := pf.at 0 (Rect.unit (s := S128x32) ![v1.toNat, 6] S1x1.size (k0_off7_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_7 (k0_off8_inb : ∀ i : grid0.Coords, ∀ a, (k0_off8 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c7 : Index := 7#32
  let v2 : BitVec 32 := pf.at 0 (Rect.unit (s := S128x32) ![v1.toNat, 7] S1x1.size (k0_off8_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_8 (k0_off9_inb : ∀ i : grid0.Coords, ∀ a, (k0_off9 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c8 : Index := 8#32
  let v2 : BitVec 32 := pf.at 0 (Rect.unit (s := S128x32) ![v1.toNat, 8] S1x1.size (k0_off9_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_9 (k0_off10_inb : ∀ i : grid0.Coords, ∀ a, (k0_off10 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c9 : Index := 9#32
  let v2 : BitVec 32 := pf.at 0 (Rect.unit (s := S128x32) ![v1.toNat, 9] S1x1.size (k0_off10_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_10 (k0_off11_inb : ∀ i : grid0.Coords, ∀ a, (k0_off11 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c10 : Index := 10#32
  let v2 : BitVec 32 := pf.at 0 (Rect.unit (s := S128x32) ![v1.toNat, 10] S1x1.size (k0_off11_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_11 (k0_off12_inb : ∀ i : grid0.Coords, ∀ a, (k0_off12 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c11 : Index := 11#32
  let v2 : BitVec 32 := pf.at 0 (Rect.unit (s := S128x32) ![v1.toNat, 11] S1x1.size (k0_off12_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_12 (k0_off13_inb : ∀ i : grid0.Coords, ∀ a, (k0_off13 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c12 : Index := 12#32
  let v2 : BitVec 32 := pf.at 0 (Rect.unit (s := S128x32) ![v1.toNat, 12] S1x1.size (k0_off13_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_13 (k0_off14_inb : ∀ i : grid0.Coords, ∀ a, (k0_off14 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c13 : Index := 13#32
  let v2 : BitVec 32 := pf.at 0 (Rect.unit (s := S128x32) ![v1.toNat, 13] S1x1.size (k0_off14_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_14 (k0_off15_inb : ∀ i : grid0.Coords, ∀ a, (k0_off15 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c14 : Index := 14#32
  let v2 : BitVec 32 := pf.at 0 (Rect.unit (s := S128x32) ![v1.toNat, 14] S1x1.size (k0_off15_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_15 (k0_off16_inb : ∀ i : grid0.Coords, ∀ a, (k0_off16 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c15 : Index := 15#32
  let v2 : BitVec 32 := pf.at 0 (Rect.unit (s := S128x32) ![v1.toNat, 15] S1x1.size (k0_off16_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_16 (k0_off17_inb : ∀ i : grid0.Coords, ∀ a, (k0_off17 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c16 : Index := 16#32
  let v2 : BitVec 32 := pf.at 0 (Rect.unit (s := S128x32) ![v1.toNat, 16] S1x1.size (k0_off17_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_17 (k0_off18_inb : ∀ i : grid0.Coords, ∀ a, (k0_off18 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c17 : Index := 17#32
  let v2 : BitVec 32 := pf.at 0 (Rect.unit (s := S128x32) ![v1.toNat, 17] S1x1.size (k0_off18_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_18 (k0_off19_inb : ∀ i : grid0.Coords, ∀ a, (k0_off19 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c18 : Index := 18#32
  let v2 : BitVec 32 := pf.at 0 (Rect.unit (s := S128x32) ![v1.toNat, 18] S1x1.size (k0_off19_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_19 (k0_off20_inb : ∀ i : grid0.Coords, ∀ a, (k0_off20 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c19 : Index := 19#32
  let v2 : BitVec 32 := pf.at 0 (Rect.unit (s := S128x32) ![v1.toNat, 19] S1x1.size (k0_off20_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_20 (k0_off21_inb : ∀ i : grid0.Coords, ∀ a, (k0_off21 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c20 : Index := 20#32
  let v2 : BitVec 32 := pf.at 0 (Rect.unit (s := S128x32) ![v1.toNat, 20] S1x1.size (k0_off21_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_21 (k0_off22_inb : ∀ i : grid0.Coords, ∀ a, (k0_off22 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c21 : Index := 21#32
  let v2 : BitVec 32 := pf.at 0 (Rect.unit (s := S128x32) ![v1.toNat, 21] S1x1.size (k0_off22_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_22 (k0_off23_inb : ∀ i : grid0.Coords, ∀ a, (k0_off23 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c22 : Index := 22#32
  let v2 : BitVec 32 := pf.at 0 (Rect.unit (s := S128x32) ![v1.toNat, 22] S1x1.size (k0_off23_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_23 (k0_off24_inb : ∀ i : grid0.Coords, ∀ a, (k0_off24 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c23 : Index := 23#32
  let v2 : BitVec 32 := pf.at 0 (Rect.unit (s := S128x32) ![v1.toNat, 23] S1x1.size (k0_off24_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_24 (k0_off25_inb : ∀ i : grid0.Coords, ∀ a, (k0_off25 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c24 : Index := 24#32
  let v2 : BitVec 32 := pf.at 0 (Rect.unit (s := S128x32) ![v1.toNat, 24] S1x1.size (k0_off25_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_25 (k0_off26_inb : ∀ i : grid0.Coords, ∀ a, (k0_off26 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c25 : Index := 25#32
  let v2 : BitVec 32 := pf.at 0 (Rect.unit (s := S128x32) ![v1.toNat, 25] S1x1.size (k0_off26_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_26 (k0_off27_inb : ∀ i : grid0.Coords, ∀ a, (k0_off27 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c26 : Index := 26#32
  let v2 : BitVec 32 := pf.at 0 (Rect.unit (s := S128x32) ![v1.toNat, 26] S1x1.size (k0_off27_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_27 (k0_off28_inb : ∀ i : grid0.Coords, ∀ a, (k0_off28 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c27 : Index := 27#32
  let v2 : BitVec 32 := pf.at 0 (Rect.unit (s := S128x32) ![v1.toNat, 27] S1x1.size (k0_off28_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_28 (k0_off29_inb : ∀ i : grid0.Coords, ∀ a, (k0_off29 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c28 : Index := 28#32
  let v2 : BitVec 32 := pf.at 0 (Rect.unit (s := S128x32) ![v1.toNat, 28] S1x1.size (k0_off29_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_29 (k0_off30_inb : ∀ i : grid0.Coords, ∀ a, (k0_off30 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c29 : Index := 29#32
  let v2 : BitVec 32 := pf.at 0 (Rect.unit (s := S128x32) ![v1.toNat, 29] S1x1.size (k0_off30_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_30 (k0_off31_inb : ∀ i : grid0.Coords, ∀ a, (k0_off31 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c30 : Index := 30#32
  let v2 : BitVec 32 := pf.at 0 (Rect.unit (s := S128x32) ![v1.toNat, 30] S1x1.size (k0_off31_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_31 (k0_off32_inb : ∀ i : grid0.Coords, ∀ a, (k0_off32 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c31 : Index := 31#32
  let v2 : BitVec 32 := pf.at 0 (Rect.unit (s := S128x32) ![v1.toNat, 31] S1x1.size (k0_off32_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_32 (k0_off1_inb : ∀ i : grid0.Coords, ∀ a, (k0_off1 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c0 : Index := 0#32
  let v2 : BitVec 32 := pf.at 0 (Rect.unit (s := S128x32) ![v1.toNat, 0] S1x1.size (k0_off1_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_33 (k0_off2_inb : ∀ i : grid0.Coords, ∀ a, (k0_off2 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c1 : Index := 1#32
  let v2 : BitVec 32 := pf.at 0 (Rect.unit (s := S128x32) ![v1.toNat, 1] S1x1.size (k0_off2_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_34 (k0_off3_inb : ∀ i : grid0.Coords, ∀ a, (k0_off3 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c2 : Index := 2#32
  let v2 : BitVec 32 := pf.at 0 (Rect.unit (s := S128x32) ![v1.toNat, 2] S1x1.size (k0_off3_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_35 (k0_off4_inb : ∀ i : grid0.Coords, ∀ a, (k0_off4 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c3 : Index := 3#32
  let v2 : BitVec 32 := pf.at 0 (Rect.unit (s := S128x32) ![v1.toNat, 3] S1x1.size (k0_off4_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_36 (k0_off5_inb : ∀ i : grid0.Coords, ∀ a, (k0_off5 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c4 : Index := 4#32
  let v2 : BitVec 32 := pf.at 0 (Rect.unit (s := S128x32) ![v1.toNat, 4] S1x1.size (k0_off5_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_37 (k0_off6_inb : ∀ i : grid0.Coords, ∀ a, (k0_off6 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c5 : Index := 5#32
  let v2 : BitVec 32 := pf.at 0 (Rect.unit (s := S128x32) ![v1.toNat, 5] S1x1.size (k0_off6_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_38 (k0_off7_inb : ∀ i : grid0.Coords, ∀ a, (k0_off7 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c6 : Index := 6#32
  let v2 : BitVec 32 := pf.at 0 (Rect.unit (s := S128x32) ![v1.toNat, 6] S1x1.size (k0_off7_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_39 (k0_off8_inb : ∀ i : grid0.Coords, ∀ a, (k0_off8 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c7 : Index := 7#32
  let v2 : BitVec 32 := pf.at 0 (Rect.unit (s := S128x32) ![v1.toNat, 7] S1x1.size (k0_off8_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_40 (k0_off9_inb : ∀ i : grid0.Coords, ∀ a, (k0_off9 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c8 : Index := 8#32
  let v2 : BitVec 32 := pf.at 0 (Rect.unit (s := S128x32) ![v1.toNat, 8] S1x1.size (k0_off9_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_41 (k0_off10_inb : ∀ i : grid0.Coords, ∀ a, (k0_off10 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c9 : Index := 9#32
  let v2 : BitVec 32 := pf.at 0 (Rect.unit (s := S128x32) ![v1.toNat, 9] S1x1.size (k0_off10_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_42 (k0_off11_inb : ∀ i : grid0.Coords, ∀ a, (k0_off11 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c10 : Index := 10#32
  let v2 : BitVec 32 := pf.at 0 (Rect.unit (s := S128x32) ![v1.toNat, 10] S1x1.size (k0_off11_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_43 (k0_off12_inb : ∀ i : grid0.Coords, ∀ a, (k0_off12 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c11 : Index := 11#32
  let v2 : BitVec 32 := pf.at 0 (Rect.unit (s := S128x32) ![v1.toNat, 11] S1x1.size (k0_off12_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_44 (k0_off13_inb : ∀ i : grid0.Coords, ∀ a, (k0_off13 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c12 : Index := 12#32
  let v2 : BitVec 32 := pf.at 0 (Rect.unit (s := S128x32) ![v1.toNat, 12] S1x1.size (k0_off13_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_45 (k0_off14_inb : ∀ i : grid0.Coords, ∀ a, (k0_off14 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c13 : Index := 13#32
  let v2 : BitVec 32 := pf.at 0 (Rect.unit (s := S128x32) ![v1.toNat, 13] S1x1.size (k0_off14_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_46 (k0_off15_inb : ∀ i : grid0.Coords, ∀ a, (k0_off15 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c14 : Index := 14#32
  let v2 : BitVec 32 := pf.at 0 (Rect.unit (s := S128x32) ![v1.toNat, 14] S1x1.size (k0_off15_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_47 (k0_off16_inb : ∀ i : grid0.Coords, ∀ a, (k0_off16 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c15 : Index := 15#32
  let v2 : BitVec 32 := pf.at 0 (Rect.unit (s := S128x32) ![v1.toNat, 15] S1x1.size (k0_off16_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c0_i32_0 : BitVec 32 := 0#32
  let v6 : BitVec 32 := Scalar.addi v5 c0_i32_0
  let c0_i32_1 : BitVec 32 := 0#32
  let c0_i32_2 : BitVec 32 := 0#32
  let c0_i32_3 : BitVec 32 := 0#32
  ![v6.toNat, c0_i32_1.toNat, c0_i32_2.toNat]

def cc0_transform_48 (k0_off17_inb : ∀ i : grid0.Coords, ∀ a, (k0_off17 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c16 : Index := 16#32
  let v2 : BitVec 32 := pf.at 0 (Rect.unit (s := S128x32) ![v1.toNat, 16] S1x1.size (k0_off17_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_49 (k0_off18_inb : ∀ i : grid0.Coords, ∀ a, (k0_off18 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c17 : Index := 17#32
  let v2 : BitVec 32 := pf.at 0 (Rect.unit (s := S128x32) ![v1.toNat, 17] S1x1.size (k0_off18_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_50 (k0_off19_inb : ∀ i : grid0.Coords, ∀ a, (k0_off19 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c18 : Index := 18#32
  let v2 : BitVec 32 := pf.at 0 (Rect.unit (s := S128x32) ![v1.toNat, 18] S1x1.size (k0_off19_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_51 (k0_off20_inb : ∀ i : grid0.Coords, ∀ a, (k0_off20 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c19 : Index := 19#32
  let v2 : BitVec 32 := pf.at 0 (Rect.unit (s := S128x32) ![v1.toNat, 19] S1x1.size (k0_off20_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_52 (k0_off21_inb : ∀ i : grid0.Coords, ∀ a, (k0_off21 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c20 : Index := 20#32
  let v2 : BitVec 32 := pf.at 0 (Rect.unit (s := S128x32) ![v1.toNat, 20] S1x1.size (k0_off21_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_53 (k0_off22_inb : ∀ i : grid0.Coords, ∀ a, (k0_off22 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c21 : Index := 21#32
  let v2 : BitVec 32 := pf.at 0 (Rect.unit (s := S128x32) ![v1.toNat, 21] S1x1.size (k0_off22_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_54 (k0_off23_inb : ∀ i : grid0.Coords, ∀ a, (k0_off23 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c22 : Index := 22#32
  let v2 : BitVec 32 := pf.at 0 (Rect.unit (s := S128x32) ![v1.toNat, 22] S1x1.size (k0_off23_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_55 (k0_off24_inb : ∀ i : grid0.Coords, ∀ a, (k0_off24 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c23 : Index := 23#32
  let v2 : BitVec 32 := pf.at 0 (Rect.unit (s := S128x32) ![v1.toNat, 23] S1x1.size (k0_off24_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_56 (k0_off25_inb : ∀ i : grid0.Coords, ∀ a, (k0_off25 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c24 : Index := 24#32
  let v2 : BitVec 32 := pf.at 0 (Rect.unit (s := S128x32) ![v1.toNat, 24] S1x1.size (k0_off25_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_57 (k0_off26_inb : ∀ i : grid0.Coords, ∀ a, (k0_off26 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c25 : Index := 25#32
  let v2 : BitVec 32 := pf.at 0 (Rect.unit (s := S128x32) ![v1.toNat, 25] S1x1.size (k0_off26_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_58 (k0_off27_inb : ∀ i : grid0.Coords, ∀ a, (k0_off27 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c26 : Index := 26#32
  let v2 : BitVec 32 := pf.at 0 (Rect.unit (s := S128x32) ![v1.toNat, 26] S1x1.size (k0_off27_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_59 (k0_off28_inb : ∀ i : grid0.Coords, ∀ a, (k0_off28 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c27 : Index := 27#32
  let v2 : BitVec 32 := pf.at 0 (Rect.unit (s := S128x32) ![v1.toNat, 27] S1x1.size (k0_off28_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_60 (k0_off29_inb : ∀ i : grid0.Coords, ∀ a, (k0_off29 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c28 : Index := 28#32
  let v2 : BitVec 32 := pf.at 0 (Rect.unit (s := S128x32) ![v1.toNat, 28] S1x1.size (k0_off29_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_61 (k0_off30_inb : ∀ i : grid0.Coords, ∀ a, (k0_off30 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c29 : Index := 29#32
  let v2 : BitVec 32 := pf.at 0 (Rect.unit (s := S128x32) ![v1.toNat, 29] S1x1.size (k0_off30_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_62 (k0_off31_inb : ∀ i : grid0.Coords, ∀ a, (k0_off31 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c30 : Index := 30#32
  let v2 : BitVec 32 := pf.at 0 (Rect.unit (s := S128x32) ![v1.toNat, 30] S1x1.size (k0_off31_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_63 (k0_off32_inb : ∀ i : grid0.Coords, ∀ a, (k0_off32 i) a + S1x1.size a ≤ S128x32.size a) (numel1_S1x1 : S1x1.numel = 1) (pf : pre0.Contents (Elt F)) (i : grid0.Coords) : Fin 3 → Nat :=
  let arg0 : BitVec 32 := BitVec.ofNat 32 (i 0).val
  let c127_i32 : BitVec 32 := 127#32
  let v0 : BitVec 32 := Scalar.minsi arg0 c127_i32
  let v1 : Index := Scalar.indexCast v0
  let c31 : Index := 31#32
  let v2 : BitVec 32 := pf.at 0 (Rect.unit (s := S128x32) ![v1.toNat, 31] S1x1.size (k0_off32_inb i)) numel1_S1x1
  let c0_i32 : BitVec 32 := 0#32
  let c10239_i32 : BitVec 32 := 10239#32
  let v3 : BitVec 32 := Scalar.maxsi c0_i32 v2
  let v4 : BitVec 32 := Scalar.minsi c10239_i32 v3
  let c2_i32 : BitVec 32 := 2#32
  let v5 : BitVec 32 := Scalar.muli v4 c2_i32
  let c1_i32 : BitVec 32 := 1#32
  let v6 : BitVec 32 := Scalar.addi v5 c1_i32
  let c0_i32_0 : BitVec 32 := 0#32
  let c0_i32_1 : BitVec 32 := 0#32
  let c0_i32_2 : BitVec 32 := 0#32
  ![v6.toNat, c0_i32_0.toNat, c0_i32_1.toNat]

def cc0_transform_64 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_65 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_66 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_67 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_68 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_69 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_70 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_71 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_72 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_73 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_74 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_75 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_76 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_77 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_78 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x64x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x64x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x64x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x64x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x64x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x64x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x64x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x64x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x64x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x64x128 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x64x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x64x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x64x128 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x64x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x64x128 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x64x128 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x64x128 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x64x128 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x64x128 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x64x128 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x64x128 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x64x128 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x64x128 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x64x128 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x64x128 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x64x128 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x64x128 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x64x128 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x64x128 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x64x128 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x64x128 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x8x128 .bf16 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x8x128 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x3x8x128 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x1x128 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S1x1x128 .f32 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]

abbrev stage0_69 : Fin 2 → Memref sig .tc .vmem S1x1x128 .f32 := fun | 0 => Memref.whole cc0_stg69_0 | 1 => Memref.whole cc0_stg69_1 | ⟨_ + 2, h⟩ => absurd h (Nat.not_lt.2 (Nat.le_add_left _ _))
abbrev sem0_69 : Fin 2 → DmaSem sig := fun | 0 => cc0_sem69_0 | 1 => cc0_sem69_1 | ⟨_ + 2, h⟩ => absurd h (Nat.not_lt.2 (Nat.le_add_left _ _))
abbrev reads0_69 : Fin grid0.rank → Bool := ![true]

abbrev stage0_70 : Fin 2 → Memref sig .tc .vmem S1x1x128 .f32 := fun | 0 => Memref.whole cc0_stg70_0 | 1 => Memref.whole cc0_stg70_1 | ⟨_ + 2, h⟩ => absurd h (Nat.not_lt.2 (Nat.le_add_left _ _))
abbrev sem0_70 : Fin 2 → DmaSem sig := fun | 0 => cc0_sem70_0 | 1 => cc0_sem70_1 | ⟨_ + 2, h⟩ => absurd h (Nat.not_lt.2 (Nat.le_add_left _ _))
abbrev reads0_70 : Fin grid0.rank → Bool := ![true]

abbrev stage0_71 : Fin 2 → Memref sig .tc .vmem S1x128x512 .f32 := fun | 0 => Memref.whole cc0_stg71_0 | 1 => Memref.whole cc0_stg71_1 | ⟨_ + 2, h⟩ => absurd h (Nat.not_lt.2 (Nat.le_add_left _ _))
abbrev sem0_71 : Fin 2 → DmaSem sig := fun | 0 => cc0_sem71_0 | 1 => cc0_sem71_1 | ⟨_ + 2, h⟩ => absurd h (Nat.not_lt.2 (Nat.le_add_left _ _))
abbrev reads0_71 : Fin grid0.rank → Bool := ![true]

abbrev stage0_72 : Fin 2 → Memref sig .tc .vmem S1x128x512 .f32 := fun | 0 => Memref.whole cc0_stg72_0 | 1 => Memref.whole cc0_stg72_1 | ⟨_ + 2, h⟩ => absurd h (Nat.not_lt.2 (Nat.le_add_left _ _))
abbrev sem0_72 : Fin 2 → DmaSem sig := fun | 0 => cc0_sem72_0 | 1 => cc0_sem72_1 | ⟨_ + 2, h⟩ => absurd h (Nat.not_lt.2 (Nat.le_add_left _ _))
abbrev reads0_72 : Fin grid0.rank → Bool := ![true]

abbrev stage0_73 : Fin 1 → Memref sig .tc .vmem S3x8x128 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))
abbrev reads0_73 : Fin grid0.rank → Bool := ![false]

abbrev stage0_74 : Fin 1 → Memref sig .tc .vmem S8x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))
abbrev reads0_74 : Fin grid0.rank → Bool := ![false]

abbrev stage0_75 : Fin 1 → Memref sig .tc .vmem S8x512 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))
abbrev reads0_75 : Fin grid0.rank → Bool := ![false]

abbrev stage0_76 : Fin 2 → Memref sig .tc .vmem S1x8x128 .bf16 := fun | 0 => Memref.whole cc0_stg76_0 | 1 => Memref.whole cc0_stg76_1 | ⟨_ + 2, h⟩ => absurd h (Nat.not_lt.2 (Nat.le_add_left _ _))
abbrev sem0_76 : Fin 2 → DmaSem sig := fun | 0 => cc0_sem76_0 | 1 => cc0_sem76_1 | ⟨_ + 2, h⟩ => absurd h (Nat.not_lt.2 (Nat.le_add_left _ _))
abbrev reads0_76 : Fin grid0.rank → Bool := ![true]

abbrev stage0_77 : Fin 2 → Memref sig .tc .vmem S1x128x512 .f32 := fun | 0 => Memref.whole cc0_stg77_0 | 1 => Memref.whole cc0_stg77_1 | ⟨_ + 2, h⟩ => absurd h (Nat.not_lt.2 (Nat.le_add_left _ _))
abbrev sem0_77 : Fin 2 → DmaSem sig := fun | 0 => cc0_sem77_0 | 1 => cc0_sem77_1 | ⟨_ + 2, h⟩ => absurd h (Nat.not_lt.2 (Nat.le_add_left _ _))
abbrev reads0_77 : Fin grid0.rank → Bool := ![true]

abbrev stage0_78 : Fin 2 → Memref sig .tc .vmem S1x128x512 .f32 := fun | 0 => Memref.whole cc0_stg78_0 | 1 => Memref.whole cc0_stg78_1 | ⟨_ + 2, h⟩ => absurd h (Nat.not_lt.2 (Nat.le_add_left _ _))
abbrev sem0_78 : Fin 2 → DmaSem sig := fun | 0 => cc0_sem78_0 | 1 => cc0_sem78_1 | ⟨_ + 2, h⟩ => absurd h (Nat.not_lt.2 (Nat.le_add_left _ _))
abbrev reads0_78 : Fin grid0.rank → Bool := ![true]
-- ==== Reference8Ideal.lean ====
abbrev S128x8x128 : Shape := ⟨3, ![128, 8, 128]⟩
abbrev S128x128 : Shape := ⟨2, ![128, 128]⟩
abbrev S10240x128x2x64 : Shape := ⟨4, ![10240, 128, 2, 64]⟩
abbrev S128x512x2x64 : Shape := ⟨4, ![128, 512, 2, 64]⟩
abbrev S128x64 : Shape := ⟨2, ![128, 64]⟩
abbrev S128x32 : Shape := ⟨2, ![128, 32]⟩
abbrev S3x8x128 : Shape := ⟨3, ![3, 8, 128]⟩
abbrev S8x128 : Shape := ⟨2, ![8, 128]⟩
abbrev S8x512 : Shape := ⟨2, ![8, 512]⟩
abbrev S128x1x2x64 : Shape := ⟨4, ![128, 1, 2, 64]⟩
abbrev S128x513x2x64 : Shape := ⟨4, ![128, 513, 2, 64]⟩
abbrev S128x2x64x512 : Shape := ⟨4, ![128, 2, 64, 512]⟩
abbrev S128x128x512 : Shape := ⟨3, ![128, 128, 512]⟩

abbrev nBuf : Space → Nat
  | .hbm => 26
  | .vmem => 0
  | .smem => 0
  | _ => 0

abbrev bufTy : (tb : Table) → Fin (tcTables nBuf tb) → BufTy
  | .hbm, ⟨0, _⟩ => ⟨S128x8x128, .bf16⟩
  | .hbm, ⟨1, _⟩ => ⟨S128x8x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S10240x128x2x64, .f32⟩
  | .hbm, ⟨8, _⟩ => ⟨S10240x128x2x64, .f32⟩
  | .hbm, ⟨9, _⟩ => ⟨S128x512x2x64, .f32⟩
  | .hbm, ⟨10, _⟩ => ⟨S128x512x2x64, .f32⟩
  | .hbm, ⟨11, _⟩ => ⟨S128x64, .i32⟩
  | .hbm, ⟨12, _⟩ => ⟨S128x32, .i32⟩
  | .hbm, ⟨13, _⟩ => ⟨S3x8x128, .f32⟩
  | .hbm, ⟨14, _⟩ => ⟨S8x128, .f32⟩
  | .hbm, ⟨15, _⟩ => ⟨S8x512, .f32⟩
  | .hbm, ⟨16, _⟩ => ⟨S128x1x2x64, .f32⟩
  | .hbm, ⟨17, _⟩ => ⟨S128x513x2x64, .f32⟩
  | .hbm, ⟨18, _⟩ => ⟨S128x512x2x64, .f32⟩
  | .hbm, ⟨19, _⟩ => ⟨S128x2x64x512, .f32⟩
  | .hbm, ⟨20, _⟩ => ⟨S128x128x512, .f32⟩
  | .hbm, ⟨21, _⟩ => ⟨S128x1x2x64, .f32⟩
  | .hbm, ⟨22, _⟩ => ⟨S128x513x2x64, .f32⟩
  | .hbm, ⟨23, _⟩ => ⟨S128x512x2x64, .f32⟩
  | .hbm, ⟨24, _⟩ => ⟨S128x2x64x512, .f32⟩
  | .hbm, ⟨25, _⟩ => ⟨S128x128x512, .f32⟩
  | _, _ => ⟨S128x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩

abbrev nD : Nat := 1
abbrev τ : Topo := Topo.v7x

variable {F : FTy → Type} [FloatOps F]
-- ==== Proof.Softmax.lean ====
/- The softmax row of the compressed branch over the extended reals: the kernel's row of 512 scores, whose last is -∞,
   against the reference's row of 511. No finiteness is asked: a row whose maximum is infinite has weights zero on both
   sides. -/
module

public import Idealize.ShloMosaic.PureOps.Ideal
public import Idealize.ShloMosaic.Lib.Pointwise

@[expose] public section

noncomputable section

namespace Cert.Softmax

open Idealize.ShloMosaic

theorem ninf : Ideal.ofBits .f32 4286578688#32 = ⊥ := by simp [Ideal.ofBits, Ideal.ieee]

theorem pinf : Ideal.ofBits .f32 2139095040#32 = ⊤ := by simp [Ideal.ofBits, Ideal.ieee]

/-- The floor of the denominator. -/
abbrev tiny : EReal := Ideal.ofBits .f32 228737632#32

theorem tiny_pos : 0 < tiny := by
  unfold tiny
  simp [Ideal.ofBits, Ideal.ieee, -EReal.coe_mul]

/-- The kernel's weight `n` of a row: the row maximum is subtracted as it is. -/
def wk (S : Fin 512 → EReal) (n : Fin 512) : EReal :=
  Ideal.div (Ideal.exp (S n - Finset.univ.fold max ⊥ S))
    (max (∑ x, Ideal.exp (S x - Finset.univ.fold max ⊥ S)) tiny)

/-- What the reference subtracts from a row: its maximum where that is finite, zero where it is not. -/
def mref (L : Fin 511 → EReal) : EReal :=
  if max (Finset.univ.fold max ⊥ L) (-(Finset.univ.fold max ⊥ L)) < ⊤ then Finset.univ.fold max ⊥ L else 0

/-- The reference's weight `n` of a row. -/
def wr (L : Fin 511 → EReal) (n : Fin 511) : EReal :=
  Ideal.div (Ideal.exp (L n - mref L)) (max (∑ x, Ideal.exp (L x - mref L)) tiny)

theorem fold_last (S : Fin 512 → EReal) (h : S (Fin.last 511) = ⊥) :
    Finset.univ.fold max ⊥ S = Finset.univ.fold max ⊥ fun n : Fin 511 => S n.castSucc := by
  show Finset.univ.sup S = Finset.univ.sup fun n : Fin 511 => S n.castSucc
  apply le_antisymm
  · refine Finset.sup_le fun n _ => ?_
    refine Fin.lastCases ?_ (fun i => ?_) n
    · rw [h]; exact bot_le
    · exact Finset.le_sup (f := fun n : Fin 511 => S n.castSucc) (Finset.mem_univ i)
  · exact Finset.sup_le fun i _ => Finset.le_sup (f := S) (Finset.mem_univ _)

theorem le_fold (L : Fin 511 → EReal) (n : Fin 511) : L n ≤ Finset.univ.fold max ⊥ L :=
  Finset.le_sup (f := L) (Finset.mem_univ n)

theorem exp_nonneg (x : EReal) : 0 ≤ Ideal.exp x := by
  induction x with
  | bot => simp
  | top => simp
  | coe r => rw [Ideal.exp_coe]; exact_mod_cast (Real.exp_pos r).le

theorem den_ne_zero (x : EReal) : max x tiny ≠ 0 := (lt_of_lt_of_le tiny_pos (le_max_right _ _)).ne'

theorem div_zero_left (x : EReal) : Ideal.div 0 (max x tiny) = 0 := by
  rw [Ideal.div, if_neg (den_ne_zero x), zero_mul]

/-- The masked column's weight is zero. -/
theorem wk_last (S : Fin 512 → EReal) (h : S (Fin.last 511) = ⊥) : wk S (Fin.last 511) = 0 := by
  rw [wk, h, EReal.bot_sub, Ideal.exp_bot, div_zero_left]

/-- Every other weight is the reference's. -/
theorem wk_castSucc (S : Fin 512 → EReal) (h : S (Fin.last 511) = ⊥) (n : Fin 511) :
    wk S n.castSucc = wr (fun n => S n.castSucc) n := by
  have hs : ∀ M : EReal, ∑ x, Ideal.exp (S x - M) = ∑ x : Fin 511, Ideal.exp (S x.castSucc - M) := fun M => by
    rw [Fin.sum_univ_castSucc, h, EReal.bot_sub, Ideal.exp_bot, add_zero]
  rw [wk, wr, fold_last S h, hs]
  set L : Fin 511 → EReal := fun n => S n.castSucc with hL
  have hn : S n.castSucc = L n := rfl
  have hx : ∀ x : Fin 511, S x.castSucc = L x := fun _ => rfl
  simp only [hx]
  have hle := le_fold L
  have hat : ∃ x, Finset.univ.fold max ⊥ L = L x := by
    obtain ⟨x, -, hx⟩ := Finset.exists_mem_eq_sup Finset.univ ⟨0, Finset.mem_univ _⟩ L
    exact ⟨x, hx⟩
  unfold mref
  generalize Finset.univ.fold max ⊥ L = M at hle hat ⊢
  induction M with
  | bot =>
    have hb : ∀ x, L x = ⊥ := fun x => le_bot_iff.1 (hle x)
    simp [hb]
  | coe r =>
    have : max (r : EReal) (-(r : EReal)) < ⊤ := max_lt (EReal.coe_lt_top r) (by rw [← EReal.coe_neg]; exact EReal.coe_lt_top _)
    rw [if_pos this]
  | top =>
    have h0 : ∀ x : EReal, Ideal.exp (x - ⊤) = 0 := fun x => by rw [EReal.sub_top, Ideal.exp_bot]
    rw [if_neg (by simp)]
    simp only [h0, Finset.sum_const_zero, div_zero_left, sub_zero]
    obtain ⟨x, hx⟩ := hat
    have : ∑ x, Ideal.exp (L x) = ⊤ := by
      refine top_le_iff.1 (le_trans (le_of_eq ?_) (Finset.single_le_sum (fun i _ => exp_nonneg (L i)) (Finset.mem_univ x)))
      rw [← hx, Ideal.exp_top]
    rw [this, max_eq_left le_top, Ideal.div, if_neg (by simp), EReal.inv_top, mul_zero]

end Cert.Softmax

end
-- ==== Proof.Scores.lean ====
/- The mathematics of the compressed branch's scores, over the argument arrays: what one head's score of one compressed
   token is, and the two sums the kernel writes differently (a query padded with zero lanes, and the scale inside the
   product). -/
module

public import proofs.«01_k».proof.Proof.Softmax

@[expose] public section

noncomputable section

namespace Cert.Scores

open Idealize.ShloMosaic

/-- The scale 1/8 of the scores. -/
abbrev eighth : EReal := Ideal.ofBits .f32 1040187392#32

theorem eighth_eq : eighth = ((1 / 8 : ℝ) : EReal) := by
  unfold eighth
  simp [Ideal.ofBits, Ideal.ieee, -EReal.coe_mul]; norm_num

/-- The scale comes out of a sum, whatever the terms. -/
theorem sum_mul_eighth {ι : Type} (s : Finset ι) (f : ι → EReal) : ∑ i ∈ s, f i * eighth = (∑ i ∈ s, f i) * eighth := by
  classical
  induction s using Finset.induction_on with
  | empty => simp
  | insert a s ha ih =>
    rw [Finset.sum_insert ha, Finset.sum_insert ha, ih, mul_comm (f a + _), mul_comm (f a), mul_comm (Finset.sum s f)]
    refine (EReal.left_distrib_of_nonneg_of_ne_top ?_ ?_ _ _).symm
    · rw [eighth_eq]; exact_mod_cast (by norm_num : (0 : ℝ) ≤ 1 / 8)
    · rw [eighth_eq]; exact EReal.coe_ne_top _

/-- Head `h`'s scaled and biased score of compressed token `n` of sequence `b`. -/
def sc (q : FVec Ideal ⟨3, ![128, 8, 64]⟩ .f32) (kc : FVec Ideal ⟨3, ![128, 512, 128]⟩ .bf16) (bias : FVec Ideal ⟨2, ![8, 512]⟩ .f32)
    (b : Fin 128) (h : Fin 8) (n : Fin 511) : EReal :=
  (∑ x : Fin 64, kc (ix3 b n.castSucc ⟨(h : ℕ) / 4 * 64 + (x : ℕ), by omega⟩) * q (ix3 b h x)) * eighth + bias (ix2 h n.castSucc)

/-- The padded query's product is the head's own half of the lanes. -/
theorem sum_pad (q : Fin 64 → EReal) (k : Fin 128 → EReal) (h : Fin 8) :
    (∑ x : Fin 128, (if (h : ℕ) < 4 then (if hx : (x : ℕ) < 64 then q ⟨x, hx⟩ * eighth else 0)
        else (if hx : (x : ℕ) < 64 then 0 else q ⟨(x : ℕ) - 64, by omega⟩ * eighth)) * k x)
      = (∑ x : Fin 64, k ⟨(h : ℕ) / 4 * 64 + (x : ℕ), by omega⟩ * q x) * eighth := by
  rw [Fin.sum_univ_add (a := 64) (b := 64), ← sum_mul_eighth]
  by_cases hh : (h : ℕ) < 4
  · have h4 : (h : ℕ) / 4 = 0 := by omega
    rw [Finset.sum_eq_zero (s := Finset.univ) (f := fun i : Fin 64 => (if (h : ℕ) < 4 then (if hx : (Fin.natAdd 64 i : ℕ) < 64 then q ⟨Fin.natAdd 64 i, hx⟩ * eighth else 0)
        else (if hx : (Fin.natAdd 64 i : ℕ) < 64 then 0 else q ⟨(Fin.natAdd 64 i : ℕ) - 64, by omega⟩ * eighth)) * k (Fin.natAdd 64 i)), add_zero]
    · refine Finset.sum_congr rfl fun i _ => ?_
      rw [if_pos hh, dif_pos (show (Fin.castAdd 64 i : ℕ) < 64 from i.isLt), mul_right_comm, mul_comm (q _)]
      refine congrArg (· * _) (congrArg₂ (· * ·) (congrArg k (Fin.ext ?_)) rfl)
      show (i : ℕ) = (h : ℕ) / 4 * 64 + (i : ℕ)
      omega
    · intro i _
      rw [if_pos hh, dif_neg (show ¬ (Fin.natAdd 64 i : ℕ) < 64 by simp), zero_mul]
  · have h4 : (h : ℕ) / 4 = 1 := by omega
    rw [Finset.sum_eq_zero (s := Finset.univ) (f := fun i : Fin 64 => (if (h : ℕ) < 4 then (if hx : (Fin.castAdd 64 i : ℕ) < 64 then q ⟨Fin.castAdd 64 i, hx⟩ * eighth else 0)
        else (if hx : (Fin.castAdd 64 i : ℕ) < 64 then 0 else q ⟨(Fin.castAdd 64 i : ℕ) - 64, by omega⟩ * eighth)) * k (Fin.castAdd 64 i)), zero_add]
    · refine Finset.sum_congr rfl fun i _ => ?_
      rw [if_neg hh, dif_neg (show ¬ (Fin.natAdd 64 i : ℕ) < 64 by simp), mul_right_comm, mul_comm (q _)]
      refine congrArg (· * _) (congrArg₂ (· * ·) (congrArg k (Fin.ext ?_)) (congrArg q (Fin.ext ?_)))
      · show 64 + (i : ℕ) = (h : ℕ) / 4 * 64 + (i : ℕ)
        omega
      · show 64 + (i : ℕ) - 64 = (i : ℕ)
        omega
    · intro i _
      rw [if_neg hh, dif_pos (show (Fin.castAdd 64 i : ℕ) < 64 from i.isLt), zero_mul]

end Cert.Scores

end
-- ==== Proof.Importance.lean ====
/- The block importances: which compressed tokens overlap which selection block, as the kernel's index words and the
   reference's position words both say it, and the sum over a group's heads. -/
module

public import proofs.«01_k».proof.Proof.Scores

@[expose] public section

noncomputable section

namespace Cert.Importance

open Idealize.ShloMosaic

/-- Compressed token `n` (16 positions apart, 32 long) overlaps selection block `s` (64 long). -/
def ov (n s : ℕ) : Prop := 4 * s ≤ n + 1 ∧ n ≤ 4 * s + 3

instance (n s : ℕ) : Decidable (ov n s) := by unfold ov; infer_instance

theorem word_n : ∀ n : Fin 512, (BitVec.ofNat 32 (n : ℕ)).toInt = (n : ℤ) := by decide +kernel

theorem word_lo : ∀ s : Fin 256, (IntOp.subi (IntOp.muli 4#32 (BitVec.ofNat 32 (s : ℕ))) 1#32).toInt = 4 * (s : ℤ) - 1 := by decide +kernel

theorem word_hi : ∀ s : Fin 256, (IntOp.addi (IntOp.muli 4#32 (BitVec.ofNat 32 (s : ℕ))) 3#32).toInt = 4 * (s : ℤ) + 3 := by decide +kernel

theorem word_n16 : ∀ n : Fin 512, (IntOp.muli (BitVec.ofNat 32 (n : ℕ)) 16#32).toInt = 16 * (n : ℤ) := by decide +kernel

theorem word_n31 : ∀ n : Fin 512, (IntOp.subi (IntOp.addi (IntOp.muli (BitVec.ofNat 32 (n : ℕ)) 16#32) 32#32) 1#32).toInt = 16 * (n : ℤ) + 31 := by
  decide +kernel

theorem word_s64 : ∀ s : Fin 256, (IntOp.muli (BitVec.ofNat 32 (s : ℕ)) 64#32).toInt = 64 * (s : ℤ) := by decide +kernel

theorem word_s63 : ∀ s : Fin 256, (IntOp.subi (IntOp.addi (IntOp.muli (BitVec.ofNat 32 (s : ℕ)) 64#32) 64#32) 1#32).toInt = 64 * (s : ℤ) + 63 := by
  decide +kernel

theorem and_ofBool (a b : Bool) : IntOp.andi (BitVec.ofBool a) (BitVec.ofBool b) = BitVec.ofBool (a && b) := by
  cases a <;> cases b <;> decide

/-- The kernel's words. -/
theorem band_kernel (n : Fin 512) (s : Fin 256) :
    IntOp.andi (IntOp.cmpi .sge (BitVec.ofNat 32 (n : ℕ)) (IntOp.subi (IntOp.muli 4#32 (BitVec.ofNat 32 (s : ℕ))) 1#32))
      (IntOp.cmpi .sle (BitVec.ofNat 32 (n : ℕ)) (IntOp.addi (IntOp.muli 4#32 (BitVec.ofNat 32 (s : ℕ))) 3#32))
      = BitVec.ofBool (decide (ov n s)) := by
  unfold IntOp.cmpi
  simp only [BitVec.sle_eq_decide]
  rw [word_n, word_lo, word_hi, and_ofBool, ← Bool.decide_and]
  refine congrArg BitVec.ofBool (decide_eq_decide.2 ?_)
  unfold ov
  omega

/-- The reference's words. -/
theorem band_ref (n : Fin 512) (s : Fin 256) :
    IntOp.andi
      (IntOp.cmpi .sle (IntOp.muli (BitVec.ofNat 32 (n : ℕ)) 16#32) (IntOp.subi (IntOp.addi (IntOp.muli (BitVec.ofNat 32 (s : ℕ)) 64#32) 64#32) 1#32))
      (IntOp.cmpi .sge (IntOp.subi (IntOp.addi (IntOp.muli (BitVec.ofNat 32 (n : ℕ)) 16#32) 32#32) 1#32) (IntOp.muli (BitVec.ofNat 32 (s : ℕ)) 64#32))
      = BitVec.ofBool (decide (ov n s)) := by
  unfold IntOp.cmpi
  simp only [BitVec.sle_eq_decide]
  rw [word_n16, word_n31, word_s64, word_s63, and_ofBool, ← Bool.decide_and]
  refine congrArg BitVec.ofBool (decide_eq_decide.2 ?_)
  unfold ov
  omega

theorem select_ofBool (p : Prop) [Decidable p] (x y : EReal) : Scalar.select (BitVec.ofBool (decide p)) x y = if p then x else y := by
  by_cases h : p
  · rw [if_pos h, decide_eq_true h]; rfl
  · rw [if_neg h, decide_eq_false h]; rfl

theorem uitofp_ofBool (p : Prop) [Decidable p] :
    (FloatOps.uitofp .f32 (BitVec.ofBool (decide p)) : Ideal .f32) = if p then (1 : EReal) else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

/-- The first group's heads out of the eight. -/
theorem low (A : Fin 8 → EReal) :
    ∑ x : Fin 8, Scalar.select (IntOp.andi (IntOp.cmpi .sge (BitVec.ofNat 32 (x : ℕ)) 0#32) (IntOp.cmpi .slt (BitVec.ofNat 32 (x : ℕ)) 4#32)) (A x) 0
      = ∑ r : Fin 4, A ⟨r, by omega⟩ := by
  have e : ∀ x : Fin 8, IntOp.andi (IntOp.cmpi .sge (BitVec.ofNat 32 (x : ℕ)) 0#32) (IntOp.cmpi .slt (BitVec.ofNat 32 (x : ℕ)) 4#32)
      = BitVec.ofBool (decide ((x : ℕ) < 4)) := by decide
  simp only [e, select_ofBool]
  rw [Fin.sum_univ_eight, Fin.sum_univ_four]
  simp

/-- The second group's heads out of the eight. -/
theorem high (A : Fin 8 → EReal) :
    ∑ x : Fin 8, Scalar.select (IntOp.andi (IntOp.cmpi .sge (BitVec.ofNat 32 (x : ℕ)) 4#32) (IntOp.cmpi .slt (BitVec.ofNat 32 (x : ℕ)) 8#32)) (A x) 0
      = ∑ r : Fin 4, A ⟨4 + r, by omega⟩ := by
  have e : ∀ x : Fin 8, IntOp.andi (IntOp.cmpi .sge (BitVec.ofNat 32 (x : ℕ)) 4#32) (IntOp.cmpi .slt (BitVec.ofNat 32 (x : ℕ)) 8#32)
      = BitVec.ofBool (decide (4 ≤ (x : ℕ))) := by decide
  simp only [e, select_ofBool]
  rw [Fin.sum_univ_eight, Fin.sum_univ_four]
  simp

/-- The importance of column `l`: block `l % 256` of group `l / 256`, from the heads' weights. -/
def imp (W : Fin 8 → Fin 511 → EReal) (l : Fin 512) : EReal :=
  ∑ n : Fin 511, (∑ r : Fin 4, W ⟨(l : ℕ) / 256 * 4 + (r : ℕ), by omega⟩ n) * (if ov n ((l : ℕ) % 256) then 1 else 0)

/-- Four heads' sums over the overlapping tokens, the last of the 512 tokens having weight zero. -/
theorem sum_heads (v : Fin 4 → Fin 512 → EReal) (s : ℕ) (h : ∀ r, v r (Fin.last 511) = 0) :
    ∑ r : Fin 4, ∑ n : Fin 512, (if ov n s then v r n else 0)
      = ∑ n : Fin 511, (∑ r : Fin 4, v r n.castSucc) * (if ov n s then 1 else 0) := by
  have e : ∀ r, ∑ n : Fin 512, (if ov n s then v r n else 0) = ∑ n : Fin 511, (if ov n s then v r n.castSucc else 0) := fun r => by
    refine (Fin.sum_univ_castSucc (n := 511) _).trans ?_
    rw [h, ite_self, add_zero]
    rfl
  simp only [e]
  rw [Finset.sum_comm]
  refine Finset.sum_congr rfl fun n _ => ?_
  by_cases ho : ov n s
  · simp only [if_pos ho, mul_one]
  · simp only [if_neg ho, mul_zero, Finset.sum_const_zero]

end Cert.Importance

end
-- ==== Proof.CmpKernel.lean ====
/- What the decode-time compressed-attention kernel stores, read element by element: the weighted sum of the value rows
   and the block importances, at the softmax weights of the scores. -/
module

public import proofs.«01_k».proof.Proof.Gen.KernelIdeal.Value
public import Idealize.ShloMosaic.Lib.Pointwise
public import Idealize.ShloMosaic.Lib.Pipeline.ValueKit
public import Idealize.ShloMosaic.Lib.Claim
public import proofs.«01_k».proof.Proof.Importance

@[expose] public section

set_option maxRecDepth 16384

noncomputable section

open Idealize.ShloMosaic Idealize.ShloMosaic.TcCoe Idealize.SL.Sem
open Idealize.ShloMosaic.Pipeline (Dat)

namespace Cert.KernelIdeal.Cmp

open Cert.KernelIdeal Cert.KernelIdeal.Gen Cert.Softmax Cert.Scores Cert.Importance

/-- The query as the host lays it out: scaled, each head in its group's half of the lanes. -/
def QP (q : FVec Ideal S128x8x64 .f32) : FVec Ideal S128x8x128 .bf16 :=
  truncf .bf16 (concatenate S128x8x128 1
    [⟨S128x4x128, concatenate S128x4x128 2
        [⟨S128x4x64, extractStridedSlice S128x4x64 ![0, 0, 0] (mulf q (broadcastInDim S128x8x64 ![] bcast_S_S128x8x64 (constant S_ .f32 0x3E000000#32))) slices_S128x8x64_S128x4x64_0_0_0⟩,
         ⟨S128x4x64, broadcastInDim S128x4x64 ![] bcast_S_S128x4x64 (constant S_ .f32 0x00000000#32)⟩] concatenates_S128x4x64_S128x4x64_S128x4x128_d2⟩,
     ⟨S128x4x128, concatenate S128x4x128 2
        [⟨S128x4x64, broadcastInDim S128x4x64 ![] bcast_S_S128x4x64 (constant S_ .f32 0x00000000#32)⟩,
         ⟨S128x4x64, extractStridedSlice S128x4x64 ![0, 4, 0] (mulf q (broadcastInDim S128x8x64 ![] bcast_S_S128x8x64 (constant S_ .f32 0x3E000000#32))) slices_S128x8x64_S128x4x64_0_4_0⟩] concatenates_S128x4x64_S128x4x64_S128x4x128_d2⟩]
    concatenates_S128x4x128_S128x4x128_S128x8x128_d1) bitsLt_bf16_f32

/-- The bias as the host hands it over: -∞ at the tokens that lie ahead. -/
def BI (bias : FVec Ideal S8x512 .f32) : FVec Ideal S8x512 .f32 :=
  select (broadcastInDim S8x512 ![0, 1] bcast_S1x512_S8x512_0_1 (broadcastInDim S1x512 ![1] bcast_S512_S1x512_1 (fun i => lit0 (S512.rowMajor i))))
    bias (broadcastInDim S8x512 ![] bcast_S_S8x512 (id (constant S_ .f32 0xFF800000#32)))

variable (m : (ℓ : Loc nD τ sig) → Buf (Elt Ideal) ℓ)

theorem entryQ (c : Dev nD) : V m c main_v10 = QP (m ((c : Thread nD τ).loc main_arg0)) := by
  entry_read
  rfl

theorem entryB (c : Dev nD) : V m c main_v1 = BI (m ((c : Thread nD τ).loc main_arg3)) := by
  entry_read
  rfl

theorem qp_at (q : FVec Ideal S128x8x64 .f32) (b : Fin 128) (h : Fin 8) (x : Fin 128) :
    QP q (ix3 b h x) = if (h : ℕ) < 4 then (if hx : (x : ℕ) < 64 then q (ix3 b h ⟨x, hx⟩) * eighth else 0)
        else (if hx : (x : ℕ) < 64 then 0 else q (ix3 b h ⟨(x : ℕ) - 64, by omega⟩) * eighth) := by
  pointwise [QP]
  by_cases hh : (h : ℕ) < 4
  · rw [dif_pos hh, if_pos hh]
  · rw [dif_neg hh, if_neg hh]
    have e : (⟨4 + ((h : ℕ) - 4), by omega⟩ : Fin 8) = h := Fin.ext (by show 4 + ((h : ℕ) - 4) = (h : ℕ); omega)
    by_cases hx : (x : ℕ) < 64
    · rw [dif_pos hx, dif_pos hx]
    · rw [dif_neg hx, dif_neg hx]
      exact congrArg (fun h' : Fin 8 => q (ix3 b h' ⟨(x : ℕ) - 64, by omega⟩) * eighth) e

/-- The host's mask: every token but the last lies behind. -/
theorem lit_at : ∀ n : Fin 512, lit0 (S512.rowMajor (ix1 n)) = if (n : ℕ) < 511 then 1#1 else 0#1 := by
  decide +kernel

theorem bi_last (bias : FVec Ideal S8x512 .f32) (h : Fin 8) : BI bias (ix2 h (Fin.last 511)) = ⊥ := by
  pointwise [BI]
  have := lit_at (Fin.last 511)
  rw [if_neg (by simp)] at this
  exact (congrArg (fun w => Scalar.select w (bias (ix2 h (Fin.last 511))) (Ideal.ofBits .f32 4286578688#32)) this).trans ninf

theorem bi_castSucc (bias : FVec Ideal S8x512 .f32) (h : Fin 8) (n : Fin 511) : BI bias (ix2 h n.castSucc) = bias (ix2 h n.castSucc) := by
  pointwise [BI]
  have := lit_at n.castSucc
  rw [if_pos (by simp)] at this
  exact congrArg (fun w => Scalar.select w (bias (ix2 h n.castSucc)) (Ideal.ofBits .f32 4286578688#32)) this

/-- The blocks of sequence `b`: what the lemmas below ask of the four loads. -/
structure Blocks (q : FVec Ideal S128x8x64 .f32) (kc vc : FVec Ideal S128x512x128 .bf16) (bias : FVec Ideal S8x512 .f32) (b : Fin 128)
    (v0 : FVec Ideal S1x8x128 .bf16) (v2 v24 : FVec Ideal S1x512x128 .bf16) (v5 : FVec Ideal S8x512 .f32) : Prop where
  query : ∀ (h : Fin 8) (x : Fin 128), v0 (ix3 0 h x) = QP q (ix3 b h x)
  key : ∀ (n : Fin 512) (x : Fin 128), v2 (ix3 0 n x) = kc (ix3 b n x)
  val : ∀ (n : Fin 512) (x : Fin 128), v24 (ix3 0 n x) = vc (ix3 b n x)
  bias : ∀ (h : Fin 8) (n : Fin 512), v5 (ix2 h n) = BI bias (ix2 h n)

variable {q : FVec Ideal S128x8x64 .f32} {kc vc : FVec Ideal S128x512x128 .bf16} {bias : FVec Ideal S8x512 .f32} {b : Fin 128}
  {v0 : FVec Ideal S1x8x128 .bf16} {v2 v24 : FVec Ideal S1x512x128 .bf16} {v5 : FVec Ideal S8x512 .f32}

/-- The kernel's score row of head `h`. -/
def row (v0 : FVec Ideal S1x8x128 .bf16) (v2 : FVec Ideal S1x512x128 .bf16) (v5 : FVec Ideal S8x512 .f32) (h : Fin 8) (n : Fin 512) : EReal :=
  ∑ x : Fin 128, v0 (ix3 0 h x) * v2 (ix3 0 n x) + v5 (ix2 h n)

theorem row_last (H : Blocks q kc vc bias b v0 v2 v24 v5) (h : Fin 8) : row v0 v2 v5 h (Fin.last 511) = ⊥ := by
  rw [row, H.bias, bi_last]; exact EReal.add_bot _

theorem row_castSucc (H : Blocks q kc vc bias b v0 v2 v24 v5) (h : Fin 8) (n : Fin 511) :
    row v0 v2 v5 h n.castSucc = sc q kc bias b h n := by
  rw [row, H.bias, bi_castSucc, sc]
  refine congrArg (· + _) ?_
  rw [← sum_pad (fun x => q (ix3 b h x)) (fun x => kc (ix3 b n.castSucc x)) h]
  refine Finset.sum_congr rfl fun x _ => ?_
  rw [H.query, H.key, qp_at]

/-- The kernel's weights are the softmax weights of its row. -/
theorem pay2_at (v0 : FVec Ideal S1x8x128 .bf16) (v2 : FVec Ideal S1x512x128 .bf16) (v5 : FVec Ideal S8x512 .f32) (h : Fin 8) (n : Fin 512) :
    k0_pay2 (F := Ideal) v0 v2 v5 (ix2 h n) = wk (row v0 v2 v5 h) n := by
  have hn : (Named.named κ "mask_tenth" (4020342536#32 : BitVec FTy.f32.bits) : Ideal .f32) = ⊥ := rfl
  pointwise [k0_pay2]
  simp only [hn, not_lt_bot, if_false, ninf]
  rfl

theorem pay2_last (H : Blocks q kc vc bias b v0 v2 v24 v5) (h : Fin 8) :
    k0_pay2 (F := Ideal) v0 v2 v5 (ix2 h (Fin.last 511)) = 0 := by
  rw [pay2_at, wk_last _ (row_last H h)]

theorem pay2_castSucc (H : Blocks q kc vc bias b v0 v2 v24 v5) (h : Fin 8) (n : Fin 511) :
    k0_pay2 (F := Ideal) v0 v2 v5 (ix2 h n.castSucc) = wr (sc q kc bias b h) n := by
  rw [pay2_at, wk_castSucc _ (row_last H h)]
  exact congrArg (wr · n) (funext fun n => row_castSucc H h n)

/-- The attention output. -/
theorem pay3_at (H : Blocks q kc vc bias b v0 v2 v24 v5) (h : Fin 8) (l : Fin 128) :
    k0_pay3 (F := Ideal) v0 v2 v5 v24 (ix3 0 h l) = ∑ n : Fin 511, vc (ix3 b n.castSucc l) * wr (sc q kc bias b h) n := by
  pointwise [k0_pay3]
  refine (Fin.sum_univ_castSucc (n := 511) _).trans ?_
  rw [pay2_last H, zero_mul, add_zero]
  refine Finset.sum_congr rfl fun n _ => ?_
  rw [pay2_castSucc H, H.val, mul_comm]

/-- The block importances. -/
theorem pay1_at (H : Blocks q kc vc bias b v0 v2 v24 v5) (l : Fin 512) :
    k0_pay1 (F := Ideal) (k0_pay2 v0 v2 v5) (iota .tc S512x256 32 [0] iota_S512x256_d0_w32) (iota .tc S512x256 32 [1] iota_S512x256_d1_w32)
      k0_pay4 k0_pay5 (ix3 0 0 l) = imp (fun h => wr (sc q kc bias b h)) l := by
  pointwise [k0_pay1, k0_pay4, k0_pay5]
  have hsel : ∀ (s : Fin 256) (h : Fin 8) (n : Fin 512),
      Scalar.select (IntOp.andi (IntOp.cmpi .sge (BitVec.ofNat 32 (n : ℕ)) (IntOp.subi (IntOp.muli 4#32 (BitVec.ofNat 32 (s : ℕ))) 1#32))
        (IntOp.cmpi .sle (BitVec.ofNat 32 (n : ℕ)) (IntOp.addi (IntOp.muli 4#32 (BitVec.ofNat 32 (s : ℕ))) 3#32)))
        (k0_pay2 (F := Ideal) v0 v2 v5 (ix2 h n)) 0 = if ov n s then k0_pay2 (F := Ideal) v0 v2 v5 (ix2 h n) else 0 := fun s h n => by
    rw [band_kernel n s, select_ofBool]
  have hw : ∀ (h : Fin 8) (n : Fin 511), k0_pay2 (F := Ideal) v0 v2 v5 (ix2 h n.castSucc) = wr (sc q kc bias b h) n := pay2_castSucc H
  by_cases hl : (l : ℕ) < 256
  · rw [dif_pos hl]
    refine (low fun h => ∑ n : Fin 512, _).trans ?_
    refine (Finset.sum_congr rfl fun r _ => Finset.sum_congr rfl fun n _ => hsel ⟨l, hl⟩ _ n).trans ?_
    refine (sum_heads (fun r n => k0_pay2 (F := Ideal) v0 v2 v5 (ix2 ⟨r, by omega⟩ n)) l fun r => pay2_last H _).trans ?_
    refine Finset.sum_congr rfl fun n _ => ?_
    have hd : (l : ℕ) / 256 = 0 := by omega
    have hm : (l : ℕ) % 256 = l := by omega
    rw [hm]
    refine congrArg (· * _) (Finset.sum_congr rfl fun r _ => ?_)
    refine (hw _ n).trans (congrArg (fun h => wr (sc q kc bias b h) n) (Fin.ext ?_))
    show (r : ℕ) = (l : ℕ) / 256 * 4 + (r : ℕ)
    omega
  · rw [dif_neg hl]
    refine (high fun h => ∑ n : Fin 512, _).trans ?_
    refine (Finset.sum_congr rfl fun r _ => Finset.sum_congr rfl fun n _ => hsel ⟨(l : ℕ) - 256, by omega⟩ _ n).trans ?_
    refine (sum_heads (fun r n => k0_pay2 (F := Ideal) v0 v2 v5 (ix2 ⟨4 + r, by omega⟩ n)) ((l : ℕ) - 256) fun r => pay2_last H _).trans ?_
    refine Finset.sum_congr rfl fun n _ => ?_
    have hd : (l : ℕ) / 256 = 1 := by omega
    have hm : (l : ℕ) % 256 = l - 256 := by omega
    rw [hm]
    refine congrArg (· * _) (Finset.sum_congr rfl fun r _ => ?_)
    refine (hw _ n).trans (congrArg (fun h => wr (sc q kc bias b h) n) (Fin.ext ?_))
    show 4 + (r : ℕ) = (l : ℕ) / 256 * 4 + (r : ℕ)
    omega

/-- The attention output as one array of the arguments. -/
def G0 (q : FVec Ideal S128x8x64 .f32) (kc vc : FVec Ideal S128x512x128 .bf16) (bias : FVec Ideal S8x512 .f32) : FVec Ideal S128x8x128 .f32 :=
  fun i => ∑ n : Fin 511, vc (ix3 (i 0) n.castSucc (i 2)) * wr (sc q kc bias (i 0) (i 1)) n

/-- The importances as one array of the arguments. -/
def G1 (q : FVec Ideal S128x8x64 .f32) (kc : FVec Ideal S128x512x128 .bf16) (bias : FVec Ideal S8x512 .f32) : FVec Ideal S128x1x512 .f32 :=
  fun i => imp (fun h => wr (sc q kc bias (i 0) h)) (i 2)

theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![t.val, 0, 0] ∧ win0_5.index t = ![t.val, 0, 0] ∧ t.val < 128 :=
  (by decide +kernel : ∀ t : Fin grid0.N, _)

/-- The four blocks at grid point `t` are those of sequence `t`. -/
theorem blocks (c : Dev nD) (t : Fin cfg0.N) :
    Blocks (m ((c : Thread nD τ).loc main_arg0)) (m ((c : Thread nD τ).loc main_arg1)) (m ((c : Thread nD τ).loc main_arg2))
      (m ((c : Thread nD τ).loc main_arg3)) ⟨t.val, (idx t).2.2.2.2.2.2⟩ (iblk m c 0 t) (iblk m c 1 t) (iblk m c 2 t) (iblk m c 3 t) where
  query h x := by
    rw [← entryQ]
    blk_ext [iblk, idx t]
  key n x := by blk_ext [iblk, V, idx t]
  val n x := by blk_ext [iblk, V, idx t]
  bias h n := by
    rw [← entryB]
    blk_ext [iblk, idx t]

theorem point0 (c : Dev nD) (t : Fin cfg0.N) (y : S1x8x128.Idx) :
    k0_pay3 (F := Ideal) (iblk m c 0 t) (iblk m c 1 t) (iblk m c 3 t) (iblk m c 2 t) y
      = G0 (m ((c : Thread nD τ).loc main_arg0)) (m ((c : Thread nD τ).loc main_arg1)) (m ((c : Thread nD τ).loc main_arg2))
        (m ((c : Thread nD τ).loc main_arg3)) (((cfg0.win 4).blk t).view.emb y) := by
  have e : ((cfg0.win 4).blk t).view.emb y = (ix3 ⟨t.val, (idx t).2.2.2.2.2.2⟩ (y 1) (y 2) : S128x8x128.Idx) := by
    blk_ext [idx t]
  have e' : y = ix3 0 (y 1) (y 2) := by blk_ext []
  rw [e, e']
  exact pay3_at (blocks m c t) (y 1) (y 2)

theorem point1 (c : Dev nD) (t : Fin cfg0.N) (y : S1x1x512.Idx) :
    k0_pay1 (F := Ideal) (k0_pay2 (iblk m c 0 t) (iblk m c 1 t) (iblk m c 3 t)) (iota .tc S512x256 32 [0] iota_S512x256_d0_w32)
        (iota .tc S512x256 32 [1] iota_S512x256_d1_w32) k0_pay4 k0_pay5 y
      = G1 (m ((c : Thread nD τ).loc main_arg0)) (m ((c : Thread nD τ).loc main_arg1)) (m ((c : Thread nD τ).loc main_arg3))
        (((cfg0.win 5).blk t).view.emb y) := by
  have e : ((cfg0.win 5).blk t).view.emb y = (ix3 ⟨t.val, (idx t).2.2.2.2.2.2⟩ 0 (y 2) : S128x1x512.Idx) := by
    blk_ext [idx t]
  have e' : y = ix3 0 0 (y 2) := by blk_ext []
  rw [e, e']
  exact pay1_at (blocks m c t) (y 2)

theorem final0 (c : Dev nD) : (dats m 0 c).arrAt 4 (cfgs 0).N
    = G0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]; frame_out; exact point0 m c t y

theorem final1 (c : Dev nD) : (dats m 0 c).arrAt 5 (cfgs 0).N
    = G1 (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp; rw [after0_5]; frame_out; exact point1 m c t y

end Cert.KernelIdeal.Cmp

end
-- ==== Proof.CmpReference.lean ====
/- The reference's two results read element by element: the attention output in each head's own lanes and the block
   importances, at the same softmax weights of the same scores. -/
module

public import proofs.«01_k».proof.Proof.Gen.ReferenceIdeal.Run
public import Idealize.ShloMosaic.Lib.Pointwise
public import proofs.«01_k».proof.Proof.Importance

@[expose] public section

set_option maxRecDepth 16384

noncomputable section

open Idealize.ShloMosaic Idealize.ShloMosaic.TcCoe Idealize.SL.Sem

namespace Cert.ReferenceIdeal.Cmp

open Cert.ReferenceIdeal Cert.ReferenceIdeal.Gen Cert.Softmax Cert.Scores Cert.Importance

/-- The masked logits of the compressed branch. -/
def LOG (q : FVec Ideal S128x8x64 .f32) (kc : FVec Ideal S128x512x128 .bf16) (bias : FVec Ideal S8x512 .f32) : FVec Ideal S128x2x4x1x511 .f32 :=
  select (broadcastInDim S128x2x4x1x511 ![3, 4] bcast_S1x511_S128x2x4x1x511_3_4 (cmpi .sge (subi (broadcastInDim S1x511 ![0, 1] bcast_S1x1_S1x511_0_1 (broadcastInDim S1x1 ![0] bcast_S1_S1x1_0 (addi (broadcastInDim S1 ![] bcast_S_S1 (constantI S_ 32 8192#32)) (iotaInDim S1 32 0)))) (broadcastInDim S1x511 ![1] bcast_S511_S1x511_1 (subi (addi (muli (iotaInDim S511 32 0) (broadcastInDim S511 ![] bcast_S_S511 (constantI S_ 32 16#32))) (broadcastInDim S511 ![] bcast_S_S511 (constantI S_ 32 32#32))) (broadcastInDim S511 ![] bcast_S_S511 (constantI S_ 32 1#32))))) (broadcastInDim S1x511 ![] bcast_S_S1x511 (constantI S_ 32 0#32)))) (addf (mulf (transpose S128x2x4x1x511 [0, 1, 4, 3, 2] (Host.dotGeneral dot_S128x511x2x64_S128x1x2x4x64_S128x2x511x1x4_3_4_1_13_02_02 none (shapeCast _ (extf .f32 (extractStridedSlice S128x511x128 ![0, 0, 0] kc slices_S128x512x128_S128x511x128_0_0_0) bitsLt_bf16_f32) shapeCasts_S128x511x128_S128x511x2x64) (shapeCast _ q shapeCasts_S128x8x64_S128x1x2x4x64)) transposes_S128x2x511x1x4_S128x2x4x1x511_0_1_4_3_2) (broadcastInDim S128x2x4x1x511 ![] bcast_S_S128x2x4x1x511 (constant S_ .f32 0x3E000000#32))) (broadcastInDim S128x2x4x1x511 ![0, 1, 2, 3, 4] bcast_S1x2x4x1x511_S128x2x4x1x511_0_1_2_3_4 (broadcastInDim S1x2x4x1x511 ![1, 2, 3, 4] bcast_S2x4x1x511_S1x2x4x1x511_1_2_3_4 (shapeCast _ (extractStridedSlice S8x511 ![0, 0] bias slices_S8x512_S8x511_0_0) shapeCasts_S8x511_S2x4x1x511)))) (broadcastInDim S128x2x4x1x511 ![] bcast_S_S128x2x4x1x511 (id (constant S_ .f32 0xFF800000#32)))
/-- The row maximum the softmax subtracts, zero where it is not finite. -/
def MX (L : FVec Ideal S128x2x4x1x511 .f32) : FVec Ideal S128x2x4x1x1 .f32 :=
  select (cmpf .olt (Host.absf (broadcastInDim S128x2x4x1x1 ![0, 1, 2, 3] bcast_S128x2x4x1_S128x2x4x1x1_0_1_2_3 (Host.reduce FloatOps.maximumf L (constant S_ .f32 0xFF800000#32) reducesTo_S128x2x4x1x511_S128x2x4x1_d4 h_S_))) (broadcastInDim S128x2x4x1x1 ![] bcast_S_S128x2x4x1x1 (constant S_ .f32 0x7F800000#32))) (broadcastInDim S128x2x4x1x1 ![0, 1, 2, 3] bcast_S128x2x4x1_S128x2x4x1x1_0_1_2_3 (Host.reduce FloatOps.maximumf L (constant S_ .f32 0xFF800000#32) reducesTo_S128x2x4x1x511_S128x2x4x1_d4 h_S_)) (broadcastInDim S128x2x4x1x1 ![] bcast_S_S128x2x4x1x1 (id (constant S_ .f32 0x00000000#32)))
/-- The unnormalized weights. -/
def EX (L : FVec Ideal S128x2x4x1x511 .f32) : FVec Ideal S128x2x4x1x511 .f32 :=
  Host.exp (subf L (broadcastInDim S128x2x4x1x511 ![0, 1, 2, 3, 4] bcast_S128x2x4x1x1_S128x2x4x1x511_0_1_2_3_4 (MX L)))
/-- The attention weights. -/
def PR (L : FVec Ideal S128x2x4x1x511 .f32) : FVec Ideal S128x2x4x1x511 .f32 :=
  Host.divf (EX L) (broadcastInDim S128x2x4x1x511 ![0, 1, 2, 3, 4] bcast_S128x2x4x1x1_S128x2x4x1x511_0_1_2_3_4 (maximumf (broadcastInDim S128x2x4x1x1 ![0, 1, 2, 3] bcast_S128x2x4x1_S128x2x4x1x1_0_1_2_3 (Host.reduceAdd (EX L) (constant S_ .f32 0x00000000#32) reducesTo_S128x2x4x1x511_S128x2x4x1_d4 h_S_)) (broadcastInDim S128x2x4x1x1 ![] bcast_S_S128x2x4x1x1 (constant S_ .f32 0x0DA24260#32))))
/-- The attention output, each head's 64 values written twice side by side. -/
def OUT0 (vc : FVec Ideal S128x512x128 .bf16) (P : FVec Ideal S128x2x4x1x511 .f32) : FVec Ideal S128x8x128 .f32 :=
  concatenate S128x8x128 2 [⟨S128x8x64, (shapeCast _ (transpose S128x1x2x4x64 [0, 4, 1, 3, 2] (Host.dotGeneral dot_S128x511x2x64_S128x2x4x1x511_S128x2x64x4x1_1_4_3_23_02_01 none (shapeCast _ (extf .f32 (extractStridedSlice S128x511x128 ![0, 0, 0] vc slices_S128x512x128_S128x511x128_0_0_0) bitsLt_bf16_f32) shapeCasts_S128x511x128_S128x511x2x64) P) transposes_S128x2x64x4x1_S128x1x2x4x64_0_4_1_3_2) shapeCasts_S128x1x2x4x64_S128x8x64)⟩, ⟨S128x8x64, (shapeCast _ (transpose S128x1x2x4x64 [0, 4, 1, 3, 2] (Host.dotGeneral dot_S128x511x2x64_S128x2x4x1x511_S128x2x64x4x1_1_4_3_23_02_01 none (shapeCast _ (extf .f32 (extractStridedSlice S128x511x128 ![0, 0, 0] vc slices_S128x512x128_S128x511x128_0_0_0) bitsLt_bf16_f32) shapeCasts_S128x511x128_S128x511x2x64) P) transposes_S128x2x64x4x1_S128x1x2x4x64_0_4_1_3_2) shapeCasts_S128x1x2x4x64_S128x8x64)⟩] concatenates_S128x8x64_S128x8x64_S128x8x128_d2
/-- The importance of the selection blocks. -/
def OUT1 (P : FVec Ideal S128x2x4x1x511 .f32) : FVec Ideal S128x1x512 .f32 :=
  shapeCast _ (Host.dotGeneral dot_S128x2x1x511_S511x256_S128x2x1x256_3_0_012_1_n_n none (Host.reduceAdd P (constant S_ .f32 0x00000000#32) reducesTo_S128x2x4x1x511_S128x2x1x511_d2 h_S_) (uitofp .f32 (andi (cmpi .sle (broadcastInDim S511x256 ![0, 1] bcast_S511x1_S511x256_0_1 (broadcastInDim S511x1 ![0] bcast_S511_S511x1_0 (muli (iotaInDim S511 32 0) (broadcastInDim S511 ![] bcast_S_S511 (constantI S_ 32 16#32))))) (broadcastInDim S511x256 ![0, 1] bcast_S1x256_S511x256_0_1 (subi (addi (broadcastInDim S1x256 ![1] bcast_S256_S1x256_1 (muli (iotaInDim S256 32 0) (broadcastInDim S256 ![] bcast_S_S256 (constantI S_ 32 64#32)))) (broadcastInDim S1x256 ![] bcast_S_S1x256 (constantI S_ 32 64#32))) (broadcastInDim S1x256 ![] bcast_S_S1x256 (constantI S_ 32 1#32))))) (cmpi .sge (broadcastInDim S511x256 ![0, 1] bcast_S511x1_S511x256_0_1 (subi (addi (broadcastInDim S511x1 ![0] bcast_S511_S511x1_0 (muli (iotaInDim S511 32 0) (broadcastInDim S511 ![] bcast_S_S511 (constantI S_ 32 16#32)))) (broadcastInDim S511x1 ![] bcast_S_S511x1 (constantI S_ 32 32#32))) (broadcastInDim S511x1 ![] bcast_S_S511x1 (constantI S_ 32 1#32)))) (broadcastInDim S511x256 ![0, 1] bcast_S1x256_S511x256_0_1 (broadcastInDim S1x256 ![1] bcast_S256_S1x256_1 (muli (iotaInDim S256 32 0) (broadcastInDim S256 ![] bcast_S_S256 (constantI S_ 32 64#32))))))))) shapeCasts_S128x2x1x256_S128x1x512
variable (m : (ℓ : Loc nD τ sig) → Buf (Elt Ideal) ℓ)

theorem res0 (c : Dev nD) : Cert.ReferenceIdeal.Value.res_out0 m c = OUT0 (m ((c.tc : Thread nD τ).loc main_arg2))
    (PR (LOG (m ((c.tc : Thread nD τ).loc main_arg0)) (m ((c.tc : Thread nD τ).loc main_arg1)) (m ((c.tc : Thread nD τ).loc main_arg3)))) := rfl

theorem res1 (c : Dev nD) : Cert.ReferenceIdeal.Value.res_out1 m c = OUT1
    (PR (LOG (m ((c.tc : Thread nD τ).loc main_arg0)) (m ((c.tc : Thread nD τ).loc main_arg1)) (m ((c.tc : Thread nD τ).loc main_arg3)))) := rfl

/-- The head of group `g`'s row `r`. -/
def hd (g : Fin 2) (r : Fin 4) : Fin 8 := ⟨(g : ℕ) * 4 + (r : ℕ), by omega⟩

theorem dist_word : ∀ n : Fin 511, IntOp.cmpi .sge
    (IntOp.subi (IntOp.addi 8192#32 0#32) (IntOp.subi (IntOp.addi (IntOp.muli (BitVec.ofNat 32 (n : ℕ)) 16#32) 32#32) 1#32)) 0#32 = 1#1 := by
  decide +kernel

theorem log_at (q : FVec Ideal S128x8x64 .f32) (kc : FVec Ideal S128x512x128 .bf16) (bias : FVec Ideal S8x512 .f32)
    (b : Fin 128) (g : Fin 2) (r : Fin 4) (n : Fin 511) : LOG q kc bias (ix5 b g r 0 n) = sc q kc bias b (hd g r) n := by
  pointwise [LOG]
  rw [dist_word n]
  show _ + _ = _
  unfold sc
  refine congrArg₂ (· + ·) (congrArg (· * _) (Finset.sum_congr rfl fun x _ => ?_)) rfl
  refine congrArg (· * _) (congrArg (fun x' => kc (ix3 b n.castSucc x')) (Fin.ext ?_))
  show (g : ℕ) * 64 + (x : ℕ) = ((g : ℕ) * 4 + (r : ℕ)) / 4 * 64 + (x : ℕ)
  omega

theorem pr_at (L : FVec Ideal S128x2x4x1x511 .f32) (b : Fin 128) (g : Fin 2) (r : Fin 4) (n : Fin 511) :
    PR L (ix5 b g r 0 n) = wr (fun n => L (ix5 b g r 0 n)) n := by
  have hz : (id (constant (F := Ideal) S_ .f32 0#32) : FVec Ideal S_ .f32) ix0 = 0 := by simp [constant]
  pointwise [PR, EX, MX]
  simp only [ninf, pinf, hz]
  rfl

theorem weight (q : FVec Ideal S128x8x64 .f32) (kc : FVec Ideal S128x512x128 .bf16) (bias : FVec Ideal S8x512 .f32)
    (b : Fin 128) (g : Fin 2) (r : Fin 4) (n : Fin 511) : PR (LOG q kc bias) (ix5 b g r 0 n) = wr (sc q kc bias b (hd g r)) n :=
  (pr_at _ b g r n).trans (congrArg (wr · n) (funext fun n => log_at q kc bias b g r n))

/-- The attention output in a head's own lanes. -/
theorem out0_at (P : FVec Ideal S128x2x4x1x511 .f32) (vc : FVec Ideal S128x512x128 .bf16) (b : Fin 128) (h : Fin 8) (l : Fin 128)
    (hl : (4 ≤ (h : ℕ)) ↔ (64 ≤ (l : ℕ))) :
    OUT0 vc P (ix3 b h l) = ∑ n : Fin 511, vc (ix3 b n.castSucc l) * P (ix5 b ⟨(h : ℕ) / 4, by omega⟩ ⟨(h : ℕ) % 4, by omega⟩ 0 n) := by
  pointwise [OUT0]
  by_cases h64 : (l : ℕ) < 64
  · rw [dif_pos h64]
    refine Finset.sum_congr rfl fun n _ => congrArg (· * _) (congrArg (fun l' => vc (ix3 b n.castSucc l')) (Fin.ext ?_))
    show (h : ℕ) / 4 * 64 + (l : ℕ) = (l : ℕ)
    omega
  · rw [dif_neg h64]
    refine Finset.sum_congr rfl fun n _ => congrArg (· * _) (congrArg (fun l' => vc (ix3 b n.castSucc l')) (Fin.ext ?_))
    show (h : ℕ) / 4 * 64 + ((l : ℕ) - 64) = (l : ℕ)
    omega

theorem out1_at (P : FVec Ideal S128x2x4x1x511 .f32) (W : Fin 8 → Fin 511 → EReal) (b : Fin 128) (l : Fin 512)
    (hP : ∀ g r n, P (ix5 b g r 0 n) = W (hd g r) n) : OUT1 P (ix3 b 0 l) = imp W l := by
  pointwise [OUT1]
  unfold imp
  refine Finset.sum_congr rfl fun n _ => ?_
  refine congrArg₂ (· * ·) (Finset.sum_congr rfl fun r _ => hP _ r n) ?_
  refine (congrArg (fun w => (FloatOps.uitofp .f32 w : Ideal .f32)) (band_ref n.castSucc ⟨(l : ℕ) % 256, by omega⟩)).trans ?_
  exact uitofp_ofBool _

end Cert.ReferenceIdeal.Cmp

end
-- ==== Proof.CmpEquation.lean ====
/- The decode-time compressed attention: the kernel's run against the reference's. -/
module

public import proofs.«01_k».proof.Defs
public import proofs.«01_k».proof.Proof.Gen.Kernel.Frame
public import proofs.«01_k».proof.Proof.Gen.On_own_lanes
public import proofs.«01_k».proof.Proof.CmpKernel
public import proofs.«01_k».proof.Proof.CmpReference

@[expose] public section

set_option maxRecDepth 16384

noncomputable section

namespace Cert.CmpEquation

open Idealize.ShloMosaic Idealize.ShloMosaic.TcCoe Idealize.SL.Sem

/-- Where the mask is set, the lane lies in the head's own half. -/
theorem own (a0 : FVec Ideal Cert.On_own_lanes.S128x8x64 .f32) (a1 a2 : FVec Ideal Cert.On_own_lanes.S128x512x128 .bf16)
    (a3 : FVec Ideal Cert.On_own_lanes.S8x512 .f32) (b : Fin 128) (h : Fin 8) (l : Fin 128)
    (H : (Cert.On_own_lanes.fn (F := Ideal) a0 a1 a2 a3).1 (ix3 b h l) = 1#1) : 4 ≤ (h : ℕ) ↔ 64 ≤ (l : ℕ) := by
  have e : ∀ (h : Fin 8) (l : Fin 128), IntOp.cmpi .eq (IntOp.cmpi .sge (BitVec.ofNat 32 (h : ℕ)) 4#32) (IntOp.cmpi .sge (BitVec.ofNat 32 (l : ℕ)) 64#32) = 1#1
      → (4 ≤ (h : ℕ) ↔ 64 ≤ (l : ℕ)) := by decide +kernel
  exact e h l H

theorem frame_kernel : Cert.quiescent_Kernel := fun m ρ _ => Cert.Kernel.Gen.frame m ρ

theorem frame_kernel_ideal : Cert.quiescent_KernelIdeal := fun m ρ _ => Cert.KernelIdeal.Gen.frame m ρ

theorem frame_reference : Cert.quiescent_ReferenceIdeal := fun m ρ _ =>
  (θ_run _ _ _).mono (fun r h => ⟨fun c => (h c).2.2, sem_eq_zero_of_no_sems (by decide) r.2⟩) (Cert.ReferenceIdeal.Value.run m ρ)

theorem preserves : Cert.preserves_Kernel_KernelIdeal :=
  IdealRules.named_const.statement Cert.KernelIdeal.κ "mask_tenth" .f32 0xEFA18F08#32 ⊥ rfl

theorem algebraic : Cert.algebraic_KernelIdeal_ReferenceIdeal_on_own_lanes := by
  intro m g m' g' _ hm
  refine ⟨fun c => (Cert.KernelIdeal.Gen.dats m 0 c).arrAt 4 Cert.KernelIdeal.cfg0.N,
    fun c => (Cert.KernelIdeal.Gen.dats m 0 c).arrAt 5 Cert.KernelIdeal.cfg0.N,
    (θ_run _ _ _).mono (fun r h c => ⟨fun i _ => congrFun (h c).1 i, fun i _ => congrFun (h c).2.1 i, (h c).2.2⟩) (Cert.KernelIdeal.Value.run_blocks m g),
    (θ_run _ _ _).mono (fun r h c => ⟨fun i hi => ?_, fun i _ => ?_, (h c).2.2⟩) (Cert.ReferenceIdeal.Value.run m' g')⟩
  · refine (congrFun (h c).1 i).trans ?_
    refine Eq.trans ?_ (congrFun (Cert.KernelIdeal.Cmp.final0 m c) i).symm
    refine (congrFun (Cert.ReferenceIdeal.Cmp.res0 m' c) i).trans ?_
    obtain ⟨h0, h1, h2, h3⟩ := hm c
    rw [h0, h1, h2, h3]
    have ei : i = (ix3 (i 0) (i 1) (i 2) : Cert.KernelIdeal.S128x8x128.Idx) := eq_ix3 i
    rw [ei] at hi ⊢
    refine (Cert.ReferenceIdeal.Cmp.out0_at _ _ (i 0) (i 1) (i 2) (own _ _ _ _ (i 0) (i 1) (i 2) hi)).trans ?_
    refine Finset.sum_congr rfl fun n _ => congrArg (fun w : EReal => (_ : EReal) * w) ?_
    refine (Cert.ReferenceIdeal.Cmp.weight _ _ _ (i 0) _ _ n).trans ?_
    refine congrArg (fun h' => Cert.Softmax.wr (Cert.Scores.sc _ _ _ (i 0) h') n) (Fin.ext ?_)
    show ((i 1 : Fin 8) : ℕ) / 4 * 4 + ((i 1 : Fin 8) : ℕ) % 4 = ((i 1 : Fin 8) : ℕ)
    omega
  · refine (congrFun (h c).2.1 i).trans ?_
    refine Eq.trans ?_ (congrFun (Cert.KernelIdeal.Cmp.final1 m c) i).symm
    refine (congrFun (Cert.ReferenceIdeal.Cmp.res1 m' c) i).trans ?_
    obtain ⟨h0, h1, h2, h3⟩ := hm c
    rw [h0, h1, h3]
    have e1 : (show Fin 1 from i 1) = 0 := Subsingleton.elim (α := Fin 1) _ _
    have ei : i = (ix3 (i 0) 0 (i 2) : Cert.KernelIdeal.S128x1x512.Idx) := (eq_ix3 i).trans (congrArg (fun z => (ix3 (i 0) z (i 2) : Cert.KernelIdeal.S128x1x512.Idx)) e1)
    rw [ei]
    exact Cert.ReferenceIdeal.Cmp.out1_at _ _ (i 0) (i 2) fun g r n => Cert.ReferenceIdeal.Cmp.weight _ _ _ (i 0) g r n

end Cert.CmpEquation

end
-- ==== Proof.Rows.lean ====
/- Rows of the residual stream: the root-mean-square normalization of a row and the gated unit of a feed-forward layer,
   as functions of rows of extended reals. -/
module

public import Idealize.ShloMosaic.Lib.Pointwise

@[expose] public section

noncomputable section

namespace Cert.Rows

open Idealize.ShloMosaic

/-- The row length 1024 as the programs write it. -/
def width : EReal := Ideal.ofBits .f32 0x44800000#32

/-- The small number under the root. -/
def eps : EReal := Ideal.ofBits .f32 0x358637BD#32

/-- The factor of the feed-forward branch. -/
def half : EReal := Ideal.ofBits .f32 0x3F000000#32

/-- A row over the root of its mean square, times the gain. -/
def rms (x g : Fin 1024 → EReal) (k : Fin 1024) : EReal :=
  x k * Ideal.rsqrt (Ideal.div (∑ j, x j * x j) width + eps) * g k

/-- One hidden unit: the gate through the sigmoid-weighted unit, times the other projection. -/
def unit (h wg wu : Fin 1024 → EReal) : EReal :=
  (∑ k, h k * wg k) * Ideal.logistic (∑ k, h k * wg k) * ∑ k, h k * wu k

/-- The hidden units of a row, from the two halves of the first weight's columns. -/
def hiddenUnit (h : Fin 1024 → EReal) (wi : Fin 1024 → Fin 5632 → EReal) (f : Fin 2816) : EReal :=
  unit h (fun k => wi k ⟨f, by omega⟩) (fun k => wi k ⟨2816 + f, by omega⟩)

/-- The row after the feed-forward layer: itself plus half the branch. -/
def ffn (x g : Fin 1024 → EReal) (wi : Fin 1024 → Fin 5632 → EReal) (wo : Fin 2816 → Fin 1024 → EReal) (d : Fin 1024) : EReal :=
  x d + half * ∑ f, hiddenUnit (rms x g) wi f * wo f d

/-- The sum over the hidden units is the sum over the two tiles of 1408. -/
theorem sum_hidden (F : Fin 2816 → EReal) :
    ∑ f, F f = (∑ f : Fin 1408, F ⟨f, by omega⟩) + ∑ f : Fin 1408, F ⟨1408 + f, by omega⟩ :=
  Fin.sum_univ_add (a := 1408) (b := 1408) F

end Cert.Rows

end
-- ==== Proof.FfnKernel2.lean ====
/- What the feed-forward kernel stores, read row by row: the first tile of hidden units starts the sum, the second ends it. -/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Rows

/-- The normalized rows of a block. -/
theorem pay1_at (x : Vec Ideal S512x1024 .f32) (g : Vec Ideal S1x1024 .f32) (r : Fin 512) (k : Fin 1024) :
    k0_pay1 (F := Ideal) x g (ix2 r k) = rms (fun j => x (ix2 r j)) (fun j => g (ix2 0 j)) k := by
  pointwise [k0_pay1]
  rfl

theorem pay2_at (r : Fin 512) (d : Fin 1024) : k0_pay2 (F := Ideal) (ix2 r d) = 0 := by
  pointwise [k0_pay2]

/-- A tile of hidden units added to the sum so far. -/
theorem pay3_at (h : Vec Ideal S512x1024 .bf16) (wg wu : Vec Ideal S1024x1408 .bf16) (acc : Vec Ideal S512x1024 .f32) (wo : Vec Ideal S1408x1024 .bf16)
    (r : Fin 512) (d : Fin 1024) :
    k0_pay3 (F := Ideal) h wg wu acc wo (ix2 r d) = acc (ix2 r d)
      + ∑ f : Fin 1408, unit (fun k => h (ix2 r k)) (fun k => wg (ix2 k f)) (fun k => wu (ix2 k f)) * wo (ix2 f d) := by
  pointwise [k0_pay3]
  rfl

theorem pay4_at (x acc : Vec Ideal S512x1024 .f32) (gf : Vec Ideal S1x1024 .f32) (r : Fin 512) (d : Fin 1024) :
    k0_pay4 (F := Ideal) x acc gf (ix2 r d) = rms (fun j => x (ix2 r j) + half * acc (ix2 r j)) (fun j => gf (ix2 0 j)) d := by
  pointwise [k0_pay4]
  rfl

variable (m : (ℓ : Loc nD τ sig) → Buf (Elt Ideal) ℓ)

/-- The result of the call. -/
def G (x : FVec Ideal S16384x1024 .f32) (g : FVec Ideal S1024 .f32) (wi : FVec Ideal S1024x5632 .f32) (wo : FVec Ideal S2816x1024 .f32)
    (gf : FVec Ideal S1024 .f32) : FVec Ideal S16384x1024 .f32 := fun i =>
  rms (ffn (fun j => x (ix2 (i 0) j)) (fun j => g (ix1 j)) (fun k f => wi (ix2 k f)) (fun f d => wo (ix2 f d))) (fun j => gf (ix1 j)) (i 1)

/-- The two tiles of a block, put together. -/
theorem value (xa xb : Vec Ideal S512x1024 .f32) (ga gb : Vec Ideal S1x1024 .f32) (wga wua wgb wub : Vec Ideal S1024x1408 .bf16)
    (woa wob : Vec Ideal S1408x1024 .bf16)
    (x : FVec Ideal S16384x1024 .f32) (g : FVec Ideal S1024 .f32) (wi : FVec Ideal S1024x5632 .f32) (wo : FVec Ideal S2816x1024 .f32)
    (gf : FVec Ideal S1024 .f32) (r : Fin 512) (R : Fin 16384) (d : Fin 1024)
    (hxa : ∀ j, xa (ix2 r j) = x (ix2 R j)) (hxb : ∀ j, xb (ix2 r j) = x (ix2 R j))
    (hga : ∀ j, ga (ix2 0 j) = g (ix1 j)) (hgb : ∀ j, gb (ix2 0 j) = gf (ix1 j))
    (hwga : ∀ k (f : Fin 1408), wga (ix2 k f) = wi (ix2 k ⟨f, by omega⟩)) (hwua : ∀ k (f : Fin 1408), wua (ix2 k f) = wi (ix2 k ⟨2816 + f, by omega⟩))
    (hwgb : ∀ k (f : Fin 1408), wgb (ix2 k f) = wi (ix2 k ⟨1408 + f, by omega⟩))
    (hwub : ∀ k (f : Fin 1408), wub (ix2 k f) = wi (ix2 k ⟨2816 + (1408 + f), by omega⟩))
    (hwoa : ∀ (f : Fin 1408) d, woa (ix2 f d) = wo (ix2 ⟨f, by omega⟩ d)) (hwob : ∀ (f : Fin 1408) d, wob (ix2 f d) = wo (ix2 ⟨1408 + f, by omega⟩ d)) :
    k0_pay4 (F := Ideal) xb (k0_pay3 (k0_pay1 xa ga) wgb wub (k0_pay3 (k0_pay1 xa ga) wga wua (k0_pay2 (F := Ideal)) woa) wob) gb (ix2 r d)
      = G x g wi wo gf (ix2 R d) := by
  refine (pay4_at _ _ _ r d).trans ?_
  have e : ∀ j, xb (ix2 r j) + half * k0_pay3 (F := Ideal) (k0_pay1 xa ga) wgb wub (k0_pay3 (k0_pay1 xa ga) wga wua (k0_pay2 (F := Ideal)) woa) wob (ix2 r j)
      = ffn (fun j => x (ix2 R j)) (fun j => g (ix1 j)) (fun k f => wi (ix2 k f)) (fun f d => wo (ix2 f d)) j := by
    intro j
    unfold ffn
    rw [hxb, pay3_at, pay3_at, pay2_at, zero_add, sum_hidden]
    unfold hiddenUnit
    simp only [pay1_at, hxa, hga, hwga, hwua, hwgb, hwub, hwoa, hwob]
  simp only [e, hgb]
  rfl

theorem idx : ∀ t : Fin cfg0.N, win0_0.index t = ![t.val / 2, 0] ∧ win0_1.index t = ![0, 0] ∧ win0_2.index t = ![0, t.val % 2]
    ∧ win0_3.index t = ![0, t.val % 2 + 2] ∧ win0_4.index t = ![t.val % 2, 0] ∧ win0_5.index t = ![0, 0] ∧ win0_6.index t = ![t.val / 2, 0] :=
  (by decide +kernel : ∀ t : Fin grid0.N, _)

theorem entryG (c : Dev nD) : V m c main_v2 = shapeCast S1x1024 (m ((c : Thread nD τ).loc main_arg1)) shapeCasts_S1024_S1x1024 := by
  entry_read
  rfl

theorem entryF (c : Dev nD) : V m c main_v3 = shapeCast S1x1024 (m ((c : Thread nD τ).loc main_arg4)) shapeCasts_S1024_S1x1024 := by
  entry_read
  rfl

theorem entryI (c : Dev nD) : V m c main_v0 = truncf (F := Ideal) .bf16 (m ((c : Thread nD τ).loc main_arg2)) bitsLt_bf16_f32 := by
  entry_read
  rfl

theorem entryO (c : Dev nD) : V m c main_v1 = truncf (F := Ideal) .bf16 (m ((c : Thread nD τ).loc main_arg3)) bitsLt_bf16_f32 := by
  entry_read
  rfl

theorem blkX (c : Dev nD) (t : Fin cfg0.N) (r : Fin 512) (R : Fin 16384) (hR : (R : ℕ) = t.val / 2 * 512 + r) (j : Fin 1024) :
    iblk m c 0 t (ix2 r j) = m ((c : Thread nD τ).loc main_arg0) (ix2 R j) := by
  have i0 := (idx t).1
  blk_ext [iblk, V, i0]

theorem blkG (c : Dev nD) (t : Fin cfg0.N) (j : Fin 1024) :
    iblk m c 1 t (ix2 (0 : Fin 1) j) = m ((c : Thread nD τ).loc main_arg1) (ix1 j) := by
  have i1 := (idx t).2.1
  blk_simp [iblk, i1]
  rw [entryG]
  pointwise
  blk_ext [i1]

theorem blkF (c : Dev nD) (t : Fin cfg0.N) (j : Fin 1024) :
    iblk m c 5 t (ix2 (0 : Fin 1) j) = m ((c : Thread nD τ).loc main_arg4) (ix1 j) := by
  have i5 := (idx t).2.2.2.2.2.1
  blk_simp [iblk, i5]
  rw [entryF]
  pointwise
  blk_ext [i5]

theorem blkGate (c : Dev nD) (t : Fin cfg0.N) (k : Fin 1024) (f : Fin 1408) (f' : Fin 5632) (hf : (f' : ℕ) = t.val % 2 * 1408 + f) :
    iblk m c 2 t (ix2 k f) = m ((c : Thread nD τ).loc main_arg2) (ix2 k f') := by
  have i2 := (idx t).2.2.1
  blk_simp [iblk, i2]
  rw [entryI]
  pointwise
  blk_ext [i2]

theorem blkUp (c : Dev nD) (t : Fin cfg0.N) (k : Fin 1024) (f : Fin 1408) (f' : Fin 5632) (hf : (f' : ℕ) = (t.val % 2 + 2) * 1408 + f) :
    iblk m c 3 t (ix2 k f) = m ((c : Thread nD τ).loc main_arg2) (ix2 k f') := by
  have i3 := (idx t).2.2.2.1
  blk_simp [iblk, i3]
  rw [entryI]
  pointwise
  blk_ext [i3]

theorem blkOut (c : Dev nD) (t : Fin cfg0.N) (f : Fin 1408) (d : Fin 1024) (f' : Fin 2816) (hf : (f' : ℕ) = t.val % 2 * 1408 + f) :
    iblk m c 4 t (ix2 f d) = m ((c : Thread nD τ).loc main_arg3) (ix2 f' d) := by
  have i4 := (idx t).2.2.2.2.1
  blk_simp [iblk, i4]
  rw [entryO]
  pointwise
  blk_ext [i4]

theorem final (c : Dev nD) : (dats m 0 c).arrAt 6 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h1 : t.val % 2 = 1 := (flush0_6 t).mp hf
  have h0 : ¬ t.val % 2 = 0 := by omega
  have hp : t.val - 1 < cfg0.N := Nat.lt_of_le_of_lt (Nat.sub_le _ _) t.isLt
  have hs : (⟨t.val - 1, hp⟩ : Fin cfg0.N).val % 2 = 0 := by show (t.val - 1) % 2 = 0; omega
  blk_simp
  rw [after0_6, outsAt0_B m c t h0 h1, outsAt0_A m c ⟨t.val - 1, hp⟩ hs (by omega)]
  frame_out
  rw [read_unread_whole cc0_scratch0, read_unread_whole cc0_scratch1]
  have ht : t.val < 64 := lt_of_lt_of_eq t.isLt N_0
  have i6 := (idx t).2.2.2.2.2.2
  have ey : y = (ix2 (y 0) (y 1) : S512x1024.Idx) := eq_ix2 y
  have hy : (y 0 : ℕ) < 512 := (y 0).isLt
  have eo : (((View.whole main_v4).slice (win0_6.rect t)).emb y) = (ix2 ⟨t.val / 2 * 512 + (y 0 : ℕ), by omega⟩ (y 1) : S16384x1024.Idx) := by
    blk_ext [i6]
  rw [eo]
  refine (congrArg _ ey).trans (value _ _ _ _ _ _ _ _ _ _ _ _ _ _ _ (y 0) ⟨t.val / 2 * 512 + (y 0 : ℕ), by omega⟩ (y 1) ?_ ?_ ?_ ?_ ?_ ?_ ?_ ?_ ?_ ?_)
  · exact fun j => blkX m c _ (y 0) _ (by show t.val / 2 * 512 + (y 0 : ℕ) = (t.val - 1) / 2 * 512 + (y 0 : ℕ); omega) j
  · exact fun j => blkX m c _ (y 0) _ rfl j
  · exact fun j => blkG m c _ j
  · exact fun j => blkF m c _ j
  · exact fun k f => blkGate m c _ k f _ (by show (f : ℕ) = (t.val - 1) % 2 * 1408 + f; omega)
  · exact fun k f => blkUp m c _ k f _ (by show 2816 + (f : ℕ) = ((t.val - 1) % 2 + 2) * 1408 + f; omega)
  · exact fun k f => blkGate m c _ k f _ (by show 1408 + (f : ℕ) = t.val % 2 * 1408 + f; omega)
  · exact fun k f => blkUp m c _ k f _ (by show 2816 + (1408 + (f : ℕ)) = (t.val % 2 + 2) * 1408 + f; omega)
  · exact fun f d => blkOut m c _ f d _ (by show (f : ℕ) = (t.val - 1) % 2 * 1408 + f; omega)
  · exact fun f d => blkOut m c _ f d _ (by show 1408 + (f : ℕ) = t.val % 2 * 1408 + f; omega)

end Cert.Kernel2Ideal.Ffn

end
-- ==== Proof.FfnReference2.lean ====
/- The reference of the feed-forward layer, with the last normalization, read row by row. -/
module

public import proofs.«01_k».proof.Proof.Gen.Reference2Ideal.Run
public import Idealize.ShloMosaic.Lib.Pointwise
public import proofs.«01_k».proof.Proof.Rows

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Rows

/-- The normalized rows. -/
def HN (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- Both halves of the first product. -/
def UP (h : FVec Ideal S16384x1024 .f32) (wi : FVec Ideal S1024x5632 .f32) : FVec Ideal S16384x5632 .f32 :=
  Host.dotGeneral dot_S16384x1024_S1024x5632_S16384x5632_1_0_0_1_n_n none h wi

/-- The hidden units. -/
def ACT (u : FVec Ideal S16384x5632 .f32) : FVec Ideal S16384x2816 .f32 :=
  mulf (mulf (extractStridedSlice S16384x2816 ![0, 0] u slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0)))))) (extractStridedSlice S16384x2816 ![0, 2816] u slices_S16384x5632_S16384x2816_0_2816)

/-- The rows after the layer. -/
def XO (x : FVec Ideal S16384x1024 .f32) (g : FVec Ideal S1024 .f32) (wi : FVec Ideal S1024x5632 .f32) (wo : FVec Ideal S2816x1024 .f32) : FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none (ACT (UP (HN x g) wi)) wo))

/-- The normalized result. -/
def OUT (y : FVec Ideal S16384x1024 .f32) (gf : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 gf))

theorem hn_at (x : FVec Ideal S16384x1024 .f32) (g : FVec Ideal S1024 .f32) (r : Fin 16384) (k : Fin 1024) :
    HN x g (ix2 r k) = rms (fun j => x (ix2 r j)) (fun j => g (ix1 j)) k := by
  pointwise [HN]
  rfl

theorem up_at (h : FVec Ideal S16384x1024 .f32) (wi : FVec Ideal S1024x5632 .f32) (r : Fin 16384) (f : Fin 5632) :
    UP h wi (ix2 r f) = ∑ k, h (ix2 r k) * wi (ix2 k f) := by
  pointwise [UP]

theorem act_at (u : FVec Ideal S16384x5632 .f32) (r : Fin 16384) (f : Fin 2816) :
    ACT u (ix2 r f) = u (ix2 r ⟨f, by omega⟩) * Ideal.logistic (u (ix2 r ⟨f, by omega⟩)) * u (ix2 r ⟨2816 + f, by omega⟩) := by
  pointwise [ACT]
  rfl

theorem xo_at (x : FVec Ideal S16384x1024 .f32) (g : FVec Ideal S1024 .f32) (wi : FVec Ideal S1024x5632 .f32) (wo : FVec Ideal S2816x1024 .f32)
    (r : Fin 16384) (d : Fin 1024) :
    XO x g wi wo (ix2 r d) = ffn (fun j => x (ix2 r j)) (fun j => g (ix1 j)) (fun k f => wi (ix2 k f)) (fun f d => wo (ix2 f d)) d := by
  have e : XO x g wi wo (ix2 r d) = x (ix2 r d) + half * ∑ f, ACT (UP (HN x g) wi) (ix2 r f) * wo (ix2 f d) := by
    pointwise [XO]
    rfl
  rw [e]
  unfold ffn hiddenUnit unit
  refine congrArg (x (ix2 r d) + half * ·) (Finset.sum_congr rfl fun f _ => ?_)
  rw [act_at, up_at, up_at]
  simp only [hn_at]

theorem out_at (y : FVec Ideal S16384x1024 .f32) (gf : FVec Ideal S1024 .f32) (r : Fin 16384) (d : Fin 1024) :
    OUT y gf (ix2 r d) = rms (fun j => y (ix2 r j)) (fun j => gf (ix1 j)) d := by
  pointwise [OUT]
  rfl

variable (m : (ℓ : Loc nD τ sig) → Buf (Elt Ideal) ℓ)

theorem res (c : Dev nD) : Value.res_out0 m c = OUT (XO (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := rfl

end Cert.Reference2Ideal.Ffn

end
-- ==== Proof.FfnEquation2.lean ====
/- The feed-forward block with the final norm: the kernel's run against the reference's. -/
module

public import proofs.«01_k».proof.Defs
public import proofs.«01_k».proof.Proof.Gen.Kernel2.Frame
public import proofs.«01_k».proof.Proof.FfnKernel2
public import proofs.«01_k».proof.Proof.FfnReference2

@[expose] public section

set_option maxRecDepth 16384

noncomputable section

namespace Cert.FfnEquation2

open Idealize.ShloMosaic Idealize.ShloMosaic.TcCoe Idealize.SL.Sem

theorem frame_kernel : Cert.quiescent_Kernel2 := fun m ρ _ => Cert.Kernel2.Gen.frame m ρ

theorem frame_kernel_ideal : Cert.quiescent_Kernel2Ideal := fun m ρ _ => Cert.Kernel2Ideal.Gen.frame m ρ

theorem frame_reference : Cert.quiescent_Reference2Ideal := fun m ρ _ =>
  (θ_run _ _ _).mono (fun r h => ⟨fun c => (h c).2, sem_eq_zero_of_no_sems (by decide) r.2⟩) (Cert.Reference2Ideal.Value.run m ρ)

theorem preserves : Cert.preserves_Kernel2_Kernel2Ideal := trivial

theorem algebraic : Cert.algebraic_Kernel2Ideal_Reference2Ideal := by
  intro m g m' g' _ hm
  refine ⟨fun c => (Cert.Kernel2Ideal.Gen.dats m 0 c).arrAt 6 Cert.Kernel2Ideal.cfg0.N,
    Cert.Kernel2Ideal.Value.run_blocks m g,
    (θ_run _ _ _).mono (fun r h c => ⟨funext fun i => ?_, (h c).2⟩) (Cert.Reference2Ideal.Value.run m' g')⟩
  refine (congrFun ((h c).1.trans (Cert.Reference2Ideal.Ffn.res m' c)) i).trans ?_
  refine Eq.trans ?_ (congrFun (Cert.Kernel2Ideal.Ffn.final m c) i).symm
  obtain ⟨h0, h1, h2, h3, h4⟩ := hm c
  rw [h0, h1, h2, h3, h4]
  have ei : i = (ix2 (i 0) (i 1) : Cert.Kernel2Ideal.S16384x1024.Idx) := eq_ix2 i
  rw [ei]
  refine (Cert.Reference2Ideal.Ffn.out_at _ _ (i 0) (i 1)).trans ?_
  exact congrArg (fun y : Fin 1024 → EReal => Cert.Rows.rms y _ (i 1)) (funext fun j => Cert.Reference2Ideal.Ffn.xo_at _ _ _ _ (i 0) j)

end Cert.FfnEquation2

end
-- ==== Proof.FfnKernel3.lean ====
/- What the feed-forward kernel stores, read row by row: the first tile of hidden units starts the sum, the second ends it. -/
module

public import proofs.«01_k».proof.Proof.Gen.Kernel3Ideal.Value
public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen Cert.Rows

/-- The normalized rows of a block. -/
theorem pay1_at (x : Vec Ideal S512x1024 .f32) (g : Vec Ideal S1x1024 .f32) (r : Fin 512) (k : Fin 1024) :
    k0_pay1 (F := Ideal) x g (ix2 r k) = rms (fun j => x (ix2 r j)) (fun j => g (ix2 0 j)) k := by
  pointwise [k0_pay1]
  rfl

theorem pay2_at (r : Fin 512) (d : Fin 1024) : k0_pay2 (F := Ideal) (ix2 r d) = 0 := by
  pointwise [k0_pay2]

/-- A tile of hidden units added to the sum so far. -/
theorem pay3_at (h : Vec Ideal S512x1024 .bf16) (wg wu : Vec Ideal S1024x1408 .bf16) (acc : Vec Ideal S512x1024 .f32) (wo : Vec Ideal S1408x1024 .bf16)
    (r : Fin 512) (d : Fin 1024) :
    k0_pay3 (F := Ideal) h wg wu acc wo (ix2 r d) = acc (ix2 r d)
      + ∑ f : Fin 1408, unit (fun k => h (ix2 r k)) (fun k => wg (ix2 k f)) (fun k => wu (ix2 k f)) * wo (ix2 f d) := by
  pointwise [k0_pay3]
  rfl

theorem pay4_at (x acc : Vec Ideal S512x1024 .f32) (r : Fin 512) (d : Fin 1024) :
    k0_pay4 (F := Ideal) x acc (ix2 r d) = x (ix2 r d) + half * acc (ix2 r d) := by
  pointwise [k0_pay4]
  rfl

variable (m : (ℓ : Loc nD τ sig) → Buf (Elt Ideal) ℓ)

/-- The result of the call. -/
def G (x : FVec Ideal S16384x1024 .f32) (g : FVec Ideal S1024 .f32) (wi : FVec Ideal S1024x5632 .f32) (wo : FVec Ideal S2816x1024 .f32) :
    FVec Ideal S16384x1024 .f32 := fun i =>
  ffn (fun j => x (ix2 (i 0) j)) (fun j => g (ix1 j)) (fun k f => wi (ix2 k f)) (fun f d => wo (ix2 f d)) (i 1)

/-- The two tiles of a block, put together. -/
theorem value (xa xb : Vec Ideal S512x1024 .f32) (ga : Vec Ideal S1x1024 .f32) (wga wua wgb wub : Vec Ideal S1024x1408 .bf16)
    (woa wob : Vec Ideal S1408x1024 .bf16)
    (x : FVec Ideal S16384x1024 .f32) (g : FVec Ideal S1024 .f32) (wi : FVec Ideal S1024x5632 .f32) (wo : FVec Ideal S2816x1024 .f32)
    (r : Fin 512) (R : Fin 16384) (d : Fin 1024)
    (hxa : ∀ j, xa (ix2 r j) = x (ix2 R j)) (hxb : ∀ j, xb (ix2 r j) = x (ix2 R j))
    (hga : ∀ j, ga (ix2 0 j) = g (ix1 j))
    (hwga : ∀ k (f : Fin 1408), wga (ix2 k f) = wi (ix2 k ⟨f, by omega⟩)) (hwua : ∀ k (f : Fin 1408), wua (ix2 k f) = wi (ix2 k ⟨2816 + f, by omega⟩))
    (hwgb : ∀ k (f : Fin 1408), wgb (ix2 k f) = wi (ix2 k ⟨1408 + f, by omega⟩))
    (hwub : ∀ k (f : Fin 1408), wub (ix2 k f) = wi (ix2 k ⟨2816 + (1408 + f), by omega⟩))
    (hwoa : ∀ (f : Fin 1408) d, woa (ix2 f d) = wo (ix2 ⟨f, by omega⟩ d)) (hwob : ∀ (f : Fin 1408) d, wob (ix2 f d) = wo (ix2 ⟨1408 + f, by omega⟩ d)) :
    k0_pay4 (F := Ideal) xb (k0_pay3 (k0_pay1 xa ga) wgb wub (k0_pay3 (k0_pay1 xa ga) wga wua (k0_pay2 (F := Ideal)) woa) wob) (ix2 r d)
      = G x g wi wo (ix2 R d) := by
  refine (pay4_at _ _ r d).trans ?_
  unfold G ffn
  rw [hxb, pay3_at, pay3_at, pay2_at, zero_add, sum_hidden]
  unfold hiddenUnit
  simp only [pay1_at, hxa, hga, hwga, hwua, hwgb, hwub, hwoa, hwob]
  rfl

theorem idx : ∀ t : Fin cfg0.N, win0_0.index t = ![t.val / 2, 0] ∧ win0_1.index t = ![0, 0] ∧ win0_2.index t = ![0, t.val % 2]
    ∧ win0_3.index t = ![0, t.val % 2 + 2] ∧ win0_4.index t = ![t.val % 2, 0] ∧ win0_5.index t = ![0, 0] ∧ win0_6.index t = ![t.val / 2, 0] :=
  (by decide +kernel : ∀ t : Fin grid0.N, _)

theorem entryG (c : Dev nD) : V m c main_v2 = shapeCast S1x1024 (m ((c : Thread nD τ).loc main_arg1)) shapeCasts_S1024_S1x1024 := by
  entry_read
  rfl

theorem entryI (c : Dev nD) : V m c main_v0 = truncf (F := Ideal) .bf16 (m ((c : Thread nD τ).loc main_arg2)) bitsLt_bf16_f32 := by
  entry_read
  rfl

theorem entryO (c : Dev nD) : V m c main_v1 = truncf (F := Ideal) .bf16 (m ((c : Thread nD τ).loc main_arg3)) bitsLt_bf16_f32 := by
  entry_read
  rfl

theorem blkX (c : Dev nD) (t : Fin cfg0.N) (r : Fin 512) (R : Fin 16384) (hR : (R : ℕ) = t.val / 2 * 512 + r) (j : Fin 1024) :
    iblk m c 0 t (ix2 r j) = m ((c : Thread nD τ).loc main_arg0) (ix2 R j) := by
  have i0 := (idx t).1
  blk_ext [iblk, V, i0]

theorem blkG (c : Dev nD) (t : Fin cfg0.N) (j : Fin 1024) :
    iblk m c 1 t (ix2 (0 : Fin 1) j) = m ((c : Thread nD τ).loc main_arg1) (ix1 j) := by
  have i1 := (idx t).2.1
  blk_simp [iblk, i1]
  rw [entryG]
  pointwise
  blk_ext [i1]

theorem blkGate (c : Dev nD) (t : Fin cfg0.N) (k : Fin 1024) (f : Fin 1408) (f' : Fin 5632) (hf : (f' : ℕ) = t.val % 2 * 1408 + f) :
    iblk m c 2 t (ix2 k f) = m ((c : Thread nD τ).loc main_arg2) (ix2 k f') := by
  have i2 := (idx t).2.2.1
  blk_simp [iblk, i2]
  rw [entryI]
  pointwise
  blk_ext [i2]

theorem blkUp (c : Dev nD) (t : Fin cfg0.N) (k : Fin 1024) (f : Fin 1408) (f' : Fin 5632) (hf : (f' : ℕ) = (t.val % 2 + 2) * 1408 + f) :
    iblk m c 3 t (ix2 k f) = m ((c : Thread nD τ).loc main_arg2) (ix2 k f') := by
  have i3 := (idx t).2.2.2.1
  blk_simp [iblk, i3]
  rw [entryI]
  pointwise
  blk_ext [i3]

theorem blkOut (c : Dev nD) (t : Fin cfg0.N) (f : Fin 1408) (d : Fin 1024) (f' : Fin 2816) (hf : (f' : ℕ) = t.val % 2 * 1408 + f) :
    iblk m c 4 t (ix2 f d) = m ((c : Thread nD τ).loc main_arg3) (ix2 f' d) := by
  have i4 := (idx t).2.2.2.2.1
  blk_simp [iblk, i4]
  rw [entryO]
  pointwise
  blk_ext [i4]

theorem final (c : Dev nD) : (dats m 0 c).arrAt 6 (cfgs 0).N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have h1 : t.val % 2 = 1 := (flush0_6 t).mp hf
  have h0 : ¬ t.val % 2 = 0 := by omega
  have hp : t.val - 1 < cfg0.N := Nat.lt_of_le_of_lt (Nat.sub_le _ _) t.isLt
  have hs : (⟨t.val - 1, hp⟩ : Fin cfg0.N).val % 2 = 0 := by show (t.val - 1) % 2 = 0; omega
  blk_simp
  rw [after0_6, outsAt0_B m c t h0 h1, outsAt0_A m c ⟨t.val - 1, hp⟩ hs (by omega)]
  frame_out
  rw [read_unread_whole cc0_scratch0, read_unread_whole cc0_scratch1]
  have ht : t.val < 64 := lt_of_lt_of_eq t.isLt N_0
  have i6 := (idx t).2.2.2.2.2.2
  have ey : y = (ix2 (y 0) (y 1) : S512x1024.Idx) := eq_ix2 y
  have hy : (y 0 : ℕ) < 512 := (y 0).isLt
  have eo : (((View.whole main_v4).slice (win0_6.rect t)).emb y) = (ix2 ⟨t.val / 2 * 512 + (y 0 : ℕ), by omega⟩ (y 1) : S16384x1024.Idx) := by
    blk_ext [i6]
  rw [eo]
  refine (congrArg _ ey).trans (value _ _ _ _ _ _ _ _ _ _ _ _ _ (y 0) ⟨t.val / 2 * 512 + (y 0 : ℕ), by omega⟩ (y 1) ?_ ?_ ?_ ?_ ?_ ?_ ?_ ?_ ?_)
  · exact fun j => blkX m c _ (y 0) _ (by show t.val / 2 * 512 + (y 0 : ℕ) = (t.val - 1) / 2 * 512 + (y 0 : ℕ); omega) j
  · exact fun j => blkX m c _ (y 0) _ rfl j
  · exact fun j => blkG m c _ j
  · exact fun k f => blkGate m c _ k f _ (by show (f : ℕ) = (t.val - 1) % 2 * 1408 + f; omega)
  · exact fun k f => blkUp m c _ k f _ (by show 2816 + (f : ℕ) = ((t.val - 1) % 2 + 2) * 1408 + f; omega)
  · exact fun k f => blkGate m c _ k f _ (by show 1408 + (f : ℕ) = t.val % 2 * 1408 + f; omega)
  · exact fun k f => blkUp m c _ k f _ (by show 2816 + (1408 + (f : ℕ)) = (t.val % 2 + 2) * 1408 + f; omega)
  · exact fun f d => blkOut m c _ f d _ (by show (f : ℕ) = (t.val - 1) % 2 * 1408 + f; omega)
  · exact fun f d => blkOut m c _ f d _ (by show 1408 + (f : ℕ) = t.val % 2 * 1408 + f; omega)

end Cert.Kernel3Ideal.Ffn

end
-- ==== Proof.FfnReference3.lean ====
/- The reference of the feed-forward layer, read row by row. -/
module

public import proofs.«01_k».proof.Proof.Gen.Reference3Ideal.Run
public import Idealize.ShloMosaic.Lib.Pointwise
public import proofs.«01_k».proof.Proof.Rows

@[expose] public section

set_option maxRecDepth 16384

noncomputable section

open Idealize.ShloMosaic Idealize.ShloMosaic.TcCoe Idealize.SL.Sem

namespace Cert.Reference3Ideal.Ffn

open Cert.Reference3Ideal Cert.Reference3Ideal.Gen Cert.Rows

/-- The normalized rows. -/
def HN (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- Both halves of the first product. -/
def UP (h : FVec Ideal S16384x1024 .f32) (wi : FVec Ideal S1024x5632 .f32) : FVec Ideal S16384x5632 .f32 :=
  Host.dotGeneral dot_S16384x1024_S1024x5632_S16384x5632_1_0_0_1_n_n none h wi

/-- The hidden units. -/
def ACT (u : FVec Ideal S16384x5632 .f32) : FVec Ideal S16384x2816 .f32 :=
  mulf (mulf (extractStridedSlice S16384x2816 ![0, 0] u slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0)))))) (extractStridedSlice S16384x2816 ![0, 2816] u slices_S16384x5632_S16384x2816_0_2816)

/-- The rows after the layer. -/
def XO (x : FVec Ideal S16384x1024 .f32) (g : FVec Ideal S1024 .f32) (wi : FVec Ideal S1024x5632 .f32) (wo : FVec Ideal S2816x1024 .f32) : FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none (ACT (UP (HN x g) wi)) wo))

theorem hn_at (x : FVec Ideal S16384x1024 .f32) (g : FVec Ideal S1024 .f32) (r : Fin 16384) (k : Fin 1024) :
    HN x g (ix2 r k) = rms (fun j => x (ix2 r j)) (fun j => g (ix1 j)) k := by
  pointwise [HN]
  rfl

theorem up_at (h : FVec Ideal S16384x1024 .f32) (wi : FVec Ideal S1024x5632 .f32) (r : Fin 16384) (f : Fin 5632) :
    UP h wi (ix2 r f) = ∑ k, h (ix2 r k) * wi (ix2 k f) := by
  pointwise [UP]

theorem act_at (u : FVec Ideal S16384x5632 .f32) (r : Fin 16384) (f : Fin 2816) :
    ACT u (ix2 r f) = u (ix2 r ⟨f, by omega⟩) * Ideal.logistic (u (ix2 r ⟨f, by omega⟩)) * u (ix2 r ⟨2816 + f, by omega⟩) := by
  pointwise [ACT]
  rfl

theorem xo_at (x : FVec Ideal S16384x1024 .f32) (g : FVec Ideal S1024 .f32) (wi : FVec Ideal S1024x5632 .f32) (wo : FVec Ideal S2816x1024 .f32)
    (r : Fin 16384) (d : Fin 1024) :
    XO x g wi wo (ix2 r d) = ffn (fun j => x (ix2 r j)) (fun j => g (ix1 j)) (fun k f => wi (ix2 k f)) (fun f d => wo (ix2 f d)) d := by
  have e : XO x g wi wo (ix2 r d) = x (ix2 r d) + half * ∑ f, ACT (UP (HN x g) wi) (ix2 r f) * wo (ix2 f d) := by
    pointwise [XO]
    rfl
  rw [e]
  unfold ffn hiddenUnit unit
  refine congrArg (x (ix2 r d) + half * ·) (Finset.sum_congr rfl fun f _ => ?_)
  rw [act_at, up_at, up_at]
  simp only [hn_at]

variable (m : (ℓ : Loc nD τ sig) → Buf (Elt Ideal) ℓ)

end Cert.Reference3Ideal.Ffn

end
-- ==== Proof.FfnEquation3.lean ====
/- The feed-forward block without the final norm: the kernel's run against the reference's. -/
module

public import proofs.«01_k».proof.Defs
public import proofs.«01_k».proof.Proof.Gen.Kernel3.Frame
public import proofs.«01_k».proof.Proof.FfnKernel3
public import proofs.«01_k».proof.Proof.FfnReference3

@[expose] public section

set_option maxRecDepth 16384

noncomputable section

namespace Cert.FfnEquation3

open Idealize.ShloMosaic Idealize.ShloMosaic.TcCoe Idealize.SL.Sem

theorem frame_kernel : Cert.quiescent_Kernel3 := fun m ρ _ => Cert.Kernel3.Gen.frame m ρ

theorem frame_kernel_ideal : Cert.quiescent_Kernel3Ideal := fun m ρ _ => Cert.Kernel3Ideal.Gen.frame m ρ

theorem frame_reference : Cert.quiescent_Reference3Ideal := fun m ρ _ =>
  (θ_run _ _ _).mono (fun r h => ⟨fun c => (h c).2, sem_eq_zero_of_no_sems (by decide) r.2⟩) (Cert.Reference3Ideal.Value.run m ρ)

theorem preserves : Cert.preserves_Kernel3_Kernel3Ideal := trivial

theorem algebraic : Cert.algebraic_Kernel3Ideal_Reference3Ideal := by
  intro m g m' g' _ hm
  refine ⟨fun c => (Cert.Kernel3Ideal.Gen.dats m 0 c).arrAt 6 Cert.Kernel3Ideal.cfg0.N,
    Cert.Kernel3Ideal.Value.run_blocks m g,
    (θ_run _ _ _).mono (fun r h c => ⟨funext fun i => ?_, (h c).2⟩) (Cert.Reference3Ideal.Value.run m' g')⟩
  refine (congrFun (h c).1 i).trans ?_
  refine Eq.trans ?_ (congrFun (Cert.Kernel3Ideal.Ffn.final m c) i).symm
  obtain ⟨h0, h1, h2, h3, h4⟩ := hm c
  rw [h0, h1, h2, h3]
  have ei : i = (ix2 (i 0) (i 1) : Cert.Kernel3Ideal.S16384x1024.Idx) := eq_ix2 i
  rw [ei]
  exact Cert.Reference3Ideal.Ffn.xo_at _ _ _ _ (i 0) (i 1)

end Cert.FfnEquation3

end
-- ==== Proof.Columns.lean ====
/- Where the columns of the projection come from. -/
module

public import Idealize.ShloMosaic.Lib.Pointwise
public import proofs.«01_k».proof.Proof.Rows

@[expose] public section

noncomputable section

open Idealize.ShloMosaic

namespace Cert.Columns

open Cert.Rows

/-- One eighth, the scale of the queries. -/
def eighth : EReal := Ideal.ofBits .f32 1040187392#32

/-- One column of the projection of one row. -/
def proj (x g w : Fin 1024 → EReal) : EReal := ∑ k, rms x g k * w k

theorem proj_zero (x g : Fin 1024 → EReal) : proj x g (fun _ => 0) = 0 := by
  simp only [proj, mul_zero, Finset.sum_const_zero]

/-- Whether a lane of a head is one of its own group's: heads 0 to 3 own the first 64, heads 4 to 7 the last. -/
abbrev own (c : Fin 1024) : Prop := (c : ℕ) < 512 ↔ (c : ℕ) % 128 < 64

/-- The query column of a lane that is owned. -/
def src (c : Fin 1024) : ℕ := (c : ℕ) / 128 * 64 + (c : ℕ) % 64

/-- The column of a gate: 24 of the attention, then 8 of the recurrence. -/
def small (c : Fin 32) : ℕ := if (c : ℕ) < 24 then 1280 + c else 2304 + c

theorem at2 {n k : ℕ} {A : Type} (z : (Shape.Idx ⟨2, ![n, k]⟩) → A) (r : Fin n) (c c' : Fin k) (h : (c : ℕ) = c') : z (ix2 r c) = z (ix2 r c') := by
  rw [Fin.ext h]

end Cert.Columns

end
-- ==== Proof.ProjWeight.lean ====
/- The projection's weight as the host lays it out: every query head in the lanes of its own group, the gates last. -/
module

public import proofs.«01_k».proof.Proof.Gen.Kernel4Ideal.Value
public import Idealize.ShloMosaic.Lib.Pointwise
public import Idealize.ShloMosaic.Lib.Pipeline.ValueKit
public import proofs.«01_k».proof.Proof.Columns

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen Cert.Rows Cert.Columns

/-- The gate columns. -/
def GW (w : FVec Ideal S1024x4896 .f32) : FVec Ideal S1024x128 .f32 :=
  concatenate S1024x128 1 [⟨S1024x24, (extractStridedSlice S1024x24 ![0, 1280] w slices_S1024x4896_S1024x24_0_1280 : FVec Ideal S1024x24 .f32)⟩, ⟨S1024x8, (extractStridedSlice S1024x8 ![0, 2328] w slices_S1024x4896_S1024x8_0_2328 : FVec Ideal S1024x8 .f32)⟩, ⟨S1024x96, (broadcastInDim S1024x96 ![] bcast_S_S1024x96 (constant S_ .f32 0x00000000#32) : FVec Ideal S1024x96 .f32)⟩] concatenates_S1024x24_S1024x8_S1024x96_S1024x128_d1

/-- The query columns. -/
def QW (w : FVec Ideal S1024x4896 .f32) : FVec Ideal S1024x1024 .f32 :=
  concatenate S1024x1024 1 [⟨S1024x64, (extractStridedSlice S1024x64 ![0, 0] (extractStridedSlice S1024x512 ![0, 0] w slices_S1024x4896_S1024x512_0_0) slices_S1024x512_S1024x64_0_0 : FVec Ideal S1024x64 .f32)⟩, ⟨S1024x64, (broadcastInDim S1024x64 ![] bcast_S_S1024x64 (constant S_ .f32 0x00000000#32) : FVec Ideal S1024x64 .f32)⟩, ⟨S1024x64, (extractStridedSlice S1024x64 ![0, 64] (extractStridedSlice S1024x512 ![0, 0] w slices_S1024x4896_S1024x512_0_0) slices_S1024x512_S1024x64_0_64 : FVec Ideal S1024x64 .f32)⟩, ⟨S1024x64, (broadcastInDim S1024x64 ![] bcast_S_S1024x64 (constant S_ .f32 0x00000000#32) : FVec Ideal S1024x64 .f32)⟩, ⟨S1024x64, (extractStridedSlice S1024x64 ![0, 128] (extractStridedSlice S1024x512 ![0, 0] w slices_S1024x4896_S1024x512_0_0) slices_S1024x512_S1024x64_0_128 : FVec Ideal S1024x64 .f32)⟩, ⟨S1024x64, (broadcastInDim S1024x64 ![] bcast_S_S1024x64 (constant S_ .f32 0x00000000#32) : FVec Ideal S1024x64 .f32)⟩, ⟨S1024x64, (extractStridedSlice S1024x64 ![0, 192] (extractStridedSlice S1024x512 ![0, 0] w slices_S1024x4896_S1024x512_0_0) slices_S1024x512_S1024x64_0_192 : FVec Ideal S1024x64 .f32)⟩, ⟨S1024x64, (broadcastInDim S1024x64 ![] bcast_S_S1024x64 (constant S_ .f32 0x00000000#32) : FVec Ideal S1024x64 .f32)⟩, ⟨S1024x64, (broadcastInDim S1024x64 ![] bcast_S_S1024x64 (constant S_ .f32 0x00000000#32) : FVec Ideal S1024x64 .f32)⟩, ⟨S1024x64, (extractStridedSlice S1024x64 ![0, 256] (extractStridedSlice S1024x512 ![0, 0] w slices_S1024x4896_S1024x512_0_0) slices_S1024x512_S1024x64_0_256 : FVec Ideal S1024x64 .f32)⟩, ⟨S1024x64, (broadcastInDim S1024x64 ![] bcast_S_S1024x64 (constant S_ .f32 0x00000000#32) : FVec Ideal S1024x64 .f32)⟩, ⟨S1024x64, (extractStridedSlice S1024x64 ![0, 320] (extractStridedSlice S1024x512 ![0, 0] w slices_S1024x4896_S1024x512_0_0) slices_S1024x512_S1024x64_0_320 : FVec Ideal S1024x64 .f32)⟩, ⟨S1024x64, (broadcastInDim S1024x64 ![] bcast_S_S1024x64 (constant S_ .f32 0x00000000#32) : FVec Ideal S1024x64 .f32)⟩, ⟨S1024x64, (extractStridedSlice S1024x64 ![0, 384] (extractStridedSlice S1024x512 ![0, 0] w slices_S1024x4896_S1024x512_0_0) slices_S1024x512_S1024x64_0_384 : FVec Ideal S1024x64 .f32)⟩, ⟨S1024x64, (broadcastInDim S1024x64 ![] bcast_S_S1024x64 (constant S_ .f32 0x00000000#32) : FVec Ideal S1024x64 .f32)⟩, ⟨S1024x64, (extractStridedSlice S1024x64 ![0, 448] (extractStridedSlice S1024x512 ![0, 0] w slices_S1024x4896_S1024x512_0_0) slices_S1024x512_S1024x64_0_448 : FVec Ideal S1024x64 .f32)⟩] concatenates_S1024x64_S1024x64_S1024x64_S1024x64_S1024x64_S1024x64_S1024x64_S1024x64_S1024x64_S1024x64_S1024x64_S1024x64_S1024x64_S1024x64_S1024x64_S1024x64_S1024x1024_d1

/-- All the others. -/
def RW (w : FVec Ideal S1024x4896 .f32) : FVec Ideal S1024x4480 .f32 :=
  concatenate S1024x4480 1 [⟨S1024x128, (extractStridedSlice S1024x128 ![0, 512] w slices_S1024x4896_S1024x128_0_512 : FVec Ideal S1024x128 .f32)⟩, ⟨S1024x128, (extractStridedSlice S1024x128 ![0, 640] w slices_S1024x4896_S1024x128_0_640 : FVec Ideal S1024x128 .f32)⟩, ⟨S1024x128, (extractStridedSlice S1024x128 ![0, 768] w slices_S1024x4896_S1024x128_0_768 : FVec Ideal S1024x128 .f32)⟩, ⟨S1024x128, (extractStridedSlice S1024x128 ![0, 896] w slices_S1024x4896_S1024x128_0_896 : FVec Ideal S1024x128 .f32)⟩, ⟨S1024x128, (extractStridedSlice S1024x128 ![0, 1024] w slices_S1024x4896_S1024x128_0_1024 : FVec Ideal S1024x128 .f32)⟩, ⟨S1024x128, (extractStridedSlice S1024x128 ![0, 1152] w slices_S1024x4896_S1024x128_0_1152 : FVec Ideal S1024x128 .f32)⟩, ⟨S1024x512, (extractStridedSlice S1024x512 ![0, 1304] w slices_S1024x4896_S1024x512_0_1304 : FVec Ideal S1024x512 .f32)⟩, ⟨S1024x512, (extractStridedSlice S1024x512 ![0, 1816] w slices_S1024x4896_S1024x512_0_1816 : FVec Ideal S1024x512 .f32)⟩, ⟨S1024x512, (extractStridedSlice S1024x512 ![0, 2336] w slices_S1024x4896_S1024x512_0_2336 : FVec Ideal S1024x512 .f32)⟩, ⟨S1024x2048, (extractStridedSlice S1024x2048 ![0, 2848] w slices_S1024x4896_S1024x2048_0_2848 : FVec Ideal S1024x2048 .f32)⟩, ⟨S1024x128, GW w⟩] concatenates_S1024x128_S1024x128_S1024x128_S1024x128_S1024x128_S1024x128_S1024x512_S1024x512_S1024x512_S1024x2048_S1024x128_S1024x4480_d1

/-- The whole weight. -/
def W (w : FVec Ideal S1024x4896 .f32) : FVec Ideal S1024x5504 .bf16 :=
  truncf .bf16 (concatenate S1024x5504 1 [⟨S1024x1024, QW w⟩, ⟨S1024x4480, RW w⟩] concatenates_S1024x1024_S1024x4480_S1024x5504_d1) bitsLt_bf16_f32

theorem gw_at (w : FVec Ideal S1024x4896 .f32) (k : Fin 1024) (c : Fin 128) :
    GW w (ix2 k c) = if h : (c : ℕ) < 32 then w (ix2 k ⟨small ⟨c, h⟩, by unfold small; split <;> omega⟩) else 0 := by
  pointwise [GW]
  by_cases h : (c : ℕ) < 32
  · rw [dif_pos h]
    split_ifs with h1 h2 <;> first | omega | exact at2 w k _ _ (by unfold small; simp only; split <;> omega)
  · rw [dif_neg h]
    split_ifs <;> first | omega | rfl

set_option maxHeartbeats 4000000 in
theorem q0 (w : FVec Ideal S1024x4896 .f32) (k : Fin 1024) (c : Fin 1024) (h : (c : ℕ) / 64 = 0) : QW w (ix2 k c) = w (ix2 k ⟨src c, by unfold src; omega⟩) := by
  refine (concatenate_apply_piece (t := S1024x1024) 1 _ _ (ix2 k c) 0 (by exact (show 0 < 16 from by decide)) S1024x64 _ rfl rfl 0 rfl
    (ix2 k ⟨(c : ℕ) - 0, by omega⟩) (fun b hb => ?_) (by show 0 + ((c : ℕ) - 0) = (c : ℕ); omega)).trans ?_
  · match b, hb with
    | 0, _ => rfl
    | 1, hb => exact absurd rfl hb
  · pointwise <;>
    exact at2 w k _ _ (by unfold src; simp only; omega)

set_option maxHeartbeats 4000000 in
theorem q1 (w : FVec Ideal S1024x4896 .f32) (k : Fin 1024) (c : Fin 1024) (h : (c : ℕ) / 64 = 1) : QW w (ix2 k c) = 0 := by
  refine (concatenate_apply_piece (t := S1024x1024) 1 _ _ (ix2 k c) 1 (by exact (show 1 < 16 from by decide)) S1024x64 _ rfl rfl 64 rfl
    (ix2 k ⟨(c : ℕ) - 64, by omega⟩) (fun b hb => ?_) (by show 64 + ((c : ℕ) - 64) = (c : ℕ); omega)).trans ?_
  · match b, hb with
    | 0, _ => rfl
    | 1, hb => exact absurd rfl hb
  · pointwise

set_option maxHeartbeats 4000000 in
theorem q2 (w : FVec Ideal S1024x4896 .f32) (k : Fin 1024) (c : Fin 1024) (h : (c : ℕ) / 64 = 2) : QW w (ix2 k c) = w (ix2 k ⟨src c, by unfold src; omega⟩) := by
  refine (concatenate_apply_piece (t := S1024x1024) 1 _ _ (ix2 k c) 2 (by exact (show 2 < 16 from by decide)) S1024x64 _ rfl rfl 128 rfl
    (ix2 k ⟨(c : ℕ) - 128, by omega⟩) (fun b hb => ?_) (by show 128 + ((c : ℕ) - 128) = (c : ℕ); omega)).trans ?_
  · match b, hb with
    | 0, _ => rfl
    | 1, hb => exact absurd rfl hb
  · pointwise <;>
    exact at2 w k _ _ (by unfold src; simp only; omega)

set_option maxHeartbeats 4000000 in
theorem q3 (w : FVec Ideal S1024x4896 .f32) (k : Fin 1024) (c : Fin 1024) (h : (c : ℕ) / 64 = 3) : QW w (ix2 k c) = 0 := by
  refine (concatenate_apply_piece (t := S1024x1024) 1 _ _ (ix2 k c) 3 (by exact (show 3 < 16 from by decide)) S1024x64 _ rfl rfl 192 rfl
    (ix2 k ⟨(c : ℕ) - 192, by omega⟩) (fun b hb => ?_) (by show 192 + ((c : ℕ) - 192) = (c : ℕ); omega)).trans ?_
  · match b, hb with
    | 0, _ => rfl
    | 1, hb => exact absurd rfl hb
  · pointwise

set_option maxHeartbeats 4000000 in
theorem q4 (w : FVec Ideal S1024x4896 .f32) (k : Fin 1024) (c : Fin 1024) (h : (c : ℕ) / 64 = 4) : QW w (ix2 k c) = w (ix2 k ⟨src c, by unfold src; omega⟩) := by
  refine (concatenate_apply_piece (t := S1024x1024) 1 _ _ (ix2 k c) 4 (by exact (show 4 < 16 from by decide)) S1024x64 _ rfl rfl 256 rfl
    (ix2 k ⟨(c : ℕ) - 256, by omega⟩) (fun b hb => ?_) (by show 256 + ((c : ℕ) - 256) = (c : ℕ); omega)).trans ?_
  · match b, hb with
    | 0, _ => rfl
    | 1, hb => exact absurd rfl hb
  · pointwise <;>
    exact at2 w k _ _ (by unfold src; simp only; omega)

set_option maxHeartbeats 4000000 in
theorem q5 (w : FVec Ideal S1024x4896 .f32) (k : Fin 1024) (c : Fin 1024) (h : (c : ℕ) / 64 = 5) : QW w (ix2 k c) = 0 := by
  refine (concatenate_apply_piece (t := S1024x1024) 1 _ _ (ix2 k c) 5 (by exact (show 5 < 16 from by decide)) S1024x64 _ rfl rfl 320 rfl
    (ix2 k ⟨(c : ℕ) - 320, by omega⟩) (fun b hb => ?_) (by show 320 + ((c : ℕ) - 320) = (c : ℕ); omega)).trans ?_
  · match b, hb with
    | 0, _ => rfl
    | 1, hb => exact absurd rfl hb
  · pointwise

set_option maxHeartbeats 4000000 in
theorem q6 (w : FVec Ideal S1024x4896 .f32) (k : Fin 1024) (c : Fin 1024) (h : (c : ℕ) / 64 = 6) : QW w (ix2 k c) = w (ix2 k ⟨src c, by unfold src; omega⟩) := by
  refine (concatenate_apply_piece (t := S1024x1024) 1 _ _ (ix2 k c) 6 (by exact (show 6 < 16 from by decide)) S1024x64 _ rfl rfl 384 rfl
    (ix2 k ⟨(c : ℕ) - 384, by omega⟩) (fun b hb => ?_) (by show 384 + ((c : ℕ) - 384) = (c : ℕ); omega)).trans ?_
  · match b, hb with
    | 0, _ => rfl
    | 1, hb => exact absurd rfl hb
  · pointwise <;>
    exact at2 w k _ _ (by unfold src; simp only; omega)

set_option maxHeartbeats 4000000 in
theorem q7 (w : FVec Ideal S1024x4896 .f32) (k : Fin 1024) (c : Fin 1024) (h : (c : ℕ) / 64 = 7) : QW w (ix2 k c) = 0 := by
  refine (concatenate_apply_piece (t := S1024x1024) 1 _ _ (ix2 k c) 7 (by exact (show 7 < 16 from by decide)) S1024x64 _ rfl rfl 448 rfl
    (ix2 k ⟨(c : ℕ) - 448, by omega⟩) (fun b hb => ?_) (by show 448 + ((c : ℕ) - 448) = (c : ℕ); omega)).trans ?_
  · match b, hb with
    | 0, _ => rfl
    | 1, hb => exact absurd rfl hb
  · pointwise

set_option maxHeartbeats 4000000 in
theorem q8 (w : FVec Ideal S1024x4896 .f32) (k : Fin 1024) (c : Fin 1024) (h : (c : ℕ) / 64 = 8) : QW w (ix2 k c) = 0 := by
  refine (concatenate_apply_piece (t := S1024x1024) 1 _ _ (ix2 k c) 8 (by exact (show 8 < 16 from by decide)) S1024x64 _ rfl rfl 512 rfl
    (ix2 k ⟨(c : ℕ) - 512, by omega⟩) (fun b hb => ?_) (by show 512 + ((c : ℕ) - 512) = (c : ℕ); omega)).trans ?_
  · match b, hb with
    | 0, _ => rfl
    | 1, hb => exact absurd rfl hb
  · pointwise

set_option maxHeartbeats 4000000 in
theorem q9 (w : FVec Ideal S1024x4896 .f32) (k : Fin 1024) (c : Fin 1024) (h : (c : ℕ) / 64 = 9) : QW w (ix2 k c) = w (ix2 k ⟨src c, by unfold src; omega⟩) := by
  refine (concatenate_apply_piece (t := S1024x1024) 1 _ _ (ix2 k c) 9 (by exact (show 9 < 16 from by decide)) S1024x64 _ rfl rfl 576 rfl
    (ix2 k ⟨(c : ℕ) - 576, by omega⟩) (fun b hb => ?_) (by show 576 + ((c : ℕ) - 576) = (c : ℕ); omega)).trans ?_
  · match b, hb with
    | 0, _ => rfl
    | 1, hb => exact absurd rfl hb
  · pointwise <;>
    exact at2 w k _ _ (by unfold src; simp only; omega)

set_option maxHeartbeats 4000000 in
theorem q10 (w : FVec Ideal S1024x4896 .f32) (k : Fin 1024) (c : Fin 1024) (h : (c : ℕ) / 64 = 10) : QW w (ix2 k c) = 0 := by
  refine (concatenate_apply_piece (t := S1024x1024) 1 _ _ (ix2 k c) 10 (by exact (show 10 < 16 from by decide)) S1024x64 _ rfl rfl 640 rfl
    (ix2 k ⟨(c : ℕ) - 640, by omega⟩) (fun b hb => ?_) (by show 640 + ((c : ℕ) - 640) = (c : ℕ); omega)).trans ?_
  · match b, hb with
    | 0, _ => rfl
    | 1, hb => exact absurd rfl hb
  · pointwise

set_option maxHeartbeats 4000000 in
theorem q11 (w : FVec Ideal S1024x4896 .f32) (k : Fin 1024) (c : Fin 1024) (h : (c : ℕ) / 64 = 11) : QW w (ix2 k c) = w (ix2 k ⟨src c, by unfold src; omega⟩) := by
  refine (concatenate_apply_piece (t := S1024x1024) 1 _ _ (ix2 k c) 11 (by exact (show 11 < 16 from by decide)) S1024x64 _ rfl rfl 704 rfl
    (ix2 k ⟨(c : ℕ) - 704, by omega⟩) (fun b hb => ?_) (by show 704 + ((c : ℕ) - 704) = (c : ℕ); omega)).trans ?_
  · match b, hb with
    | 0, _ => rfl
    | 1, hb => exact absurd rfl hb
  · pointwise <;>
    exact at2 w k _ _ (by unfold src; simp only; omega)

set_option maxHeartbeats 4000000 in
theorem q12 (w : FVec Ideal S1024x4896 .f32) (k : Fin 1024) (c : Fin 1024) (h : (c : ℕ) / 64 = 12) : QW w (ix2 k c) = 0 := by
  refine (concatenate_apply_piece (t := S1024x1024) 1 _ _ (ix2 k c) 12 (by exact (show 12 < 16 from by decide)) S1024x64 _ rfl rfl 768 rfl
    (ix2 k ⟨(c : ℕ) - 768, by omega⟩) (fun b hb => ?_) (by show 768 + ((c : ℕ) - 768) = (c : ℕ); omega)).trans ?_
  · match b, hb with
    | 0, _ => rfl
    | 1, hb => exact absurd rfl hb
  · pointwise

set_option maxHeartbeats 4000000 in
theorem q13 (w : FVec Ideal S1024x4896 .f32) (k : Fin 1024) (c : Fin 1024) (h : (c : ℕ) / 64 = 13) : QW w (ix2 k c) = w (ix2 k ⟨src c, by unfold src; omega⟩) := by
  refine (concatenate_apply_piece (t := S1024x1024) 1 _ _ (ix2 k c) 13 (by exact (show 13 < 16 from by decide)) S1024x64 _ rfl rfl 832 rfl
    (ix2 k ⟨(c : ℕ) - 832, by omega⟩) (fun b hb => ?_) (by show 832 + ((c : ℕ) - 832) = (c : ℕ); omega)).trans ?_
  · match b, hb with
    | 0, _ => rfl
    | 1, hb => exact absurd rfl hb
  · pointwise <;>
    exact at2 w k _ _ (by unfold src; simp only; omega)

set_option maxHeartbeats 4000000 in
theorem q14 (w : FVec Ideal S1024x4896 .f32) (k : Fin 1024) (c : Fin 1024) (h : (c : ℕ) / 64 = 14) : QW w (ix2 k c) = 0 := by
  refine (concatenate_apply_piece (t := S1024x1024) 1 _ _ (ix2 k c) 14 (by exact (show 14 < 16 from by decide)) S1024x64 _ rfl rfl 896 rfl
    (ix2 k ⟨(c : ℕ) - 896, by omega⟩) (fun b hb => ?_) (by show 896 + ((c : ℕ) - 896) = (c : ℕ); omega)).trans ?_
  · match b, hb with
    | 0, _ => rfl
    | 1, hb => exact absurd rfl hb
  · pointwise

set_option maxHeartbeats 4000000 in
theorem q15 (w : FVec Ideal S1024x4896 .f32) (k : Fin 1024) (c : Fin 1024) (h : (c : ℕ) / 64 = 15) : QW w (ix2 k c) = w (ix2 k ⟨src c, by unfold src; omega⟩) := by
  refine (concatenate_apply_piece (t := S1024x1024) 1 _ _ (ix2 k c) 15 (by exact (show 15 < 16 from by decide)) S1024x64 _ rfl rfl 960 rfl
    (ix2 k ⟨(c : ℕ) - 960, by omega⟩) (fun b hb => ?_) (by show 960 + ((c : ℕ) - 960) = (c : ℕ); omega)).trans ?_
  · match b, hb with
    | 0, _ => rfl
    | 1, hb => exact absurd rfl hb
  · pointwise <;>
    exact at2 w k _ _ (by unfold src; simp only; omega)

theorem qw_own (w : FVec Ideal S1024x4896 .f32) (k : Fin 1024) (c : Fin 1024) (h : own c) :
    QW w (ix2 k c) = w (ix2 k ⟨src c, by unfold src; omega⟩) := by
  unfold own at h
  have hc : (c : ℕ) / 64 < 16 := by omega
  generalize hn : (c : ℕ) / 64 = n at hc
  interval_cases n
  · exact q0 w k c hn
  · omega
  · exact q2 w k c hn
  · omega
  · exact q4 w k c hn
  · omega
  · exact q6 w k c hn
  · omega
  · omega
  · exact q9 w k c hn
  · omega
  · exact q11 w k c hn
  · omega
  · exact q13 w k c hn
  · omega
  · exact q15 w k c hn

theorem qw_else (w : FVec Ideal S1024x4896 .f32) (k : Fin 1024) (c : Fin 1024) (h : ¬ own c) : QW w (ix2 k c) = 0 := by
  unfold own at h
  have hc : (c : ℕ) / 64 < 16 := by omega
  generalize hn : (c : ℕ) / 64 = n at hc
  interval_cases n
  · omega
  · exact q1 w k c hn
  · omega
  · exact q3 w k c hn
  · omega
  · exact q5 w k c hn
  · omega
  · exact q7 w k c hn
  · exact q8 w k c hn
  · omega
  · exact q10 w k c hn
  · omega
  · exact q12 w k c hn
  · omega
  · exact q14 w k c hn
  · omega

set_option maxHeartbeats 4000000 in
theorem r0 (w : FVec Ideal S1024x4896 .f32) (k : Fin 1024) (c : Fin 4480) (h : 0 ≤ (c : ℕ)) (h' : (c : ℕ) < 128) : RW w (ix2 k c) = w (ix2 k ⟨512 + c, by omega⟩) := by
  refine (concatenate_apply_piece (t := S1024x4480) 1 _ _ (ix2 k c) 0 (by exact (show 0 < 11 from by decide)) S1024x128 _ rfl rfl 0 rfl
    (ix2 k ⟨(c : ℕ) - 0, by omega⟩) (fun b hb => ?_) (by show 0 + ((c : ℕ) - 0) = (c : ℕ); omega)).trans ?_
  · match b, hb with
    | 0, _ => rfl
    | 1, hb => exact absurd rfl hb
  · pointwise <;>
    exact at2 w k _ _ (by simp only; omega)

set_option maxHeartbeats 4000000 in
theorem r1 (w : FVec Ideal S1024x4896 .f32) (k : Fin 1024) (c : Fin 4480) (h : 128 ≤ (c : ℕ)) (h' : (c : ℕ) < 256) : RW w (ix2 k c) = w (ix2 k ⟨512 + c, by omega⟩) := by
  refine (concatenate_apply_piece (t := S1024x4480) 1 _ _ (ix2 k c) 1 (by exact (show 1 < 11 from by decide)) S1024x128 _ rfl rfl 128 rfl
    (ix2 k ⟨(c : ℕ) - 128, by omega⟩) (fun b hb => ?_) (by show 128 + ((c : ℕ) - 128) = (c : ℕ); omega)).trans ?_
  · match b, hb with
    | 0, _ => rfl
    | 1, hb => exact absurd rfl hb
  · pointwise <;>
    exact at2 w k _ _ (by simp only; omega)

set_option maxHeartbeats 4000000 in
theorem r2 (w : FVec Ideal S1024x4896 .f32) (k : Fin 1024) (c : Fin 4480) (h : 256 ≤ (c : ℕ)) (h' : (c : ℕ) < 384) : RW w (ix2 k c) = w (ix2 k ⟨512 + c, by omega⟩) := by
  refine (concatenate_apply_piece (t := S1024x4480) 1 _ _ (ix2 k c) 2 (by exact (show 2 < 11 from by decide)) S1024x128 _ rfl rfl 256 rfl
    (ix2 k ⟨(c : ℕ) - 256, by omega⟩) (fun b hb => ?_) (by show 256 + ((c : ℕ) - 256) = (c : ℕ); omega)).trans ?_
  · match b, hb with
    | 0, _ => rfl
    | 1, hb => exact absurd rfl hb
  · pointwise <;>
    exact at2 w k _ _ (by simp only; omega)

set_option maxHeartbeats 4000000 in
theorem r3 (w : FVec Ideal S1024x4896 .f32) (k : Fin 1024) (c : Fin 4480) (h : 384 ≤ (c : ℕ)) (h' : (c : ℕ) < 512) : RW w (ix2 k c) = w (ix2 k ⟨512 + c, by omega⟩) := by
  refine (concatenate_apply_piece (t := S1024x4480) 1 _ _ (ix2 k c) 3 (by exact (show 3 < 11 from by decide)) S1024x128 _ rfl rfl 384 rfl
    (ix2 k ⟨(c : ℕ) - 384, by omega⟩) (fun b hb => ?_) (by show 384 + ((c : ℕ) - 384) = (c : ℕ); omega)).trans ?_
  · match b, hb with
    | 0, _ => rfl
    | 1, hb => exact absurd rfl hb
  · pointwise <;>
    exact at2 w k _ _ (by simp only; omega)

set_option maxHeartbeats 4000000 in
theorem r4 (w : FVec Ideal S1024x4896 .f32) (k : Fin 1024) (c : Fin 4480) (h : 512 ≤ (c : ℕ)) (h' : (c : ℕ) < 640) : RW w (ix2 k c) = w (ix2 k ⟨512 + c, by omega⟩) := by
  refine (concatenate_apply_piece (t := S1024x4480) 1 _ _ (ix2 k c) 4 (by exact (show 4 < 11 from by decide)) S1024x128 _ rfl rfl 512 rfl
    (ix2 k ⟨(c : ℕ) - 512, by omega⟩) (fun b hb => ?_) (by show 512 + ((c : ℕ) - 512) = (c : ℕ); omega)).trans ?_
  · match b, hb with
    | 0, _ => rfl
    | 1, hb => exact absurd rfl hb
  · pointwise <;>
    exact at2 w k _ _ (by simp only; omega)

set_option maxHeartbeats 4000000 in
theorem r5 (w : FVec Ideal S1024x4896 .f32) (k : Fin 1024) (c : Fin 4480) (h : 640 ≤ (c : ℕ)) (h' : (c : ℕ) < 768) : RW w (ix2 k c) = w (ix2 k ⟨512 + c, by omega⟩) := by
  refine (concatenate_apply_piece (t := S1024x4480) 1 _ _ (ix2 k c) 5 (by exact (show 5 < 11 from by decide)) S1024x128 _ rfl rfl 640 rfl
    (ix2 k ⟨(c : ℕ) - 640, by omega⟩) (fun b hb => ?_) (by show 640 + ((c : ℕ) - 640) = (c : ℕ); omega)).trans ?_
  · match b, hb with
    | 0, _ => rfl
    | 1, hb => exact absurd rfl hb
  · pointwise <;>
    exact at2 w k _ _ (by simp only; omega)

set_option maxHeartbeats 4000000 in
theorem r6 (w : FVec Ideal S1024x4896 .f32) (k : Fin 1024) (c : Fin 4480) (h : 768 ≤ (c : ℕ)) (h' : (c : ℕ) < 1280) : RW w (ix2 k c) = w (ix2 k ⟨536 + c, by omega⟩) := by
  refine (concatenate_apply_piece (t := S1024x4480) 1 _ _ (ix2 k c) 6 (by exact (show 6 < 11 from by decide)) S1024x512 _ rfl rfl 768 rfl
    (ix2 k ⟨(c : ℕ) - 768, by omega⟩) (fun b hb => ?_) (by show 768 + ((c : ℕ) - 768) = (c : ℕ); omega)).trans ?_
  · match b, hb with
    | 0, _ => rfl
    | 1, hb => exact absurd rfl hb
  · pointwise <;>
    exact at2 w k _ _ (by simp only; omega)

set_option maxHeartbeats 4000000 in
theorem r7 (w : FVec Ideal S1024x4896 .f32) (k : Fin 1024) (c : Fin 4480) (h : 1280 ≤ (c : ℕ)) (h' : (c : ℕ) < 1792) : RW w (ix2 k c) = w (ix2 k ⟨536 + c, by omega⟩) := by
  refine (concatenate_apply_piece (t := S1024x4480) 1 _ _ (ix2 k c) 7 (by exact (show 7 < 11 from by decide)) S1024x512 _ rfl rfl 1280 rfl
    (ix2 k ⟨(c : ℕ) - 1280, by omega⟩) (fun b hb => ?_) (by show 1280 + ((c : ℕ) - 1280) = (c : ℕ); omega)).trans ?_
  · match b, hb with
    | 0, _ => rfl
    | 1, hb => exact absurd rfl hb
  · pointwise <;>
    exact at2 w k _ _ (by simp only; omega)

set_option maxHeartbeats 4000000 in
theorem r8 (w : FVec Ideal S1024x4896 .f32) (k : Fin 1024) (c : Fin 4480) (h : 1792 ≤ (c : ℕ)) (h' : (c : ℕ) < 2304) : RW w (ix2 k c) = w (ix2 k ⟨544 + c, by omega⟩) := by
  refine (concatenate_apply_piece (t := S1024x4480) 1 _ _ (ix2 k c) 8 (by exact (show 8 < 11 from by decide)) S1024x512 _ rfl rfl 1792 rfl
    (ix2 k ⟨(c : ℕ) - 1792, by omega⟩) (fun b hb => ?_) (by show 1792 + ((c : ℕ) - 1792) = (c : ℕ); omega)).trans ?_
  · match b, hb with
    | 0, _ => rfl
    | 1, hb => exact absurd rfl hb
  · pointwise <;>
    exact at2 w k _ _ (by simp only; omega)

set_option maxHeartbeats 4000000 in
theorem r9 (w : FVec Ideal S1024x4896 .f32) (k : Fin 1024) (c : Fin 4480) (h : 2304 ≤ (c : ℕ)) (h' : (c : ℕ) < 4352) : RW w (ix2 k c) = w (ix2 k ⟨544 + c, by omega⟩) := by
  refine (concatenate_apply_piece (t := S1024x4480) 1 _ _ (ix2 k c) 9 (by exact (show 9 < 11 from by decide)) S1024x2048 _ rfl rfl 2304 rfl
    (ix2 k ⟨(c : ℕ) - 2304, by omega⟩) (fun b hb => ?_) (by show 2304 + ((c : ℕ) - 2304) = (c : ℕ); omega)).trans ?_
  · match b, hb with
    | 0, _ => rfl
    | 1, hb => exact absurd rfl hb
  · pointwise <;>
    exact at2 w k _ _ (by simp only; omega)

set_option maxHeartbeats 4000000 in
theorem r10 (w : FVec Ideal S1024x4896 .f32) (k : Fin 1024) (c : Fin 4480) (h : 4352 ≤ (c : ℕ)) (h' : (c : ℕ) < 4480) : RW w (ix2 k c) = GW w (ix2 k ⟨(c : ℕ) - 4352, by omega⟩) := by
  refine (concatenate_apply_piece (t := S1024x4480) 1 _ _ (ix2 k c) 10 (by exact (show 10 < 11 from by decide)) S1024x128 _ rfl rfl 4352 rfl
    (ix2 k ⟨(c : ℕ) - 4352, by omega⟩) (fun b hb => ?_) (by show 4352 + ((c : ℕ) - 4352) = (c : ℕ); omega)).trans ?_
  · match b, hb with
    | 0, _ => rfl
    | 1, hb => exact absurd rfl hb
  · rfl

theorem rw_kv (w : FVec Ideal S1024x4896 .f32) (k : Fin 1024) (c : Fin 4480) (h : (c : ℕ) < 768) : RW w (ix2 k c) = w (ix2 k ⟨512 + c, by omega⟩) := by
  have hc : (c : ℕ) / 128 < 6 := by omega
  generalize hn : (c : ℕ) / 128 = n at hc
  interval_cases n
  · exact r0 w k c (by omega) (by omega)
  · exact r1 w k c (by omega) (by omega)
  · exact r2 w k c (by omega) (by omega)
  · exact r3 w k c (by omega) (by omega)
  · exact r4 w k c (by omega) (by omega)
  · exact r5 w k c (by omega) (by omega)

theorem w_q (w : FVec Ideal S1024x4896 .f32) (k : Fin 1024) (c : Fin 5504) (h : (c : ℕ) < 1024) : W w (ix2 k c) = QW w (ix2 k ⟨c, h⟩) := by
  pointwise [W]
  exact dif_pos h

theorem w_r (w : FVec Ideal S1024x4896 .f32) (k : Fin 1024) (c : Fin 5504) (h : 1024 ≤ (c : ℕ)) : W w (ix2 k c) = RW w (ix2 k ⟨(c : ℕ) - 1024, by omega⟩) := by
  pointwise [W]
  exact dif_neg (by omega)

end Cert.Kernel4Ideal.Proj

end
-- ==== Proof.ProjEntry.lean ====
/- What the host leaves in the projection's weight and norm weight. -/
module

public import proofs.«01_k».proof.Proof.Gen.Kernel4Ideal.Value
public import Idealize.ShloMosaic.Lib.Claim
public import Idealize.ShloMosaic.Lib.StableHlo.RunRead
public import Idealize.ShloMosaic.Lib.Pointwise
public import Idealize.ShloMosaic.Lib.Pipeline.ValueKit
public import proofs.«01_k».proof.Proof.ProjWeight

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen Cert.Rows Cert.Columns

variable (m : (ℓ : Loc nD τ sig) → Buf (Elt Ideal) ℓ)

set_option maxRecDepth 100000 in
set_option maxHeartbeats 4000000 in
theorem entryW (c : Dev nD) : V m c main_v27 = W (m ((c : Thread nD τ).loc main_arg2)) := by
  unfold V
  after_reads_simp
  rfl

theorem entryG (c : Dev nD) : V m c main_v28 = shapeCast S1x1024 (m ((c : Thread nD τ).loc main_arg1)) shapeCasts_S1024_S1x1024 := by
  entry_read
  rfl

end Cert.Kernel4Ideal.Proj

end
-- ==== Proof.ProjBlocks.lean ====
/- What the projection's kernel stores, read row by row. -/
module

public import proofs.«01_k».proof.Proof.Gen.Kernel4Ideal.Value
public import Idealize.ShloMosaic.Lib.Pointwise
public import Idealize.ShloMosaic.Lib.Pipeline.ValueKit
public import Idealize.ShloMosaic.Lib.Claim
public import proofs.«01_k».proof.Proof.ProjEntry

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen Cert.Rows Cert.Columns

/-- The normalized rows of a block. -/
theorem pay2_at (x : Vec Ideal S512x1024 .f32) (g : Vec Ideal S1x1024 .f32) (r : Fin 512) (k : Fin 1024) :
    k0_pay2 (F := Ideal) x g (ix2 r k) = rms (fun j => x (ix2 r j)) (fun j => g (ix2 0 j)) k := by
  pointwise [k0_pay2]
  rfl

/-- The queries, scaled. -/
theorem pay3_at (x : Vec Ideal S512x1024 .f32) (g : Vec Ideal S1x1024 .f32) (wv : Vec Ideal S1024x1024 .bf16) (r : Fin 512) (d : Fin 1024) :
    k0_pay3 (F := Ideal) x g wv (ix2 r d) = proj (fun j => x (ix2 r j)) (fun j => g (ix2 0 j)) (fun k => wv (ix2 k d)) * eighth := by
  pointwise [k0_pay3]
  simp only [pay2_at]
  rfl

/-- The keys and values of the attention, in one product. -/
theorem pay4_at (x : Vec Ideal S512x1024 .f32) (g : Vec Ideal S1x1024 .f32) (wv : Vec Ideal S1024x768 .bf16) (r : Fin 512) (d : Fin 768) :
    k0_pay4 (F := Ideal) x g wv (ix2 r d) = proj (fun j => x (ix2 r j)) (fun j => g (ix2 0 j)) (fun k => wv (ix2 k d)) := by
  pointwise [k0_pay4]
  simp only [pay2_at]
  rfl

theorem pay5_at (x : Vec Ideal S512x1024 .f32) (g : Vec Ideal S1x1024 .f32) (wv : Vec Ideal S1024x768 .bf16) (r : Fin 512) (d : Fin 768) :
    k0_pay5 (F := Ideal) x g wv (ix2 r d) = proj (fun j => x (ix2 r j)) (fun j => g (ix2 0 j)) (fun k => wv (ix2 k d)) := by
  pointwise [k0_pay5]
  exact pay4_at x g wv r d

theorem pay6_at (x : Vec Ideal S512x1024 .f32) (g : Vec Ideal S1x1024 .f32) (wv : Vec Ideal S1024x768 .bf16) (r : Fin 512) (d : Fin 128) :
    k0_pay6 (F := Ideal) x g wv (ix2 r d) = proj (fun j => x (ix2 r j)) (fun j => g (ix2 0 j)) (fun k => wv (ix2 k ⟨(d : ℕ), by omega⟩)) := by
  pointwise [k0_pay6]
  exact pay4_at x g wv r _

theorem pay7_at (x : Vec Ideal S512x1024 .f32) (g : Vec Ideal S1x1024 .f32) (wv : Vec Ideal S1024x768 .bf16) (r : Fin 512) (d : Fin 128) :
    k0_pay7 (F := Ideal) x g wv (ix2 r d) = proj (fun j => x (ix2 r j)) (fun j => g (ix2 0 j)) (fun k => wv (ix2 k ⟨128 + d, by omega⟩)) := by
  pointwise [k0_pay7]
  exact pay4_at x g wv r _

theorem pay8_at (x : Vec Ideal S512x1024 .f32) (g : Vec Ideal S1x1024 .f32) (wv : Vec Ideal S1024x768 .bf16) (r : Fin 512) (d : Fin 128) :
    k0_pay8 (F := Ideal) x g wv (ix2 r d) = proj (fun j => x (ix2 r j)) (fun j => g (ix2 0 j)) (fun k => wv (ix2 k ⟨256 + d, by omega⟩)) := by
  pointwise [k0_pay8]
  exact pay4_at x g wv r _

theorem pay9_at (x : Vec Ideal S512x1024 .f32) (g : Vec Ideal S1x1024 .f32) (wv : Vec Ideal S1024x768 .bf16) (r : Fin 512) (d : Fin 128) :
    k0_pay9 (F := Ideal) (k0_pay4 x g wv) (ix2 r d) = proj (fun j => x (ix2 r j)) (fun j => g (ix2 0 j)) (fun k => wv (ix2 k ⟨384 + d, by omega⟩)) := by
  pointwise [k0_pay9]
  exact pay4_at x g wv r _

theorem pay10_at (x : Vec Ideal S512x1024 .f32) (g : Vec Ideal S1x1024 .f32) (wv : Vec Ideal S1024x768 .bf16) (r : Fin 512) (d : Fin 128) :
    k0_pay10 (F := Ideal) (k0_pay4 x g wv) (ix2 r d) = proj (fun j => x (ix2 r j)) (fun j => g (ix2 0 j)) (fun k => wv (ix2 k ⟨512 + d, by omega⟩)) := by
  pointwise [k0_pay10]
  exact pay4_at x g wv r _

theorem pay11_at (x : Vec Ideal S512x1024 .f32) (g : Vec Ideal S1x1024 .f32) (wv : Vec Ideal S1024x768 .bf16) (r : Fin 512) (d : Fin 128) :
    k0_pay11 (F := Ideal) (k0_pay4 x g wv) (ix2 r d) = proj (fun j => x (ix2 r j)) (fun j => g (ix2 0 j)) (fun k => wv (ix2 k ⟨640 + d, by omega⟩)) := by
  pointwise [k0_pay11]
  exact pay4_at x g wv r _

theorem pay12_at (x : Vec Ideal S512x1024 .f32) (g : Vec Ideal S1x1024 .f32) (wv : Vec Ideal S1024x512 .bf16) (r : Fin 512) (d : Fin 512) :
    k0_pay12 (F := Ideal) (k0_pay2 x g) wv (ix2 r d) = proj (fun j => x (ix2 r j)) (fun j => g (ix2 0 j)) (fun k => wv (ix2 k d)) := by
  pointwise [k0_pay12]
  simp only [pay2_at]
  rfl

theorem pay13_at (x : Vec Ideal S512x1024 .f32) (g : Vec Ideal S1x1024 .f32) (wv : Vec Ideal S1024x512 .bf16) (r : Fin 512) (d : Fin 512) :
    k0_pay13 (F := Ideal) (k0_pay2 x g) wv (ix2 r d) = proj (fun j => x (ix2 r j)) (fun j => g (ix2 0 j)) (fun k => wv (ix2 k d)) := by
  pointwise [k0_pay13]
  simp only [pay2_at]
  rfl

theorem pay14_at (x : Vec Ideal S512x1024 .f32) (g : Vec Ideal S1x1024 .f32) (wv : Vec Ideal S1024x512 .bf16) (r : Fin 512) (d : Fin 512) :
    k0_pay14 (F := Ideal) (k0_pay2 x g) wv (ix2 r d) = proj (fun j => x (ix2 r j)) (fun j => g (ix2 0 j)) (fun k => wv (ix2 k d)) := by
  pointwise [k0_pay14]
  simp only [pay2_at]
  rfl

theorem pay15_at (x : Vec Ideal S512x1024 .f32) (g : Vec Ideal S1x1024 .f32) (wv : Vec Ideal S1024x2048 .bf16) (r : Fin 512) (d : Fin 2048) :
    k0_pay15 (F := Ideal) (k0_pay2 x g) wv (ix2 r d) = proj (fun j => x (ix2 r j)) (fun j => g (ix2 0 j)) (fun k => wv (ix2 k d)) := by
  pointwise [k0_pay15]
  simp only [pay2_at]
  rfl

theorem pay1_at (x : Vec Ideal S512x1024 .f32) (g : Vec Ideal S1x1024 .f32) (wv : Vec Ideal S1024x128 .bf16) (r : Fin 512) (d : Fin 128) :
    k0_pay1 (F := Ideal) (k0_pay2 x g) wv (ix2 r d) = proj (fun j => x (ix2 r j)) (fun j => g (ix2 0 j)) (fun k => wv (ix2 k d)) := by
  pointwise [k0_pay1]
  simp only [pay2_at]
  rfl

theorem ld2 (w : Vec Ideal S1024x5504 .bf16) (k : Fin 1024) (d : Fin 1024) : View.ld w r0_2 (ix2 k d) = w (ix2 k ⟨(d : ℕ), by omega⟩) := by
  refine congrArg w (?_ : r0_2.idx (ix2 k d) = ix2 k ⟨(d : ℕ), by omega⟩)
  rw [eq_ix2 (r0_2.idx (ix2 k d))]
  have e0 : r0_2.idx (ix2 k d) 0 = k := Fin.ext (by show 0 + 1 * (k : ℕ) = (k : ℕ); omega)
  have e1 : r0_2.idx (ix2 k d) 1 = (⟨(d : ℕ), by omega⟩ : Fin 5504) := Fin.ext (by show 0 + 1 * (d : ℕ) = (d : ℕ); omega)
  rw [e0, e1]

theorem ld3 (w : Vec Ideal S1024x5504 .bf16) (k : Fin 1024) (d : Fin 768) : View.ld w r0_3 (ix2 k d) = w (ix2 k ⟨1024 + d, by omega⟩) := by
  refine congrArg w (?_ : r0_3.idx (ix2 k d) = ix2 k ⟨1024 + d, by omega⟩)
  rw [eq_ix2 (r0_3.idx (ix2 k d))]
  have e0 : r0_3.idx (ix2 k d) 0 = k := Fin.ext (by show 0 + 1 * (k : ℕ) = (k : ℕ); omega)
  have e1 : r0_3.idx (ix2 k d) 1 = (⟨1024 + d, by omega⟩ : Fin 5504) := Fin.ext (by show 1024 + 1 * (d : ℕ) = 1024 + d; omega)
  rw [e0, e1]

theorem ld6 (w : Vec Ideal S1024x5504 .bf16) (k : Fin 1024) (d : Fin 512) : View.ld w r0_6 (ix2 k d) = w (ix2 k ⟨1792 + d, by omega⟩) := by
  refine congrArg w (?_ : r0_6.idx (ix2 k d) = ix2 k ⟨1792 + d, by omega⟩)
  rw [eq_ix2 (r0_6.idx (ix2 k d))]
  have e0 : r0_6.idx (ix2 k d) 0 = k := Fin.ext (by show 0 + 1 * (k : ℕ) = (k : ℕ); omega)
  have e1 : r0_6.idx (ix2 k d) 1 = (⟨1792 + d, by omega⟩ : Fin 5504) := Fin.ext (by show 1792 + 1 * (d : ℕ) = 1792 + d; omega)
  rw [e0, e1]

theorem ld8 (w : Vec Ideal S1024x5504 .bf16) (k : Fin 1024) (d : Fin 512) : View.ld w r0_8 (ix2 k d) = w (ix2 k ⟨2304 + d, by omega⟩) := by
  refine congrArg w (?_ : r0_8.idx (ix2 k d) = ix2 k ⟨2304 + d, by omega⟩)
  rw [eq_ix2 (r0_8.idx (ix2 k d))]
  have e0 : r0_8.idx (ix2 k d) 0 = k := Fin.ext (by show 0 + 1 * (k : ℕ) = (k : ℕ); omega)
  have e1 : r0_8.idx (ix2 k d) 1 = (⟨2304 + d, by omega⟩ : Fin 5504) := Fin.ext (by show 2304 + 1 * (d : ℕ) = 2304 + d; omega)
  rw [e0, e1]

theorem ld9 (w : Vec Ideal S1024x5504 .bf16) (k : Fin 1024) (d : Fin 512) : View.ld w r0_9 (ix2 k d) = w (ix2 k ⟨2816 + d, by omega⟩) := by
  refine congrArg w (?_ : r0_9.idx (ix2 k d) = ix2 k ⟨2816 + d, by omega⟩)
  rw [eq_ix2 (r0_9.idx (ix2 k d))]
  have e0 : r0_9.idx (ix2 k d) 0 = k := Fin.ext (by show 0 + 1 * (k : ℕ) = (k : ℕ); omega)
  have e1 : r0_9.idx (ix2 k d) 1 = (⟨2816 + d, by omega⟩ : Fin 5504) := Fin.ext (by show 2816 + 1 * (d : ℕ) = 2816 + d; omega)
  rw [e0, e1]

theorem ld10 (w : Vec Ideal S1024x5504 .bf16) (k : Fin 1024) (d : Fin 2048) : View.ld w r0_10 (ix2 k d) = w (ix2 k ⟨3328 + d, by omega⟩) := by
  refine congrArg w (?_ : r0_10.idx (ix2 k d) = ix2 k ⟨3328 + d, by omega⟩)
  rw [eq_ix2 (r0_10.idx (ix2 k d))]
  have e0 : r0_10.idx (ix2 k d) 0 = k := Fin.ext (by show 0 + 1 * (k : ℕ) = (k : ℕ); omega)
  have e1 : r0_10.idx (ix2 k d) 1 = (⟨3328 + d, by omega⟩ : Fin 5504) := Fin.ext (by show 3328 + 1 * (d : ℕ) = 3328 + d; omega)
  rw [e0, e1]

theorem ld12 (w : Vec Ideal S1024x5504 .bf16) (k : Fin 1024) (d : Fin 128) : View.ld w r0_12 (ix2 k d) = w (ix2 k ⟨5376 + d, by omega⟩) := by
  refine congrArg w (?_ : r0_12.idx (ix2 k d) = ix2 k ⟨5376 + d, by omega⟩)
  rw [eq_ix2 (r0_12.idx (ix2 k d))]
  have e0 : r0_12.idx (ix2 k d) 0 = k := Fin.ext (by show 0 + 1 * (k : ℕ) = (k : ℕ); omega)
  have e1 : r0_12.idx (ix2 k d) 1 = (⟨5376 + d, by omega⟩ : Fin 5504) := Fin.ext (by show 5376 + 1 * (d : ℕ) = 5376 + d; omega)
  rw [e0, e1]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0] :=
  (by decide +kernel : ∀ t : Fin grid0.N, _)

theorem blkX (c : Dev nD) (t : Fin cfg0.N) (r : Fin 512) (R : Fin 16384) (hR : (R : ℕ) = t.val * 512 + r) (j : Fin 1024) :
    iblk m c 0 t (ix2 r j) = m ((c : Thread nD τ).loc main_arg0) (ix2 R j) := by
  have i0 := (idx t).1
  blk_ext [iblk, V, i0]

theorem blkG (c : Dev nD) (t : Fin cfg0.N) (j : Fin 1024) :
    iblk m c 1 t (ix2 (0 : Fin 1) j) = m ((c : Thread nD τ).loc main_arg1) (ix1 j) := by
  have i1 := (idx t).2.1
  blk_simp [iblk, i1]
  rw [entryG]
  pointwise
  blk_ext [i1]

theorem blkW (c : Dev nD) (t : Fin cfg0.N) (k : Fin 1024) (j : Fin 5504) :
    iblk m c 2 t (ix2 k j) = W (m ((c : Thread nD τ).loc main_arg2)) (ix2 k j) := by
  have i2 := (idx t).2.2.1
  blk_simp [iblk, i2]
  rw [entryW]
  blk_ext [i2]

end Cert.Kernel4Ideal.Proj

end
-- ==== Proof.ProjKernel.lean ====
/- The arrays the projection's kernel leaves. -/
module

public import proofs.«01_k».proof.Proof.Gen.Kernel4Ideal.Value
public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.ProjBlocks

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen Cert.Rows Cert.Columns

theorem ld0 (x : Vec Ideal S512x1024 .f32) : View.ld x r0_0 = x := by
  funext i
  exact congrArg x (funext fun a => Fin.ext (by
    match a with
    | 0 => show 0 + 1 * (i 0 : ℕ) = (i 0 : ℕ); omega
    | 1 => show 0 + 1 * (i 1 : ℕ) = (i 1 : ℕ); omega))

theorem ld1 (x : Vec Ideal S1x1024 .f32) : View.ld x r0_1 = x := by
  funext i
  exact congrArg x (funext fun a => Fin.ext (by
    match a with
    | 0 => show 0 + 1 * (i 0 : ℕ) = (i 0 : ℕ); omega
    | 1 => show 0 + 1 * (i 1 : ℕ) = (i 1 : ℕ); omega))

theorem pay16_eq (x : Vec Ideal S512x1024 .f32) (g : Vec Ideal S1x1024 .f32) (w : Vec Ideal S1024x5504 .bf16) : k0_pay16 x g w = k0_pay2 x g := by
  unfold k0_pay16
  rw [ld0, ld1]

theorem pay17_eq (x : Vec Ideal S512x1024 .f32) (g : Vec Ideal S1x1024 .f32) (w : Vec Ideal S1024x5504 .bf16) :
    k0_pay17 x g w = k0_pay4 x g (View.ld w r0_3) := by
  unfold k0_pay17
  rw [ld0, ld1]

/-- One column of the projection of one row of the argument. -/
def cell (x : FVec Ideal S16384x1024 .f32) (g : FVec Ideal S1024 .f32) (w : FVec Ideal S1024x4896 .f32) (R : Fin 16384) (c : Fin 4896) : EReal :=
  proj (fun j => x (ix2 R j)) (fun j => g (ix1 j)) (fun k => w (ix2 k c))

theorem cell_congr (x : FVec Ideal S16384x1024 .f32) (g : FVec Ideal S1024 .f32) (w : FVec Ideal S1024x4896 .f32) (R : Fin 16384) (c c' : Fin 4896)
    (h : (c : ℕ) = c') : cell x g w R c = cell x g w R c' := by
  rw [Fin.ext h]

/-- A run of columns. -/
def C (n off : ℕ) (h : off + n ≤ 4896) (x : FVec Ideal S16384x1024 .f32) (g : FVec Ideal S1024 .f32) (w : FVec Ideal S1024x4896 .f32) :
    (⟨2, ![16384, n]⟩ : Shape).Idx → EReal := fun i =>
  cell x g w (i 0) ⟨off + (i 1 : ℕ), by have : (i 1 : ℕ) < n := (i 1).isLt; omega⟩

/-- The queries, each in the lanes its head owns. -/
def CQ (x : FVec Ideal S16384x1024 .f32) (g : FVec Ideal S1024 .f32) (w : FVec Ideal S1024x4896 .f32) : FVec Ideal S16384x1024 .bf16 := fun i =>
  if own (i 1) then cell x g w (i 0) ⟨src (i 1), by have : (i 1 : ℕ) < 1024 := (i 1).isLt; unfold src; omega⟩ * eighth else 0

/-- The gates, and nothing behind them. -/
def CS (x : FVec Ideal S16384x1024 .f32) (g : FVec Ideal S1024 .f32) (w : FVec Ideal S1024x4896 .f32) : FVec Ideal S16384x128 .f32 := fun i =>
  if h : (i 1 : ℕ) < 32 then cell x g w (i 0) ⟨small ⟨(i 1 : ℕ), h⟩, by unfold small; split <;> omega⟩ else 0

variable (m : (ℓ : Loc nD τ sig) → Buf (Elt Ideal) ℓ)

/-- A row of a block against a column of the weight. -/
theorem row (c : Dev nD) (t : Fin cfg0.N) (r : Fin 512) (R : Fin 16384) (hR : (R : ℕ) = t.val * 512 + r) (wcol : Fin 1024 → EReal) (d : Fin 4896)
    (hw : ∀ k, wcol k = m ((c : Thread nD τ).loc main_arg2) (ix2 k d)) :
    proj (fun j => iblk m c 0 t (ix2 r j)) (fun j => iblk m c 1 t (ix2 (0 : Fin 1) j)) wcol
      = cell (m ((c : Thread nD τ).loc main_arg0)) (m ((c : Thread nD τ).loc main_arg1)) (m ((c : Thread nD τ).loc main_arg2)) R d := by
  unfold cell
  rw [show (fun j => iblk m c 0 t (ix2 r j)) = (fun j => m ((c : Thread nD τ).loc main_arg0) (ix2 R j)) from funext fun j => blkX m c t r R hR j,
    show (fun j => iblk m c 1 t (ix2 (0 : Fin 1) j)) = (fun j => m ((c : Thread nD τ).loc main_arg1) (ix1 j)) from funext fun j => blkG m c t j,
    show wcol = (fun k => m ((c : Thread nD τ).loc main_arg2) (ix2 k d)) from funext hw]

theorem val3 (c : Dev nD) (t : Fin cfg0.N) (r : Fin 512) (R : Fin 16384) (hR : (R : ℕ) = t.val * 512 + r) (d : Fin 1024) :
    k0_pay3 (F := Ideal) (iblk m c 0 t) (iblk m c 1 t) (View.ld (iblk m c 2 t) r0_2) (ix2 r d)
      = CQ (m ((c : Thread nD τ).loc main_arg0)) (m ((c : Thread nD τ).loc main_arg1)) (m ((c : Thread nD τ).loc main_arg2)) (ix2 R d) := by
  refine (pay3_at _ _ _ r d).trans ?_
  by_cases ho : own d
  · refine Eq.trans ?_ (if_pos ho).symm
    refine congrArg (· * eighth) (row m c t r R hR _ ⟨src d, by unfold src; omega⟩ fun k => ?_)
    exact (ld2 _ k d).trans ((blkW m c t k _).trans ((w_q _ k _ (by show (d : ℕ) < 1024; omega)).trans (qw_own _ k d ho)))
  · refine Eq.trans ?_ (if_neg ho).symm
    have hz : (fun k => View.ld (iblk m c 2 t) r0_2 (ix2 k d)) = fun _ => (0 : EReal) := funext fun k =>
      (ld2 _ k d).trans ((blkW m c t k _).trans ((w_q _ k _ (by show (d : ℕ) < 1024; omega)).trans (qw_else _ k d ho)))
    refine (congrArg (fun z => proj _ _ z * eighth) hz).trans ?_
    rw [proj_zero, zero_mul]

theorem final3 (c : Dev nD) : (dats m 0 c).arrAt 3 (cfgs 0).N
    = (CQ
        (m ((c : Thread nD τ).loc main_arg0)) (m ((c : Thread nD τ).loc main_arg1)) (m ((c : Thread nD τ).loc main_arg2)) : FVec Ideal S16384x1024 .bf16) := by
  refine (dats m 0 c).arrAt_eq_of_covers 3 _ (by decide +kernel) fun t hf y => ?_
  blk_simp
  rw [after0_3]
  frame_out
  try simp only [pay16_eq, pay17_eq, ld0, ld1]
  have ht : t.val < 32 := lt_of_lt_of_eq t.isLt N_0
  have iW := (idx t).2.2.2.1
  have hy : (y 0 : ℕ) < 512 := (y 0).isLt
  have ey : y = (ix2 (y 0) (y 1) : S512x1024.Idx) := eq_ix2 y
  have eo : (((View.whole main_v29_0).slice (win0_3.rect t)).emb y) = (ix2 ⟨t.val * 512 + (y 0 : ℕ), by omega⟩ (y 1) : S16384x1024.Idx) := by
    blk_ext [iW]
  rw [eo]
  exact (congrArg _ ey).trans (val3 m c t (y 0) _ rfl (y 1))

theorem val15 (c : Dev nD) (t : Fin cfg0.N) (r : Fin 512) (R : Fin 16384) (hR : (R : ℕ) = t.val * 512 + r) (d : Fin 128) :
    k0_pay1 (F := Ideal) (k0_pay2 (iblk m c 0 t) (iblk m c 1 t)) (View.ld (iblk m c 2 t) r0_12) (ix2 r d)
      = CS (m ((c : Thread nD τ).loc main_arg0)) (m ((c : Thread nD τ).loc main_arg1)) (m ((c : Thread nD τ).loc main_arg2)) (ix2 R d) := by
  refine (pay1_at _ _ _ r d).trans ?_
  have hc (k : Fin 1024) : View.ld (iblk m c 2 t) r0_12 (ix2 k d) = GW (m ((c : Thread nD τ).loc main_arg2)) (ix2 k d) :=
    (ld12 _ k d).trans ((blkW m c t k _).trans ((w_r _ k _ (by show 1024 ≤ 5376 + (d : ℕ); omega)).trans
      ((r10 _ k _ (by show 4352 ≤ 5376 + (d : ℕ) - 1024; omega) (by show 5376 + (d : ℕ) - 1024 < 4480; omega)).trans
        (at2 _ k _ _ (by show 5376 + (d : ℕ) - 1024 - 4352 = (d : ℕ); omega)))))
  by_cases ho : (d : ℕ) < 32
  · refine Eq.trans ?_ (dif_pos ho).symm
    refine row m c t r R hR _ ⟨small ⟨d, ho⟩, by unfold small; split <;> omega⟩ fun k => ?_
    exact (hc k).trans ((gw_at _ k d).trans (dif_pos ho))
  · refine Eq.trans ?_ (dif_neg ho).symm
    have hz : (fun k => View.ld (iblk m c 2 t) r0_12 (ix2 k d)) = fun _ => (0 : EReal) := funext fun k =>
      (hc k).trans ((gw_at _ k d).trans (dif_neg ho))
    refine (congrArg (fun z => proj _ _ z) hz).trans ?_
    rw [proj_zero]

theorem final15 (c : Dev nD) : (dats m 0 c).arrAt 15 (cfgs 0).N
    = (CS
        (m ((c : Thread nD τ).loc main_arg0)) (m ((c : Thread nD τ).loc main_arg1)) (m ((c : Thread nD τ).loc main_arg2)) : FVec Ideal S16384x128 .f32) := by
  refine (dats m 0 c).arrAt_eq_of_covers 15 _ (by decide +kernel) fun t hf y => ?_
  blk_simp
  rw [after0_15]
  frame_out
  try simp only [pay16_eq, pay17_eq, ld0, ld1]
  have ht : t.val < 32 := lt_of_lt_of_eq t.isLt N_0
  have iW := (idx t).2.2.2.2.2.2.2.2.2.2.2.2.2.2.2
  have hy : (y 0 : ℕ) < 512 := (y 0).isLt
  have ey : y = (ix2 (y 0) (y 1) : S512x128.Idx) := eq_ix2 y
  have eo : (((View.whole main_v29_12).slice (win0_15.rect t)).emb y) = (ix2 ⟨t.val * 512 + (y 0 : ℕ), by omega⟩ (y 1) : S16384x128.Idx) := by
    blk_ext [iW]
  rw [eo]
  exact (congrArg _ ey).trans (val15 m c t (y 0) _ rfl (y 1))

theorem val4 (c : Dev nD) (t : Fin cfg0.N) (r : Fin 512) (R : Fin 16384) (hR : (R : ℕ) = t.val * 512 + r) (d : Fin 768) :
    k0_pay5 (F := Ideal) (iblk m c 0 t) (iblk m c 1 t) (View.ld (iblk m c 2 t) r0_3) (ix2 r d)
      = C 768 512 (by decide) (m ((c : Thread nD τ).loc main_arg0)) (m ((c : Thread nD τ).loc main_arg1)) (m ((c : Thread nD τ).loc main_arg2)) (ix2 R d) := by
  have hn : (d : ℕ) < 768 := d.isLt
  refine (pay5_at _ _ _ r d).trans ?_
  refine row m c t r R hR _ ⟨512 + (d : ℕ), by omega⟩ fun k => ?_
  refine (ld3 _ k _).trans ((blkW m c t k _).trans ((w_r _ k _ (by show 1024 ≤ 1024 + (d : ℕ); omega)).trans ((rw_kv _ k _ (by show 1024 + (d : ℕ) - 1024 < 768; omega)).trans ?_)))
  exact at2 _ k _ _ (by show 512 + (1024 + (d : ℕ) - 1024) = 512 + (d : ℕ); omega)

theorem final4 (c : Dev nD) : (dats m 0 c).arrAt 4 (cfgs 0).N
    = (C 768 512 (by decide)
        (m ((c : Thread nD τ).loc main_arg0)) (m ((c : Thread nD τ).loc main_arg1)) (m ((c : Thread nD τ).loc main_arg2)) : FVec Ideal S16384x768 .bf16) := by
  refine (dats m 0 c).arrAt_eq_of_covers 4 _ (by decide +kernel) fun t hf y => ?_
  blk_simp
  rw [after0_4]
  frame_out
  try simp only [pay16_eq, pay17_eq, ld0, ld1]
  have ht : t.val < 32 := lt_of_lt_of_eq t.isLt N_0
  have iW := (idx t).2.2.2.2.1
  have hy : (y 0 : ℕ) < 512 := (y 0).isLt
  have ey : y = (ix2 (y 0) (y 1) : S512x768.Idx) := eq_ix2 y
  have eo : (((View.whole main_v29_1).slice (win0_4.rect t)).emb y) = (ix2 ⟨t.val * 512 + (y 0 : ℕ), by omega⟩ (y 1) : S16384x768.Idx) := by
    blk_ext [iW]
  rw [eo]
  exact (congrArg _ ey).trans (val4 m c t (y 0) _ rfl (y 1))

theorem val5 (c : Dev nD) (t : Fin cfg0.N) (r : Fin 512) (R : Fin 16384) (hR : (R : ℕ) = t.val * 512 + r) (d : Fin 128) :
    k0_pay6 (F := Ideal) (iblk m c 0 t) (iblk m c 1 t) (View.ld (iblk m c 2 t) r0_3) (ix2 r d)
      = C 128 512 (by decide) (m ((c : Thread nD τ).loc main_arg0)) (m ((c : Thread nD τ).loc main_arg1)) (m ((c : Thread nD τ).loc main_arg2)) (ix2 R d) := by
  have hn : (d : ℕ) < 128 := d.isLt
  refine (pay6_at _ _ _ r d).trans ?_
  refine row m c t r R hR _ ⟨512 + (d : ℕ), by omega⟩ fun k => ?_
  refine (ld3 _ k _).trans ((blkW m c t k _).trans ((w_r _ k _ (by show 1024 ≤ 1024 + (d : ℕ); omega)).trans ((rw_kv _ k _ (by show 1024 + (d : ℕ) - 1024 < 768; omega)).trans ?_)))
  exact at2 _ k _ _ (by show 512 + (1024 + (d : ℕ) - 1024) = 512 + (d : ℕ); omega)

theorem final5 (c : Dev nD) : (dats m 0 c).arrAt 5 (cfgs 0).N
    = (C 128 512 (by decide)
        (m ((c : Thread nD τ).loc main_arg0)) (m ((c : Thread nD τ).loc main_arg1)) (m ((c : Thread nD τ).loc main_arg2)) : FVec Ideal S16384x128 .f32) := by
  refine (dats m 0 c).arrAt_eq_of_covers 5 _ (by decide +kernel) fun t hf y => ?_
  blk_simp
  rw [after0_5]
  frame_out
  try simp only [pay16_eq, pay17_eq, ld0, ld1]
  have ht : t.val < 32 := lt_of_lt_of_eq t.isLt N_0
  have iW := (idx t).2.2.2.2.2.1
  have hy : (y 0 : ℕ) < 512 := (y 0).isLt
  have ey : y = (ix2 (y 0) (y 1) : S512x128.Idx) := eq_ix2 y
  have eo : (((View.whole main_v29_2).slice (win0_5.rect t)).emb y) = (ix2 ⟨t.val * 512 + (y 0 : ℕ), by omega⟩ (y 1) : S16384x128.Idx) := by
    blk_ext [iW]
  rw [eo]
  exact (congrArg _ ey).trans (val5 m c t (y 0) _ rfl (y 1))

theorem val6 (c : Dev nD) (t : Fin cfg0.N) (r : Fin 512) (R : Fin 16384) (hR : (R : ℕ) = t.val * 512 + r) (d : Fin 128) :
    k0_pay7 (F := Ideal) (iblk m c 0 t) (iblk m c 1 t) (View.ld (iblk m c 2 t) r0_3) (ix2 r d)
      = C 128 640 (by decide) (m ((c : Thread nD τ).loc main_arg0)) (m ((c : Thread nD τ).loc main_arg1)) (m ((c : Thread nD τ).loc main_arg2)) (ix2 R d) := by
  have hn : (d : ℕ) < 128 := d.isLt
  refine (pay7_at _ _ _ r d).trans ?_
  refine row m c t r R hR _ ⟨640 + (d : ℕ), by omega⟩ fun k => ?_
  refine (ld3 _ k _).trans ((blkW m c t k _).trans ((w_r _ k _ (by show 1024 ≤ 1024 + (128 + (d : ℕ)); omega)).trans ((rw_kv _ k _ (by show 1024 + (128 + (d : ℕ)) - 1024 < 768; omega)).trans ?_)))
  exact at2 _ k _ _ (by show 512 + (1024 + (128 + (d : ℕ)) - 1024) = 640 + (d : ℕ); omega)

theorem final6 (c : Dev nD) : (dats m 0 c).arrAt 6 (cfgs 0).N
    = (C 128 640 (by decide)
        (m ((c : Thread nD τ).loc main_arg0)) (m ((c : Thread nD τ).loc main_arg1)) (m ((c : Thread nD τ).loc main_arg2)) : FVec Ideal S16384x128 .f32) := by
  refine (dats m 0 c).arrAt_eq_of_covers 6 _ (by decide +kernel) fun t hf y => ?_
  blk_simp
  rw [after0_6]
  frame_out
  try simp only [pay16_eq, pay17_eq, ld0, ld1]
  have ht : t.val < 32 := lt_of_lt_of_eq t.isLt N_0
  have iW := (idx t).2.2.2.2.2.2.1
  have hy : (y 0 : ℕ) < 512 := (y 0).isLt
  have ey : y = (ix2 (y 0) (y 1) : S512x128.Idx) := eq_ix2 y
  have eo : (((View.whole main_v29_3).slice (win0_6.rect t)).emb y) = (ix2 ⟨t.val * 512 + (y 0 : ℕ), by omega⟩ (y 1) : S16384x128.Idx) := by
    blk_ext [iW]
  rw [eo]
  exact (congrArg _ ey).trans (val6 m c t (y 0) _ rfl (y 1))

theorem val7 (c : Dev nD) (t : Fin cfg0.N) (r : Fin 512) (R : Fin 16384) (hR : (R : ℕ) = t.val * 512 + r) (d : Fin 128) :
    k0_pay8 (F := Ideal) (iblk m c 0 t) (iblk m c 1 t) (View.ld (iblk m c 2 t) r0_3) (ix2 r d)
      = C 128 768 (by decide) (m ((c : Thread nD τ).loc main_arg0)) (m ((c : Thread nD τ).loc main_arg1)) (m ((c : Thread nD τ).loc main_arg2)) (ix2 R d) := by
  have hn : (d : ℕ) < 128 := d.isLt
  refine (pay8_at _ _ _ r d).trans ?_
  refine row m c t r R hR _ ⟨768 + (d : ℕ), by omega⟩ fun k => ?_
  refine (ld3 _ k _).trans ((blkW m c t k _).trans ((w_r _ k _ (by show 1024 ≤ 1024 + (256 + (d : ℕ)); omega)).trans ((rw_kv _ k _ (by show 1024 + (256 + (d : ℕ)) - 1024 < 768; omega)).trans ?_)))
  exact at2 _ k _ _ (by show 512 + (1024 + (256 + (d : ℕ)) - 1024) = 768 + (d : ℕ); omega)

theorem final7 (c : Dev nD) : (dats m 0 c).arrAt 7 (cfgs 0).N
    = (C 128 768 (by decide)
        (m ((c : Thread nD τ).loc main_arg0)) (m ((c : Thread nD τ).loc main_arg1)) (m ((c : Thread nD τ).loc main_arg2)) : FVec Ideal S16384x128 .f32) := by
  refine (dats m 0 c).arrAt_eq_of_covers 7 _ (by decide +kernel) fun t hf y => ?_
  blk_simp
  rw [after0_7]
  frame_out
  try simp only [pay16_eq, pay17_eq, ld0, ld1]
  have ht : t.val < 32 := lt_of_lt_of_eq t.isLt N_0
  have iW := (idx t).2.2.2.2.2.2.2.1
  have hy : (y 0 : ℕ) < 512 := (y 0).isLt
  have ey : y = (ix2 (y 0) (y 1) : S512x128.Idx) := eq_ix2 y
  have eo : (((View.whole main_v29_4).slice (win0_7.rect t)).emb y) = (ix2 ⟨t.val * 512 + (y 0 : ℕ), by omega⟩ (y 1) : S16384x128.Idx) := by
    blk_ext [iW]
  rw [eo]
  exact (congrArg _ ey).trans (val7 m c t (y 0) _ rfl (y 1))

theorem val8 (c : Dev nD) (t : Fin cfg0.N) (r : Fin 512) (R : Fin 16384) (hR : (R : ℕ) = t.val * 512 + r) (d : Fin 128) :
    k0_pay9 (F := Ideal) (k0_pay4 (iblk m c 0 t) (iblk m c 1 t) (View.ld (iblk m c 2 t) r0_3)) (ix2 r d)
      = C 128 896 (by decide) (m ((c : Thread nD τ).loc main_arg0)) (m ((c : Thread nD τ).loc main_arg1)) (m ((c : Thread nD τ).loc main_arg2)) (ix2 R d) := by
  have hn : (d : ℕ) < 128 := d.isLt
  refine (pay9_at _ _ _ r d).trans ?_
  refine row m c t r R hR _ ⟨896 + (d : ℕ), by omega⟩ fun k => ?_
  refine (ld3 _ k _).trans ((blkW m c t k _).trans ((w_r _ k _ (by show 1024 ≤ 1024 + (384 + (d : ℕ)); omega)).trans ((rw_kv _ k _ (by show 1024 + (384 + (d : ℕ)) - 1024 < 768; omega)).trans ?_)))
  exact at2 _ k _ _ (by show 512 + (1024 + (384 + (d : ℕ)) - 1024) = 896 + (d : ℕ); omega)

theorem final8 (c : Dev nD) : (dats m 0 c).arrAt 8 (cfgs 0).N
    = (C 128 896 (by decide)
        (m ((c : Thread nD τ).loc main_arg0)) (m ((c : Thread nD τ).loc main_arg1)) (m ((c : Thread nD τ).loc main_arg2)) : FVec Ideal S16384x128 .f32) := by
  refine (dats m 0 c).arrAt_eq_of_covers 8 _ (by decide +kernel) fun t hf y => ?_
  blk_simp
  rw [after0_8]
  frame_out
  try simp only [pay16_eq, pay17_eq, ld0, ld1]
  have ht : t.val < 32 := lt_of_lt_of_eq t.isLt N_0
  have iW := (idx t).2.2.2.2.2.2.2.2.1
  have hy : (y 0 : ℕ) < 512 := (y 0).isLt
  have ey : y = (ix2 (y 0) (y 1) : S512x128.Idx) := eq_ix2 y
  have eo : (((View.whole main_v29_5).slice (win0_8.rect t)).emb y) = (ix2 ⟨t.val * 512 + (y 0 : ℕ), by omega⟩ (y 1) : S16384x128.Idx) := by
    blk_ext [iW]
  rw [eo]
  exact (congrArg _ ey).trans (val8 m c t (y 0) _ rfl (y 1))

theorem val9 (c : Dev nD) (t : Fin cfg0.N) (r : Fin 512) (R : Fin 16384) (hR : (R : ℕ) = t.val * 512 + r) (d : Fin 128) :
    k0_pay10 (F := Ideal) (k0_pay4 (iblk m c 0 t) (iblk m c 1 t) (View.ld (iblk m c 2 t) r0_3)) (ix2 r d)
      = C 128 1024 (by decide) (m ((c : Thread nD τ).loc main_arg0)) (m ((c : Thread nD τ).loc main_arg1)) (m ((c : Thread nD τ).loc main_arg2)) (ix2 R d) := by
  have hn : (d : ℕ) < 128 := d.isLt
  refine (pay10_at _ _ _ r d).trans ?_
  refine row m c t r R hR _ ⟨1024 + (d : ℕ), by omega⟩ fun k => ?_
  refine (ld3 _ k _).trans ((blkW m c t k _).trans ((w_r _ k _ (by show 1024 ≤ 1024 + (512 + (d : ℕ)); omega)).trans ((rw_kv _ k _ (by show 1024 + (512 + (d : ℕ)) - 1024 < 768; omega)).trans ?_)))
  exact at2 _ k _ _ (by show 512 + (1024 + (512 + (d : ℕ)) - 1024) = 1024 + (d : ℕ); omega)

theorem final9 (c : Dev nD) : (dats m 0 c).arrAt 9 (cfgs 0).N
    = (C 128 1024 (by decide)
        (m ((c : Thread nD τ).loc main_arg0)) (m ((c : Thread nD τ).loc main_arg1)) (m ((c : Thread nD τ).loc main_arg2)) : FVec Ideal S16384x128 .f32) := by
  refine (dats m 0 c).arrAt_eq_of_covers 9 _ (by decide +kernel) fun t hf y => ?_
  blk_simp
  rw [after0_9]
  frame_out
  try simp only [pay16_eq, pay17_eq, ld0, ld1]
  have ht : t.val < 32 := lt_of_lt_of_eq t.isLt N_0
  have iW := (idx t).2.2.2.2.2.2.2.2.2.1
  have hy : (y 0 : ℕ) < 512 := (y 0).isLt
  have ey : y = (ix2 (y 0) (y 1) : S512x128.Idx) := eq_ix2 y
  have eo : (((View.whole main_v29_6).slice (win0_9.rect t)).emb y) = (ix2 ⟨t.val * 512 + (y 0 : ℕ), by omega⟩ (y 1) : S16384x128.Idx) := by
    blk_ext [iW]
  rw [eo]
  exact (congrArg _ ey).trans (val9 m c t (y 0) _ rfl (y 1))

theorem val10 (c : Dev nD) (t : Fin cfg0.N) (r : Fin 512) (R : Fin 16384) (hR : (R : ℕ) = t.val * 512 + r) (d : Fin 128) :
    k0_pay11 (F := Ideal) (k0_pay4 (iblk m c 0 t) (iblk m c 1 t) (View.ld (iblk m c 2 t) r0_3)) (ix2 r d)
      = C 128 1152 (by decide) (m ((c : Thread nD τ).loc main_arg0)) (m ((c : Thread nD τ).loc main_arg1)) (m ((c : Thread nD τ).loc main_arg2)) (ix2 R d) := by
  have hn : (d : ℕ) < 128 := d.isLt
  refine (pay11_at _ _ _ r d).trans ?_
  refine row m c t r R hR _ ⟨1152 + (d : ℕ), by omega⟩ fun k => ?_
  refine (ld3 _ k _).trans ((blkW m c t k _).trans ((w_r _ k _ (by show 1024 ≤ 1024 + (640 + (d : ℕ)); omega)).trans ((rw_kv _ k _ (by show 1024 + (640 + (d : ℕ)) - 1024 < 768; omega)).trans ?_)))
  exact at2 _ k _ _ (by show 512 + (1024 + (640 + (d : ℕ)) - 1024) = 1152 + (d : ℕ); omega)

theorem final10 (c : Dev nD) : (dats m 0 c).arrAt 10 (cfgs 0).N
    = (C 128 1152 (by decide)
        (m ((c : Thread nD τ).loc main_arg0)) (m ((c : Thread nD τ).loc main_arg1)) (m ((c : Thread nD τ).loc main_arg2)) : FVec Ideal S16384x128 .f32) := by
  refine (dats m 0 c).arrAt_eq_of_covers 10 _ (by decide +kernel) fun t hf y => ?_
  blk_simp
  rw [after0_10]
  frame_out
  try simp only [pay16_eq, pay17_eq, ld0, ld1]
  have ht : t.val < 32 := lt_of_lt_of_eq t.isLt N_0
  have iW := (idx t).2.2.2.2.2.2.2.2.2.2.1
  have hy : (y 0 : ℕ) < 512 := (y 0).isLt
  have ey : y = (ix2 (y 0) (y 1) : S512x128.Idx) := eq_ix2 y
  have eo : (((View.whole main_v29_7).slice (win0_10.rect t)).emb y) = (ix2 ⟨t.val * 512 + (y 0 : ℕ), by omega⟩ (y 1) : S16384x128.Idx) := by
    blk_ext [iW]
  rw [eo]
  exact (congrArg _ ey).trans (val10 m c t (y 0) _ rfl (y 1))

theorem val11 (c : Dev nD) (t : Fin cfg0.N) (r : Fin 512) (R : Fin 16384) (hR : (R : ℕ) = t.val * 512 + r) (d : Fin 512) :
    k0_pay12 (F := Ideal) (k0_pay2 (iblk m c 0 t) (iblk m c 1 t)) (View.ld (iblk m c 2 t) r0_6) (ix2 r d)
      = C 512 1304 (by decide) (m ((c : Thread nD τ).loc main_arg0)) (m ((c : Thread nD τ).loc main_arg1)) (m ((c : Thread nD τ).loc main_arg2)) (ix2 R d) := by
  have hn : (d : ℕ) < 512 := d.isLt
  refine (pay12_at _ _ _ r d).trans ?_
  refine row m c t r R hR _ ⟨1304 + (d : ℕ), by omega⟩ fun k => ?_
  refine (ld6 _ k _).trans ((blkW m c t k _).trans ((w_r _ k _ (by show 1024 ≤ 1792 + (d : ℕ); omega)).trans ((r6 _ k _ (by show 768 ≤ 1792 + (d : ℕ) - 1024; omega) (by show 1792 + (d : ℕ) - 1024 < 1280; omega)).trans ?_)))
  exact at2 _ k _ _ (by show 536 + (1792 + (d : ℕ) - 1024) = 1304 + (d : ℕ); omega)

theorem final11 (c : Dev nD) : (dats m 0 c).arrAt 11 (cfgs 0).N
    = (C 512 1304 (by decide)
        (m ((c : Thread nD τ).loc main_arg0)) (m ((c : Thread nD τ).loc main_arg1)) (m ((c : Thread nD τ).loc main_arg2)) : FVec Ideal S16384x512 .f32) := by
  refine (dats m 0 c).arrAt_eq_of_covers 11 _ (by decide +kernel) fun t hf y => ?_
  blk_simp
  rw [after0_11]
  frame_out
  try simp only [pay16_eq, pay17_eq, ld0, ld1]
  have ht : t.val < 32 := lt_of_lt_of_eq t.isLt N_0
  have iW := (idx t).2.2.2.2.2.2.2.2.2.2.2.1
  have hy : (y 0 : ℕ) < 512 := (y 0).isLt
  have ey : y = (ix2 (y 0) (y 1) : S512x512.Idx) := eq_ix2 y
  have eo : (((View.whole main_v29_8).slice (win0_11.rect t)).emb y) = (ix2 ⟨t.val * 512 + (y 0 : ℕ), by omega⟩ (y 1) : S16384x512.Idx) := by
    blk_ext [iW]
  rw [eo]
  exact (congrArg _ ey).trans (val11 m c t (y 0) _ rfl (y 1))

theorem val12 (c : Dev nD) (t : Fin cfg0.N) (r : Fin 512) (R : Fin 16384) (hR : (R : ℕ) = t.val * 512 + r) (d : Fin 512) :
    k0_pay13 (F := Ideal) (k0_pay2 (iblk m c 0 t) (iblk m c 1 t)) (View.ld (iblk m c 2 t) r0_8) (ix2 r d)
      = C 512 1816 (by decide) (m ((c : Thread nD τ).loc main_arg0)) (m ((c : Thread nD τ).loc main_arg1)) (m ((c : Thread nD τ).loc main_arg2)) (ix2 R d) := by
  have hn : (d : ℕ) < 512 := d.isLt
  refine (pay13_at _ _ _ r d).trans ?_
  refine row m c t r R hR _ ⟨1816 + (d : ℕ), by omega⟩ fun k => ?_
  refine (ld8 _ k _).trans ((blkW m c t k _).trans ((w_r _ k _ (by show 1024 ≤ 2304 + (d : ℕ); omega)).trans ((r7 _ k _ (by show 1280 ≤ 2304 + (d : ℕ) - 1024; omega) (by show 2304 + (d : ℕ) - 1024 < 1792; omega)).trans ?_)))
  exact at2 _ k _ _ (by show 536 + (2304 + (d : ℕ) - 1024) = 1816 + (d : ℕ); omega)

theorem final12 (c : Dev nD) : (dats m 0 c).arrAt 12 (cfgs 0).N
    = (C 512 1816 (by decide)
        (m ((c : Thread nD τ).loc main_arg0)) (m ((c : Thread nD τ).loc main_arg1)) (m ((c : Thread nD τ).loc main_arg2)) : FVec Ideal S16384x512 .f32) := by
  refine (dats m 0 c).arrAt_eq_of_covers 12 _ (by decide +kernel) fun t hf y => ?_
  blk_simp
  rw [after0_12]
  frame_out
  try simp only [pay16_eq, pay17_eq, ld0, ld1]
  have ht : t.val < 32 := lt_of_lt_of_eq t.isLt N_0
  have iW := (idx t).2.2.2.2.2.2.2.2.2.2.2.2.1
  have hy : (y 0 : ℕ) < 512 := (y 0).isLt
  have ey : y = (ix2 (y 0) (y 1) : S512x512.Idx) := eq_ix2 y
  have eo : (((View.whole main_v29_9).slice (win0_12.rect t)).emb y) = (ix2 ⟨t.val * 512 + (y 0 : ℕ), by omega⟩ (y 1) : S16384x512.Idx) := by
    blk_ext [iW]
  rw [eo]
  exact (congrArg _ ey).trans (val12 m c t (y 0) _ rfl (y 1))

theorem val13 (c : Dev nD) (t : Fin cfg0.N) (r : Fin 512) (R : Fin 16384) (hR : (R : ℕ) = t.val * 512 + r) (d : Fin 512) :
    k0_pay14 (F := Ideal) (k0_pay2 (iblk m c 0 t) (iblk m c 1 t)) (View.ld (iblk m c 2 t) r0_9) (ix2 r d)
      = C 512 2336 (by decide) (m ((c : Thread nD τ).loc main_arg0)) (m ((c : Thread nD τ).loc main_arg1)) (m ((c : Thread nD τ).loc main_arg2)) (ix2 R d) := by
  have hn : (d : ℕ) < 512 := d.isLt
  refine (pay14_at _ _ _ r d).trans ?_
  refine row m c t r R hR _ ⟨2336 + (d : ℕ), by omega⟩ fun k => ?_
  refine (ld9 _ k _).trans ((blkW m c t k _).trans ((w_r _ k _ (by show 1024 ≤ 2816 + (d : ℕ); omega)).trans ((r8 _ k _ (by show 1792 ≤ 2816 + (d : ℕ) - 1024; omega) (by show 2816 + (d : ℕ) - 1024 < 2304; omega)).trans ?_)))
  exact at2 _ k _ _ (by show 544 + (2816 + (d : ℕ) - 1024) = 2336 + (d : ℕ); omega)

theorem final13 (c : Dev nD) : (dats m 0 c).arrAt 13 (cfgs 0).N
    = (C 512 2336 (by decide)
        (m ((c : Thread nD τ).loc main_arg0)) (m ((c : Thread nD τ).loc main_arg1)) (m ((c : Thread nD τ).loc main_arg2)) : FVec Ideal S16384x512 .f32) := by
  refine (dats m 0 c).arrAt_eq_of_covers 13 _ (by decide +kernel) fun t hf y => ?_
  blk_simp
  rw [after0_13]
  frame_out
  try simp only [pay16_eq, pay17_eq, ld0, ld1]
  have ht : t.val < 32 := lt_of_lt_of_eq t.isLt N_0
  have iW := (idx t).2.2.2.2.2.2.2.2.2.2.2.2.2.1
  have hy : (y 0 : ℕ) < 512 := (y 0).isLt
  have ey : y = (ix2 (y 0) (y 1) : S512x512.Idx) := eq_ix2 y
  have eo : (((View.whole main_v29_10).slice (win0_13.rect t)).emb y) = (ix2 ⟨t.val * 512 + (y 0 : ℕ), by omega⟩ (y 1) : S16384x512.Idx) := by
    blk_ext [iW]
  rw [eo]
  exact (congrArg _ ey).trans (val13 m c t (y 0) _ rfl (y 1))

theorem val14 (c : Dev nD) (t : Fin cfg0.N) (r : Fin 512) (R : Fin 16384) (hR : (R : ℕ) = t.val * 512 + r) (d : Fin 2048) :
    k0_pay15 (F := Ideal) (k0_pay2 (iblk m c 0 t) (iblk m c 1 t)) (View.ld (iblk m c 2 t) r0_10) (ix2 r d)
      = C 2048 2848 (by decide) (m ((c : Thread nD τ).loc main_arg0)) (m ((c : Thread nD τ).loc main_arg1)) (m ((c : Thread nD τ).loc main_arg2)) (ix2 R d) := by
  have hn : (d : ℕ) < 2048 := d.isLt
  refine (pay15_at _ _ _ r d).trans ?_
  refine row m c t r R hR _ ⟨2848 + (d : ℕ), by omega⟩ fun k => ?_
  refine (ld10 _ k _).trans ((blkW m c t k _).trans ((w_r _ k _ (by show 1024 ≤ 3328 + (d : ℕ); omega)).trans ((r9 _ k _ (by show 2304 ≤ 3328 + (d : ℕ) - 1024; omega) (by show 3328 + (d : ℕ) - 1024 < 4352; omega)).trans ?_)))
  exact at2 _ k _ _ (by show 544 + (3328 + (d : ℕ) - 1024) = 2848 + (d : ℕ); omega)

theorem final14 (c : Dev nD) : (dats m 0 c).arrAt 14 (cfgs 0).N
    = (C 2048 2848 (by decide)
        (m ((c : Thread nD τ).loc main_arg0)) (m ((c : Thread nD τ).loc main_arg1)) (m ((c : Thread nD τ).loc main_arg2)) : FVec Ideal S16384x2048 .f32) := by
  refine (dats m 0 c).arrAt_eq_of_covers 14 _ (by decide +kernel) fun t hf y => ?_
  blk_simp
  rw [after0_14]
  frame_out
  try simp only [pay16_eq, pay17_eq, ld0, ld1]
  have ht : t.val < 32 := lt_of_lt_of_eq t.isLt N_0
  have iW := (idx t).2.2.2.2.2.2.2.2.2.2.2.2.2.2.1
  have hy : (y 0 : ℕ) < 512 := (y 0).isLt
  have ey : y = (ix2 (y 0) (y 1) : S512x2048.Idx) := eq_ix2 y
  have eo : (((View.whole main_v29_11).slice (win0_14.rect t)).emb y) = (ix2 ⟨t.val * 512 + (y 0 : ℕ), by omega⟩ (y 1) : S16384x2048.Idx) := by
    blk_ext [iW]
  rw [eo]
  exact (congrArg _ ey).trans (val14 m c t (y 0) _ rfl (y 1))

end Cert.Kernel4Ideal.Proj

end
-- ==== Proof.ProjReference.lean ====
/- The reference of the projection, read column by column. -/
module

public import proofs.«01_k».proof.Proof.Gen.Reference4Ideal.Run
public import Idealize.ShloMosaic.Lib.Pointwise
public import proofs.«01_k».proof.Proof.Columns

@[expose] public section

set_option maxRecDepth 16384

noncomputable section

open Idealize.ShloMosaic Idealize.ShloMosaic.TcCoe Idealize.SL.Sem

namespace Cert.Reference4Ideal.Proj

open Cert.Reference4Ideal Cert.Reference4Ideal.Gen Cert.Rows Cert.Columns

/-- The normalized rows. -/
def HN (x : FVec Ideal S16384x1024 .f32) (g : FVec Ideal S1024 .f32) : FVec Ideal S16384x1024 .f32 :=
  (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

/-- The projection, all its columns. -/
def ZZ (h : FVec Ideal S16384x1024 .f32) (w : FVec Ideal S1024x4896 .f32) : FVec Ideal S16384x4896 .f32 :=
  (Host.dotGeneral dot_S16384x1024_S1024x4896_S16384x4896_1_0_0_1_n_n none h w)

/-- The scaled queries. -/
def QS (z : FVec Ideal S16384x4896 .f32) : FVec Ideal S16384x8x64 .f32 :=
  (mulf (shapeCast _ (extractStridedSlice S16384x512 ![0, 0] z slices_S16384x4896_S16384x512_0_0) shapeCasts_S16384x512_S16384x8x64) (broadcastInDim S16384x8x64 ![] bcast_S_S16384x8x64 (constant S_ .f32 0x3E000000#32)))

/-- The scaled queries, each head in the lanes of its own group. -/
def Q (z : FVec Ideal S16384x4896 .f32) : FVec Ideal S16384x1024 .bf16 :=
  truncf .bf16 (shapeCast _ (concatenate S16384x8x128 1 [⟨S16384x4x128, (concatenate S16384x4x128 2 [⟨S16384x4x64, (extractStridedSlice S16384x4x64 ![0, 0, 0] (QS z) slices_S16384x8x64_S16384x4x64_0_0_0)⟩, ⟨S16384x4x64, (broadcastInDim S16384x4x64 ![] bcast_S_S16384x4x64 (constant S_ .f32 0x00000000#32))⟩] concatenates_S16384x4x64_S16384x4x64_S16384x4x128_d2)⟩, ⟨S16384x4x128, (concatenate S16384x4x128 2 [⟨S16384x4x64, (broadcastInDim S16384x4x64 ![] bcast_S_S16384x4x64 (constant S_ .f32 0x00000000#32))⟩, ⟨S16384x4x64, (extractStridedSlice S16384x4x64 ![0, 4, 0] (QS z) slices_S16384x8x64_S16384x4x64_0_4_0)⟩] concatenates_S16384x4x64_S16384x4x64_S16384x4x128_d2)⟩] concatenates_S16384x4x128_S16384x4x128_S16384x8x128_d1) shapeCasts_S16384x8x128_S16384x1024) bitsLt_bf16_f32

/-- Keys and values, cast. -/
def KV (z : FVec Ideal S16384x4896 .f32) : FVec Ideal S16384x768 .bf16 :=
  truncf .bf16 ((concatenate S16384x768 1 [⟨S16384x128, ((extractStridedSlice S16384x128 ![0, 512] z slices_S16384x4896_S16384x128_0_512) : FVec Ideal S16384x128 .f32)⟩, ⟨S16384x128, ((extractStridedSlice S16384x128 ![0, 640] z slices_S16384x4896_S16384x128_0_640) : FVec Ideal S16384x128 .f32)⟩, ⟨S16384x128, ((extractStridedSlice S16384x128 ![0, 768] z slices_S16384x4896_S16384x128_0_768) : FVec Ideal S16384x128 .f32)⟩, ⟨S16384x128, ((extractStridedSlice S16384x128 ![0, 896] z slices_S16384x4896_S16384x128_0_896) : FVec Ideal S16384x128 .f32)⟩, ⟨S16384x128, ((extractStridedSlice S16384x128 ![0, 1024] z slices_S16384x4896_S16384x128_0_1024) : FVec Ideal S16384x128 .f32)⟩, ⟨S16384x128, ((extractStridedSlice S16384x128 ![0, 1152] z slices_S16384x4896_S16384x128_0_1152) : FVec Ideal S16384x128 .f32)⟩] concatenates_S16384x128_S16384x128_S16384x128_S16384x128_S16384x128_S16384x128_S16384x768_d1 : FVec Ideal S16384x768 .f32)) bitsLt_bf16_f32

/-- The gates of both branches. -/
def SMALL (z : FVec Ideal S16384x4896 .f32) : FVec Ideal S16384x128 .f32 :=
  (concatenate S16384x128 1 [⟨S16384x24, ((extractStridedSlice S16384x24 ![0, 1280] z slices_S16384x4896_S16384x24_0_1280) : FVec Ideal S16384x24 .f32)⟩, ⟨S16384x8, ((extractStridedSlice S16384x8 ![0, 2328] z slices_S16384x4896_S16384x8_0_2328) : FVec Ideal S16384x8 .f32)⟩, ⟨S16384x96, ((broadcastInDim S16384x96 ![] bcast_S_S16384x96 (constant S_ .f32 0x00000000#32)) : FVec Ideal S16384x96 .f32)⟩] concatenates_S16384x24_S16384x8_S16384x96_S16384x128_d1 : FVec Ideal S16384x128 .f32)

theorem hn_at (x : FVec Ideal S16384x1024 .f32) (g : FVec Ideal S1024 .f32) (r : Fin 16384) (k : Fin 1024) :
    HN x g (ix2 r k) = rms (fun j => x (ix2 r j)) (fun j => g (ix1 j)) k := by
  pointwise [HN]
  rfl

theorem zz_at (x : FVec Ideal S16384x1024 .f32) (g : FVec Ideal S1024 .f32) (w : FVec Ideal S1024x4896 .f32) (r : Fin 16384) (c : Fin 4896) :
    ZZ (HN x g) w (ix2 r c) = proj (fun j => x (ix2 r j)) (fun j => g (ix1 j)) (fun k => w (ix2 k c)) := by
  have e : ZZ (HN x g) w (ix2 r c) = ∑ k, HN x g (ix2 r k) * w (ix2 k c) := by
    pointwise [ZZ]
  rw [e]
  simp only [hn_at]
  rfl

theorem qs_at (z : FVec Ideal S16384x4896 .f32) (r : Fin 16384) (h : Fin 8) (l : Fin 64) :
    QS z (ix3 r h l) = z (ix2 r ⟨(h : ℕ) * 64 + l, by omega⟩) * eighth := by
  pointwise [QS]
  rfl

theorem q_at (z : FVec Ideal S16384x4896 .f32) (r : Fin 16384) (c : Fin 1024) :
    Q z (ix2 r c) = if own c then z (ix2 r ⟨src c, by unfold src; omega⟩) * eighth else 0 := by
  pointwise [Q]
  simp only [qs_at]
  by_cases ho : own c
  · refine Eq.trans ?_ (if_pos ho).symm
    unfold own at ho
    split_ifs <;> first | omega | exact congrArg (fun y : EReal => y * eighth) (at2 z r _ _ (by unfold src; simp only; omega))
  · refine Eq.trans ?_ (if_neg ho).symm
    unfold own at ho
    split_ifs <;> first | omega | rfl

theorem kv_at (z : FVec Ideal S16384x4896 .f32) (r : Fin 16384) (c : Fin 768) :
    KV z (ix2 r c) = z (ix2 r ⟨512 + c, by omega⟩) := by
  pointwise [KV]
  split_ifs <;> exact at2 z r _ _ (by show _ + _ = _ + _; omega)

theorem small_at (z : FVec Ideal S16384x4896 .f32) (r : Fin 16384) (c : Fin 128) :
    SMALL z (ix2 r c) = if h : (c : ℕ) < 32 then z (ix2 r ⟨small ⟨c, h⟩, by unfold small; split <;> omega⟩) else 0 := by
  pointwise [SMALL]
  by_cases h : (c : ℕ) < 32
  · rw [dif_pos h]
    split_ifs with h1 h2 <;> first | omega | exact at2 z r _ _ (by unfold small; simp only; split <;> omega)
  · rw [dif_neg h]
    split_ifs <;> first | omega | rfl

end Cert.Reference4Ideal.Proj

end
-- ==== Proof.ProjEquation.lean ====
/- The projection: the kernel's run against the reference's. -/
module

public import proofs.«01_k».proof.Defs
public import proofs.«01_k».proof.Proof.Gen.Kernel4.Frame
public import proofs.«01_k».proof.Proof.ProjKernel
public import proofs.«01_k».proof.Proof.ProjReference

@[expose] public section

set_option maxRecDepth 16384

noncomputable section

namespace Cert.ProjEquation

open Idealize.ShloMosaic Idealize.ShloMosaic.TcCoe Idealize.SL.Sem
open Cert.Reference4Ideal Cert.Reference4Ideal.Proj
open Cert.Reference4Ideal.Gen

theorem eq3 (x : FVec Ideal S16384x1024 .f32) (g : FVec Ideal S1024 .f32) (w : FVec Ideal S1024x4896 .f32) : Q (ZZ (HN x g) w) = Cert.Kernel4Ideal.Proj.CQ x g w := by
  funext i
  have ei : i = (ix2 (i 0) (i 1) : S16384x1024.Idx) := eq_ix2 i
  rw [ei]
  refine (q_at _ (i 0) (i 1)).trans ?_
  exact if_congr Iff.rfl (congrArg (· * Cert.Columns.eighth) (zz_at x g w (i 0) _)) rfl

theorem eq4 (x : FVec Ideal S16384x1024 .f32) (g : FVec Ideal S1024 .f32) (w : FVec Ideal S1024x4896 .f32) : KV (ZZ (HN x g) w) = Cert.Kernel4Ideal.Proj.C 768 512 (by decide) x g w := by
  funext i
  have ei : i = (ix2 (i 0) (i 1) : S16384x768.Idx) := eq_ix2 i
  rw [ei]
  exact (kv_at _ (i 0) (i 1)).trans (zz_at x g w (i 0) _)

theorem eq15 (x : FVec Ideal S16384x1024 .f32) (g : FVec Ideal S1024 .f32) (w : FVec Ideal S1024x4896 .f32) : SMALL (ZZ (HN x g) w) = Cert.Kernel4Ideal.Proj.CS x g w := by
  funext i
  have ei : i = (ix2 (i 0) (i 1) : S16384x128.Idx) := eq_ix2 i
  rw [ei]
  refine (small_at _ (i 0) (i 1)).trans ?_
  exact dite_congr rfl (fun h => zz_at x g w (i 0) _) fun _ => rfl

theorem eq5 (x : FVec Ideal S16384x1024 .f32) (g : FVec Ideal S1024 .f32) (w : FVec Ideal S1024x4896 .f32) :
    extractStridedSlice S16384x128 ![0, 512] (ZZ (HN x g) w) slices_S16384x4896_S16384x128_0_512 = Cert.Kernel4Ideal.Proj.C 128 512 (by decide) x g w := by
  funext i
  have ei : i = (ix2 (i 0) (i 1) : S16384x128.Idx) := eq_ix2 i
  rw [ei]
  pointwise
  exact zz_at x g w (i 0) _

theorem eq6 (x : FVec Ideal S16384x1024 .f32) (g : FVec Ideal S1024 .f32) (w : FVec Ideal S1024x4896 .f32) :
    extractStridedSlice S16384x128 ![0, 640] (ZZ (HN x g) w) slices_S16384x4896_S16384x128_0_640 = Cert.Kernel4Ideal.Proj.C 128 640 (by decide) x g w := by
  funext i
  have ei : i = (ix2 (i 0) (i 1) : S16384x128.Idx) := eq_ix2 i
  rw [ei]
  pointwise
  exact zz_at x g w (i 0) _

theorem eq7 (x : FVec Ideal S16384x1024 .f32) (g : FVec Ideal S1024 .f32) (w : FVec Ideal S1024x4896 .f32) :
    extractStridedSlice S16384x128 ![0, 768] (ZZ (HN x g) w) slices_S16384x4896_S16384x128_0_768 = Cert.Kernel4Ideal.Proj.C 128 768 (by decide) x g w := by
  funext i
  have ei : i = (ix2 (i 0) (i 1) : S16384x128.Idx) := eq_ix2 i
  rw [ei]
  pointwise
  exact zz_at x g w (i 0) _

theorem eq8 (x : FVec Ideal S16384x1024 .f32) (g : FVec Ideal S1024 .f32) (w : FVec Ideal S1024x4896 .f32) :
    extractStridedSlice S16384x128 ![0, 896] (ZZ (HN x g) w) slices_S16384x4896_S16384x128_0_896 = Cert.Kernel4Ideal.Proj.C 128 896 (by decide) x g w := by
  funext i
  have ei : i = (ix2 (i 0) (i 1) : S16384x128.Idx) := eq_ix2 i
  rw [ei]
  pointwise
  exact zz_at x g w (i 0) _

theorem eq9 (x : FVec Ideal S16384x1024 .f32) (g : FVec Ideal S1024 .f32) (w : FVec Ideal S1024x4896 .f32) :
    extractStridedSlice S16384x128 ![0, 1024] (ZZ (HN x g) w) slices_S16384x4896_S16384x128_0_1024 = Cert.Kernel4Ideal.Proj.C 128 1024 (by decide) x g w := by
  funext i
  have ei : i = (ix2 (i 0) (i 1) : S16384x128.Idx) := eq_ix2 i
  rw [ei]
  pointwise
  exact zz_at x g w (i 0) _

theorem eq10 (x : FVec Ideal S16384x1024 .f32) (g : FVec Ideal S1024 .f32) (w : FVec Ideal S1024x4896 .f32) :
    extractStridedSlice S16384x128 ![0, 1152] (ZZ (HN x g) w) slices_S16384x4896_S16384x128_0_1152 = Cert.Kernel4Ideal.Proj.C 128 1152 (by decide) x g w := by
  funext i
  have ei : i = (ix2 (i 0) (i 1) : S16384x128.Idx) := eq_ix2 i
  rw [ei]
  pointwise
  exact zz_at x g w (i 0) _

theorem eq11 (x : FVec Ideal S16384x1024 .f32) (g : FVec Ideal S1024 .f32) (w : FVec Ideal S1024x4896 .f32) :
    extractStridedSlice S16384x512 ![0, 1304] (ZZ (HN x g) w) slices_S16384x4896_S16384x512_0_1304 = Cert.Kernel4Ideal.Proj.C 512 1304 (by decide) x g w := by
  funext i
  have ei : i = (ix2 (i 0) (i 1) : S16384x512.Idx) := eq_ix2 i
  rw [ei]
  pointwise
  exact zz_at x g w (i 0) _

theorem eq12 (x : FVec Ideal S16384x1024 .f32) (g : FVec Ideal S1024 .f32) (w : FVec Ideal S1024x4896 .f32) :
    extractStridedSlice S16384x512 ![0, 1816] (ZZ (HN x g) w) slices_S16384x4896_S16384x512_0_1816 = Cert.Kernel4Ideal.Proj.C 512 1816 (by decide) x g w := by
  funext i
  have ei : i = (ix2 (i 0) (i 1) : S16384x512.Idx) := eq_ix2 i
  rw [ei]
  pointwise
  exact zz_at x g w (i 0) _

theorem eq13 (x : FVec Ideal S16384x1024 .f32) (g : FVec Ideal S1024 .f32) (w : FVec Ideal S1024x4896 .f32) :
    extractStridedSlice S16384x512 ![0, 2336] (ZZ (HN x g) w) slices_S16384x4896_S16384x512_0_2336 = Cert.Kernel4Ideal.Proj.C 512 2336 (by decide) x g w := by
  funext i
  have ei : i = (ix2 (i 0) (i 1) : S16384x512.Idx) := eq_ix2 i
  rw [ei]
  pointwise
  exact zz_at x g w (i 0) _

theorem eq14 (x : FVec Ideal S16384x1024 .f32) (g : FVec Ideal S1024 .f32) (w : FVec Ideal S1024x4896 .f32) :
    extractStridedSlice S16384x2048 ![0, 2848] (ZZ (HN x g) w) slices_S16384x4896_S16384x2048_0_2848 = Cert.Kernel4Ideal.Proj.C 2048 2848 (by decide) x g w := by
  funext i
  have ei : i = (ix2 (i 0) (i 1) : S16384x2048.Idx) := eq_ix2 i
  rw [ei]
  pointwise
  exact zz_at x g w (i 0) _

theorem frame_kernel : Cert.quiescent_Kernel4 := fun m ρ _ => Cert.Kernel4.Gen.frame m ρ

theorem frame_kernel_ideal : Cert.quiescent_Kernel4Ideal := fun m ρ _ => Cert.Kernel4Ideal.Gen.frame m ρ

theorem frame_reference : Cert.quiescent_Reference4Ideal := fun m ρ _ =>
  (θ_run _ _ _).mono (fun r h => ⟨fun c => (h c).2.2.2.2.2.2.2.2.2.2.2.2.2, sem_eq_zero_of_no_sems (by decide) r.2⟩) (Cert.Reference4Ideal.Value.run m ρ)

theorem preserves : Cert.preserves_Kernel4_Kernel4Ideal := trivial

set_option maxHeartbeats 4000000 in
theorem algebraic : Cert.algebraic_Kernel4Ideal_Reference4Ideal := by
  intro m g m' g' _ hm
  refine ⟨fun c => (Cert.Kernel4Ideal.Gen.dats m 0 c).arrAt 3 Cert.Kernel4Ideal.cfg0.N,
    fun c => (Cert.Kernel4Ideal.Gen.dats m 0 c).arrAt 4 Cert.Kernel4Ideal.cfg0.N,
    fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    Cert.Kernel4Ideal.Value.run_blocks m g,
    (θ_run _ _ _).mono (fun r h c => ⟨?_, ?_, ?_, ?_, ?_, ?_, ?_, ?_, ?_, ?_, ?_, ?_, ?_, (h c).2.2.2.2.2.2.2.2.2.2.2.2.2⟩) (Cert.Reference4Ideal.Value.run m' g')⟩
  · refine (h c).1.trans (Eq.trans ?_ (Cert.Kernel4Ideal.Proj.final3 m c).symm)
    obtain ⟨h0, h1, h2⟩ := hm c
    rw [h0, h1, h2]
    exact eq3 _ _ _
  · refine (h c).2.1.trans (Eq.trans ?_ (Cert.Kernel4Ideal.Proj.final4 m c).symm)
    obtain ⟨h0, h1, h2⟩ := hm c
    unfold Cert.Reference4Ideal.Value.res_main_v41
    rw [h0, h1, h2]
    exact eq4 _ _ _
  · refine (h c).2.2.1.trans (Eq.trans ?_ (Cert.Kernel4Ideal.Proj.final5 m c).symm)
    obtain ⟨h0, h1, h2⟩ := hm c
    rw [h0, h1, h2]
    exact eq5 _ _ _
  · refine (h c).2.2.2.1.trans (Eq.trans ?_ (Cert.Kernel4Ideal.Proj.final6 m c).symm)
    obtain ⟨h0, h1, h2⟩ := hm c
    rw [h0, h1, h2]
    exact eq6 _ _ _
  · refine (h c).2.2.2.2.1.trans (Eq.trans ?_ (Cert.Kernel4Ideal.Proj.final7 m c).symm)
    obtain ⟨h0, h1, h2⟩ := hm c
    rw [h0, h1, h2]
    exact eq7 _ _ _
  · refine (h c).2.2.2.2.2.1.trans (Eq.trans ?_ (Cert.Kernel4Ideal.Proj.final8 m c).symm)
    obtain ⟨h0, h1, h2⟩ := hm c
    rw [h0, h1, h2]
    exact eq8 _ _ _
  · refine (h c).2.2.2.2.2.2.1.trans (Eq.trans ?_ (Cert.Kernel4Ideal.Proj.final9 m c).symm)
    obtain ⟨h0, h1, h2⟩ := hm c
    rw [h0, h1, h2]
    exact eq9 _ _ _
  · refine (h c).2.2.2.2.2.2.2.1.trans (Eq.trans ?_ (Cert.Kernel4Ideal.Proj.final10 m c).symm)
    obtain ⟨h0, h1, h2⟩ := hm c
    rw [h0, h1, h2]
    exact eq10 _ _ _
  · refine (h c).2.2.2.2.2.2.2.2.1.trans (Eq.trans ?_ (Cert.Kernel4Ideal.Proj.final11 m c).symm)
    obtain ⟨h0, h1, h2⟩ := hm c
    rw [h0, h1, h2]
    exact eq11 _ _ _
  · refine (h c).2.2.2.2.2.2.2.2.2.1.trans (Eq.trans ?_ (Cert.Kernel4Ideal.Proj.final12 m c).symm)
    obtain ⟨h0, h1, h2⟩ := hm c
    rw [h0, h1, h2]
    exact eq12 _ _ _
  · refine (h c).2.2.2.2.2.2.2.2.2.2.1.trans (Eq.trans ?_ (Cert.Kernel4Ideal.Proj.final13 m c).symm)
    obtain ⟨h0, h1, h2⟩ := hm c
    rw [h0, h1, h2]
    exact eq13 _ _ _
  · refine (h c).2.2.2.2.2.2.2.2.2.2.2.1.trans (Eq.trans ?_ (Cert.Kernel4Ideal.Proj.final14 m c).symm)
    obtain ⟨h0, h1, h2⟩ := hm c
    rw [h0, h1, h2]
    exact eq14 _ _ _
  · refine (h c).2.2.2.2.2.2.2.2.2.2.2.2.1.trans (Eq.trans ?_ (Cert.Kernel4Ideal.Proj.final15 m c).symm)
    obtain ⟨h0, h1, h2⟩ := hm c
    rw [h0, h1, h2]
    exact eq15 _ _ _

end Cert.ProjEquation

end
-- ==== Proof.Lanes.lean ====
/- The lanes a head owns in the wide rows of the attention, and the merge of the two paths. -/
module

public import Idealize.ShloMosaic.Lib.Pointwise
public import proofs.«01_k».proof.Proof.Columns

@[expose] public section

noncomputable section

open Idealize.ShloMosaic

namespace Cert.Lanes

open Cert.Columns

/-- The lane of a wide row that holds a column of the narrow one. -/
def lane (s : Fin 512) : Fin 1024 := ⟨(s : ℕ) / 64 * 128 + (s : ℕ) / 256 * 64 + (s : ℕ) % 64, by omega⟩

/-- The column of the narrow row that a lane holds. -/
def col (c : Fin 1024) : Fin 512 := ⟨src c, by unfold src; omega⟩

theorem lane_own (s : Fin 512) : own (lane s) := by
  unfold own lane
  simp only
  omega

theorem col_lane (s : Fin 512) : col (lane s) = s := by
  refine Fin.ext ?_
  unfold col src lane
  simp only
  omega

theorem lane_col (c : Fin 1024) (h : own c) : lane (col c) = c := by
  refine Fin.ext ?_
  unfold own at h
  unfold lane col src
  simp only
  omega

/-- A product with a weight whose rows are zero in the lanes no head owns only sees the lanes that are owned. -/
theorem sum_own (o : Fin 1024 → EReal) (w : Fin 512 → EReal) (W : Fin 1024 → EReal) (h1 : ∀ c, own c → W c = w (col c)) (h0 : ∀ c, ¬ own c → W c = 0) :
    ∑ c, o c * W c = ∑ s, o (lane s) * w s := by
  classical
  have e : ∑ c ∈ Finset.univ.filter own, o c * W c = ∑ c, o c * W c := by
    refine Finset.sum_subset (Finset.subset_univ _) fun c _ hc => ?_
    rw [h0 c fun h => hc (Finset.mem_filter.mpr ⟨Finset.mem_univ _, h⟩), mul_zero]
  rw [← e]
  refine Finset.sum_nbij' col lane (fun _ _ => Finset.mem_univ _) (fun s _ => Finset.mem_filter.mpr ⟨Finset.mem_univ _, lane_own s⟩)
    (fun c hc => lane_col c (Finset.mem_filter.mp hc).2) (fun s _ => col_lane s) fun c hc => ?_
  have hc' := (Finset.mem_filter.mp hc).2
  rw [h1 c hc', lane_col c hc']

/-- One entry of the merged row: both gated paths, projected, added to the input. -/
def merge (x : Fin 1024 → EReal) (o l : Fin 512 → EReal) (z : Fin 2048 → EReal) (wn wl : Fin 512 → Fin 1024 → EReal) (wo : Fin 1024 → Fin 1024 → EReal)
    (d : Fin 1024) : EReal :=
  x d + ∑ k : Fin 1024, (Ideal.logistic (z ⟨k, by omega⟩) * (∑ s, o s * wn s k) + Ideal.logistic (z ⟨1024 + k, by omega⟩) * (∑ s, l s * wl s k)) * wo k d

end Cert.Lanes

end
-- ==== Proof.MergeWeight.lean ====
/- The weight of the attention path as the host lays it out: the rows of a head in the lanes of its own group, zeros in the others. -/
module

public import proofs.«01_k».proof.Proof.Gen.Kernel5Ideal.Value
public import Idealize.ShloMosaic.Lib.Pointwise
public import Idealize.ShloMosaic.Lib.Pipeline.ValueKit
public import proofs.«01_k».proof.Proof.Lanes

@[expose] public section

set_option maxRecDepth 16384

noncomputable section

open Idealize.ShloMosaic Idealize.ShloMosaic.TcCoe Idealize.SL.Sem
open Idealize.ShloMosaic.Pipeline (Dat)

namespace Cert.Kernel5Ideal.Merge

open Cert.Kernel5Ideal Cert.Kernel5Ideal.Gen Cert.Columns Cert.Lanes

/-- The padded weight. -/
def PW (w : FVec Ideal S512x1024 .f32) : FVec Ideal S1024x1024 .f32 :=
  concatenate S1024x1024 0 [⟨S64x1024, (extractStridedSlice S64x1024 ![0, 0] w slices_S512x1024_S64x1024_0_0 : FVec Ideal S64x1024 .f32)⟩, ⟨S64x1024, (broadcastInDim S64x1024 ![] bcast_S_S64x1024 (constant S_ .f32 0x00000000#32) : FVec Ideal S64x1024 .f32)⟩, ⟨S64x1024, (extractStridedSlice S64x1024 ![64, 0] w slices_S512x1024_S64x1024_64_0 : FVec Ideal S64x1024 .f32)⟩, ⟨S64x1024, (broadcastInDim S64x1024 ![] bcast_S_S64x1024 (constant S_ .f32 0x00000000#32) : FVec Ideal S64x1024 .f32)⟩, ⟨S64x1024, (extractStridedSlice S64x1024 ![128, 0] w slices_S512x1024_S64x1024_128_0 : FVec Ideal S64x1024 .f32)⟩, ⟨S64x1024, (broadcastInDim S64x1024 ![] bcast_S_S64x1024 (constant S_ .f32 0x00000000#32) : FVec Ideal S64x1024 .f32)⟩, ⟨S64x1024, (extractStridedSlice S64x1024 ![192, 0] w slices_S512x1024_S64x1024_192_0 : FVec Ideal S64x1024 .f32)⟩, ⟨S64x1024, (broadcastInDim S64x1024 ![] bcast_S_S64x1024 (constant S_ .f32 0x00000000#32) : FVec Ideal S64x1024 .f32)⟩, ⟨S64x1024, (broadcastInDim S64x1024 ![] bcast_S_S64x1024 (constant S_ .f32 0x00000000#32) : FVec Ideal S64x1024 .f32)⟩, ⟨S64x1024, (extractStridedSlice S64x1024 ![256, 0] w slices_S512x1024_S64x1024_256_0 : FVec Ideal S64x1024 .f32)⟩, ⟨S64x1024, (broadcastInDim S64x1024 ![] bcast_S_S64x1024 (constant S_ .f32 0x00000000#32) : FVec Ideal S64x1024 .f32)⟩, ⟨S64x1024, (extractStridedSlice S64x1024 ![320, 0] w slices_S512x1024_S64x1024_320_0 : FVec Ideal S64x1024 .f32)⟩, ⟨S64x1024, (broadcastInDim S64x1024 ![] bcast_S_S64x1024 (constant S_ .f32 0x00000000#32) : FVec Ideal S64x1024 .f32)⟩, ⟨S64x1024, (extractStridedSlice S64x1024 ![384, 0] w slices_S512x1024_S64x1024_384_0 : FVec Ideal S64x1024 .f32)⟩, ⟨S64x1024, (broadcastInDim S64x1024 ![] bcast_S_S64x1024 (constant S_ .f32 0x00000000#32) : FVec Ideal S64x1024 .f32)⟩, ⟨S64x1024, (extractStridedSlice S64x1024 ![448, 0] w slices_S512x1024_S64x1024_448_0 : FVec Ideal S64x1024 .f32)⟩] concatenates_S64x1024_S64x1024_S64x1024_S64x1024_S64x1024_S64x1024_S64x1024_S64x1024_S64x1024_S64x1024_S64x1024_S64x1024_S64x1024_S64x1024_S64x1024_S64x1024_S1024x1024_d0

/-- The rows of an argument are told apart by their number. -/
theorem at1 {n k : ℕ} {A : Type} (z : (Shape.Idx ⟨2, ![n, k]⟩) → A) (c c' : Fin n) (d : Fin k) (h : (c : ℕ) = c') : z (ix2 c d) = z (ix2 c' d) := by
  rw [Fin.ext h]

set_option maxHeartbeats 4000000 in
theorem p0 (w : FVec Ideal S512x1024 .f32) (c d : Fin 1024) (h : (c : ℕ) / 64 = 0) : PW w (ix2 c d) = w (ix2 (col c) d) := by
  refine (concatenate_apply_piece (t := S1024x1024) 0 _ _ (ix2 c d) 0 (by exact (show 0 < 16 from by decide)) S64x1024 _ rfl rfl 0 rfl
    (ix2 ⟨(c : ℕ) - 0, by omega⟩ d) (fun b hb => ?_) (by show 0 + ((c : ℕ) - 0) = (c : ℕ); omega)).trans ?_
  · match b, hb with
    | 0, hb => exact absurd rfl hb
    | 1, _ => rfl
  · pointwise <;>
    exact at1 w _ _ d (by unfold col src; simp only; omega)

set_option maxHeartbeats 4000000 in
theorem p1 (w : FVec Ideal S512x1024 .f32) (c d : Fin 1024) (h : (c : ℕ) / 64 = 1) : PW w (ix2 c d) = 0 := by
  refine (concatenate_apply_piece (t := S1024x1024) 0 _ _ (ix2 c d) 1 (by exact (show 1 < 16 from by decide)) S64x1024 _ rfl rfl 64 rfl
    (ix2 ⟨(c : ℕ) - 64, by omega⟩ d) (fun b hb => ?_) (by show 64 + ((c : ℕ) - 64) = (c : ℕ); omega)).trans ?_
  · match b, hb with
    | 0, hb => exact absurd rfl hb
    | 1, _ => rfl
  · pointwise

set_option maxHeartbeats 4000000 in
theorem p2 (w : FVec Ideal S512x1024 .f32) (c d : Fin 1024) (h : (c : ℕ) / 64 = 2) : PW w (ix2 c d) = w (ix2 (col c) d) := by
  refine (concatenate_apply_piece (t := S1024x1024) 0 _ _ (ix2 c d) 2 (by exact (show 2 < 16 from by decide)) S64x1024 _ rfl rfl 128 rfl
    (ix2 ⟨(c : ℕ) - 128, by omega⟩ d) (fun b hb => ?_) (by show 128 + ((c : ℕ) - 128) = (c : ℕ); omega)).trans ?_
  · match b, hb with
    | 0, hb => exact absurd rfl hb
    | 1, _ => rfl
  · pointwise <;>
    exact at1 w _ _ d (by unfold col src; simp only; omega)

set_option maxHeartbeats 4000000 in
theorem p3 (w : FVec Ideal S512x1024 .f32) (c d : Fin 1024) (h : (c : ℕ) / 64 = 3) : PW w (ix2 c d) = 0 := by
  refine (concatenate_apply_piece (t := S1024x1024) 0 _ _ (ix2 c d) 3 (by exact (show 3 < 16 from by decide)) S64x1024 _ rfl rfl 192 rfl
    (ix2 ⟨(c : ℕ) - 192, by omega⟩ d) (fun b hb => ?_) (by show 192 + ((c : ℕ) - 192) = (c : ℕ); omega)).trans ?_
  · match b, hb with
    | 0, hb => exact absurd rfl hb
    | 1, _ => rfl
  · pointwise

set_option maxHeartbeats 4000000 in
theorem p4 (w : FVec Ideal S512x1024 .f32) (c d : Fin 1024) (h : (c : ℕ) / 64 = 4) : PW w (ix2 c d) = w (ix2 (col c) d) := by
  refine (concatenate_apply_piece (t := S1024x1024) 0 _ _ (ix2 c d) 4 (by exact (show 4 < 16 from by decide)) S64x1024 _ rfl rfl 256 rfl
    (ix2 ⟨(c : ℕ) - 256, by omega⟩ d) (fun b hb => ?_) (by show 256 + ((c : ℕ) - 256) = (c : ℕ); omega)).trans ?_
  · match b, hb with
    | 0, hb => exact absurd rfl hb
    | 1, _ => rfl
  · pointwise <;>
    exact at1 w _ _ d (by unfold col src; simp only; omega)

set_option maxHeartbeats 4000000 in
theorem p5 (w : FVec Ideal S512x1024 .f32) (c d : Fin 1024) (h : (c : ℕ) / 64 = 5) : PW w (ix2 c d) = 0 := by
  refine (concatenate_apply_piece (t := S1024x1024) 0 _ _ (ix2 c d) 5 (by exact (show 5 < 16 from by decide)) S64x1024 _ rfl rfl 320 rfl
    (ix2 ⟨(c : ℕ) - 320, by omega⟩ d) (fun b hb => ?_) (by show 320 + ((c : ℕ) - 320) = (c : ℕ); omega)).trans ?_
  · match b, hb with
    | 0, hb => exact absurd rfl hb
    | 1, _ => rfl
  · pointwise

set_option maxHeartbeats 4000000 in
theorem p6 (w : FVec Ideal S512x1024 .f32) (c d : Fin 1024) (h : (c : ℕ) / 64 = 6) : PW w (ix2 c d) = w (ix2 (col c) d) := by
  refine (concatenate_apply_piece (t := S1024x1024) 0 _ _ (ix2 c d) 6 (by exact (show 6 < 16 from by decide)) S64x1024 _ rfl rfl 384 rfl
    (ix2 ⟨(c : ℕ) - 384, by omega⟩ d) (fun b hb => ?_) (by show 384 + ((c : ℕ) - 384) = (c : ℕ); omega)).trans ?_
  · match b, hb with
    | 0, hb => exact absurd rfl hb
    | 1, _ => rfl
  · pointwise <;>
    exact at1 w _ _ d (by unfold col src; simp only; omega)

set_option maxHeartbeats 4000000 in
theorem p7 (w : FVec Ideal S512x1024 .f32) (c d : Fin 1024) (h : (c : ℕ) / 64 = 7) : PW w (ix2 c d) = 0 := by
  refine (concatenate_apply_piece (t := S1024x1024) 0 _ _ (ix2 c d) 7 (by exact (show 7 < 16 from by decide)) S64x1024 _ rfl rfl 448 rfl
    (ix2 ⟨(c : ℕ) - 448, by omega⟩ d) (fun b hb => ?_) (by show 448 + ((c : ℕ) - 448) = (c : ℕ); omega)).trans ?_
  · match b, hb with
    | 0, hb => exact absurd rfl hb
    | 1, _ => rfl
  · pointwise

set_option maxHeartbeats 4000000 in
theorem p8 (w : FVec Ideal S512x1024 .f32) (c d : Fin 1024) (h : (c : ℕ) / 64 = 8) : PW w (ix2 c d) = 0 := by
  refine (concatenate_apply_piece (t := S1024x1024) 0 _ _ (ix2 c d) 8 (by exact (show 8 < 16 from by decide)) S64x1024 _ rfl rfl 512 rfl
    (ix2 ⟨(c : ℕ) - 512, by omega⟩ d) (fun b hb => ?_) (by show 512 + ((c : ℕ) - 512) = (c : ℕ); omega)).trans ?_
  · match b, hb with
    | 0, hb => exact absurd rfl hb
    | 1, _ => rfl
  · pointwise

set_option maxHeartbeats 4000000 in
theorem p9 (w : FVec Ideal S512x1024 .f32) (c d : Fin 1024) (h : (c : ℕ) / 64 = 9) : PW w (ix2 c d) = w (ix2 (col c) d) := by
  refine (concatenate_apply_piece (t := S1024x1024) 0 _ _ (ix2 c d) 9 (by exact (show 9 < 16 from by decide)) S64x1024 _ rfl rfl 576 rfl
    (ix2 ⟨(c : ℕ) - 576, by omega⟩ d) (fun b hb => ?_) (by show 576 + ((c : ℕ) - 576) = (c : ℕ); omega)).trans ?_
  · match b, hb with
    | 0, hb => exact absurd rfl hb
    | 1, _ => rfl
  · pointwise <;>
    exact at1 w _ _ d (by unfold col src; simp only; omega)

set_option maxHeartbeats 4000000 in
theorem p10 (w : FVec Ideal S512x1024 .f32) (c d : Fin 1024) (h : (c : ℕ) / 64 = 10) : PW w (ix2 c d) = 0 := by
  refine (concatenate_apply_piece (t := S1024x1024) 0 _ _ (ix2 c d) 10 (by exact (show 10 < 16 from by decide)) S64x1024 _ rfl rfl 640 rfl
    (ix2 ⟨(c : ℕ) - 640, by omega⟩ d) (fun b hb => ?_) (by show 640 + ((c : ℕ) - 640) = (c : ℕ); omega)).trans ?_
  · match b, hb with
    | 0, hb => exact absurd rfl hb
    | 1, _ => rfl
  · pointwise

set_option maxHeartbeats 4000000 in
theorem p11 (w : FVec Ideal S512x1024 .f32) (c d : Fin 1024) (h : (c : ℕ) / 64 = 11) : PW w (ix2 c d) = w (ix2 (col c) d) := by
  refine (concatenate_apply_piece (t := S1024x1024) 0 _ _ (ix2 c d) 11 (by exact (show 11 < 16 from by decide)) S64x1024 _ rfl rfl 704 rfl
    (ix2 ⟨(c : ℕ) - 704, by omega⟩ d) (fun b hb => ?_) (by show 704 + ((c : ℕ) - 704) = (c : ℕ); omega)).trans ?_
  · match b, hb with
    | 0, hb => exact absurd rfl hb
    | 1, _ => rfl
  · pointwise <;>
    exact at1 w _ _ d (by unfold col src; simp only; omega)

set_option maxHeartbeats 4000000 in
theorem p12 (w : FVec Ideal S512x1024 .f32) (c d : Fin 1024) (h : (c : ℕ) / 64 = 12) : PW w (ix2 c d) = 0 := by
  refine (concatenate_apply_piece (t := S1024x1024) 0 _ _ (ix2 c d) 12 (by exact (show 12 < 16 from by decide)) S64x1024 _ rfl rfl 768 rfl
    (ix2 ⟨(c : ℕ) - 768, by omega⟩ d) (fun b hb => ?_) (by show 768 + ((c : ℕ) - 768) = (c : ℕ); omega)).trans ?_
  · match b, hb with
    | 0, hb => exact absurd rfl hb
    | 1, _ => rfl
  · pointwise

set_option maxHeartbeats 4000000 in
theorem p13 (w : FVec Ideal S512x1024 .f32) (c d : Fin 1024) (h : (c : ℕ) / 64 = 13) : PW w (ix2 c d) = w (ix2 (col c) d) := by
  refine (concatenate_apply_piece (t := S1024x1024) 0 _ _ (ix2 c d) 13 (by exact (show 13 < 16 from by decide)) S64x1024 _ rfl rfl 832 rfl
    (ix2 ⟨(c : ℕ) - 832, by omega⟩ d) (fun b hb => ?_) (by show 832 + ((c : ℕ) - 832) = (c : ℕ); omega)).trans ?_
  · match b, hb with
    | 0, hb => exact absurd rfl hb
    | 1, _ => rfl
  · pointwise <;>
    exact at1 w _ _ d (by unfold col src; simp only; omega)

set_option maxHeartbeats 4000000 in
theorem p14 (w : FVec Ideal S512x1024 .f32) (c d : Fin 1024) (h : (c : ℕ) / 64 = 14) : PW w (ix2 c d) = 0 := by
  refine (concatenate_apply_piece (t := S1024x1024) 0 _ _ (ix2 c d) 14 (by exact (show 14 < 16 from by decide)) S64x1024 _ rfl rfl 896 rfl
    (ix2 ⟨(c : ℕ) - 896, by omega⟩ d) (fun b hb => ?_) (by show 896 + ((c : ℕ) - 896) = (c : ℕ); omega)).trans ?_
  · match b, hb with
    | 0, hb => exact absurd rfl hb
    | 1, _ => rfl
  · pointwise

set_option maxHeartbeats 4000000 in
theorem p15 (w : FVec Ideal S512x1024 .f32) (c d : Fin 1024) (h : (c : ℕ) / 64 = 15) : PW w (ix2 c d) = w (ix2 (col c) d) := by
  refine (concatenate_apply_piece (t := S1024x1024) 0 _ _ (ix2 c d) 15 (by exact (show 15 < 16 from by decide)) S64x1024 _ rfl rfl 960 rfl
    (ix2 ⟨(c : ℕ) - 960, by omega⟩ d) (fun b hb => ?_) (by show 960 + ((c : ℕ) - 960) = (c : ℕ); omega)).trans ?_
  · match b, hb with
    | 0, hb => exact absurd rfl hb
    | 1, _ => rfl
  · pointwise <;>
    exact at1 w _ _ d (by unfold col src; simp only; omega)

theorem pw_own (w : FVec Ideal S512x1024 .f32) (c d : Fin 1024) (h : own c) : PW w (ix2 c d) = w (ix2 (col c) d) := by
  unfold own at h
  have hc : (c : ℕ) / 64 < 16 := by omega
  generalize hn : (c : ℕ) / 64 = n at hc
  interval_cases n
  · exact p0 w c d hn
  · omega
  · exact p2 w c d hn
  · omega
  · exact p4 w c d hn
  · omega
  · exact p6 w c d hn
  · omega
  · omega
  · exact p9 w c d hn
  · omega
  · exact p11 w c d hn
  · omega
  · exact p13 w c d hn
  · omega
  · exact p15 w c d hn

theorem pw_else (w : FVec Ideal S512x1024 .f32) (c d : Fin 1024) (h : ¬ own c) : PW w (ix2 c d) = 0 := by
  unfold own at h
  have hc : (c : ℕ) / 64 < 16 := by omega
  generalize hn : (c : ℕ) / 64 = n at hc
  interval_cases n
  · omega
  · exact p1 w c d hn
  · omega
  · exact p3 w c d hn
  · omega
  · exact p5 w c d hn
  · omega
  · exact p7 w c d hn
  · exact p8 w c d hn
  · omega
  · exact p10 w c d hn
  · omega
  · exact p12 w c d hn
  · omega
  · exact p14 w c d hn
  · omega

end Cert.Kernel5Ideal.Merge

end
-- ==== Proof.MergeKernel.lean ====
/- What the merge kernel stores: the rows of both paths through their gates and the last projection. -/
module

public import proofs.«01_k».proof.Proof.Gen.Kernel5Ideal.Value
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim
public import proofs.«01_k».proof.Proof.MergeWeight

@[expose] public section

set_option maxRecDepth 16384

noncomputable section

open Idealize.ShloMosaic Idealize.ShloMosaic.TcCoe Idealize.SL.Sem
open Idealize.ShloMosaic.Pipeline (Dat)

namespace Cert.Kernel5Ideal.Merge

open Cert.Kernel5Ideal Cert.Kernel5Ideal.Gen Cert.Columns Cert.Lanes

/-- One block of the result. -/
theorem pay1_at (z : Vec Ideal S512x2048 .f32) (o : Vec Ideal S512x1024 .bf16) (wn : Vec Ideal S1024x1024 .bf16) (l : Vec Ideal S512x512 .f32)
    (wl : Vec Ideal S512x1024 .bf16) (x : Vec Ideal S512x1024 .f32) (wo : Vec Ideal S1024x1024 .bf16) (r : Fin 512) (d : Fin 1024) :
    k0_pay1 (F := Ideal) z o wn l wl x wo (ix2 r d) = x (ix2 r d) + ∑ k : Fin 1024,
      (Ideal.logistic (z (ix2 r ⟨k, by omega⟩)) * (∑ c, o (ix2 r c) * wn (ix2 c k))
        + Ideal.logistic (z (ix2 r ⟨1024 + k, by omega⟩)) * (∑ s, l (ix2 r s) * wl (ix2 s k))) * wo (ix2 k d) := by
  pointwise [k0_pay1]

/-- The result of the call. -/
def G (x : FVec Ideal S16384x1024 .f32) (o : FVec Ideal S16384x1024 .bf16) (l : FVec Ideal S16384x512 .f32) (z : FVec Ideal S16384x2048 .f32)
    (wn wl : FVec Ideal S512x1024 .f32) (wo : FVec Ideal S1024x1024 .f32) : FVec Ideal S16384x1024 .f32 := fun i =>
  merge (fun j => x (ix2 (i 0) j)) (fun s => o (ix2 (i 0) (lane s))) (fun s => l (ix2 (i 0) s)) (fun k => z (ix2 (i 0) k))
    (fun s k => wn (ix2 s k)) (fun s k => wl (ix2 s k)) (fun k d => wo (ix2 k d)) (i 1)

theorem value (zb : Vec Ideal S512x2048 .f32) (ob : Vec Ideal S512x1024 .bf16) (wnb : Vec Ideal S1024x1024 .bf16) (lb : Vec Ideal S512x512 .f32)
    (wlb : Vec Ideal S512x1024 .bf16) (xb : Vec Ideal S512x1024 .f32) (wob : Vec Ideal S1024x1024 .bf16)
    (x : FVec Ideal S16384x1024 .f32) (o : FVec Ideal S16384x1024 .bf16) (l : FVec Ideal S16384x512 .f32) (z : FVec Ideal S16384x2048 .f32)
    (wn wl : FVec Ideal S512x1024 .f32) (wo : FVec Ideal S1024x1024 .f32) (r : Fin 512) (R : Fin 16384) (d : Fin 1024)
    (hx : ∀ j, xb (ix2 r j) = x (ix2 R j)) (ho : ∀ j, ob (ix2 r j) = o (ix2 R j)) (hl : ∀ j, lb (ix2 r j) = l (ix2 R j)) (hz : ∀ j, zb (ix2 r j) = z (ix2 R j))
    (hn : ∀ c k, wnb (ix2 c k) = PW wn (ix2 c k)) (hwl : ∀ s k, wlb (ix2 s k) = wl (ix2 s k)) (hwo : ∀ k d, wob (ix2 k d) = wo (ix2 k d)) :
    k0_pay1 (F := Ideal) zb ob wnb lb wlb xb wob (ix2 r d) = G x o l z wn wl wo (ix2 R d) := by
  refine (pay1_at _ _ _ _ _ _ _ r d).trans ?_
  have e : ∀ k : Fin 1024, ∑ c, ob (ix2 r c) * wnb (ix2 c k) = ∑ s, o (ix2 R (lane s)) * wn (ix2 s k) := by
    intro k
    simp only [ho]
    exact sum_own (fun c => o (ix2 R c)) (fun s => wn (ix2 s k)) (fun c => wnb (ix2 c k))
      (fun c h => (hn c k).trans (pw_own wn c k h)) (fun c h => (hn c k).trans (pw_else wn c k h))
  simp only [e, hx, hl, hz, hwl, hwo]
  rfl

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![t.val, 0] :=
  (by decide +kernel : ∀ t : Fin grid0.N, _)

set_option maxRecDepth 100000 in
set_option maxHeartbeats 4000000 in
theorem entryN (c : Dev nD) : V m c main_v10 = truncf (F := Ideal) .bf16 (PW (m ((c : Thread nD τ).loc main_arg4))) bitsLt_bf16_f32 := by
  unfold V
  after_reads_simp
  rfl

theorem entryL (c : Dev nD) : V m c main_v11 = truncf (F := Ideal) .bf16 (m ((c : Thread nD τ).loc main_arg5)) bitsLt_bf16_f32 := by
  entry_read
  rfl

theorem entryO (c : Dev nD) : V m c main_v12 = truncf (F := Ideal) .bf16 (m ((c : Thread nD τ).loc main_arg6)) bitsLt_bf16_f32 := by
  entry_read
  rfl

theorem blkX (c : Dev nD) (t : Fin cfg0.N) (r : Fin 512) (R : Fin 16384) (hR : (R : ℕ) = t.val * 512 + r) (j : Fin 1024) :
    iblk m c 0 t (ix2 r j) = m ((c : Thread nD τ).loc main_arg0) (ix2 R j) := by
  have i0 := (idx t).1
  blk_ext [iblk, V, i0]

theorem blkO (c : Dev nD) (t : Fin cfg0.N) (r : Fin 512) (R : Fin 16384) (hR : (R : ℕ) = t.val * 512 + r) (j : Fin 1024) :
    iblk m c 1 t (ix2 r j) = m ((c : Thread nD τ).loc main_arg1) (ix2 R j) := by
  have i1 := (idx t).2.1
  blk_ext [iblk, V, i1]

theorem blkL (c : Dev nD) (t : Fin cfg0.N) (r : Fin 512) (R : Fin 16384) (hR : (R : ℕ) = t.val * 512 + r) (j : Fin 512) :
    iblk m c 2 t (ix2 r j) = m ((c : Thread nD τ).loc main_arg2) (ix2 R j) := by
  have i2 := (idx t).2.2.1
  blk_ext [iblk, V, i2]

theorem blkZ (c : Dev nD) (t : Fin cfg0.N) (r : Fin 512) (R : Fin 16384) (hR : (R : ℕ) = t.val * 512 + r) (j : Fin 2048) :
    iblk m c 3 t (ix2 r j) = m ((c : Thread nD τ).loc main_arg3) (ix2 R j) := by
  have i3 := (idx t).2.2.2.1
  blk_ext [iblk, V, i3]

theorem blkN (c : Dev nD) (t : Fin cfg0.N) (k : Fin 1024) (d : Fin 1024) :
    iblk m c 4 t (ix2 k d) = PW (m ((c : Thread nD τ).loc main_arg4)) (ix2 k d) := by
  have i4 := (idx t).2.2.2.2.1
  blk_simp [iblk, i4]
  rw [entryN]
  pointwise
  blk_ext [i4]

theorem blkWL (c : Dev nD) (t : Fin cfg0.N) (k : Fin 512) (d : Fin 1024) :
    iblk m c 5 t (ix2 k d) = m ((c : Thread nD τ).loc main_arg5) (ix2 k d) := by
  have i5 := (idx t).2.2.2.2.2.1
  blk_simp [iblk, i5]
  rw [entryL]
  pointwise
  blk_ext [i5]

theorem blkWO (c : Dev nD) (t : Fin cfg0.N) (k : Fin 1024) (d : Fin 1024) :
    iblk m c 6 t (ix2 k d) = m ((c : Thread nD τ).loc main_arg6) (ix2 k d) := by
  have i6 := (idx t).2.2.2.2.2.2.1
  blk_simp [iblk, i6]
  rw [entryO]
  pointwise
  blk_ext [i6]

theorem ldZ (x : Vec Ideal S512x2048 .f32) : View.ld x r0_0 = x := by
  funext i
  exact congrArg x (funext fun a => Fin.ext (by
    match a with
    | 0 => show 0 + 1 * (i 0 : ℕ) = (i 0 : ℕ); omega
    | 1 => show 0 + 1 * (i 1 : ℕ) = (i 1 : ℕ); omega))

theorem ldO (x : Vec Ideal S512x1024 .bf16) : View.ld x r0_1 = x := by
  funext i
  exact congrArg x (funext fun a => Fin.ext (by
    match a with
    | 0 => show 0 + 1 * (i 0 : ℕ) = (i 0 : ℕ); omega
    | 1 => show 0 + 1 * (i 1 : ℕ) = (i 1 : ℕ); omega))

theorem ldX (x : Vec Ideal S512x1024 .f32) : View.ld x r0_1 = x := by
  funext i
  exact congrArg x (funext fun a => Fin.ext (by
    match a with
    | 0 => show 0 + 1 * (i 0 : ℕ) = (i 0 : ℕ); omega
    | 1 => show 0 + 1 * (i 1 : ℕ) = (i 1 : ℕ); omega))

theorem ldW (x : Vec Ideal S1024x1024 .bf16) : View.ld x r0_2 = x := by
  funext i
  exact congrArg x (funext fun a => Fin.ext (by
    match a with
    | 0 => show 0 + 1 * (i 0 : ℕ) = (i 0 : ℕ); omega
    | 1 => show 0 + 1 * (i 1 : ℕ) = (i 1 : ℕ); omega))

theorem ldL (x : Vec Ideal S512x512 .f32) : View.ld x r0_3 = x := by
  funext i
  exact congrArg x (funext fun a => Fin.ext (by
    match a with
    | 0 => show 0 + 1 * (i 0 : ℕ) = (i 0 : ℕ); omega
    | 1 => show 0 + 1 * (i 1 : ℕ) = (i 1 : ℕ); omega))

theorem block (c : Dev nD) (t : Fin cfg0.N) (r : Fin 512) (R : Fin 16384) (hR : (R : ℕ) = t.val * 512 + r) (d : Fin 1024) :
    k0_pay1 (F := Ideal) (iblk m c 3 t) (iblk m c 1 t) (iblk m c 4 t) (iblk m c 2 t) (iblk m c 5 t) (iblk m c 0 t) (iblk m c 6 t) (ix2 r d)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R d) :=
  value _ _ _ _ _ _ _ _ _ _ _ _ _ _ r R d (blkX m c t r R hR) (blkO m c t r R hR) (blkL m c t r R hR) (blkZ m c t r R hR)
    (blkN m c t) (blkWL m c t) (blkWO m c t)

theorem final (c : Dev nD) : (dats m 0 c).arrAt 7 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  have ht : t.val < 32 := lt_of_lt_of_eq t.isLt N_0
  have i7 := (idx t).2.2.2.2.2.2.2
  have hy : (y 0 : ℕ) < 512 := (y 0).isLt
  have ey : y = (ix2 (y 0) (y 1) : S512x1024.Idx) := eq_ix2 y
  have eo : (((View.whole main_v13).slice (win0_7.rect t)).emb y) = (ix2 ⟨t.val * 512 + (y 0 : ℕ), by omega⟩ (y 1) : S16384x1024.Idx) := by
    blk_ext [i7]
  rw [eo]
  exact (congrArg _ ey).trans (block m c t (y 0) _ rfl (y 1))

end Cert.Kernel5Ideal.Merge

end
-- ==== Proof.MergeReference.lean ====
/- The reference of the merge, read row by row. -/
module

public import proofs.«01_k».proof.Proof.Gen.Reference5Ideal.Run
public import Idealize.ShloMosaic.Lib.Pointwise
public import proofs.«01_k».proof.Proof.Lanes

@[expose] public section

set_option maxRecDepth 16384

noncomputable section

open Idealize.ShloMosaic Idealize.ShloMosaic.TcCoe Idealize.SL.Sem
open Idealize.ShloMosaic.Pipeline (Dat)

namespace Cert.Reference5Ideal.Merge

open Cert.Reference5Ideal Cert.Reference5Ideal.Gen Cert.Columns Cert.Lanes

/-- The lanes each head owns, side by side. -/
def OWN (o : FVec Ideal S16384x1024 .bf16) : FVec Ideal S16384x512 .f32 :=
  shapeCast S16384x512 (concatenate S16384x8x64 1 [⟨S16384x4x64, (extractStridedSlice S16384x4x64 ![0, 0, 0] (shapeCast S16384x8x128 (extf .f32 o bitsLt_bf16_f32) shapeCasts_S16384x1024_S16384x8x128) slices_S16384x8x128_S16384x4x64_0_0_0)⟩, ⟨S16384x4x64, (extractStridedSlice S16384x4x64 ![0, 4, 64] (shapeCast S16384x8x128 (extf .f32 o bitsLt_bf16_f32) shapeCasts_S16384x1024_S16384x8x128) slices_S16384x8x128_S16384x4x64_0_4_64)⟩] concatenates_S16384x4x64_S16384x4x64_S16384x8x64_d1) shapeCasts_S16384x8x64_S16384x512

/-- The gates. -/
def SIG (z : FVec Ideal S16384x2048 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf z)))

/-- The merged rows. -/
def OUT (x : FVec Ideal S16384x1024 .f32) (o : FVec Ideal S16384x1024 .bf16) (l : FVec Ideal S16384x512 .f32) (z : FVec Ideal S16384x2048 .f32)
    (a b : FVec Ideal S512x1024 .f32) (w : FVec Ideal S1024x1024 .f32) : FVec Ideal S16384x1024 .f32 :=
  addf x (Host.dotGeneral dot_S16384x1024_S1024x1024_S16384x1024_1_0_0_1_n_n none (addf (mulf (extractStridedSlice S16384x1024 ![0, 0] (SIG z) slices_S16384x2048_S16384x1024_0_0) (Host.dotGeneral dot_S16384x512_S512x1024_S16384x1024_1_0_0_1_n_n none (OWN o) a)) (mulf (extractStridedSlice S16384x1024 ![0, 1024] (SIG z) slices_S16384x2048_S16384x1024_0_1024) (Host.dotGeneral dot_S16384x512_S512x1024_S16384x1024_1_0_0_1_n_n none l b))) w)

theorem sig_at (z : FVec Ideal S16384x2048 .f32) (r : Fin 16384) (k : Fin 2048) : SIG z (ix2 r k) = Ideal.logistic (z (ix2 r k)) := by
  pointwise [SIG]
  rfl

theorem own_at (o : FVec Ideal S16384x1024 .bf16) (r : Fin 16384) (s : Fin 512) : OWN o (ix2 r s) = o (ix2 r (lane s)) := by
  pointwise [OWN]
  split_ifs <;> exact at2 o r _ _ (by unfold lane; simp only; omega)

theorem out_at (x : FVec Ideal S16384x1024 .f32) (o : FVec Ideal S16384x1024 .bf16) (l : FVec Ideal S16384x512 .f32) (z : FVec Ideal S16384x2048 .f32)
    (a b : FVec Ideal S512x1024 .f32) (w : FVec Ideal S1024x1024 .f32) (r : Fin 16384) (d : Fin 1024) :
    OUT x o l z a b w (ix2 r d) = merge (fun j => x (ix2 r j)) (fun s => o (ix2 r (lane s))) (fun s => l (ix2 r s)) (fun k => z (ix2 r k))
      (fun s k => a (ix2 s k)) (fun s k => b (ix2 s k)) (fun k d => w (ix2 k d)) d := by
  have e : OUT x o l z a b w (ix2 r d) = x (ix2 r d) + ∑ k : Fin 1024, (SIG z (ix2 r ⟨k, by omega⟩) * (∑ s, OWN o (ix2 r s) * a (ix2 s k))
      + SIG z (ix2 r ⟨1024 + k, by omega⟩) * (∑ s, l (ix2 r s) * b (ix2 s k))) * w (ix2 k d) := by
    pointwise [OUT]
  rw [e]
  simp only [sig_at, own_at]
  rfl

end Cert.Reference5Ideal.Merge

end
-- ==== Proof.MergeEquation.lean ====
/- The merge of the two paths: the kernel's run against the reference's. -/
module

public import proofs.«01_k».proof.Defs
public import proofs.«01_k».proof.Proof.Gen.Kernel5.Frame
public import proofs.«01_k».proof.Proof.MergeKernel
public import proofs.«01_k».proof.Proof.MergeReference

@[expose] public section

set_option maxRecDepth 16384

noncomputable section

namespace Cert.MergeEquation

open Idealize.ShloMosaic Idealize.ShloMosaic.TcCoe Idealize.SL.Sem

theorem frame_kernel : Cert.quiescent_Kernel5 := fun m ρ _ => Cert.Kernel5.Gen.frame m ρ

theorem frame_kernel_ideal : Cert.quiescent_Kernel5Ideal := fun m ρ _ => Cert.Kernel5Ideal.Gen.frame m ρ

theorem frame_reference : Cert.quiescent_Reference5Ideal := fun m ρ _ =>
  (θ_run _ _ _).mono (fun r h => ⟨fun c => (h c).2, sem_eq_zero_of_no_sems (by decide) r.2⟩) (Cert.Reference5Ideal.Value.run m ρ)

theorem preserves : Cert.preserves_Kernel5_Kernel5Ideal := trivial

theorem algebraic : Cert.algebraic_Kernel5Ideal_Reference5Ideal := by
  intro m g m' g' _ hm
  refine ⟨fun c => (Cert.Kernel5Ideal.Gen.dats m 0 c).arrAt 7 Cert.Kernel5Ideal.cfg0.N,
    Cert.Kernel5Ideal.Value.run_blocks m g,
    (θ_run _ _ _).mono (fun r h c => ⟨funext fun i => ?_, (h c).2⟩) (Cert.Reference5Ideal.Value.run m' g')⟩
  refine (congrFun (h c).1 i).trans ?_
  refine Eq.trans ?_ (congrFun (Cert.Kernel5Ideal.Merge.final m c) i).symm
  obtain ⟨h0, h1, h2, h3, h4, h5, h6⟩ := hm c
  rw [h0, h1, h2, h3, h4, h5, h6]
  have ei : i = (ix2 (i 0) (i 1) : Cert.Kernel5Ideal.S16384x1024.Idx) := eq_ix2 i
  rw [ei]
  exact Cert.Reference5Ideal.Merge.out_at _ _ _ _ _ _ _ (i 0) (i 1)

end Cert.MergeEquation

end
-- ==== Proof.DecodeRule.lean ====
/- One step of the decode recurrence, written on plain functions of the batch row, the head and the lane. -/
module

public import Idealize.ShloMosaic.Lib.Pointwise

@[expose] public section

set_option maxRecDepth 16384

noncomputable section

open Idealize.ShloMosaic Idealize.ShloMosaic.TcCoe Idealize.SL.Sem

namespace Cert.Decode

/-- Lane `j` of head `h` among the 512 columns. -/
def lane (h : Fin 4) (j : Fin 128) : Fin 512 := ⟨h.val * 128 + j.val, by omega⟩

/-- The head a column belongs to, and its lane in that head. -/
def head (c : Fin 512) : Fin 4 := ⟨c.val / 128, by omega⟩
def sub (c : Fin 512) : Fin 128 := ⟨c.val % 128, by omega⟩

theorem head_lane (h : Fin 4) (j : Fin 128) : head (lane h j) = h := Fin.ext (by show (h.val * 128 + j.val) / 128 = h.val; omega)
theorem sub_lane (h : Fin 4) (j : Fin 128) : sub (lane h j) = j := Fin.ext (by show (h.val * 128 + j.val) % 128 = j.val; omega)
theorem lane_head (c : Fin 512) : lane (head c) (sub c) = c := Fin.ext (by show c.val / 128 * 128 + c.val % 128 = c.val; omega)

/-- Row `r` of block `t` among the 128 rows. -/
def row (t : Fin 16) (r : Fin 8) : Fin 128 := ⟨t.val * 8 + r.val, by omega⟩

/-- The arguments of the step: the pre-activations, the carried state and the parameters. -/
structure Args where
  z : Fin 128 → Fin 512 → EReal
  v : Fin 128 → Fin 512 → EReal
  o : Fin 128 → Fin 512 → EReal
  s : Fin 128 → Fin 128 → EReal
  C : Fin 128 → Fin 4 → Fin 128 → Fin 128 → EReal
  n : Fin 128 → Fin 4 → Fin 128 → EReal
  m : Fin 128 → Fin 4 → EReal
  conv : Fin 128 → Fin 3 → Fin 512 → EReal
  cw : Fin 4 → Fin 512 → EReal
  cb : Fin 512 → EReal
  wq : Fin 4 → Fin 128 → Fin 128 → EReal
  wk : Fin 4 → Fin 128 → Fin 128 → EReal
  gb : Fin 2 → Fin 4 → EReal
  g : Fin 512 → EReal

/-- The logarithm of the logistic function, as both programs compute it. -/
def logGate (x : EReal) : EReal :=
  -(max (-x) 0 + Ideal.log1p (Ideal.exp (-(max (-x) (- -x)))))

namespace Args

variable (A : Args)

/-- The convolution over the three carried rows and the new one. -/
def mix (b : Fin 128) (j : Fin 512) : EReal :=
  A.cb j + A.z b j * A.cw 3 j + A.conv b 0 j * A.cw 0 j + A.conv b 1 j * A.cw 1 j + A.conv b 2 j * A.cw 2 j

def act (b : Fin 128) (j : Fin 512) : EReal := A.mix b j * Ideal.logistic (A.mix b j)

def q (b : Fin 128) (h : Fin 4) (j : Fin 128) : EReal := ∑ x : Fin 128, A.act b (lane h x) * A.wq h x j

def k (b : Fin 128) (h : Fin 4) (j : Fin 128) : EReal :=
  (∑ x : Fin 128, A.act b (lane h x) * A.wk h x j) * Ideal.ofBits FTy.f32 1035273459#32

def ig (b : Fin 128) (h : Fin 4) : EReal := A.s b ⟨24 + h.val, by omega⟩ + A.gb 0 h

def fx (b : Fin 128) (h : Fin 4) : EReal := A.s b ⟨28 + h.val, by omega⟩ + A.gb 1 h

def fg (b : Fin 128) (h : Fin 4) : EReal := logGate (A.fx b h)

/-- The new running maximum. -/
def top (b : Fin 128) (h : Fin 4) : EReal := max (A.fg b h + A.m b h) (A.ig b h)

def decay (b : Fin 128) (h : Fin 4) : EReal := Ideal.exp (A.fg b h + A.m b h - A.top b h)

def weight (b : Fin 128) (h : Fin 4) : EReal := Ideal.exp (A.ig b h - A.top b h)

/-- The new token's score, weighted. -/
def qk (b : Fin 128) (h : Fin 4) : EReal := (∑ x : Fin 128, A.q b h x * A.k b h x) * A.weight b h

def den (b : Fin 128) (h : Fin 4) : EReal :=
  A.decay b h * (∑ x : Fin 128, A.n b h x * A.q b h x) + A.qk b h

def num (b : Fin 128) (h : Fin 4) (j : Fin 128) : EReal :=
  A.decay b h * (∑ d : Fin 128, A.C b h j d * A.q b h d) + A.qk b h * A.v b (lane h j)

/-- The head's hidden row. -/
def hid (b : Fin 128) (h : Fin 4) (j : Fin 128) : EReal :=
  Ideal.div (A.num b h j) (max (FloatOps.absf (F := Ideal) (φ := .f32) (A.den b h)) (Ideal.exp (-(A.top b h))))

/-- The normed and gated output. -/
def out (b : Fin 128) (h : Fin 4) (j : Fin 128) : EReal :=
  A.hid b h j * Ideal.rsqrt (Ideal.div (∑ x : Fin 128, A.hid b h x * A.hid b h x) (Ideal.ofBits FTy.f32 1124073472#32)
    + Ideal.ofBits FTy.f32 897988541#32) * A.g (lane h j) * Ideal.logistic (A.o b (lane h j))

def newC (b : Fin 128) (h : Fin 4) (j l : Fin 128) : EReal :=
  A.decay b h * A.C b h j l + A.weight b h * A.v b (lane h j) * A.k b h l

def newN (b : Fin 128) (h : Fin 4) (l : Fin 128) : EReal :=
  A.decay b h * A.n b h l + A.weight b h * A.k b h l

end Args

end Cert.Decode

end
-- ==== Proof.DecodeBlock.lean ====
/- The decode step of the recurrent layer, one head of eight rows: what each stored block holds. -/
module

public import proofs.«01_k».proof.Proof.Gen.Kernel6Ideal.Frame
public import proofs.«01_k».proof.Proof.DecodeRule

@[expose] public section

set_option maxRecDepth 16384

noncomputable section

open Idealize.ShloMosaic Idealize.ShloMosaic.TcCoe Idealize.SL.Sem

namespace Cert.Kernel6Ideal.Decode

open Cert.Kernel6Ideal Cert.Kernel6Ideal.Gen Cert.Decode

/-- A head's queries or keys (before the scale): its 128 lanes of the activations through its weights. -/
def DOT (a : FVec Ideal S8x512 .bf16) (o : ℕ) (ho : S8x512.Slices ![0, o] S8x128) (w : Vec Ideal S1x128x128 .bf16) : FVec Ideal S8x128 .f32 :=
  k0_pay6 (extractStridedSlice S8x128 ![0, o] a ho) w

/-- A head's keys, scaled. -/
def KEY (a : FVec Ideal S8x512 .bf16) (o : ℕ) (ho : S8x512.Slices ![0, o] S8x128) (w : Vec Ideal S1x128x128 .bf16) : FVec Ideal S8x128 .f32 :=
  mulf (DOT a o ho w) (broadcast S8x128 (Scalar.ofBits .f32 0x3DB504F3#32))

/-- A gate's input: one lane of the small projection, plus the bias. -/
def GATE (s : Vec Ideal S8x128 .f32) (o : ℕ) (ho : S8x128.Slices ![0, o] S8x1) (b : Vec Ideal S1x128 .f32) : FVec Ideal S8x128 .f32 :=
  addf (broadcastTo S8x128 (shapeCast S8x1 (extractStridedSlice S8x1 ![0, o] s ho) shapeCasts_S8x1_S8x1) broadcasts_S8x1_S8x128)
    (broadcastTo S8x128 (shapeCast S1x128 b shapeCasts_S1x128_S1x128) broadcasts_S1x128_S8x128)

/-- The forget gate's logarithm of its input. -/
def LOGF (x : FVec Ideal S8x128 .f32) : FVec Ideal S8x128 .f32 :=
  have v57 : FVec Ideal S8x128 .f32 := broadcast S8x128 (Scalar.ofBits .f32 0x00000000#32)
  have v58 : FVec Ideal S8x128 .f32 := subf v57 x
  have v62 : FVec Ideal S8x128 .f32 := subf v58 v57
  subf v57 (select (cmpf .one v62 v62) (addf v58 v57) (addf (maximumf v58 v57) (log1p (exp (subf v57 (absf v62))))))

/-- The memory of one row, carried forward. -/
def MEM (i : ℕ) (hr : S8x128.Slices ![i, 0] S1x128) (hc : S128x128.Slices ![0, i] S128x1) (k d : FVec Ideal S8x128 .f32) (w : FVec Ideal S128x128 .f32)
    (C : Vec Ideal S1x1x128x128 .f32) : FVec Ideal S1x1x128x128 .f32 :=
  shapeCast S1x1x128x128 (addf (mulf (broadcastTo S128x128 (extractStridedSlice S1x128 ![i, 0] d hr) broadcasts_S1x128_S128x128) (shapeCast S128x128 C shapeCasts_S1x1x128x128_S128x128))
    (mulf (broadcastTo S128x128 (extractStridedSlice S128x1 ![0, i] w hc) broadcasts_S128x1_S128x128) (broadcastTo S128x128 (extractStridedSlice S1x128 ![i, 0] k hr) broadcasts_S1x128_S128x128)))
    shapeCasts_S128x128_S1x1x128x128

/-- Lane `i` of the read memory: row `i`'s memory against its query; the other lanes keep `p`. -/
def READ (i : ℕ) (hr : S8x128.Slices ![i, 0] S1x128) (q : FVec Ideal S8x128 .f32) (C : Vec Ideal S1x1x128x128 .f32) (p : FVec Ideal S128x128 .f32) : FVec Ideal S128x128 .f32 :=
  select (cmpi .eq (iota .tc S128x128 32 [1] iota_S128x128_d1_w32) (broadcast S128x128 (BitVec.ofNat 32 i)))
    (broadcastTo S128x128 (shapeCast S128x1 (shapeCast S128x1 (multiReduction .add [1] S128
      (mulf (shapeCast S128x128 C shapeCasts_S1x1x128x128_S128x128) (broadcastTo S128x128 (extractStridedSlice S1x128 ![i, 0] q hr) broadcasts_S1x128_S128x128))
      0x00000000#32 reduces_S128x128_S128 (.inl rfl) rfl) shapeCasts_S128_S128x1) shapeCasts_S128x1_S128x1) broadcasts_S128x1_S128x128) p

/-- The eight rows' reads. -/
def READS (q : FVec Ideal S8x128 .f32) (C : Fin 8 → Vec Ideal S1x1x128x128 .f32) : FVec Ideal S128x128 .f32 :=
  READ 7 (by decide) q (C 7) (READ 6 (by decide) q (C 6) (READ 5 (by decide) q (C 5) (READ 4 (by decide) q (C 4)
    (READ 3 (by decide) q (C 3) (READ 2 (by decide) q (C 2) (READ 1 (by decide) q (C 1) (READ 0 (by decide) q (C 0)
      (broadcast S128x128 (Scalar.ofBits .f32 0x00000000#32)))))))))

theorem dot_at (a : FVec Ideal S8x512 .bf16) (o : ℕ) (ho : S8x512.Slices ![0, o] S8x128) (w : Vec Ideal S1x128x128 .bf16) (r : Fin 8) (j : Fin 128) (h : o + 128 ≤ 512) :
    DOT a o ho w (ix2 r j) = ∑ x : Fin 128, a (ix2 r ⟨o + x, by omega⟩) * w (ix3 0 x j) := by
  pointwise [DOT, k0_pay6]

theorem gate_at (s : Vec Ideal S8x128 .f32) (o : ℕ) (ho : S8x128.Slices ![0, o] S8x1) (b : Vec Ideal S1x128 .f32) (r : Fin 8) (j : Fin 128) (h : o < 128) :
    GATE s o ho b (ix2 r j) = s (ix2 r ⟨o, h⟩) + b (ix2 0 j) := by
  pointwise [GATE]

theorem logf_at (x : FVec Ideal S8x128 .f32) (r : Fin 8) (j : Fin 128) : LOGF x (ix2 r j) = logGate (x (ix2 r j)) := by
  pointwise [LOGF]
  simp
  rfl

theorem mem_at (i : ℕ) (h : i < 8) (hr : S8x128.Slices ![i, 0] S1x128) (hc : S128x128.Slices ![0, i] S128x1) (k d : FVec Ideal S8x128 .f32) (w : FVec Ideal S128x128 .f32)
    (C : Vec Ideal S1x1x128x128 .f32) (j l : Fin 128) :
    MEM i hr hc k d w C (ix4 0 0 j l) = d (ix2 ⟨i, h⟩ l) * C (ix4 0 0 j l) + w (ix2 j ⟨i, by omega⟩) * k (ix2 ⟨i, h⟩ l) := by
  pointwise [MEM]

theorem read_at (i : ℕ) (h : i < 8) (hr : S8x128.Slices ![i, 0] S1x128) (q : FVec Ideal S8x128 .f32) (C : Vec Ideal S1x1x128x128 .f32) (p : FVec Ideal S128x128 .f32) (j c : Fin 128) :
    READ i hr q C p (ix2 j c) = if c.val = i then ∑ x : Fin 128, C (ix4 0 0 j x) * q (ix2 ⟨i, h⟩ x) else p (ix2 j c) := by
  pointwise [READ]
  by_cases e : c.val = i
  · rw [if_pos e, e]
    exact if_pos (by simp [IntOp.cmpi])
  · rw [if_neg e]
    refine if_neg ?_
    have hn : BitVec.ofNat 32 c.val ≠ BitVec.ofNat 32 i := fun hb => e (by
      have := congrArg BitVec.toNat hb
      simp only [BitVec.toNat_ofNat] at this
      omega)
    show ¬BitVec.ofBool (BitVec.ofNat 32 c.val == BitVec.ofNat 32 i) = 1#1
    rw [beq_false_of_ne hn]
    decide

theorem reads_at (q : FVec Ideal S8x128 .f32) (C : Fin 8 → Vec Ideal S1x1x128x128 .f32) (r : Fin 8) (j : Fin 128) :
    READS q C (ix2 j ⟨r, by omega⟩) = ∑ x : Fin 128, C r (ix4 0 0 j x) * q (ix2 r x) := by
  unfold READS
  rw [read_at 7 (by decide), read_at 6 (by decide), read_at 5 (by decide), read_at 4 (by decide), read_at 3 (by decide), read_at 2 (by decide),
    read_at 1 (by decide), read_at 0 (by decide)]
  fin_cases r <;> rfl

/-- What one row of one head's inputs must hold. -/
structure Holds (A : Args) (R : Fin 128) (h : Fin 4) (r : Fin 8) (q k i f : FVec Ideal S8x128 .f32) (m n v z : Vec Ideal S8x128 .f32) (g : Vec Ideal S1x128 .f32)
    (C : Fin 8 → Vec Ideal S1x1x128x128 .f32) : Prop where
  q : ∀ j, q (ix2 r j) = A.q R h j
  k : ∀ j, k (ix2 r j) = A.k R h j
  i : ∀ j, i (ix2 r j) = A.ig R h
  f : ∀ j, f (ix2 r j) = A.fg R h
  m : ∀ j, m (ix2 r j) = A.m R h
  n : ∀ j, n (ix2 r j) = A.n R h j
  v : ∀ j, v (ix2 r j) = A.v R (lane h j)
  z : ∀ j, z (ix2 r j) = A.o R (lane h j)
  g : ∀ j, g (ix2 0 j) = A.g (lane h j)
  C : ∀ j l, C r (ix4 0 0 j l) = A.C R h j l

section Values

variable {A : Args} {R : Fin 128} {h : Fin 4} {r : Fin 8} {q k i f : FVec Ideal S8x128 .f32} {m n v z : Vec Ideal S8x128 .f32} {g : Vec Ideal S1x128 .f32}
  {C : Fin 8 → Vec Ideal S1x1x128x128 .f32} (H : Holds A R h r q k i f m n v z g C)
include H

theorem top_at (j : Fin 128) : k0_pay12 (F := Ideal) i f m (ix2 r j) = A.top R h := by
  pointwise [k0_pay12, k0_pay10]
  rw [H.i, H.f, H.m]
  rfl

theorem decay_at (j : Fin 128) : k0_pay13 (F := Ideal) i f m (ix2 r j) = A.decay R h := by
  pointwise [k0_pay13, k0_pay10]
  rw [top_at H, H.f, H.m]
  rfl

theorem weight_at (j : Fin 128) : k0_pay14 (F := Ideal) i f m (ix2 r j) = A.weight R h := by
  pointwise [k0_pay14]
  rw [top_at H, H.i]
  rfl

theorem qk_at (j : Fin 128) : k0_pay15 (F := Ideal) q k i f m (ix2 r j) = A.qk R h := by
  pointwise [k0_pay15]
  simp only [weight_at H, H.q, H.k]
  rfl

theorem den_at (j : Fin 128) : k0_pay16 (F := Ideal) q k i f m n (ix2 r j) = A.den R h := by
  pointwise [k0_pay16, k0_pay11]
  simp only [decay_at H, qk_at H, H.q, H.n]
  rfl

theorem wv_at (u : FVec Ideal S120x128 .f32) (j : Fin 128) : k0_pay17 (F := Ideal) u v i f m (ix2 j ⟨r, by omega⟩) = A.weight R h * A.v R (lane h j) := by
  pointwise [k0_pay17]
  rw [weight_at H, H.v]

theorem newN_at (j : Fin 128) : k0_pay46 (F := Ideal) k (k0_pay11 n) (k0_pay13 i f m) (k0_pay14 i f m) (ix2 r j) = A.newN R h j := by
  pointwise [k0_pay46, k0_pay11]
  rw [decay_at H, weight_at H, H.k, H.n]
  rfl

theorem newC_at (u : FVec Ideal S120x128 .f32) (i' : ℕ) (hi : r.val = i') (hr : S8x128.Slices ![i', 0] S1x128) (hc : S128x128.Slices ![0, i'] S128x1) (j l : Fin 128) :
    MEM i' hr hc k (k0_pay13 i f m) (k0_pay17 u v i f m) (C r) (ix4 0 0 j l) = A.newC R h j l := by
  subst hi
  refine (mem_at r.val r.isLt hr hc _ _ _ _ j l).trans ?_
  rw [decay_at H, wv_at H, H.k, H.C]
  rfl

theorem out_at (j : Fin 128) : k0_pay45 (F := Ideal) v (k0_pay12 i f m) (k0_pay13 i f m) (k0_pay15 q k i f m) (k0_pay16 q k i f m n) (READS q C) z g (ix2 r j) = A.out R h j := by
  pointwise [k0_pay45]
  simp only [reads_at, top_at H, decay_at H, qk_at H, den_at H, H.q, H.C, H.v, H.z, H.g, zero_sub]
  rfl

end Values

end Cert.Kernel6Ideal.Decode

end
-- ==== Proof.DecodeHeads.lean ====
/- The four heads of one block of eight rows: their loads, and what they compute from them. -/
module

public import proofs.«01_k».proof.Proof.DecodeBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel6Ideal.Decode

open Cert.Kernel6Ideal Cert.Kernel6Ideal.Gen Cert.Decode

theorem emb_lane (o : ℕ) (inb) (h : Fin 4) (ho : o = h.val * 128) (r : Fin 8) (j : Fin 128) :
    (Rect.unit (s := S8x512) ![0, o] S8x128.size inb).emb (ix2 r j : S8x128.Idx) = (ix2 r (lane h j) : S8x512.Idx) := by
  subst ho
  funext a
  match a with
  | 0 => exact Fin.ext (by show 0 + 1 * r.val = r.val; omega)
  | 1 => exact Fin.ext (by show h.val * 128 + 1 * j.val = h.val * 128 + j.val; omega)

theorem emb_lane2 (i : Fin 2) (n o : ℕ) (hn : n = i.val) (inb) (h : Fin 4) (ho : o = h.val * 128) (j : Fin 128) :
    (Rect.unit (s := S2x512) ![n, o] S1x128.size inb).emb (ix2 0 j : S1x128.Idx) = (ix2 i (lane h j) : S2x512.Idx) := by
  subst ho hn
  funext a
  match a with
  | 0 => exact Fin.ext (by show i.val + 1 * 0 = i.val; omega)
  | 1 => exact Fin.ext (by show h.val * 128 + 1 * j.val = h.val * 128 + j.val; omega)

theorem emb_lane1 (o : ℕ) (inb) (h : Fin 4) (ho : o = h.val * 128) (j : Fin 128) :
    (Rect.unit (s := S1x512) ![0, o] S1x128.size inb).emb (ix2 0 j : S1x128.Idx) = (ix2 0 (lane h j) : S1x512.Idx) := by
  subst ho
  funext a
  match a with
  | 0 => exact Fin.ext (by show 0 + 1 * 0 = 0; omega)
  | 1 => exact Fin.ext (by show h.val * 128 + 1 * j.val = h.val * 128 + j.val; omega)

theorem emb_weight (n : ℕ) (inb) (h : Fin 4) (hn : n = h.val) (i j : Fin 128) :
    (Rect.unit (s := S4x128x128) ![n, 0, 0] S1x128x128.size inb).emb (ix3 0 i j : S1x128x128.Idx) = (ix3 h i j : S4x128x128.Idx) := by
  subst hn
  funext a
  match a with
  | 0 => exact Fin.ext (by show h.val + 1 * 0 = h.val; omega)
  | 1 => exact Fin.ext (by show 0 + 1 * i.val = i.val; omega)
  | 2 => exact Fin.ext (by show 0 + 1 * j.val = j.val; omega)

theorem emb_mem (n k : ℕ) (inb) (r : Fin 8) (h : Fin 4) (hn : n = r.val) (hk : k = h.val) (j l : Fin 128) :
    (Rect.unit (s := S8x4x128x128) ![n, k, 0, 0] S1x1x128x128.size inb).emb (ix4 0 0 j l : S1x1x128x128.Idx) = (ix4 r h j l : S8x4x128x128.Idx) := by
  subst hn hk
  funext a
  match a with
  | 0 => exact Fin.ext (by show r.val + 1 * 0 = r.val; omega)
  | 1 => exact Fin.ext (by show h.val + 1 * 0 = h.val; omega)
  | 2 => exact Fin.ext (by show 0 + 1 * j.val = j.val; omega)
  | 3 => exact Fin.ext (by show 0 + 1 * l.val = l.val; omega)

theorem emb_conv (n : ℕ) (inb) (i : Fin 3) (hn : n = i.val) (r : Fin 8) (j : Fin 512) :
    (Rect.unit (s := S3x8x512) ![n, 0, 0] S1x8x512.size inb).emb (ix3 0 r j : S1x8x512.Idx) = (ix3 i r j : S3x8x512.Idx) := by
  subst hn
  funext a
  match a with
  | 0 => exact Fin.ext (by show i.val + 1 * 0 = i.val; omega)
  | 1 => exact Fin.ext (by show 0 + 1 * r.val = r.val; omega)
  | 2 => exact Fin.ext (by show 0 + 1 * j.val = j.val; omega)

theorem emb_cw (n : ℕ) (inb) (i : Fin 4) (hn : n = i.val) (j : Fin 512) :
    (Rect.unit (s := S4x512) ![n, 0] S1x512.size inb).emb (ix2 0 j : S1x512.Idx) = (ix2 i j : S4x512.Idx) := by
  subst hn
  funext a
  match a with
  | 0 => exact Fin.ext (by show i.val + 1 * 0 = i.val; omega)
  | 1 => exact Fin.ext (by show 0 + 1 * j.val = j.val; omega)

theorem emb_cb (inb) (j : Fin 512) :
    (Rect.unit (s := S1x512) ![0, 0] S1x512.size inb).emb (ix2 0 j : S1x512.Idx) = (ix2 0 j : S1x512.Idx) := by
  funext a
  match a with
  | 0 => exact Fin.ext (by show 0 + 1 * 0 = 0; omega)
  | 1 => exact Fin.ext (by show 0 + 1 * j.val = j.val; omega)

theorem emb_z (inb) (r : Fin 8) (j : Fin 512) :
    (Rect.unit (s := S8x512) ![0, 0] S8x512.size inb).emb (ix2 r j : S8x512.Idx) = (ix2 r j : S8x512.Idx) := by
  funext a
  match a with
  | 0 => exact Fin.ext (by show 0 + 1 * r.val = r.val; omega)
  | 1 => exact Fin.ext (by show 0 + 1 * j.val = j.val; omega)

theorem emb_s (inb) (r : Fin 8) (j : Fin 128) :
    (Rect.unit (s := S8x128) ![0, 0] S8x128.size inb).emb (ix2 r j : S8x128.Idx) = (ix2 r j : S8x128.Idx) := by
  funext a
  match a with
  | 0 => exact Fin.ext (by show 0 + 1 * r.val = r.val; omega)
  | 1 => exact Fin.ext (by show 0 + 1 * j.val = j.val; omega)

/-- The activations from their loads. -/
theorem act_loads (b : Vec Ideal S1x512 .f32) (z : Vec Ideal S8x512 .f32) (w3 : Vec Ideal S1x512 .f32) (c0 : Vec Ideal S1x8x512 .f32) (w0 : Vec Ideal S1x512 .f32)
    (c1 : Vec Ideal S1x8x512 .f32) (w1 : Vec Ideal S1x512 .f32) (c2 : Vec Ideal S1x8x512 .f32) (w2 : Vec Ideal S1x512 .f32) (r : Fin 8) (j : Fin 512) (X : EReal)
    (hX : b (ix2 0 j) + z (ix2 r j) * w3 (ix2 0 j) + c0 (ix3 0 r j) * w0 (ix2 0 j) + c1 (ix3 0 r j) * w1 (ix2 0 j) + c2 (ix3 0 r j) * w2 (ix2 0 j) = X) :
    k0_pay3 (F := Ideal) b z w3 c0 w0 c1 w1 c2 w2 (ix2 r j) = X * Ideal.logistic X := by
  subst hX
  pointwise [k0_pay3]

/-- What the input blocks at point `t` must hold. -/
structure Blocks (A : Args) (t : Fin 16) (x0 : Vec Ideal S8x512 .f32) (x1 : Vec Ideal S3x8x512 .f32) (x2 : Vec Ideal S8x512 .f32) (x3 : Vec Ideal S8x512 .f32)
    (x4 : Vec Ideal S8x128 .f32) (x5 : Vec Ideal S8x4x128x128 .f32) (x6 : Vec Ideal S8x512 .f32) (x7 : Vec Ideal S8x512 .f32) (x8 : Vec Ideal S4x512 .f32) (x9 : Vec Ideal S1x512 .f32)
    (x10 : Vec Ideal S4x128x128 .bf16) (x11 : Vec Ideal S4x128x128 .bf16) (x12 : Vec Ideal S2x512 .f32) (x13 : Vec Ideal S1x512 .f32) : Prop where
  z : ∀ r j, x0 (ix2 r j) = A.z (row t r) j
  conv : ∀ i r j, x1 (ix3 i r j) = A.conv (row t r) i j
  v : ∀ r j, x2 (ix2 r j) = A.v (row t r) j
  o : ∀ r j, x3 (ix2 r j) = A.o (row t r) j
  s : ∀ r j, x4 (ix2 r j) = A.s (row t r) j
  C : ∀ r h j l, x5 (ix4 r h j l) = A.C (row t r) h j l
  n : ∀ r h j, x6 (ix2 r (lane h j)) = A.n (row t r) h j
  m : ∀ r h j, x7 (ix2 r (lane h j)) = A.m (row t r) h
  cw : ∀ i j, x8 (ix2 i j) = A.cw i j
  cb : ∀ j, x9 (ix2 0 j) = A.cb j
  wq : ∀ h i j, x10 (ix3 h i j) = A.wq h i j
  wk : ∀ h i j, x11 (ix3 h i j) = A.wk h i j
  gb : ∀ i h j, x12 (ix2 i (lane h j)) = A.gb i h
  g : ∀ j, x13 (ix2 0 j) = A.g j

section Heads

variable {A : Args} {t : Fin 16} {x0 : Vec Ideal S8x512 .f32} {x1 : Vec Ideal S3x8x512 .f32} {x2 : Vec Ideal S8x512 .f32} {x3 : Vec Ideal S8x512 .f32} {x4 : Vec Ideal S8x128 .f32}
  {x5 : Vec Ideal S8x4x128x128 .f32} {x6 : Vec Ideal S8x512 .f32} {x7 : Vec Ideal S8x512 .f32} {x8 : Vec Ideal S4x512 .f32} {x9 : Vec Ideal S1x512 .f32}
  {x10 : Vec Ideal S4x128x128 .bf16} {x11 : Vec Ideal S4x128x128 .bf16} {x12 : Vec Ideal S2x512 .f32} {x13 : Vec Ideal S1x512 .f32}
  (B : Blocks A t x0 x1 x2 x3 x4 x5 x6 x7 x8 x9 x10 x11 x12 x13)

/-- The activations of the block. -/
def ACT (x0 : Vec Ideal S8x512 .f32) (x1 : Vec Ideal S3x8x512 .f32) (x8 : Vec Ideal S4x512 .f32) (x9 : Vec Ideal S1x512 .f32) : FVec Ideal S8x512 .bf16 :=
  k0_pay3 (View.ld x9 r0_0) (View.ld x0 r0_1) (View.ld x8 r0_2) (View.ld x1 r0_3) (View.ld x8 r0_4) (View.ld x1 r0_5) (View.ld x8 r0_6) (View.ld x1 r0_7) (View.ld x8 r0_8)

include B

theorem act_at (r : Fin 8) (j : Fin 512) : ACT x0 x1 x8 x9 (ix2 r j) = A.act (row t r) j := by
  refine act_loads _ _ _ _ _ _ _ _ _ r j (A.mix (row t r) j) ?_
  have hw : ∀ (n : ℕ) (inb) (i : Fin 4) (hn : n = i.val), View.ld x8 (Rect.unit (s := S4x512) ![n, 0] S1x512.size inb) (ix2 0 j : S1x512.Idx) = A.cw i j :=
    fun n inb i hn => (congrArg x8 (emb_cw n inb i hn j)).trans (B.cw i j)
  have hc : ∀ (n : ℕ) (inb) (i : Fin 3) (hn : n = i.val), View.ld x1 (Rect.unit (s := S3x8x512) ![n, 0, 0] S1x8x512.size inb) (ix3 0 r j : S1x8x512.Idx) = A.conv (row t r) i j :=
    fun n inb i hn => (congrArg x1 (emb_conv n inb i hn r j)).trans (B.conv i r j)
  have hb : View.ld x9 r0_0 (ix2 0 j : S1x512.Idx) = A.cb j := (congrArg x9 (emb_cb _ j)).trans (B.cb j)
  have hz : View.ld x0 r0_1 (ix2 r j : S8x512.Idx) = A.z (row t r) j := (congrArg x0 (emb_z _ r j)).trans (B.z r j)
  rw [hw 3 _ 3 rfl, hw 0 _ 0 rfl, hw 1 _ 1 rfl, hw 2 _ 2 rfl, hc 0 _ 0 rfl, hc 1 _ 1 rfl, hc 2 _ 2 rfl, hb, hz]
  rfl

/-- One head of one row: every input of the step is the rule's. -/
theorem holds (h : Fin 4) (r : Fin 8) (o oi of : ℕ) (ho : o = h.val * 128) (hi : oi = 24 + h.val) (hf : of = 28 + h.val) (s1 : S8x512.Slices ![0, o] S8x128)
    (s2 : S8x128.Slices ![0, oi] S8x1) (s3 : S8x128.Slices ![0, of] S8x1) (b1 : ∀ a, ![0, o] a + S8x128.size a ≤ S8x512.size a)
    (b2 : ∀ a, ![0, o] a + S1x128.size a ≤ S2x512.size a) (b3 : ∀ a, ![1, o] a + S1x128.size a ≤ S2x512.size a) (b4 : ∀ a, ![0, o] a + S1x128.size a ≤ S1x512.size a)
    (b5 : ∀ a, ![h.val, 0, 0] a + S1x128x128.size a ≤ S4x128x128.size a) (C : Fin 8 → Vec Ideal S1x1x128x128 .f32)
    (hC : ∀ j l, C r (ix4 0 0 j l) = x5 (ix4 r h j l)) :
    Holds A (row t r) h r (DOT (ACT x0 x1 x8 x9) o s1 (View.ld x10 (Rect.unit (s := S4x128x128) ![h.val, 0, 0] S1x128x128.size b5)))
      (KEY (ACT x0 x1 x8 x9) o s1 (View.ld x11 (Rect.unit (s := S4x128x128) ![h.val, 0, 0] S1x128x128.size b5)))
      (GATE (View.ld x4 r0_9) oi s2 (View.ld x12 (Rect.unit (s := S2x512) ![0, o] S1x128.size b2)))
      (LOGF (GATE (View.ld x4 r0_9) of s3 (View.ld x12 (Rect.unit (s := S2x512) ![1, o] S1x128.size b3))))
      (View.ld x7 (Rect.unit (s := S8x512) ![0, o] S8x128.size b1)) (View.ld x6 (Rect.unit (s := S8x512) ![0, o] S8x128.size b1))
      (View.ld x2 (Rect.unit (s := S8x512) ![0, o] S8x128.size b1)) (View.ld x3 (Rect.unit (s := S8x512) ![0, o] S8x128.size b1))
      (View.ld x13 (Rect.unit (s := S1x512) ![0, o] S1x128.size b4)) C := by
  have hs : ∀ j, View.ld x4 r0_9 (ix2 r j : S8x128.Idx) = A.s (row t r) j := fun j => (congrArg x4 (emb_s _ r j)).trans (B.s r j)
  have hg : ∀ (n : ℕ) (inb) (i : Fin 2) (hn : n = i.val) (j : Fin 128), View.ld x12 (Rect.unit (s := S2x512) ![n, o] S1x128.size inb) (ix2 0 j : S1x128.Idx) = A.gb i h :=
    fun n inb i hn j => (congrArg x12 (emb_lane2 i n o hn inb h ho j)).trans (B.gb i h j)
  have hd : ∀ (w : Vec Ideal S4x128x128 .bf16) (j : Fin 128), DOT (ACT x0 x1 x8 x9) o s1 (View.ld w (Rect.unit (s := S4x128x128) ![h.val, 0, 0] S1x128x128.size b5)) (ix2 r j)
      = ∑ x : Fin 128, A.act (row t r) (lane h x) * w (ix3 h x j) := by
    intro w j
    refine (dot_at _ o s1 _ r j (by omega)).trans (Finset.sum_congr rfl fun x _ => ?_)
    have e : (⟨o + x.val, by omega⟩ : Fin 512) = lane h x := Fin.ext (by subst ho; rfl)
    rw [e, act_at B]
    exact congrArg (A.act (row t r) (lane h x) * ·) (congrArg w (emb_weight h.val b5 h rfl x j))
  constructor
  · intro j
    refine (hd x10 j).trans (Finset.sum_congr rfl fun x _ => ?_)
    rw [B.wq]
  · intro j
    refine congrArg (· * Ideal.ofBits FTy.f32 1035273459#32) ((hd x11 j).trans (Finset.sum_congr rfl fun x _ => ?_))
    rw [B.wk]
  · intro j
    refine (gate_at _ oi s2 _ r j (by omega)).trans ?_
    rw [hs, hg 0 b2 0 rfl]
    subst hi
    rfl
  · intro j
    refine (logf_at _ r j).trans (congrArg logGate ((gate_at _ of s3 _ r j (by omega)).trans ?_))
    rw [hs, hg 1 b3 1 rfl]
    subst hf
    rfl
  · exact fun j => (congrArg x7 (emb_lane o b1 h ho r j)).trans (B.m r h j)
  · exact fun j => (congrArg x6 (emb_lane o b1 h ho r j)).trans (B.n r h j)
  · exact fun j => (congrArg x2 (emb_lane o b1 h ho r j)).trans (B.v r (lane h j))
  · exact fun j => (congrArg x3 (emb_lane o b1 h ho r j)).trans (B.o r (lane h j))
  · exact fun j => (congrArg x13 (emb_lane1 o b4 h ho j)).trans (B.g (lane h j))
  · exact fun j l => (hC j l).trans (B.C r h j l)

omit B

theorem sliceA : ∀ h : Fin 4, S8x512.Slices ![0, h.val * 128] S8x128 := by decide
theorem sliceI : ∀ h : Fin 4, S8x128.Slices ![0, 24 + h.val] S8x1 := by decide
theorem sliceF : ∀ h : Fin 4, S8x128.Slices ![0, 28 + h.val] S8x1 := by decide
theorem sliceR : ∀ i : Fin 8, S8x128.Slices ![i.val, 0] S1x128 := by decide
theorem sliceC : ∀ i : Fin 8, S128x128.Slices ![0, i.val] S128x1 := by decide
theorem inLane : ∀ (h : Fin 4) (a), ![0, h.val * 128] a + S8x128.size a ≤ S8x512.size a := by decide
theorem inGateI : ∀ (h : Fin 4) (a), ![0, h.val * 128] a + S1x128.size a ≤ S2x512.size a := by decide
theorem inGateF : ∀ (h : Fin 4) (a), ![1, h.val * 128] a + S1x128.size a ≤ S2x512.size a := by decide
theorem inNorm : ∀ (h : Fin 4) (a), ![0, h.val * 128] a + S1x128.size a ≤ S1x512.size a := by decide
theorem inWeight : ∀ (h : Fin 4) (a), ![h.val, 0, 0] a + S1x128x128.size a ≤ S4x128x128.size a := by decide
theorem inMem : ∀ (i : Fin 8) (h : Fin 4) (a), ![i.val, h.val, 0, 0] a + S1x1x128x128.size a ≤ S8x4x128x128.size a := by decide

/-- A head's lanes of an input block. -/
def LN (x : Vec Ideal S8x512 .f32) (h : Fin 4) : Vec Ideal S8x128 .f32 := View.ld x (Rect.unit (s := S8x512) ![0, h.val * 128] S8x128.size (inLane h))
def LG (x : Vec Ideal S1x512 .f32) (h : Fin 4) : Vec Ideal S1x128 .f32 := View.ld x (Rect.unit (s := S1x512) ![0, h.val * 128] S1x128.size (inNorm h))
/-- A head's memory, row by row. -/
def LC (x : Vec Ideal S8x4x128x128 .f32) (h : Fin 4) (i : Fin 8) : Vec Ideal S1x1x128x128 .f32 :=
  View.ld x (Rect.unit (s := S8x4x128x128) ![i.val, h.val, 0, 0] S1x1x128x128.size (inMem i h))
def HQ (a : FVec Ideal S8x512 .bf16) (w : Vec Ideal S4x128x128 .bf16) (h : Fin 4) : FVec Ideal S8x128 .f32 :=
  DOT a (h.val * 128) (sliceA h) (View.ld w (Rect.unit (s := S4x128x128) ![h.val, 0, 0] S1x128x128.size (inWeight h)))
def HK (a : FVec Ideal S8x512 .bf16) (w : Vec Ideal S4x128x128 .bf16) (h : Fin 4) : FVec Ideal S8x128 .f32 :=
  KEY a (h.val * 128) (sliceA h) (View.ld w (Rect.unit (s := S4x128x128) ![h.val, 0, 0] S1x128x128.size (inWeight h)))
def HI (s : Vec Ideal S8x128 .f32) (b : Vec Ideal S2x512 .f32) (h : Fin 4) : FVec Ideal S8x128 .f32 :=
  GATE (View.ld s r0_9) (24 + h.val) (sliceI h) (View.ld b (Rect.unit (s := S2x512) ![0, h.val * 128] S1x128.size (inGateI h)))
def HF (s : Vec Ideal S8x128 .f32) (b : Vec Ideal S2x512 .f32) (h : Fin 4) : FVec Ideal S8x128 .f32 :=
  LOGF (GATE (View.ld s r0_9) (28 + h.val) (sliceF h) (View.ld b (Rect.unit (s := S2x512) ![1, h.val * 128] S1x128.size (inGateF h))))

include B in
theorem holds_head (h : Fin 4) (r : Fin 8) : Holds A (row t r) h r (HQ (ACT x0 x1 x8 x9) x10 h) (HK (ACT x0 x1 x8 x9) x11 h) (HI x4 x12 h) (HF x4 x12 h)
    (LN x7 h) (LN x6 h) (LN x2 h) (LN x3 h) (LG x13 h) (LC x5 h) :=
  holds B h r (h.val * 128) (24 + h.val) (28 + h.val) rfl rfl rfl (sliceA h) (sliceI h) (sliceF h) (inLane h) (inGateI h) (inGateF h) (inNorm h) (inWeight h)
    (LC x5 h) fun j l => congrArg x5 (emb_mem r.val h.val (inMem r h) r h rfl rfl j l)

/-- A block of 512 columns from a function of row, head and lane. -/
def cols (f : Fin 128 → Fin 4 → Fin 128 → EReal) (t : Fin 16) : S8x512.Idx → EReal := fun i => f (row t (i 0)) (head (i 1)) (sub (i 1))

theorem cols_lane (f : Fin 128 → Fin 4 → Fin 128 → EReal) (t : Fin 16) (h : Fin 4) (r : Fin 8) (j : Fin 128) : cols f t (ix2 r (lane h j)) = f (row t r) h j := by
  show f (row t r) (head (lane h j)) (sub (lane h j)) = _
  rw [head_lane, sub_lane]

/-- A head's block of 128 lanes, stored in its place. -/
theorem piece (f : Fin 128 → Fin 4 → Fin 128 → EReal) (p : FVec Ideal S8x128 .f32) (h : Fin 4) (o : ℕ) (inb) (ho : o = h.val * 128)
    (hp : ∀ r j, p (ix2 r j) = f (row t r) h j) (x : S8x128.Idx) : p x = cols f t ((Rect.unit (s := S8x512) ![0, o] S8x128.size inb).emb x) := by
  rw [eq_ix2 x]
  exact (hp (x 0) (x 1)).trans ((cols_lane f t h (x 0) (x 1)).symm.trans (congrArg (cols f t) (emb_lane o inb h ho (x 0) (x 1)).symm))

end Heads

end Cert.Kernel6Ideal.Decode

end
-- ==== Proof.DecodeStores.lean ====
/- What one grid point of the decode kernel stores: each block is made of the four heads' pieces, and every piece is the rule's. -/
module

public import proofs.«01_k».proof.Proof.DecodeHeads

@[expose] public section

set_option maxRecDepth 16384

noncomputable section

open Idealize.ShloMosaic Idealize.ShloMosaic.TcCoe

namespace Cert.Kernel6Ideal.Decode

open Cert.Kernel6Ideal Cert.Kernel6Ideal.Gen Cert.Decode

theorem pieces {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

theorem no_pieces {s : Shape} {e : EltTy} {G : s.Idx → Elt Ideal e} : View.PiecesOf (Val := Elt Ideal) G [] := True.intro

section Stores

variable {A : Args} {t : Fin 16} {x0 : Vec Ideal S8x512 .f32} {x1 : Vec Ideal S3x8x512 .f32} {x2 : Vec Ideal S8x512 .f32} {x3 : Vec Ideal S8x512 .f32} {x4 : Vec Ideal S8x128 .f32}
  {x5 : Vec Ideal S8x4x128x128 .f32} {x6 : Vec Ideal S8x512 .f32} {x7 : Vec Ideal S8x512 .f32} {x8 : Vec Ideal S4x512 .f32} {x9 : Vec Ideal S1x512 .f32}
  {x10 : Vec Ideal S4x128x128 .bf16} {x11 : Vec Ideal S4x128x128 .bf16} {x12 : Vec Ideal S2x512 .f32} {x13 : Vec Ideal S1x512 .f32}
  (B : Blocks A t x0 x1 x2 x3 x4 x5 x6 x7 x8 x9 x10 x11 x12 x13)

/-- A block of the memories. -/
def mems (A : Args) (t : Fin 16) : S8x4x128x128.Idx → EReal := fun i => A.newC (row t (i 0)) (i 1) (i 2) (i 3)

include B

/-- The new running maximum. -/
theorem out17 (y : S8x512.Idx) : out0_17 x0 x1 x2 x3 x4 x5 x6 x7 x8 x9 x10 x11 x12 x13 y = cols (fun b h _ => A.top b h) t y := by
  unfold out0_17
  refine View.canon_apply_of_pieces _ _ (View.PiecesOf.mem ?_) y (cover0_17 _ _ _ _ y)
  exact (pieces (piece _ _ 3 384 (inLane 3) rfl fun r j => top_at (holds_head B 3 r) j)
    (pieces (piece _ _ 2 256 (inLane 2) rfl fun r j => top_at (holds_head B 2 r) j)
    (pieces (piece _ _ 1 128 (inLane 1) rfl fun r j => top_at (holds_head B 1 r) j)
    (pieces (piece _ _ 0 0 (inLane 0) rfl fun r j => top_at (holds_head B 0 r) j)
    no_pieces))))

/-- The new normaliser. -/
theorem out16 (y : S8x512.Idx) : out0_16 x0 x1 x2 x3 x4 x5 x6 x7 x8 x9 x10 x11 x12 x13 y = cols A.newN t y := by
  unfold out0_16
  refine View.canon_apply_of_pieces _ _ (View.PiecesOf.mem ?_) y (cover0_16 _ _ _ _ y)
  exact (pieces (piece _ _ 3 384 (inLane 3) rfl fun r j => newN_at (holds_head B 3 r) j)
    (pieces (piece _ _ 2 256 (inLane 2) rfl fun r j => newN_at (holds_head B 2 r) j)
    (pieces (piece _ _ 1 128 (inLane 1) rfl fun r j => newN_at (holds_head B 1 r) j)
    (pieces (piece _ _ 0 0 (inLane 0) rfl fun r j => newN_at (holds_head B 0 r) j)
    no_pieces))))

/-- The head outputs. -/
theorem out14 (y : S8x512.Idx) : out0_14 x0 x1 x2 x3 x4 x5 x6 x7 x8 x9 x10 x11 x12 x13 y = cols A.out t y := by
  unfold out0_14
  refine View.canon_apply_of_pieces _ _ (View.PiecesOf.mem ?_) y (cover0_14 _ _ _ _ y)
  exact (pieces (piece _ _ 3 384 (inLane 3) rfl fun r j => out_at (holds_head B 3 r) j)
    (pieces (piece _ _ 2 256 (inLane 2) rfl fun r j => out_at (holds_head B 2 r) j)
    (pieces (piece _ _ 1 128 (inLane 1) rfl fun r j => out_at (holds_head B 1 r) j)
    (pieces (piece _ _ 0 0 (inLane 0) rfl fun r j => out_at (holds_head B 0 r) j)
    no_pieces))))

/-- A row's memory of one head, stored in its place. -/
theorem stored_mem (u : FVec Ideal S120x128 .f32) (h : Fin 4) (i : Fin 8) (j l : Fin 128) :
    MEM i.val (sliceR i) (sliceC i) (HK (ACT x0 x1 x8 x9) x11 h) (k0_pay13 (HI x4 x12 h) (HF x4 x12 h) (LN x7 h))
      (k0_pay17 (F := Ideal) u (LN x2 h) (HI x4 x12 h) (HF x4 x12 h) (LN x7 h)) (LC x5 h i) (ix4 0 0 j l) = A.newC (row t i) h j l :=
  newC_at (holds_head B h i) u i.val rfl (sliceR i) (sliceC i) j l

theorem piece_mem (p : FVec Ideal S1x1x128x128 .f32) (h : Fin 4) (i : Fin 8) (hp : ∀ j l, p (ix4 0 0 j l) = A.newC (row t i) h j l) (x : S1x1x128x128.Idx) :
    p x = mems A t ((Rect.unit (s := S8x4x128x128) ![i.val, h.val, 0, 0] S1x1x128x128.size (inMem i h)).emb x) := by
  have ex : x = (ix4 0 0 (x 2) (x 3) : S1x1x128x128.Idx) := by
    funext a
    match a with
    | 0 => exact Subsingleton.elim (α := Fin 1) _ _
    | 1 => exact Subsingleton.elim (α := Fin 1) _ _
    | 2 => rfl
    | 3 => rfl
  have e2 : mems A t (ix4 i h (x 2) (x 3)) = A.newC (row t i) h (x 2) (x 3) := rfl
  rw [ex]
  exact (hp (x 2) (x 3)).trans (e2.symm.trans (congrArg (mems A t) (emb_mem i.val h.val (inMem i h) i h rfl rfl (x 2) (x 3)).symm))

/-- The new memories. -/
theorem out15 (y : S8x4x128x128.Idx) : out0_15 x0 x1 x2 x3 x4 x5 x6 x7 x8 x9 x10 x11 x12 x13 y = mems A t y := by
  unfold out0_15
  refine View.canon_apply_of_pieces _ _ (View.PiecesOf.mem ?_) y (cover0_15 _ _ _ _ _ _ _ _ _ _ _ _ _ _ _ _ _ _ _ _ _ _ _ _ _ _ _ _ _ _ _ _ y)
  exact (pieces (piece_mem B _ 3 7 (stored_mem B _ 3 7)) (pieces (piece_mem B _ 3 6 (stored_mem B _ 3 6)) (pieces (piece_mem B _ 3 5 (stored_mem B _ 3 5)) (pieces (piece_mem B _ 3 4 (stored_mem B _ 3 4)) (pieces (piece_mem B _ 3 3 (stored_mem B _ 3 3)) (pieces (piece_mem B _ 3 2 (stored_mem B _ 3 2)) (pieces (piece_mem B _ 3 1 (stored_mem B _ 3 1)) (pieces (piece_mem B _ 3 0 (stored_mem B _ 3 0)) (pieces (piece_mem B _ 2 7 (stored_mem B _ 2 7)) (pieces (piece_mem B _ 2 6 (stored_mem B _ 2 6)) (pieces (piece_mem B _ 2 5 (stored_mem B _ 2 5)) (pieces (piece_mem B _ 2 4 (stored_mem B _ 2 4)) (pieces (piece_mem B _ 2 3 (stored_mem B _ 2 3)) (pieces (piece_mem B _ 2 2 (stored_mem B _ 2 2)) (pieces (piece_mem B _ 2 1 (stored_mem B _ 2 1)) (pieces (piece_mem B _ 2 0 (stored_mem B _ 2 0)) (pieces (piece_mem B _ 1 7 (stored_mem B _ 1 7)) (pieces (piece_mem B _ 1 6 (stored_mem B _ 1 6)) (pieces (piece_mem B _ 1 5 (stored_mem B _ 1 5)) (pieces (piece_mem B _ 1 4 (stored_mem B _ 1 4)) (pieces (piece_mem B _ 1 3 (stored_mem B _ 1 3)) (pieces (piece_mem B _ 1 2 (stored_mem B _ 1 2)) (pieces (piece_mem B _ 1 1 (stored_mem B _ 1 1)) (pieces (piece_mem B _ 1 0 (stored_mem B _ 1 0)) (pieces (piece_mem B _ 0 7 (stored_mem B _ 0 7)) (pieces (piece_mem B _ 0 6 (stored_mem B _ 0 6)) (pieces (piece_mem B _ 0 5 (stored_mem B _ 0 5)) (pieces (piece_mem B _ 0 4 (stored_mem B _ 0 4)) (pieces (piece_mem B _ 0 3 (stored_mem B _ 0 3)) (pieces (piece_mem B _ 0 2 (stored_mem B _ 0 2)) (pieces (piece_mem B _ 0 1 (stored_mem B _ 0 1)) (pieces (piece_mem B _ 0 0 (stored_mem B _ 0 0)) no_pieces))))))))))))))))))))))))))))))))

end Stores

end Cert.Kernel6Ideal.Decode

end
-- ==== Proof.DecodeKernel.lean ====
/- What the decode kernel's run leaves: its four results are the rule's, at every row, head and lane. -/
module

public import proofs.«01_k».proof.Proof.Gen.Kernel6Ideal.Value
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim
public import proofs.«01_k».proof.Proof.DecodeStores

@[expose] public section

set_option maxRecDepth 16384

noncomputable section

open Idealize.ShloMosaic Idealize.ShloMosaic.TcCoe Idealize.SL.Sem
open Idealize.ShloMosaic.Pipeline (Dat)

namespace Cert.Kernel6Ideal.Decode

open Cert.Kernel6Ideal Cert.Kernel6Ideal.Gen Cert.Decode

variable (m : (ℓ : Loc nD τ sig) → Buf (Elt Ideal) ℓ)

/-- The kernel's arguments as plain functions. -/
def kargs (c : Dev nD) : Args where
  z b j := m ((c : Thread nD τ).loc main_arg0) (ix2 b j)
  v b j := m ((c : Thread nD τ).loc main_arg1) (ix2 b j)
  o b j := m ((c : Thread nD τ).loc main_arg2) (ix2 b j)
  s b j := m ((c : Thread nD τ).loc main_arg3) (ix2 b j)
  C b h i j := m ((c : Thread nD τ).loc main_arg4) (ix4 b h i j)
  n b h j := m ((c : Thread nD τ).loc main_arg5) (ix3 b h j)
  m b h := m ((c : Thread nD τ).loc main_arg6) (ix2 b h)
  conv b i j := m ((c : Thread nD τ).loc main_arg7) (ix3 b i j)
  cw i j := m ((c : Thread nD τ).loc main_arg8) (ix2 i j)
  cb j := m ((c : Thread nD τ).loc main_arg9) (ix1 j)
  wq h i j := m ((c : Thread nD τ).loc main_arg10) (ix3 h i j)
  wk h i j := m ((c : Thread nD τ).loc main_arg11) (ix3 h i j)
  gb i h := m ((c : Thread nD τ).loc main_arg12) (ix2 i h)
  g j := m ((c : Thread nD τ).loc main_arg13) (ix1 j)

theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0, 0, 0] ∧ win0_6.index t = ![t.val, 0] ∧ win0_7.index t = ![t.val, 0] ∧ win0_8.index t = ![0, 0]
    ∧ win0_9.index t = ![0, 0] ∧ win0_10.index t = ![0, 0, 0] ∧ win0_11.index t = ![0, 0, 0] ∧ win0_12.index t = ![0, 0] ∧ win0_13.index t = ![0, 0] :=
  (by decide +kernel : ∀ t : Fin grid0.N, _)

theorem idx_out : ∀ t : Fin cfg0.N, win0_14.index t = ![t.val, 0] ∧ win0_15.index t = ![t.val, 0, 0, 0] ∧ win0_16.index t = ![t.val, 0] ∧ win0_17.index t = ![t.val, 0] :=
  (by decide +kernel : ∀ t : Fin grid0.N, _)

variable (c : Dev nD)

theorem entry_gb : V m c main_v4 = shapeCast S2x512 (broadcastInDim S2x4x128 ![0, 1] bcast_S2x4_S2x4x128_0_1 (m ((c : Thread nD τ).loc main_arg12))) shapeCasts_S2x4x128_S2x512 := by
  entry_read
  rfl

theorem entry_cb : V m c main_v5 = shapeCast S1x512 (m ((c : Thread nD τ).loc main_arg9)) shapeCasts_S512_S1x512 := by
  entry_read
  rfl

theorem entry_wq : V m c main_v6 = truncf (F := Ideal) .bf16 (m ((c : Thread nD τ).loc main_arg10)) bitsLt_bf16_f32 := by
  entry_read
  rfl

theorem entry_wk : V m c main_v7 = truncf (F := Ideal) .bf16 (m ((c : Thread nD τ).loc main_arg11)) bitsLt_bf16_f32 := by
  entry_read
  rfl

theorem entry_g : V m c main_v8 = shapeCast S1x512 (m ((c : Thread nD τ).loc main_arg13)) shapeCasts_S512_S1x512 := by
  entry_read
  rfl

theorem entry_conv : V m c main_v9 = transpose S3x128x512 [1, 0, 2] (m ((c : Thread nD τ).loc main_arg7)) transposes_S128x3x512_S3x128x512_1_0_2 := by
  entry_read
  rfl

theorem entry_m : V m c main_v11 = shapeCast S128x512 (broadcastInDim S128x4x128 ![0, 1] bcast_S128x4_S128x4x128_0_1 (m ((c : Thread nD τ).loc main_arg6))) shapeCasts_S128x4x128_S128x512 := by
  entry_read
  rfl

theorem entry_n : V m c main_v12 = shapeCast S128x512 (m ((c : Thread nD τ).loc main_arg5)) shapeCasts_S128x4x128_S128x512 := by
  entry_read
  rfl

/-- A grid point as a block of eight rows. -/
def pt (t : Fin cfg0.N) : Fin 16 := ⟨t.val, lt_of_lt_of_eq t.isLt N_0⟩

theorem blk_z (t : Fin cfg0.N) (r : Fin 8) (j : Fin 512) : iblk m c 0 t (ix2 r j) = (kargs m c).z (row (pt t) r) j := by
  have i0 := (idx t).1
  blk_ext [iblk, V, i0, kargs, row, pt]

theorem blk_conv (t : Fin cfg0.N) (i : Fin 3) (r : Fin 8) (j : Fin 512) : iblk m c 1 t (ix3 i r j) = (kargs m c).conv (row (pt t) r) i j := by
  have i1 := (idx t).2.1
  blk_simp [iblk, i1]
  rw [entry_conv]
  pointwise
  blk_ext [i1, kargs, row, pt]

theorem blk_v (t : Fin cfg0.N) (r : Fin 8) (j : Fin 512) : iblk m c 2 t (ix2 r j) = (kargs m c).v (row (pt t) r) j := by
  have i2 := (idx t).2.2.1
  blk_ext [iblk, V, i2, kargs, row, pt]

theorem blk_o (t : Fin cfg0.N) (r : Fin 8) (j : Fin 512) : iblk m c 3 t (ix2 r j) = (kargs m c).o (row (pt t) r) j := by
  have i3 := (idx t).2.2.2.1
  blk_ext [iblk, V, i3, kargs, row, pt]

theorem blk_s (t : Fin cfg0.N) (r : Fin 8) (j : Fin 128) : iblk m c 4 t (ix2 r j) = (kargs m c).s (row (pt t) r) j := by
  have i4 := (idx t).2.2.2.2.1
  blk_ext [iblk, V, i4, kargs, row, pt]

theorem blk_C (t : Fin cfg0.N) (r : Fin 8) (h : Fin 4) (j l : Fin 128) : iblk m c 5 t (ix4 r h j l) = (kargs m c).C (row (pt t) r) h j l := by
  have i5 := (idx t).2.2.2.2.2.1
  blk_ext [iblk, V, i5, kargs, row, pt]

theorem blk_n (t : Fin cfg0.N) (r : Fin 8) (h : Fin 4) (j : Fin 128) : iblk m c 6 t (ix2 r (lane h j)) = (kargs m c).n (row (pt t) r) h j := by
  have i6 := (idx t).2.2.2.2.2.2.1
  blk_simp [iblk, i6]
  rw [entry_n]
  pointwise
  blk_ext [i6, kargs, row, pt, lane]

theorem blk_cw (t : Fin cfg0.N) (i : Fin 4) (j : Fin 512) : iblk m c 8 t (ix2 i j) = (kargs m c).cw i j := by
  have i8 := (idx t).2.2.2.2.2.2.2.2.1
  blk_ext [iblk, V, i8, kargs]

theorem blk_cb (t : Fin cfg0.N) (j : Fin 512) : iblk m c 9 t (ix2 0 j) = (kargs m c).cb j := by
  have i9 := (idx t).2.2.2.2.2.2.2.2.2.1
  blk_simp [iblk, i9]
  rw [entry_cb]
  pointwise
  blk_ext [i9, kargs]

theorem blk_wq (t : Fin cfg0.N) (h : Fin 4) (i j : Fin 128) : iblk m c 10 t (ix3 h i j) = (kargs m c).wq h i j := by
  have i10 := (idx t).2.2.2.2.2.2.2.2.2.2.1
  blk_simp [iblk, i10]
  rw [entry_wq]
  pointwise
  blk_ext [i10, kargs]

theorem blk_wk (t : Fin cfg0.N) (h : Fin 4) (i j : Fin 128) : iblk m c 11 t (ix3 h i j) = (kargs m c).wk h i j := by
  have i11 := (idx t).2.2.2.2.2.2.2.2.2.2.2.1
  blk_simp [iblk, i11]
  rw [entry_wk]
  pointwise
  blk_ext [i11, kargs]

theorem blk_g (t : Fin cfg0.N) (j : Fin 512) : iblk m c 13 t (ix2 0 j) = (kargs m c).g j := by
  have i13 := (idx t).2.2.2.2.2.2.2.2.2.2.2.2.2
  blk_simp [iblk, i13]
  rw [entry_g]
  pointwise
  blk_ext [i13, kargs]

theorem blk_m (t : Fin cfg0.N) (r : Fin 8) (h : Fin 4) (j : Fin 128) : iblk m c 7 t (ix2 r (lane h j)) = (kargs m c).m (row (pt t) r) h := by
  have i7 := (idx t).2.2.2.2.2.2.2.1
  have e : ∀ b : Fin 128, V m c main_v11 (ix2 b (lane h j)) = (kargs m c).m b h := by
    intro b
    rw [entry_m]
    pointwise
    blk_ext [kargs, lane]
  refine Eq.trans ?_ (e (row (pt t) r))
  blk_ext [iblk, i7, row, pt, lane]

theorem blk_gb (t : Fin cfg0.N) (i : Fin 2) (h : Fin 4) (j : Fin 128) : iblk m c 12 t (ix2 i (lane h j)) = (kargs m c).gb i h := by
  have i12 := (idx t).2.2.2.2.2.2.2.2.2.2.2.2.1
  have e : V m c main_v4 (ix2 i (lane h j)) = (kargs m c).gb i h := by
    rw [entry_gb]
    pointwise
    blk_ext [kargs, lane]
  refine Eq.trans ?_ e
  blk_ext [iblk, i12, lane]

/-- The input blocks of a grid point are the rule's rows. -/
theorem blocks (t : Fin cfg0.N) : Blocks (kargs m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  z := blk_z m c t
  conv := blk_conv m c t
  v := blk_v m c t
  o := blk_o m c t
  s := blk_s m c t
  C := blk_C m c t
  n := blk_n m c t
  m := blk_m m c t
  cw := blk_cw m c t
  cb := blk_cb m c t
  wq := blk_wq m c t
  wk := blk_wk m c t
  gb := blk_gb m c t
  g := blk_g m c t

/-- A whole result of 512 columns from a function of row, head and lane. -/
def whole (f : Fin 128 → Fin 4 → Fin 128 → EReal) : S128x512.Idx → EReal := fun i => f (i 0) (head (i 1)) (sub (i 1))

/-- The normed and gated head outputs. -/
theorem final14 : (dats m 0 c).arrAt 14 (cfgs 0).N = (whole (kargs m c).out) := by
  refine (dats m 0 c).arrAt_eq_of_covers 14 _ (by decide +kernel) fun t hf y => ?_
  blk_simp
  rw [after0_14]
  have ht : t.val < 16 := lt_of_lt_of_eq t.isLt N_0
  have i14 := (idx_out t).1
  have hy : (y 0 : ℕ) < 8 := (y 0).isLt
  have eo : (((View.whole main_v13_0).slice (win0_14.rect t)).emb y) = (ix2 ⟨t.val * 8 + (y 0 : ℕ), by omega⟩ (y 1) : S128x512.Idx) := by
    blk_ext [i14]
  rw [eo]
  exact out14 (blocks m c t) y

/-- The new memories, whole. -/
def whole_mems (A : Args) : S128x4x128x128.Idx → EReal := fun i => A.newC (i 0) (i 1) (i 2) (i 3)

/-- The new memories. -/
theorem final15 : (dats m 0 c).arrAt 15 (cfgs 0).N = whole_mems (kargs m c) := by
  refine (dats m 0 c).arrAt_eq_of_covers 15 _ (by decide +kernel) fun t hf y => ?_
  blk_simp
  rw [after0_15]
  have ht : t.val < 16 := lt_of_lt_of_eq t.isLt N_0
  have i15 := (idx_out t).2.1
  have hy : (y 0 : ℕ) < 8 := (y 0).isLt
  have eo : (((View.whole main_v13_1).slice (win0_15.rect t)).emb y) = (ix4 ⟨t.val * 8 + (y 0 : ℕ), by omega⟩ (y 1) (y 2) (y 3) : S128x4x128x128.Idx) := by
    blk_ext [i15]
  rw [eo]
  exact out15 (blocks m c t) y

/-- The new normalisers. -/
theorem final16 : (dats m 0 c).arrAt 16 (cfgs 0).N = (whole (kargs m c).newN) := by
  refine (dats m 0 c).arrAt_eq_of_covers 16 _ (by decide +kernel) fun t hf y => ?_
  blk_simp
  rw [after0_16]
  have ht : t.val < 16 := lt_of_lt_of_eq t.isLt N_0
  have i16 := (idx_out t).2.2.1
  have hy : (y 0 : ℕ) < 8 := (y 0).isLt
  have eo : (((View.whole main_v13_2).slice (win0_16.rect t)).emb y) = (ix2 ⟨t.val * 8 + (y 0 : ℕ), by omega⟩ (y 1) : S128x512.Idx) := by
    blk_ext [i16]
  rw [eo]
  exact out16 (blocks m c t) y

/-- The new running maxima, repeated over the lanes. -/
theorem final17 : (dats m 0 c).arrAt 17 (cfgs 0).N = (whole fun b h _ => (kargs m c).top b h) := by
  refine (dats m 0 c).arrAt_eq_of_covers 17 _ (by decide +kernel) fun t hf y => ?_
  blk_simp
  rw [after0_17]
  have ht : t.val < 16 := lt_of_lt_of_eq t.isLt N_0
  have i17 := (idx_out t).2.2.2
  have hy : (y 0 : ℕ) < 8 := (y 0).isLt
  have eo : (((View.whole main_v13_3).slice (win0_17.rect t)).emb y) = (ix2 ⟨t.val * 8 + (y 0 : ℕ), by omega⟩ (y 1) : S128x512.Idx) := by
    blk_ext [i17]
  rw [eo]
  exact out17 (blocks m c t) y

end Cert.Kernel6Ideal.Decode

end
-- ==== Proof.DecodePast.lean ====
/- The inputs the next step's convolution looks back on: the old ones but the first, and the new one. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DecodePast

/-- The past inputs: `s` without its first row, then `z`. -/
def past (s : Fin 128 → Fin 3 → Fin 512 → EReal) (z : Fin 128 → Fin 512 → EReal) (b : Fin 128) (i : Fin 3) (j : Fin 512) : EReal :=
  match i with
  | 0 => s b 1 j
  | 1 => s b 2 j
  | 2 => z b j

end Cert.DecodePast

namespace Cert.Kernel6Ideal.Decode

open Cert.Kernel6Ideal Cert.Kernel6Ideal.Gen Cert.DecodePast

/-- The kernel's past inputs. -/
def PAST (s : FVec Ideal S128x3x512 .f32) (z : FVec Ideal S128x512 .f32) : FVec Ideal S128x3x512 .f32 :=
  concatenate S128x3x512 1 [⟨S128x2x512, extractStridedSlice S128x2x512 ![0, 1, 0] s slices_S128x3x512_S128x2x512_0_1_0⟩, ⟨S128x1x512, broadcastInDim S128x1x512 ![0, 2] bcast_S128x512_S128x1x512_0_2 z⟩] concatenates_S128x2x512_S128x1x512_S128x3x512_d1

theorem past_at (s : FVec Ideal S128x3x512 .f32) (z : FVec Ideal S128x512 .f32) (b : Fin 128) (i : Fin 3) (j : Fin 512) :
    PAST s z (ix3 b i j) = past (fun b i j => s (ix3 b i j)) (fun b j => z (ix2 b j)) b i j := by
  match i with
  | 0 => pointwise [PAST, past]
  | 1 => pointwise [PAST, past]
  | 2 => pointwise [PAST, past]

variable (m : (ℓ : Loc nD τ sig) → Buf (Elt Ideal) ℓ)

theorem entry_past (c : Dev nD) : V m c main_v2 = PAST (m ((c : Thread nD τ).loc main_arg7)) (m ((c : Thread nD τ).loc main_arg0)) := by
  unfold V
  after_reads_simp
  rfl

/-- The run with every result named, the past inputs among them. -/
theorem run (ρ : Dev nD → PrngReg) : θ_run defs (onTc (τ := τ) (main (F := Ideal))) ⟨m, fun _ => 0, ρ⟩ fun r => ∀ c : Dev nD,
      r.2.mem ((c : Thread nD τ).loc main_v13_0) = (dats m 0 c).arrAt 14 cfg0.N
      ∧ r.2.mem ((c : Thread nD τ).loc main_v13_1) = (dats m 0 c).arrAt 15 cfg0.N
      ∧ r.2.mem ((c : Thread nD τ).loc main_v13_2) = (dats m 0 c).arrAt 16 cfg0.N
      ∧ r.2.mem ((c : Thread nD τ).loc main_v13_3) = (dats m 0 c).arrAt 17 cfg0.N
      ∧ r.2.mem ((c : Thread nD τ).loc main_v2) = V m c main_v2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨Value.post14 m r h c, Value.post15 m r h c, Value.post16 m r h c, Value.post17 m r h c,
      (h c).2 main_v2 (Pipeline.mem_restRefs_of main_v2 (by decide) (by decide)),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c,
      Value.kept_main_arg9 m r h c,
      Value.kept_main_arg10 m r h c,
      Value.kept_main_arg11 m r h c,
      Value.kept_main_arg12 m r h c,
      Value.kept_main_arg13 m r h c⟩)
    (run_main m ρ)

end Cert.Kernel6Ideal.Decode

namespace Cert.Reference6Ideal.Decode

open Cert.Reference6Ideal Cert.Reference6Ideal.Gen Cert.Reference6Ideal.Value Cert.DecodePast

variable (V0 : Valuation τ sig (Elt Ideal))

/-- The reference's past inputs. -/
def PAST : FVec Ideal S128x3x512 .f32 := extractStridedSlice S128x3x512 ![0, 1, 0] (res_main_v3 V0) slices_S128x4x512_S128x3x512_0_1_0

theorem past_at (b : Fin 128) (i : Fin 3) (j : Fin 512) :
    PAST V0 (ix3 b i j) = past (fun b i j => (V0 (Proc.tc.devRef main_arg7) : FVec Ideal S128x3x512 .f32) (ix3 b i j)) (fun b j => (V0 (Proc.tc.devRef main_arg0) : FVec Ideal S128x512 .f32) (ix2 b j)) b i j := by
  match i with
  | 0 => pointwise [PAST, past, res_main_v3]
  | 1 => pointwise [PAST, past, res_main_v3]
  | 2 => pointwise [PAST, past, res_main_v3]

end Cert.Reference6Ideal.Decode

end
-- ==== Proof.DecodeReference.lean ====
/- The reference of the decode step, read head by head. -/
module

public import proofs.«01_k».proof.Proof.Gen.Reference6Ideal.Run
public import proofs.«01_k».proof.Proof.DecodeRule

@[expose] public section

set_option maxRecDepth 16384

noncomputable section

open Idealize.ShloMosaic Idealize.ShloMosaic.TcCoe Idealize.SL.Sem

namespace Cert.Reference6Ideal.Decode

open Cert.Reference6Ideal Cert.Reference6Ideal.Gen Cert.Reference6Ideal.Value Cert.Decode

variable (V0 : Valuation τ sig (Elt Ideal))

/-- The reference's arguments as plain functions. -/
def args : Args where
  z b j := V0 (Proc.tc.devRef main_arg0) (ix2 b j)
  v b j := V0 (Proc.tc.devRef main_arg1) (ix2 b j)
  o b j := V0 (Proc.tc.devRef main_arg2) (ix2 b j)
  s b j := V0 (Proc.tc.devRef main_arg3) (ix2 b j)
  C b h i j := V0 (Proc.tc.devRef main_arg4) (ix4 b h i j)
  n b h j := V0 (Proc.tc.devRef main_arg5) (ix3 b h j)
  m b h := V0 (Proc.tc.devRef main_arg6) (ix2 b h)
  conv b i j := V0 (Proc.tc.devRef main_arg7) (ix3 b i j)
  cw i j := V0 (Proc.tc.devRef main_arg8) (ix2 i j)
  cb j := V0 (Proc.tc.devRef main_arg9) (ix1 j)
  wq h i j := V0 (Proc.tc.devRef main_arg10) (ix3 h i j)
  wk h i j := V0 (Proc.tc.devRef main_arg11) (ix3 h i j)
  gb i h := V0 (Proc.tc.devRef main_arg12) (ix2 i h)
  g j := V0 (Proc.tc.devRef main_arg13) (ix1 j)

/-- The reference's term of the normed and gated output. -/
def OUT : FVec Ideal S128x512 .f32 :=
  shapeCast _ (mulf (shapeCast _ (mulf (mulf (res_main_v126 V0) (broadcastInDim S128x1x4x128 ![0, 1, 2, 3] bcast_S128x1x4x1_S128x1x4x128_0_1_2_3 (Host.rsqrt (addf (Host.divf (broadcastInDim S128x1x4x1 ![0, 1, 2] bcast_S128x1x4_S128x1x4x1_0_1_2 (Host.reduceAdd (mulf (res_main_v126 V0) (res_main_v126 V0)) (constant S_ .f32 0x00000000#32) reducesTo_S128x1x4x128_S128x1x4_d3 h_S_)) (broadcastInDim S128x1x4x1 ![] bcast_S_S128x1x4x1 (constant S_ .f32 0x43000000#32))) (broadcastInDim S128x1x4x1 ![] bcast_S_S128x1x4x1 (constant S_ .f32 0x358637BD#32)))))) (broadcastInDim S128x1x4x128 ![0, 1, 2, 3] bcast_S1x1x4x128_S128x1x4x128_0_1_2_3 (broadcastInDim S1x1x4x128 ![2, 3] bcast_S4x128_S1x1x4x128_2_3 (shapeCast _ (V0 (Proc.devRef .tc main_arg13)) shapeCasts_S512_S4x128)))) shapeCasts_S128x1x4x128_S128x1x512) (Host.divf (broadcastInDim S128x1x512 ![] bcast_S_S128x1x512 (constant S_ .f32 0x3F800000#32)) (addf (broadcastInDim S128x1x512 ![] bcast_S_S128x1x512 (constant S_ .f32 0x3F800000#32)) (Host.exp (Host.negf (broadcastInDim S128x1x512 ![0, 2] bcast_S128x512_S128x1x512_0_2 (V0 (Proc.devRef .tc main_arg2)))))))) shapeCasts_S128x1x512_S128x512

/-- The reference's term of the new matrix memory. -/
def NEWC : FVec Ideal S128x4x128x128 .f32 :=
  addf (mulf (broadcastInDim S128x4x128x128 ![0, 1, 2, 3] bcast_S128x4x1x1_S128x4x128x128_0_1_2_3 (broadcastInDim S128x4x1x1 ![0, 1] bcast_S128x4_S128x4x1x1_0_1 (res_main_v112 V0))) (V0 (Proc.devRef .tc main_arg4))) (Host.dotGeneral (φ₁ := .f32) (φ₂ := .f32) dot_S128x4x1x128_S128x4x1x128_S128x4x128x128_2_2_3_3_01_01 none (mulf (φ := .f32) (broadcastInDim S128x4x1x128 ![0, 1, 2, 3] bcast_S128x4x1x1_S128x4x1x128_0_1_2_3 (broadcastInDim S128x4x1x1 ![0, 1, 2] bcast_S128x4x1_S128x4x1x1_0_1_2 (res_main_v109 V0))) (res_main_v45 V0)) (res_main_v43 V0))

/-- The reference's term of the new normaliser. -/
def NEWN : FVec Ideal S128x512 .f32 :=
  shapeCast _ (addf (mulf (broadcastInDim S128x4x128 ![0, 1, 2] bcast_S128x4x1_S128x4x128_0_1_2 (broadcastInDim S128x4x1 ![0, 1] bcast_S128x4_S128x4x1_0_1 (res_main_v112 V0))) (V0 (Proc.devRef .tc main_arg5))) (Host.dotGeneral (φ₁ := .f32) (φ₂ := .f32) dot_S128x4x1_S128x4x1x128_S128x4x128_2_2_n_3_01_01 none (res_main_v109 V0) (res_main_v43 V0))) shapeCasts_S128x4x128_S128x512

/-- The reference's term of the new running maximum. -/
def NEWM : FVec Ideal S128x512 .f32 :=
  shapeCast _ (broadcastInDim S128x4x128 ![0, 1] bcast_S128x4_S128x4x128_0_1 (res_main_v106 V0)) shapeCasts_S128x4x128_S128x512

theorem single (f : Fin 1 → EReal) : ∑ x, f x = f 0 := Fin.sum_univ_one f

/-- The bits of the least value. -/
theorem ninf : Ideal.ofBits .f32 4286578688#32 = ⊥ := by simp [Ideal.ofBits, Ideal.ieee]

/-- A window of one element holds that element. -/
theorem window_one (x : S128x4x1.Idx → EReal) (e : EReal) (b : Fin 128) (h : Fin 4) :
    Ideal.hostReduceWindowAdd ![1, 1, 1] ![1, 1, 1] ![0, 0, 0] ![0, 0, 0] reduceWindows_S128x4x1_S128x4x1_w1s1p0_0_w1s1p0_0_w1s1p0_0 x e (ix3 b h 0)
      = e + x (ix3 b h 0) := by
  have el : List.finRange (⟨3, ![1, 1, 1]⟩ : Shape).numel = [⟨0, by decide⟩] := by decide
  have ew : ∀ i : (⟨3, ![1, 1, 1]⟩ : Shape).Idx, ∀ a, (i a).val = 0 := fun i a => by
    have := (i a).isLt
    fin_cases a <;> exact Nat.lt_one_iff.mp this
  unfold Ideal.hostReduceWindowAdd Host.reduceWindow
  refine (congrArg (fun l => List.foldl _ _ l) el).trans ?_
  refine congrArg (e + ·) ?_
  refine (dif_pos ?_).trans (congrArg x ?_)
  · intro a
    fin_cases a
    · exact ⟨Nat.zero_le _, by
        show b.val * 1 + ((⟨3, ![1, 1, 1]⟩ : Shape).rowMajor.symm ⟨0, by decide⟩ 0).val - 0 < 128
        rw [ew]; omega⟩
    · exact ⟨Nat.zero_le _, by
        show h.val * 1 + ((⟨3, ![1, 1, 1]⟩ : Shape).rowMajor.symm ⟨0, by decide⟩ 1).val - 0 < 4
        rw [ew]; omega⟩
    · exact ⟨Nat.zero_le _, by
        show 0 * 1 + ((⟨3, ![1, 1, 1]⟩ : Shape).rowMajor.symm ⟨0, by decide⟩ 2).val - 0 < 1
        rw [ew]; omega⟩
  · funext a
    fin_cases a
    · exact Fin.ext (by
        show b.val * 1 + ((⟨3, ![1, 1, 1]⟩ : Shape).rowMajor.symm ⟨0, by decide⟩ 0).val - 0 = b.val
        rw [ew]; omega)
    · exact Fin.ext (by
        show h.val * 1 + ((⟨3, ![1, 1, 1]⟩ : Shape).rowMajor.symm ⟨0, by decide⟩ 1).val - 0 = h.val
        rw [ew]; omega)
    · exact Fin.ext (by
        show 0 * 1 + ((⟨3, ![1, 1, 1]⟩ : Shape).rowMajor.symm ⟨0, by decide⟩ 2).val - 0 = 0
        rw [ew])

/-- A maximum over one element. -/
theorem max_one4 (x : S128x4x1x1.Idx → EReal) (e : EReal) (b : Fin 128) (h : Fin 4) :
    Finset.fold max e x {i | reducesTo_S128x4x1x1_S128x4x1_d3.drop i = ix3 b h 0} = max (x (ix4 b h 0 0)) e := by
  have : (Finset.univ.filter fun i => reducesTo_S128x4x1x1_S128x4x1_d3.drop i = ix3 b h 0) = {ix4 b h 0 0} := by
    ext i
    simp only [Finset.mem_filter, Finset.mem_univ, true_and, Finset.mem_singleton]
    constructor
    · intro hi
      have h0 : i 0 = b := Fin.ext (congrArg Fin.val (congrFun hi 0))
      have h1 : i 1 = h := Fin.ext (congrArg Fin.val (congrFun hi 1))
      have h2 : i 2 = (0 : Fin 1) := Subsingleton.elim (α := Fin 1) _ _
      have h3 : i 3 = (0 : Fin 1) := Subsingleton.elim (α := Fin 1) _ _
      rw [eq_ix4 i, h0, h1, h2, h3]
    · rintro rfl
      funext a
      fin_cases a <;> rfl
  rw [this, Finset.fold_singleton]

theorem max_one3 (x : S128x4x1.Idx → EReal) (e : EReal) (b : Fin 128) (h : Fin 4) :
    Finset.fold max e x {i | reducesTo_S128x4x1_S128x4_d2.drop i = ix2 b h} = max (x (ix3 b h 0)) e := by
  have : (Finset.univ.filter fun i => reducesTo_S128x4x1_S128x4_d2.drop i = ix2 b h) = {ix3 b h 0} := by
    ext i
    simp only [Finset.mem_filter, Finset.mem_univ, true_and, Finset.mem_singleton]
    constructor
    · intro hi
      have h0 : i 0 = b := Fin.ext (congrArg Fin.val (congrFun hi 0))
      have h1 : i 1 = h := Fin.ext (congrArg Fin.val (congrFun hi 1))
      have h2 : i 2 = (0 : Fin 1) := Subsingleton.elim (α := Fin 1) _ _
      rw [eq_ix3 i, h0, h1, h2]
    · rintro rfl
      funext a
      fin_cases a <;> rfl
  rw [this, Finset.fold_singleton]

theorem v35 (b : Fin 128) (j : Fin 512) : res_main_v35 V0 (ix3 b 0 j) = (args V0).mix b j := by
  pointwise [res_main_v35, res_main_v3]
  unfold Args.mix args
  abel

theorem v37 (b : Fin 128) (h : Fin 4) (j : Fin 128) : res_main_v37 V0 (ix4 b 0 h j) = (args V0).act b (lane h j) := by
  pointwise [res_main_v37]
  rw [v35]
  rfl

theorem v39 (b : Fin 128) (h : Fin 4) (j : Fin 128) : res_main_v39 V0 (ix4 b h 0 j) = (args V0).q b h j := by
  pointwise [res_main_v39]
  simp only [v37]
  exact Finset.sum_congr (M := EReal) rfl fun x _ => EReal.mul_comm _ _

theorem v43 (b : Fin 128) (h : Fin 4) (j : Fin 128) : res_main_v43 V0 (ix4 b h 0 j) = (args V0).k b h j := by
  pointwise [res_main_v43]
  simp only [v37]
  exact congrArg (fun t : EReal => t * Ideal.ofBits FTy.f32 1035273459#32)
    (Finset.sum_congr (M := EReal) rfl fun x _ => EReal.mul_comm _ _)

theorem v45 (b : Fin 128) (h : Fin 4) (j : Fin 128) : res_main_v45 V0 (ix4 b h 0 j) = (args V0).v b (lane h j) := by
  pointwise [res_main_v45]
  rfl

theorem v49_ig (b : Fin 128) (h : Fin 4) : res_main_v49 V0 (ix4 b 0 0 h) = (args V0).ig b h := by
  pointwise [res_main_v49]
  rfl

theorem v49_fx (b : Fin 128) (h : Fin 4) : res_main_v49 V0 (ix4 b 0 1 h) = (args V0).fx b h := by
  pointwise [res_main_v49]
  exact congrArg (fun i => (args V0).s b i + (args V0).gb 1 h) (Fin.ext (by show 24 + (4 + h.val) = 28 + h.val; omega))

theorem v52 (b : Fin 128) (h : Fin 4) : res_main_v52 V0 (ix3 b h 0) = (args V0).ig b h := by
  pointwise [res_main_v52]
  exact v49_ig V0 b h

theorem neg_fx (b : Fin 128) (h : Fin 4) : res_main_call1_v0 V0 (ix3 b 0 h) = -(args V0).fx b h := by
  pointwise [res_main_call1_v0]
  rw [v49_fx]

theorem neg_fx_sub (b : Fin 128) (h : Fin 4) : res_main_call1_call0_v3 V0 (ix3 b 0 h) = -(args V0).fx b h := by
  pointwise [res_main_call1_call0_v3, res_main_call1_call0_cst]
  rw [neg_fx]

theorem v63 (b : Fin 128) (h : Fin 4) : res_main_v63 V0 (ix3 b h 0) = (args V0).fg b h := by
  unfold res_main_v63
  refine (window_one _ _ b h).trans ?_
  pointwise [res_main_call1_call0_cst]
  rw [neg_fx, neg_fx_sub]
  simp
  rfl

/-- What the reference adds to the gate. -/
def lag (f i : EReal) : EReal := f - f + i

/-- The gate's cumulative sum against itself drops out: what stays is the input gate. -/
def Settled : Prop := ∀ b h, (args V0).fg b h - (args V0).fg b h + (args V0).ig b h = (args V0).ig b h

/-- An input of the forget gate above minus infinity has a finite gate, so the sum drops out. -/
theorem settled (hf : ∀ b h, (args V0).fx b h ≠ ⊥) : Settled V0 := by
  intro b h
  obtain ⟨x, hx⟩ : ∃ x : ℝ, (args V0).fg b h = (x : EReal) := by
    unfold Args.fg
    by_cases ht : (args V0).fx b h = ⊤
    · refine ⟨0, ?_⟩
      rw [ht]
      simp [logGate, Ideal.log1p, ← EReal.coe_one]
    lift (args V0).fx b h to ℝ using ⟨ht, hf b h⟩ with y hy
    unfold logGate
    have cm (p q : ℝ) : max (p : EReal) (q : EReal) = ((max p q : ℝ) : EReal) := (EReal.coe_strictMono.monotone.map_max).symm
    have hp : ¬ 1 + Real.exp (-max (-y) (- -y)) ≤ 0 := not_le.mpr (by positivity)
    refine ⟨-(max (-y) 0 + Real.log (1 + Real.exp (-max (-y) (- -y)))), ?_⟩
    rw [Ideal.log1p, ← EReal.coe_zero, ← EReal.coe_one, ← EReal.coe_neg, ← EReal.coe_neg, cm, cm, ← EReal.coe_neg, Ideal.exp_coe, ← EReal.coe_add, Ideal.log_coe,
      if_neg hp, ← EReal.coe_add, ← EReal.coe_neg]
  rw [hx, ← EReal.coe_sub, sub_self, EReal.coe_zero, zero_add]

variable {V0} (hs : Settled V0)
include hs

theorem v71 (b : Fin 128) (h : Fin 4) : res_main_v71 V0 (ix4 b h 0 0) = (args V0).ig b h := by
  have e : res_main_v71 V0 (ix4 b h 0 0) = lag (res_main_v63 V0 (ix3 b h 0)) (res_main_v52 V0 (ix3 b h 0)) := by
    pointwise [res_main_v71]
    rfl
  rw [e, v63, v52]
  exact hs b h

omit hs in
theorem v73 (b : Fin 128) (h : Fin 4) : res_main_v73 V0 (ix3 b h 0) = (args V0).fg b h + (args V0).m b h := by
  pointwise [res_main_v73]
  rw [v63]
  rfl

theorem v75 (b : Fin 128) (h : Fin 4) : res_main_v75 V0 (ix3 b h 0) = (args V0).top b h := by
  pointwise [res_main_v75]
  refine (congrArg₂ max (max_one4 (res_main_v71 V0) _ b h) rfl).trans ?_
  rw [v71 hs, v73, ninf, max_bot_right, max_comm]
  rfl

theorem v80 (b : Fin 128) (h : Fin 4) : res_main_v80 V0 (ix4 b h 0 0) = (args V0).qk b h := by
  pointwise [res_main_v80]
  rw [v71 hs, v75 hs]
  simp only [v39, v43]
  rfl

theorem v82 (b : Fin 128) (h : Fin 4) : res_main_v82 V0 (ix3 b h 0) = (args V0).decay b h := by
  pointwise [res_main_v82]
  rw [v73, v75 hs]
  rfl

omit hs in
theorem v100 (b : Fin 128) (h : Fin 4) : res_main_v100 V0 (ix2 b h) = (args V0).fg b h := by
  pointwise [res_main_v100]
  exact v63 V0 b h

theorem v103 (b : Fin 128) (h : Fin 4) : res_main_v103 V0 (ix3 b h 0) = (args V0).ig b h := by
  pointwise [res_main_v103]
  rw [v100, v63, v52, hs]

theorem v106 (b : Fin 128) (h : Fin 4) : res_main_v106 V0 (ix2 b h) = (args V0).top b h := by
  pointwise [res_main_v106]
  refine (congrArg₂ max rfl (max_one3 (res_main_v103 V0) _ b h)).trans ?_
  rw [v103 hs, v100, ninf, max_bot_right]
  rfl

theorem v109 (b : Fin 128) (h : Fin 4) : res_main_v109 V0 (ix3 b h 0) = (args V0).weight b h := by
  pointwise [res_main_v109]
  rw [v103 hs, v106 hs]
  rfl

theorem v112 (b : Fin 128) (h : Fin 4) : res_main_v112 V0 (ix2 b h) = (args V0).decay b h := by
  pointwise [res_main_v112]
  rw [v100, v106 hs]
  rfl

theorem v126 (b : Fin 128) (h : Fin 4) (j : Fin 128) : res_main_v126 V0 (ix4 b 0 h j) = (args V0).hid b h j := by
  pointwise [res_main_v126]
  simp only [v82 hs, v75 hs, v39]
  exact congrArg₂ Ideal.div
    (congrArg₂ (fun x y : EReal => x + y)
      (congrArg (fun x : EReal => (args V0).decay b h * x) (Finset.sum_congr (M := EReal) rfl fun x _ => EReal.mul_comm _ _))
      ((single _).trans (congrArg₂ (fun x y : EReal => x * y) (v80 hs b h) (v45 V0 b h j))))
    (congrArg₂ max (congrArg (FloatOps.absf (F := Ideal) (φ := .f32))
      (congrArg₂ (fun x y : EReal => x + y) rfl ((single _).trans (v80 hs b h)))) rfl)

theorem new_m (b : Fin 128) (h : Fin 4) (j : Fin 128) : NEWM V0 (ix2 b (lane h j)) = (args V0).top b h := by
  unfold lane
  pointwise [NEWM]
  exact v106 hs b h

theorem new_n (b : Fin 128) (h : Fin 4) (j : Fin 128) : NEWN V0 (ix2 b (lane h j)) = (args V0).newN b h j := by
  unfold lane
  pointwise [NEWN]
  rw [v112 hs]
  exact congrArg (fun x : EReal => (args V0).decay b h * (args V0).n b h j + x)
    ((single _).trans (congrArg₂ (fun x y : EReal => x * y) (v109 hs b h) (v43 V0 b h j)))

theorem new_c (b : Fin 128) (h : Fin 4) (j l : Fin 128) : NEWC V0 (ix4 b h j l) = (args V0).newC b h j l := by
  pointwise [NEWC]
  rw [v112 hs, v109 hs]
  exact congrArg (fun x : EReal => (args V0).decay b h * (args V0).C b h j l + x)
    ((single _).trans (congrArg₂ (fun x y : EReal => (args V0).weight b h * x * y) (v45 V0 b h j) (v43 V0 b h l)))

theorem out_at (b : Fin 128) (h : Fin 4) (j : Fin 128) : OUT V0 (ix2 b (lane h j)) = (args V0).out b h j := by
  unfold lane
  pointwise [OUT]
  simp only [v126 hs]
  rfl

end Cert.Reference6Ideal.Decode

end
-- ==== Proof.DecodeGate.lean ====
/- What the precondition gives: no input of a forget gate is minus infinity. -/
module

public import proofs.«01_k».proof.Proof.Gen.Pre_open_forget_gate
public import Idealize.ShloMosaic.Lib.Pointwise

@[expose] public section

set_option maxRecDepth 16384

noncomputable section

open Idealize.ShloMosaic Idealize.ShloMosaic.TcCoe

namespace Cert.Pre_open_forget_gate.Decode

open Cert.Pre_open_forget_gate Cert.Pre_open_forget_gate.Facts

theorem andi_one : ∀ a b : BitVec 1, IntOp.andi a b = 1#1 → a = 1#1 ∧ b = 1#1 := by decide

/-- A conjunction that is true has only true members. -/
theorem all_of_foldl {α : Type} (x : α → BitVec 1) : ∀ (L : List α) (r : BitVec 1), L.foldl (fun r i => IntOp.andi r (x i)) r = 1#1 → r = 1#1 ∧ ∀ i ∈ L, x i = 1#1
  | [], r, h => ⟨h, fun i hi => absurd hi List.not_mem_nil⟩
  | a :: L, r, h => by
    obtain ⟨h1, h2⟩ := all_of_foldl x L _ h
    obtain ⟨h3, h4⟩ := andi_one _ _ h1
    refine ⟨h3, fun i hi => ?_⟩
    rcases List.mem_cons.mp hi with rfl | hi
    · exact h4
    · exact h2 i hi

theorem all_of_reduce (x : IVec S128x4 1) (c : IVec S_ 1) (j : S_.Idx) (h : Host.reduce IntOp.andi x c reducesTo_S128x4_S_d0_1 h_S_ j = 1#1) (i : S128x4.Idx) : x i = 1#1 := by
  rw [Host.reduce_eq_foldl] at h
  refine (all_of_foldl x _ _ h).2 i (List.mem_filter.mpr ⟨List.mem_map.mpr ⟨S128x4.rowMajor i, List.mem_finRange _, Equiv.symm_apply_apply _ _⟩, ?_⟩)
  exact decide_eq_true (funext fun a => a.elim0)

theorem ninf : Ideal.ofBits .f32 4286578688#32 = ⊥ := by simp [Ideal.ofBits, Ideal.ieee]

/-- No input of a forget gate is minus infinity. -/
theorem not_closed (a0 a1 a2 : FVec Ideal S128x512 .f32) (a3 : FVec Ideal S128x128 .f32) (a4 : FVec Ideal S128x4x128x128 .f32) (a5 : FVec Ideal S128x4x128 .f32)
    (a6 : FVec Ideal S128x4 .f32) (a7 : FVec Ideal S128x3x512 .f32) (a8 : FVec Ideal S4x512 .f32) (a9 : FVec Ideal S512 .f32) (a10 a11 : FVec Ideal S4x128x128 .f32)
    (a12 : FVec Ideal S2x4 .f32) (a13 : FVec Ideal S512 .f32) (h : fn (F := Ideal) a0 a1 a2 a3 a4 a5 a6 a7 a8 a9 a10 a11 a12 a13 = fun _ => 1#1) (b : Fin 128) (n : Fin 4) :
    a3 (ix2 b ⟨28 + n.val, by omega⟩) + a12 (ix2 1 n) ≠ (⊥ : EReal) := by
  have h1 := all_of_reduce _ _ ((fun a => a.elim0) : S_.Idx) (congrFun h _) (ix2 b n)
  pointwise at h1
  try rw [ninf] at h1
  intro hc
  rw [hc] at h1
  simp at h1

end Cert.Pre_open_forget_gate.Decode

end
-- ==== Proof.MdecEquation.lean ====
/- The decode step of the recurrence: the kernel's run against the reference's, where no forget gate is closed. -/
module

public import proofs.«01_k».proof.Defs
public import proofs.«01_k».proof.Proof.Gen.Kernel6.Frame
public import proofs.«01_k».proof.Proof.DecodeKernel
public import proofs.«01_k».proof.Proof.DecodePast
public import proofs.«01_k».proof.Proof.DecodeReference
public import proofs.«01_k».proof.Proof.DecodeGate

@[expose] public section

set_option maxRecDepth 16384

noncomputable section

namespace Cert.MdecEquation

open Idealize.ShloMosaic Idealize.ShloMosaic.TcCoe Idealize.SL.Sem Idealize.ShloMosaic.StableHlo Cert.Decode

theorem frame_kernel : Cert.quiescent_Kernel6 := fun m ρ _ => Cert.Kernel6.Gen.frame m ρ

theorem frame_kernel_ideal : Cert.quiescent_Kernel6Ideal := fun m ρ _ => Cert.Kernel6Ideal.Gen.frame m ρ

theorem frame_kernel_ideal_pre : Cert.quiescent_Kernel6Ideal_pre_open_forget_gate := fun m ρ _ => frame_kernel_ideal m ρ trivial

theorem frame_reference : Cert.quiescent_Reference6Ideal := fun m ρ _ =>
  (θ_run _ _ _).mono (fun r h => ⟨fun c => (h c).2.2.2.2.2, sem_eq_zero_of_no_sems (by decide) r.2⟩) (Cert.Reference6Ideal.Value.run m ρ)

theorem frame_reference_pre : Cert.quiescent_Reference6Ideal_pre_open_forget_gate := fun m ρ _ => frame_reference m ρ trivial

theorem preserves : Cert.preserves_Kernel6_Kernel6Ideal := trivial

/-- A column as a head and a lane. -/
theorem split (i : Cert.Kernel6Ideal.S128x512.Idx) : i = (ix2 (i 0) (lane (head (i 1)) (sub (i 1))) : Cert.Kernel6Ideal.S128x512.Idx) :=
  (eq_ix2 i).trans (congrArg (fun x => (ix2 (i 0) x : Cert.Kernel6Ideal.S128x512.Idx)) (lane_head (i 1)).symm)

theorem algebraic : Cert.algebraic_Kernel6Ideal_Reference6Ideal_pre_open_forget_gate := by
  intro m g m' g' hp hm
  have ha : ∀ c, Cert.Reference6Ideal.Decode.args (launchContents m' c) = Cert.Kernel6Ideal.Decode.kargs m c := by
    intro c
    obtain ⟨h0, h1, h2, h3, h4, h5, h6, h7, h8, h9, h10, h11, h12, h13⟩ := hm c
    unfold Cert.Kernel6Ideal.Decode.kargs
    rw [← h0, ← h1, ← h2, ← h3, ← h4, ← h5, ← h6, ← h7, ← h8, ← h9, ← h10, ← h11, ← h12, ← h13]
    rfl
  have hf : ∀ c, Cert.Reference6Ideal.Decode.Settled (launchContents m' c) := by
    intro c
    refine Cert.Reference6Ideal.Decode.settled _ fun b h => ?_
    rw [ha c]
    exact Cert.Pre_open_forget_gate.Decode.not_closed _ _ _ _ _ _ _ _ _ _ _ _ _ _ (hp c) b h
  refine ⟨fun c => (Cert.Kernel6Ideal.Gen.dats m 0 c).arrAt 14 Cert.Kernel6Ideal.cfg0.N, fun c => (Cert.Kernel6Ideal.Gen.dats m 0 c).arrAt 15 Cert.Kernel6Ideal.cfg0.N,
    fun c => (Cert.Kernel6Ideal.Gen.dats m 0 c).arrAt 16 Cert.Kernel6Ideal.cfg0.N, fun c => (Cert.Kernel6Ideal.Gen.dats m 0 c).arrAt 17 Cert.Kernel6Ideal.cfg0.N,
    fun c => Cert.Kernel6Ideal.Gen.V m c Cert.Kernel6Ideal.main_v2,
    Cert.Kernel6Ideal.Decode.run m g,
    (θ_run _ _ _).mono (fun r h c => ⟨funext fun i => ?_, funext fun i => ?_, funext fun i => ?_, funext fun i => ?_, funext fun i => ?_, (h c).2.2.2.2.2⟩) (Cert.Reference6Ideal.Value.run m' g')⟩
  · refine (congrFun (h c).1 i).trans (Eq.trans ?_ (congrFun (Cert.Kernel6Ideal.Decode.final14 m c) i).symm)
    refine (congrArg (Cert.Reference6Ideal.Decode.OUT (launchContents m' c)) (split i)).trans ?_
    exact (Cert.Reference6Ideal.Decode.out_at (hf c) (i 0) (head (i 1)) (sub (i 1))).trans (congrArg (fun A : Args => A.out (i 0) (head (i 1)) (sub (i 1))) (ha c))
  · refine (congrFun (h c).2.1 i).trans (Eq.trans ?_ (congrFun (Cert.Kernel6Ideal.Decode.final15 m c) i).symm)
    refine (congrArg (Cert.Reference6Ideal.Decode.NEWC (launchContents m' c)) (eq_ix4 i)).trans ?_
    exact (Cert.Reference6Ideal.Decode.new_c (hf c) (i 0) (i 1) (i 2) (i 3)).trans (congrArg (fun A : Args => A.newC (i 0) (i 1) (i 2) (i 3)) (ha c))
  · refine (congrFun (h c).2.2.1 i).trans (Eq.trans ?_ (congrFun (Cert.Kernel6Ideal.Decode.final16 m c) i).symm)
    refine (congrArg (Cert.Reference6Ideal.Decode.NEWN (launchContents m' c)) (split i)).trans ?_
    exact (Cert.Reference6Ideal.Decode.new_n (hf c) (i 0) (head (i 1)) (sub (i 1))).trans (congrArg (fun A : Args => A.newN (i 0) (head (i 1)) (sub (i 1))) (ha c))
  · refine (congrFun (h c).2.2.2.1 i).trans (Eq.trans ?_ (congrFun (Cert.Kernel6Ideal.Decode.final17 m c) i).symm)
    refine (congrArg (Cert.Reference6Ideal.Decode.NEWM (launchContents m' c)) (split i)).trans ?_
    exact (Cert.Reference6Ideal.Decode.new_m (hf c) (i 0) (head (i 1)) (sub (i 1))).trans (congrArg (fun A : Args => A.top (i 0) (head (i 1))) (ha c))
  · refine (congrFun (h c).2.2.2.2.1 i).trans (Eq.trans ?_ (congrFun (Cert.Kernel6Ideal.Decode.entry_past m c) i).symm)
    obtain ⟨h0, h1, h2, h3, h4, h5, h6, h7, h8, h9, h10, h11, h12, h13⟩ := hm c
    refine (congrArg (Cert.Reference6Ideal.Decode.PAST (launchContents m' c)) (eq_ix3 i)).trans ?_
    refine (Cert.Reference6Ideal.Decode.past_at (launchContents m' c) (i 0) (i 1) (i 2)).trans ?_
    refine Eq.trans ?_ ((congrArg (Cert.Kernel6Ideal.Decode.PAST _ _) (eq_ix3 i)).trans (Cert.Kernel6Ideal.Decode.past_at _ _ (i 0) (i 1) (i 2))).symm
    rw [← h0, ← h7]

end Cert.MdecEquation

end
-- ==== Proof.CompressRule.lean ====
/- The compressed block as a function of two neighbouring groups of rows, and the sums over lanes that a block-diagonal weight leaves. -/
module

public import Idealize.ShloMosaic.Lib.Pointwise

@[expose] public section

noncomputable section

open Idealize.ShloMosaic

namespace Cert.CompressRule

/-- The lane of a row group that holds row `l`, group `g`, column `d`. -/
def lane (l : Fin 16) (g : Fin 2) (d : Fin 64) : Fin 2048 := ⟨(l : ℕ) * 128 + (g : ℕ) * 64 + d, by omega⟩

/-- The row of the position embedding and of the first weight that the half `r` takes at row `l`. -/
def pos (r : Fin 2) (l : Fin 16) : Fin 32 := ⟨(r : ℕ) * 16 + l, by omega⟩

/-- The hidden unit `h` of group `g`. -/
def unit (g : Fin 2) (h : Fin 128) : Fin 256 := ⟨(g : ℕ) * 128 + h, by omega⟩

/-- The column `d` of group `g`. -/
def column (g : Fin 2) (d : Fin 64) : Fin 128 := ⟨(g : ℕ) * 64 + d, by omega⟩

/-- The group of a column of both groups. -/
def group (k : Fin 128) : Fin 2 := ⟨(k : ℕ) / 64, by omega⟩

/-- The column inside its group. -/
def inside (k : Fin 128) : Fin 64 := ⟨(k : ℕ) % 64, by omega⟩

theorem column_eq (k : Fin 128) : column (group k) (inside k) = k :=
  Fin.ext (by show (k : ℕ) / 64 * 64 + (k : ℕ) % 64 = (k : ℕ); omega)

theorem lane_row (l : Fin 16) (g : Fin 2) (d : Fin 64) : (lane l g d : ℕ) / 128 = l := by
  show ((l : ℕ) * 128 + (g : ℕ) * 64 + d) / 128 = l
  omega

theorem lane_group (l : Fin 16) (g : Fin 2) (d : Fin 64) : (lane l g d : ℕ) / 64 % 2 = g := by
  show ((l : ℕ) * 128 + (g : ℕ) * 64 + d) / 64 % 2 = g
  omega

theorem lane_inside (l : Fin 16) (g : Fin 2) (d : Fin 64) : (lane l g d : ℕ) % 64 = d := by
  show ((l : ℕ) * 128 + (g : ℕ) * 64 + d) % 64 = d
  omega

theorem unit_group (g : Fin 2) (h : Fin 128) : (unit g h : ℕ) / 128 = g := by
  show ((g : ℕ) * 128 + h) / 128 = g
  omega

theorem unit_inside (g : Fin 2) (h : Fin 128) : (unit g h : ℕ) % 128 = h := by
  show ((g : ℕ) * 128 + h) % 128 = h
  omega

theorem column_group (g : Fin 2) (d : Fin 64) : (column g d : ℕ) / 64 = g := by
  show ((g : ℕ) * 64 + d) / 64 = g
  omega

theorem column_inside (g : Fin 2) (d : Fin 64) : (column g d : ℕ) % 64 = d := by
  show ((g : ℕ) * 64 + d) % 64 = d
  omega

/-- The activation, the tangent form of the Gaussian error unit. -/
def act (z : EReal) : EReal :=
  z * (Ideal.ofBits .f32 0x3F000000#32 * (1 + Ideal.tanh (Ideal.ofBits .f32 0x3F4C422A#32 * (z + Ideal.ofBits .f32 0x3D372713#32 * (z * (z * z))))))

/-- One half of a hidden unit: the rows of one row group, with their positions, through the first weight. -/
def half (x : Fin 16 → Fin 64 → EReal) (p : Fin 32 → Fin 64 → EReal) (w : Fin 32 → Fin 64 → Fin 128 → EReal) (r : Fin 2) (h : Fin 128) : EReal :=
  ∑ l : Fin 16, ∑ d : Fin 64, (x l d + p (pos r l) d) * w (pos r l) d h

/-- One entry of a compressed block, from the rows of two neighbouring row groups. -/
def block (x y : Fin 16 → Fin 64 → EReal) (p : Fin 32 → Fin 64 → EReal) (w : Fin 32 → Fin 64 → Fin 128 → EReal) (u : Fin 128 → Fin 64 → EReal)
    (d : Fin 64) : EReal :=
  ∑ h : Fin 128, act (half x p w 0 h + half y p w 1 h) * u h d

theorem sum_pair {n a b : ℕ} (hn : a * b = n) (f : Fin n → EReal) (e : Fin a → Fin b → Fin n) (he : ∀ i j, (e i j : ℕ) = (i : ℕ) * b + j) :
    ∑ k, f k = ∑ i, ∑ j, f (e i j) := by
  subst hn
  rw [← Fintype.sum_prod_type', ← finProdFinEquiv.sum_comp]
  refine Finset.sum_congr rfl fun q _ => congrArg f (Fin.ext ?_)
  rw [he]
  show (q.2 : ℕ) + b * q.1 = _
  rw [Nat.mul_comm, Nat.add_comm]

/-- The sum over all lanes, row by row, group by group. -/
theorem sum_lane (f : Fin 2048 → EReal) : ∑ j, f j = ∑ l, ∑ g, ∑ d, f (lane l g d) := by
  rw [sum_pair (a := 16) (b := 128) rfl f (fun l c => ⟨(l : ℕ) * 128 + c, by omega⟩) fun _ _ => rfl]
  refine Finset.sum_congr rfl fun l _ => ?_
  refine (sum_pair (a := 2) (b := 64) rfl _ column fun _ _ => rfl).trans ?_
  refine Finset.sum_congr rfl fun g _ => Finset.sum_congr rfl fun d _ => congrArg f (Fin.ext ?_)
  show (l : ℕ) * 128 + ((g : ℕ) * 64 + d) = (l : ℕ) * 128 + (g : ℕ) * 64 + d
  omega

theorem sum_unit (f : Fin 256 → EReal) : ∑ k, f k = ∑ g, ∑ h, f (unit g h) :=
  sum_pair rfl f unit fun _ _ => rfl

/-- Of a sum over groups weighted by the unit matrix only the group itself is left. -/
theorem sum_group (f : Fin 2 → EReal) (k : Fin 2) (h : ∀ g, g ≠ k → f g = 0) : ∑ g, f g = f k :=
  Finset.sum_eq_single k (fun g _ hg => h g hg) fun hk => absurd (Finset.mem_univ k) hk

/-- The product with the block-diagonal first weight is the half of one group. -/
theorem half_lane (X P : Fin 2048 → EReal) (W : Fin 2048 → EReal) (x : Fin 16 → Fin 64 → EReal) (p : Fin 32 → Fin 64 → EReal)
    (w : Fin 32 → Fin 64 → Fin 128 → EReal) (r k : Fin 2) (h : Fin 128) (hx : ∀ l d, X (lane l k d) = x l d) (hp : ∀ l d, P (lane l k d) = p (pos r l) d)
    (hw : ∀ l g d, W (lane l g d) = w (pos r l) d h * if g = k then 1 else 0) :
    ∑ j, (X j + P j) * W j = half x p w r h := by
  rw [sum_lane]
  refine Finset.sum_congr rfl fun l _ => ?_
  refine (sum_group _ k fun g hg => ?_).trans ?_
  · refine Finset.sum_eq_zero fun d _ => ?_
    rw [hw, if_neg hg, mul_zero, mul_zero]
  · refine Finset.sum_congr rfl fun d _ => ?_
    rw [hw, if_pos rfl, mul_one, hx, hp]

/-- The product with the block-diagonal second weight is the sum over the units of one group. -/
theorem block_unit (A U : Fin 256 → EReal) (a : Fin 128 → EReal) (u : Fin 128 → Fin 64 → EReal) (k : Fin 2) (d : Fin 64)
    (ha : ∀ h, A (unit k h) = a h) (hu : ∀ g h, U (unit g h) = u h d * if g = k then 1 else 0) :
    ∑ j, A j * U j = ∑ h, a h * u h d := by
  rw [sum_unit]
  refine (sum_group _ k fun g hg => ?_).trans ?_
  · refine Finset.sum_eq_zero fun h _ => ?_
    rw [hu, if_neg hg, mul_zero, mul_zero]
  · refine Finset.sum_congr rfl fun h _ => ?_
    rw [hu, if_pos rfl, mul_one, ha]

end Cert.CompressRule

end
-- ==== Proof.CompressWeight.lean ====
/- The arrays the host lays out for the compression: row groups, positions twice, and the two block-diagonal weights. -/
module

public import proofs.«01_k».proof.Proof.Gen.Kernel7Ideal.Value
public import Idealize.ShloMosaic.Lib.Pointwise
public import Idealize.ShloMosaic.Lib.Pipeline.ValueKit
public import proofs.«01_k».proof.Proof.CompressRule

@[expose] public section

set_option maxRecDepth 16384

noncomputable section

open Idealize.ShloMosaic Idealize.ShloMosaic.TcCoe Idealize.SL.Sem
open Idealize.ShloMosaic.Pipeline (Dat)

namespace Cert.Kernel7Ideal.Compress

open Cert.Kernel7Ideal Cert.Kernel7Ideal.Gen Cert.CompressRule

/-- The unit matrix of the groups. -/
def EYE : FVec Ideal S2x2 .f32 := uitofp .f32 (cmpi .eq (addi (iotaInDim S2x2 32 0) (broadcastInDim S2x2 ![] bcast_S_S2x2 (constantI S_ 32 0#32))) (iotaInDim S2x2 32 1))

theorem eye_at (a b : Fin 2) : EYE (ix2 a b) = if a = b then 1 else 0 := by
  pointwise [EYE]
  have e : ∀ a b : Fin 2, IntOp.cmpi .eq (IntOp.addi (BitVec.ofNat 32 (a : ℕ)) 0#32) (BitVec.ofNat 32 (b : ℕ)) = if a = b then 1#1 else 0#1 := by decide +kernel
  rw [e]
  split_ifs
  · show (((1 : ℕ) : ℝ) : EReal) = 1
    norm_num
  · show (((0 : ℕ) : ℝ) : EReal) = 0
    norm_num

/-- The row groups. -/
def XG (x : FVec Ideal S2x8192x2x64 .f32) : FVec Ideal S2x512x2048 .f32 := shapeCast S2x512x2048 x shapeCasts_S2x8192x2x64_S2x512x2048

/-- The positions, for both groups. -/
def PG (p : FVec Ideal S32x64 .f32) : FVec Ideal S2x1x2048 .f32 :=
  shapeCast S2x1x2048 (broadcastInDim S2x16x2x64 ![0, 1, 2, 3] bcast_S2x16x1x64_S2x16x2x64_0_1_2_3 (shapeCast S2x16x1x64 p shapeCasts_S32x64_S2x16x1x64)) shapeCasts_S2x16x2x64_S2x1x2048

/-- One half of the first weight, block-diagonal in the groups. -/
def WH (v : FVec Ideal S16x64x128 .f32) : FVec Ideal S2048x256 .f32 :=
  shapeCast S2048x256 (mulf (broadcastInDim S16x2x64x2x128 ![0, 1, 2, 3, 4] bcast_S16x1x64x1x128_S16x2x64x2x128_0_1_2_3_4 (broadcastInDim S16x1x64x1x128 ![0, 2, 4] bcast_S16x64x128_S16x1x64x1x128_0_2_4 v)) (broadcastInDim S16x2x64x2x128 ![0, 1, 2, 3, 4] bcast_S1x2x1x2x1_S16x2x64x2x128_0_1_2_3_4 (broadcastInDim S1x2x1x2x1 ![1, 3] bcast_S2x2_S1x2x1x2x1_1_3 EYE))) shapeCasts_S16x2x64x2x128_S2048x256

/-- The first weight, its halves side by side. -/
def WG (w : FVec Ideal S32x64x128 .f32) : FVec Ideal S2048x512 .f32 :=
  concatenate S2048x512 1 [⟨S2048x256, WH (extractStridedSlice S16x64x128 ![0, 0, 0] w slices_S32x64x128_S16x64x128_0_0_0)⟩, ⟨S2048x256, WH (extractStridedSlice S16x64x128 ![16, 0, 0] w slices_S32x64x128_S16x64x128_16_0_0)⟩] concatenates_S2048x256_S2048x256_S2048x512_d1

/-- The second weight, block-diagonal in the groups. -/
def UG (u : FVec Ideal S128x64 .f32) : FVec Ideal S256x128 .f32 :=
  shapeCast S256x128 (mulf (broadcastInDim S2x128x2x64 ![0, 1, 2, 3] bcast_S1x128x1x64_S2x128x2x64_0_1_2_3 (broadcastInDim S1x128x1x64 ![1, 3] bcast_S128x64_S1x128x1x64_1_3 u)) (broadcastInDim S2x128x2x64 ![0, 1, 2, 3] bcast_S2x1x2x1_S2x128x2x64_0_1_2_3 (broadcastInDim S2x1x2x1 ![0, 2] bcast_S2x2_S2x1x2x1_0_2 EYE))) shapeCasts_S2x128x2x64_S256x128

theorem xg_at (x : FVec Ideal S2x8192x2x64 .f32) (b : Fin 2) (n : Fin 512) (l : Fin 16) (g : Fin 2) (d : Fin 64) :
    XG x (ix3 b n (lane l g d)) = x (ix4 b ⟨n * 16 + l, by omega⟩ g d) := by
  pointwise [XG]
  simp only [lane_row, lane_group, lane_inside, Fin.eta]

theorem pg_at (p : FVec Ideal S32x64 .f32) (r : Fin 2) (l : Fin 16) (g : Fin 2) (d : Fin 64) :
    PG p (ix3 r 0 (lane l g d)) = p (ix2 (pos r l) d) := by
  pointwise [PG]
  simp only [lane_row, lane_inside, Fin.eta]
  rfl

theorem wh_at (v : FVec Ideal S16x64x128 .f32) (l : Fin 16) (g : Fin 2) (d : Fin 64) (k : Fin 2) (h : Fin 128) :
    WH v (ix2 (lane l g d) (unit k h)) = v (ix3 l d h) * if g = k then 1 else 0 := by
  pointwise [WH]
  simp only [lane_row, lane_group, lane_inside, unit_group, unit_inside, Fin.eta, eye_at]

theorem ug_at (u : FVec Ideal S128x64 .f32) (g : Fin 2) (h : Fin 128) (k : Fin 2) (d : Fin 64) :
    UG u (ix2 (unit g h) (column k d)) = u (ix2 h d) * if g = k then 1 else 0 := by
  pointwise [UG]
  simp only [unit_group, unit_inside, column_group, column_inside, Fin.eta, eye_at]

theorem wg_low (w : FVec Ideal S32x64x128 .f32) (j : Fin 2048) (k : Fin 256) :
    WG w (ix2 j ⟨k, by omega⟩) = WH (extractStridedSlice S16x64x128 ![0, 0, 0] w slices_S32x64x128_S16x64x128_0_0_0) (ix2 j k) := by
  pointwise [WG]

theorem wg_high (w : FVec Ideal S32x64x128 .f32) (j : Fin 2048) (k : Fin 256) :
    WG w (ix2 j ⟨256 + k, by omega⟩) = WH (extractStridedSlice S16x64x128 ![16, 0, 0] w slices_S32x64x128_S16x64x128_16_0_0) (ix2 j k) := by
  pointwise [WG]

/-- The first weight, half by half. -/
theorem wg_zero (w : FVec Ideal S32x64x128 .f32) (l : Fin 16) (g : Fin 2) (d : Fin 64) (k : Fin 2) (h : Fin 128) :
    WG w (ix2 (lane l g d) ⟨unit k h, by omega⟩) = w (ix3 (pos 0 l) d h) * if g = k then 1 else 0 := by
  rw [wg_low, wh_at]
  refine congrArg (fun z : EReal => z * if g = k then 1 else 0) ?_
  pointwise
  exact congrArg (fun s => w (ix3 s d h)) (Fin.ext (by show (l : ℕ) = 0 * 16 + l; omega))

theorem wg_one (w : FVec Ideal S32x64x128 .f32) (l : Fin 16) (g : Fin 2) (d : Fin 64) (k : Fin 2) (h : Fin 128) :
    WG w (ix2 (lane l g d) ⟨256 + unit k h, by omega⟩) = w (ix3 (pos 1 l) d h) * if g = k then 1 else 0 := by
  rw [wg_high, wh_at]
  refine congrArg (fun z : EReal => z * if g = k then 1 else 0) ?_
  pointwise
  exact congrArg (fun s => w (ix3 s d h)) (Fin.ext (by show 16 + (l : ℕ) = 1 * 16 + l; omega))

end Cert.Kernel7Ideal.Compress

end
-- ==== Proof.CompressKernel.lean ====
/- What the compression kernel stores: the blocks of one sequence, of keys and of values. -/
module

public import proofs.«01_k».proof.Proof.Gen.Kernel7Ideal.Value
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim
public import proofs.«01_k».proof.Proof.CompressWeight

@[expose] public section

set_option maxRecDepth 16384

noncomputable section

open Idealize.ShloMosaic Idealize.ShloMosaic.TcCoe Idealize.SL.Sem
open Idealize.ShloMosaic.Pipeline (Dat)

namespace Cert.Kernel7Ideal.Compress

open Cert.Kernel7Ideal Cert.Kernel7Ideal.Gen Cert.CompressRule

/-- The row group that the rotation brings beside row group `n`: the next one, the first one beside the last. -/
def next (n : Fin 512) : Fin 512 := ⟨(n + 512 - 511) % 512, by omega⟩

/-- A hidden unit of both groups. -/
def HK (x : Vec Ideal S1x512x2048 .f32) (p q : Vec Ideal S1x1x2048 .f32) (w : Vec Ideal S2048x512 .bf16) (n : Fin 512) (k : Fin 256) : EReal :=
  (∑ j : Fin 2048, (x (ix3 0 n j) + p (ix3 0 0 j)) * w (ix2 j ⟨k, by omega⟩))
    + ∑ j : Fin 2048, (x (ix3 0 (next n) j) + q (ix3 0 0 j)) * w (ix2 j ⟨256 + k, by omega⟩)

theorem pay2_at (x : Vec Ideal S1x512x2048 .f32) (p q : Vec Ideal S1x1x2048 .f32) (w : Vec Ideal S2048x512 .bf16) (u : Vec Ideal S256x128 .bf16) (n : Fin 512) (k : Fin 128) :
    k0_pay3 (F := Ideal) (k0_pay2 x p q w u) (ix3 0 n k) = ∑ j : Fin 256, act (HK x p q w n j) * u (ix2 j k) := by
  pointwise [k0_pay3, k0_pay2]
  rfl

theorem pay1_eq (x : Vec Ideal S1x512x2048 .f32) (p q : Vec Ideal S1x1x2048 .f32) (w : Vec Ideal S2048x512 .bf16) (u : Vec Ideal S256x128 .bf16) :
    k0_pay1 (F := Ideal) (k0_pay4 u) (k0_pay5 x p q w) (k0_pay6 x p q w) k0_pay7 = k0_pay3 (k0_pay2 x p q w u) := rfl

/-- The compressed blocks; behind the complete ones the last row group meets the first one. -/
def G (x : FVec Ideal S2x8192x2x64 .f32) (p : FVec Ideal S32x64 .f32) (w : FVec Ideal S32x64x128 .f32) (u : FVec Ideal S128x64 .f32) : FVec Ideal S2x512x128 .bf16 := fun i =>
  block (fun l d => x (ix4 (i 0) ⟨(i 1 : Fin 512) * 16 + l, by have : ((i 1 : Fin 512) : ℕ) < 512 := (i 1).isLt; omega⟩ (group (i 2)) d))
    (fun l d => x (ix4 (i 0) ⟨next (i 1) * 16 + l, by have := (next (i 1)).isLt; omega⟩ (group (i 2)) d))
    (fun s d => p (ix2 s d)) (fun s d h => w (ix3 s d h)) (fun h d => u (ix2 h d)) (inside (i 2))

theorem value (xb : Vec Ideal S1x512x2048 .f32) (pb : Vec Ideal S1x1x2048 .f32) (qb : Vec Ideal S1x1x2048 .f32) (wb : Vec Ideal S2048x512 .bf16) (ub : Vec Ideal S256x128 .bf16)
    (x : FVec Ideal S2x8192x2x64 .f32) (p : FVec Ideal S32x64 .f32) (w : FVec Ideal S32x64x128 .f32) (u : FVec Ideal S128x64 .f32) (b : Fin 2) (n : Fin 512) (k : Fin 128)
    (hx : ∀ n j, xb (ix3 0 n j) = XG x (ix3 b n j)) (hp : ∀ j, pb (ix3 0 0 j) = PG p (ix3 0 0 j)) (hq : ∀ j, qb (ix3 0 0 j) = PG p (ix3 1 0 j))
    (hw : ∀ j k, wb (ix2 j k) = WG w (ix2 j k)) (hu : ∀ j k, ub (ix2 j k) = UG u (ix2 j k)) :
    k0_pay3 (F := Ideal) (k0_pay2 xb pb qb wb ub) (ix3 0 n k) = G x p w u (ix3 b n k) := by
  rw [pay2_at]
  show _ = ∑ h : Fin 128, act (half (fun l d => x (ix4 b ⟨n * 16 + l, by omega⟩ (group k) d)) (fun s d => p (ix2 s d)) (fun s d h => w (ix3 s d h)) 0 h
    + half (fun l d => x (ix4 b ⟨next n * 16 + l, by have := (next n).isLt; omega⟩ (group k) d)) (fun s d => p (ix2 s d)) (fun s d h => w (ix3 s d h)) 1 h) * u (ix2 h (inside k))
  refine block_unit (fun j => act (HK xb pb qb wb n j)) (fun j => ub (ix2 j k)) _ (fun h d => u (ix2 h d)) (group k) (inside k) (fun h => congrArg act ?_) fun g h => ?_
  · refine congrArg₂ (fun s t : EReal => s + t) ?_ ?_
    · exact half_lane _ _ _ _ (fun s d => p (ix2 s d)) (fun s d h => w (ix3 s d h)) 0 (group k) h (fun l d => (hx _ _).trans (xg_at x b n l _ d))
        (fun l d => (hp _).trans (pg_at p 0 l _ d)) fun l g d => (hw _ _).trans (wg_zero w l g d _ h)
    · exact half_lane _ _ _ _ (fun s d => p (ix2 s d)) (fun s d h => w (ix3 s d h)) 1 (group k) h (fun l d => (hx _ _).trans (xg_at x b _ l _ d))
        (fun l d => (hq _).trans (pg_at p 1 l _ d)) fun l g d => (hw _ _).trans (wg_one w l g d _ h)
  · refine (hu _ _).trans ?_
    have e := ug_at u g h (group k) (inside k)
    rwa [column_eq] at e

variable (m : (ℓ : Loc nD τ sig) → Buf (Elt Ideal) ℓ)

theorem idx : ∀ t : Fin cfg0.N, win0_0.index t = ![t.val, 0, 0] ∧ win0_1.index t = ![t.val, 0, 0] ∧ win0_2.index t = ![0, 0] ∧ win0_3.index t = ![0, 0, 0]
    ∧ win0_4.index t = ![0, 0] ∧ win0_5.index t = ![0, 0] ∧ win0_6.index t = ![0, 0, 0] ∧ win0_7.index t = ![0, 0]
    ∧ win0_8.index t = ![t.val, 0, 0] ∧ win0_9.index t = ![t.val, 0, 0] :=
  (by decide +kernel : ∀ t : Fin grid0.N, _)

theorem entryXK (c : Dev nD) : V m c main_v64 = XG (m ((c : Thread nD τ).loc main_arg0)) := by
  unfold V
  after_reads_simp
  rfl

theorem entryXV (c : Dev nD) : V m c main_v65 = XG (m ((c : Thread nD τ).loc main_arg1)) := by
  unfold V
  after_reads_simp
  rfl

theorem entryWK (c : Dev nD) : V m c main_v21 = truncf (F := Ideal) .bf16 (WG (m ((c : Thread nD τ).loc main_arg3))) bitsLt_bf16_f32 := by
  unfold V
  after_reads_simp
  rfl

theorem entryPK (c : Dev nD) : V m c main_v31 = PG (m ((c : Thread nD τ).loc main_arg2)) := by
  unfold V
  after_reads_simp
  rfl

theorem entryUK (c : Dev nD) : V m c main_v30 = truncf (F := Ideal) .bf16 (UG (m ((c : Thread nD τ).loc main_arg4))) bitsLt_bf16_f32 := by
  unfold V
  after_reads_simp
  rfl

theorem entryWV (c : Dev nD) : V m c main_v53 = truncf (F := Ideal) .bf16 (WG (m ((c : Thread nD τ).loc main_arg6))) bitsLt_bf16_f32 := by
  unfold V
  after_reads_simp
  rfl

theorem entryPV (c : Dev nD) : V m c main_v63 = PG (m ((c : Thread nD τ).loc main_arg5)) := by
  unfold V
  after_reads_simp
  rfl

theorem entryUV (c : Dev nD) : V m c main_v62 = truncf (F := Ideal) .bf16 (UG (m ((c : Thread nD τ).loc main_arg7))) bitsLt_bf16_f32 := by
  unfold V
  after_reads_simp
  rfl

theorem blkXK (c : Dev nD) (t : Fin cfg0.N) (b : Fin 2) (hb : (b : ℕ) = t.val) (n : Fin 512) (j : Fin 2048) :
    iblk m c 0 t (ix3 0 n j) = XG (m ((c : Thread nD τ).loc main_arg0)) (ix3 b n j) := by
  have i0 := (idx t).1
  blk_simp [iblk, i0]
  rw [entryXK]
  blk_ext [i0]

theorem blkXV (c : Dev nD) (t : Fin cfg0.N) (b : Fin 2) (hb : (b : ℕ) = t.val) (n : Fin 512) (j : Fin 2048) :
    iblk m c 1 t (ix3 0 n j) = XG (m ((c : Thread nD τ).loc main_arg1)) (ix3 b n j) := by
  have i1 := (idx t).2.1
  blk_simp [iblk, i1]
  rw [entryXV]
  blk_ext [i1]

theorem blkWK (c : Dev nD) (t : Fin cfg0.N) (j : Fin 2048) (k : Fin 512) :
    iblk m c 2 t (ix2 j k) = WG (m ((c : Thread nD τ).loc main_arg3)) (ix2 j k) := by
  have i2 := (idx t).2.2.1
  blk_simp [iblk, i2]
  rw [entryWK]
  pointwise
  blk_ext [i2]

theorem blkWV (c : Dev nD) (t : Fin cfg0.N) (j : Fin 2048) (k : Fin 512) :
    iblk m c 5 t (ix2 j k) = WG (m ((c : Thread nD τ).loc main_arg6)) (ix2 j k) := by
  have i5 := (idx t).2.2.2.2.2.1
  blk_simp [iblk, i5]
  rw [entryWV]
  pointwise
  blk_ext [i5]

theorem blkPK (c : Dev nD) (t : Fin cfg0.N) (r : Fin 2) (j : Fin 2048) :
    iblk m c 3 t (ix3 r 0 j) = PG (m ((c : Thread nD τ).loc main_arg2)) (ix3 r 0 j) := by
  have i3 := (idx t).2.2.2.1
  blk_simp [iblk, i3]
  rw [entryPK]
  blk_ext [i3]

theorem blkPV (c : Dev nD) (t : Fin cfg0.N) (r : Fin 2) (j : Fin 2048) :
    iblk m c 6 t (ix3 r 0 j) = PG (m ((c : Thread nD τ).loc main_arg5)) (ix3 r 0 j) := by
  have i6 := (idx t).2.2.2.2.2.2.1
  blk_simp [iblk, i6]
  rw [entryPV]
  blk_ext [i6]

theorem blkUK (c : Dev nD) (t : Fin cfg0.N) (j : Fin 256) (k : Fin 128) :
    iblk m c 4 t (ix2 j k) = UG (m ((c : Thread nD τ).loc main_arg4)) (ix2 j k) := by
  have i4 := (idx t).2.2.2.2.1
  blk_simp [iblk, i4]
  rw [entryUK]
  pointwise
  blk_ext [i4]

theorem blkUV (c : Dev nD) (t : Fin cfg0.N) (j : Fin 256) (k : Fin 128) :
    iblk m c 7 t (ix2 j k) = UG (m ((c : Thread nD τ).loc main_arg7)) (ix2 j k) := by
  have i7 := (idx t).2.2.2.2.2.2.2.1
  blk_simp [iblk, i7]
  rw [entryUV]
  pointwise
  blk_ext [i7]

theorem ldP (x : Vec Ideal S2x1x2048 .f32) (j : Fin 2048) : View.ld x r0_1 (ix3 0 0 j) = x (ix3 0 0 j) :=
  congrArg x (funext fun a => Fin.ext (by
    match a with
    | 0 => rfl
    | 1 => rfl
    | 2 => show 0 + 1 * (j : ℕ) = (j : ℕ); omega))

theorem ldQ (x : Vec Ideal S2x1x2048 .f32) (j : Fin 2048) : View.ld x r0_2 (ix3 0 0 j) = x (ix3 1 0 j) :=
  congrArg x (funext fun a => Fin.ext (by
    match a with
    | 0 => rfl
    | 1 => rfl
    | 2 => show 0 + 1 * (j : ℕ) = (j : ℕ); omega))

theorem blockK (c : Dev nD) (t : Fin cfg0.N) (b : Fin 2) (hb : (b : ℕ) = t.val) (n : Fin 512) (k : Fin 128) :
    k0_pay3 (F := Ideal) (k0_pay2 (iblk m c 0 t) (View.ld (iblk m c 3 t) r0_1) (View.ld (iblk m c 3 t) r0_2) (iblk m c 2 t) (iblk m c 4 t)) (ix3 0 n k)
      = G (m ((c : Thread nD τ).loc main_arg0)) (m ((c : Thread nD τ).loc main_arg2)) (m ((c : Thread nD τ).loc main_arg3)) (m ((c : Thread nD τ).loc main_arg4)) (ix3 b n k) :=
  value _ _ _ _ _ _ _ _ _ b n k (blkXK m c t b hb)
    (fun j => (ldP _ j).trans (blkPK m c t 0 j)) (fun j => (ldQ _ j).trans (blkPK m c t 1 j))
    (blkWK m c t) (blkUK m c t)

theorem finalK (c : Dev nD) : (dats m 0 c).arrAt 8 cfg0.N = G (m ((c : Thread nD τ).loc main_arg0)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  have ht : t.val < 2 := lt_of_lt_of_eq t.isLt N_0
  have i8 := (idx t).2.2.2.2.2.2.2.2.1
  have e0 : (show Fin 1 from y 0) = 0 := Subsingleton.elim (α := Fin 1) _ _
  have ey : y = (ix3 0 (y 1) (y 2) : S1x512x128.Idx) := (eq_ix3 y).trans (congrArg (fun z => (ix3 z (y 1) (y 2) : S1x512x128.Idx)) e0)
  have h0 : (y 0 : ℕ) = 0 := congrArg Fin.val e0
  have eo : (((View.whole main_v66_0).slice (win0_8.rect t)).emb y) = (ix3 ⟨t.val, ht⟩ (y 1) (y 2) : S2x512x128.Idx) := by
    blk_ext [i8, h0]
  rw [eo]
  exact (congrArg _ ey).trans (blockK m c t ⟨t.val, ht⟩ rfl (y 1) (y 2))

theorem blockV (c : Dev nD) (t : Fin cfg0.N) (b : Fin 2) (hb : (b : ℕ) = t.val) (n : Fin 512) (k : Fin 128) :
    k0_pay3 (F := Ideal) (k0_pay2 (iblk m c 1 t) (View.ld (iblk m c 6 t) r0_1) (View.ld (iblk m c 6 t) r0_2) (iblk m c 5 t) (iblk m c 7 t)) (ix3 0 n k)
      = G (m ((c : Thread nD τ).loc main_arg1)) (m ((c : Thread nD τ).loc main_arg5)) (m ((c : Thread nD τ).loc main_arg6)) (m ((c : Thread nD τ).loc main_arg7)) (ix3 b n k) :=
  value _ _ _ _ _ _ _ _ _ b n k (blkXV m c t b hb)
    (fun j => (ldP _ j).trans (blkPV m c t 0 j)) (fun j => (ldQ _ j).trans (blkPV m c t 1 j))
    (blkWV m c t) (blkUV m c t)

theorem finalV (c : Dev nD) : (dats m 0 c).arrAt 9 cfg0.N = G (m ((c : Thread nD τ).loc main_arg1)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  frame_out
  have ht : t.val < 2 := lt_of_lt_of_eq t.isLt N_0
  have i9 := (idx t).2.2.2.2.2.2.2.2.2
  have e0 : (show Fin 1 from y 0) = 0 := Subsingleton.elim (α := Fin 1) _ _
  have ey : y = (ix3 0 (y 1) (y 2) : S1x512x128.Idx) := (eq_ix3 y).trans (congrArg (fun z => (ix3 z (y 1) (y 2) : S1x512x128.Idx)) e0)
  have h0 : (y 0 : ℕ) = 0 := congrArg Fin.val e0
  have eo : (((View.whole main_v66_1).slice (win0_9.rect t)).emb y) = (ix3 ⟨t.val, ht⟩ (y 1) (y 2) : S2x512x128.Idx) := by
    blk_ext [i9, h0]
  rw [eo]
  rw [pay1_eq]
  exact (congrArg _ ey).trans (blockV m c t ⟨t.val, ht⟩ rfl (y 1) (y 2))

end Cert.Kernel7Ideal.Compress

end
-- ==== Proof.CompressReference.lean ====
/- The reference of the compression, read block by block. -/
module

public import proofs.«01_k».proof.Proof.Gen.Reference7Ideal.Run
public import Idealize.ShloMosaic.Lib.Pointwise
public import proofs.«01_k».proof.Proof.CompressRule

@[expose] public section

set_option maxRecDepth 16384

noncomputable section

open Idealize.ShloMosaic Idealize.ShloMosaic.TcCoe Idealize.SL.Sem

namespace Cert.Reference7Ideal.Compress

open Cert.Reference7Ideal Cert.Reference7Ideal.Gen Cert.CompressRule

/-- The sums before the activation. -/
def HID (x : FVec Ideal S2x8192x2x64 .f32) (p : FVec Ideal S32x64 .f32) (w : FVec Ideal S32x64x128 .f32) : FVec Ideal S2x511x2x128 .f32 :=
  addf (Host.dotGeneral dot_S2x511x16x2x64_S16x64x128_S2x511x2x128_42_10_013_2_n_n none (addf (extractStridedSlice S2x511x16x2x64 ![0, 0, 0, 0, 0] (shapeCast _ x shapeCasts_S2x8192x2x64_S2x512x16x2x64) slices_S2x512x16x2x64_S2x511x16x2x64_0_0_0_0_0) (broadcastInDim S2x511x16x2x64 ![0, 1, 2, 3, 4] bcast_S1x1x16x1x64_S2x511x16x2x64_0_1_2_3_4 (broadcastInDim S1x1x16x1x64 ![2, 4] bcast_S16x64_S1x1x16x1x64_2_4 (extractStridedSlice S16x64 ![0, 0] p slices_S32x64_S16x64_0_0)))) (extractStridedSlice S16x64x128 ![0, 0, 0] w slices_S32x64x128_S16x64x128_0_0_0))
    (Host.dotGeneral dot_S2x511x16x2x64_S16x64x128_S2x511x2x128_42_10_013_2_n_n none (addf (extractStridedSlice S2x511x16x2x64 ![0, 1, 0, 0, 0] (shapeCast _ x shapeCasts_S2x8192x2x64_S2x512x16x2x64) slices_S2x512x16x2x64_S2x511x16x2x64_0_1_0_0_0) (broadcastInDim S2x511x16x2x64 ![0, 1, 2, 3, 4] bcast_S1x1x16x1x64_S2x511x16x2x64_0_1_2_3_4 (broadcastInDim S1x1x16x1x64 ![2, 4] bcast_S16x64_S1x1x16x1x64_2_4 (extractStridedSlice S16x64 ![16, 0] p slices_S32x64_S16x64_16_0)))) (extractStridedSlice S16x64x128 ![16, 0, 0] w slices_S32x64x128_S16x64x128_16_0_0))

/-- The activation. -/
def ACT (z : FVec Ideal S2x511x2x128 .f32) : FVec Ideal S2x511x2x128 .f32 :=
  mulf z (mulf (broadcastInDim S2x511x2x128 ![] bcast_S_S2x511x2x128 (constant S_ .f32 0x3F000000#32)) (addf (broadcastInDim S2x511x2x128 ![] bcast_S_S2x511x2x128 (constant S_ .f32 0x3F800000#32)) (Host.tanh (mulf (broadcastInDim S2x511x2x128 ![] bcast_S_S2x511x2x128 (constant S_ .f32 0x3F4C422A#32)) (addf z (mulf (broadcastInDim S2x511x2x128 ![] bcast_S_S2x511x2x128 (constant S_ .f32 0x3D372713#32)) (mulf (mulf z z) z)))))))

/-- The compressed blocks, and zeros behind them. -/
def OUT (x : FVec Ideal S2x8192x2x64 .f32) (p : FVec Ideal S32x64 .f32) (w : FVec Ideal S32x64x128 .f32) (u : FVec Ideal S128x64 .f32) : FVec Ideal S2x512x128 .bf16 :=
  concatenate S2x512x128 1 [⟨S2x511x128, (truncf .bf16 (shapeCast _ (Host.dotGeneral dot_S2x511x2x128_S128x64_S2x511x2x64_3_0_012_1_n_n none (ACT (HID x p w)) u) shapeCasts_S2x511x2x64_S2x511x128) bitsLt_bf16_f32)⟩, ⟨S2x1x128, (broadcastInDim S2x1x128 ![] bcast_S_S2x1x128 (constant S_ .bf16 0x0000#16))⟩] concatenates_S2x511x128_S2x1x128_S2x512x128_d1

theorem hid_at (x : FVec Ideal S2x8192x2x64 .f32) (p : FVec Ideal S32x64 .f32) (w : FVec Ideal S32x64x128 .f32) (b : Fin 2) (n : Fin 511) (g : Fin 2) (h : Fin 128) :
    HID x p w (ix4 b n g h) = half (fun l d => x (ix4 b ⟨n * 16 + l, by omega⟩ g d)) (fun s d => p (ix2 s d)) (fun s d h => w (ix3 s d h)) 0 h
      + half (fun l d => x (ix4 b ⟨(n + 1) * 16 + l, by omega⟩ g d)) (fun s d => p (ix2 s d)) (fun s d h => w (ix3 s d h)) 1 h := by
  pointwise [HID]
  unfold half
  refine congrArg₂ (fun s t : EReal => s + t) ?_ ?_
  · rw [Finset.sum_comm]
    refine Finset.sum_congr rfl fun l _ => Finset.sum_congr rfl fun d _ => ?_
    have e : (⟨(l : ℕ), by omega⟩ : Fin 32) = pos 0 l := Fin.ext (by show (l : ℕ) = 0 * 16 + l; omega)
    rw [e]
  · rw [Finset.sum_comm]
    refine Finset.sum_congr rfl fun l _ => Finset.sum_congr rfl fun d _ => ?_
    have e : (⟨16 + (l : ℕ), by omega⟩ : Fin 32) = pos 1 l := Fin.ext (by show 16 + (l : ℕ) = 1 * 16 + l; omega)
    have e' : (⟨(1 + (n : ℕ)) * 16 + l, by omega⟩ : Fin 8192) = ⟨((n : ℕ) + 1) * 16 + l, by omega⟩ := Fin.ext (by show (1 + (n : ℕ)) * 16 + l = ((n : ℕ) + 1) * 16 + l; omega)
    rw [e, e']

theorem act_at (z : FVec Ideal S2x511x2x128 .f32) (b : Fin 2) (n : Fin 511) (g : Fin 2) (h : Fin 128) : ACT z (ix4 b n g h) = act (z (ix4 b n g h)) := by
  pointwise [ACT]
  unfold act
  rw [mul_comm (z (ix4 b n g h) * z (ix4 b n g h))]

theorem out_at (x : FVec Ideal S2x8192x2x64 .f32) (p : FVec Ideal S32x64 .f32) (w : FVec Ideal S32x64x128 .f32) (u : FVec Ideal S128x64 .f32)
    (b : Fin 2) (n : Fin 511) (k : Fin 128) :
    OUT x p w u (ix3 b ⟨n, by omega⟩ k) = block (fun l d => x (ix4 b ⟨n * 16 + l, by omega⟩ (group k) d)) (fun l d => x (ix4 b ⟨(n + 1) * 16 + l, by omega⟩ (group k) d))
      (fun s d => p (ix2 s d)) (fun s d h => w (ix3 s d h)) (fun h d => u (ix2 h d)) (inside k) := by
  have e : OUT x p w u (ix3 b ⟨n, by omega⟩ k) = ∑ h : Fin 128, ACT (HID x p w) (ix4 b n (group k) h) * u (ix2 h (inside k)) := by
    pointwise [OUT]
    rfl
  rw [e]
  simp only [act_at, hid_at]
  rfl

theorem res0 (m : (ℓ : Loc nD τ sig) → Buf (Elt Ideal) ℓ) (c : Dev nD) : Value.res_main_v33 m c
    = OUT (m ((c.tc : Thread nD τ).loc main_arg0)) (m ((c.tc : Thread nD τ).loc main_arg2)) (m ((c.tc : Thread nD τ).loc main_arg3)) (m ((c.tc : Thread nD τ).loc main_arg4)) := rfl

theorem res1 (m : (ℓ : Loc nD τ sig) → Buf (Elt Ideal) ℓ) (c : Dev nD) : Value.res_main_v66 m c
    = OUT (m ((c.tc : Thread nD τ).loc main_arg1)) (m ((c.tc : Thread nD τ).loc main_arg5)) (m ((c.tc : Thread nD τ).loc main_arg6)) (m ((c.tc : Thread nD τ).loc main_arg7)) := rfl

end Cert.Reference7Ideal.Compress

end
-- ==== Proof.CompressEquation.lean ====
/- The compression of a prompt: the kernel's run against the reference's. -/
module

public import proofs.«01_k».proof.Defs
public import proofs.«01_k».proof.Proof.Gen.Kernel7.Frame
public import proofs.«01_k».proof.Proof.Gen.On_complete_blocks
public import proofs.«01_k».proof.Proof.CompressKernel
public import proofs.«01_k».proof.Proof.CompressReference

@[expose] public section

set_option maxRecDepth 16384

noncomputable section

namespace Cert.CompressEquation

open Idealize.ShloMosaic Idealize.ShloMosaic.TcCoe Idealize.SL.Sem

theorem frame_kernel : Cert.quiescent_Kernel7 := fun m ρ _ => Cert.Kernel7.Gen.frame m ρ

theorem frame_kernel_ideal : Cert.quiescent_Kernel7Ideal := fun m ρ _ => Cert.Kernel7Ideal.Gen.frame m ρ

theorem frame_reference : Cert.quiescent_Reference7Ideal := fun m ρ _ =>
  (θ_run _ _ _).mono (fun r h => ⟨fun c => (h c).2.2, sem_eq_zero_of_no_sems (by decide) r.2⟩) (Cert.Reference7Ideal.Value.run m ρ)

theorem preserves : Cert.preserves_Kernel7_Kernel7Ideal := trivial

/-- Where the mask is set, the block is complete. -/
theorem complete (n : Fin 512) : IntOp.cmpi .sle (BitVec.ofNat 32 (n : ℕ)) 510#32 = 1#1 → (n : ℕ) < 511 := by
  have e : ∀ n : Fin 512, IntOp.cmpi .sle (BitVec.ofNat 32 (n : ℕ)) 510#32 = 1#1 → (n : ℕ) < 511 := by decide +kernel
  exact e n

/-- On the complete blocks the two sides agree. -/
theorem agree (x : FVec Ideal Cert.Kernel7Ideal.S2x8192x2x64 .f32) (p : FVec Ideal Cert.Kernel7Ideal.S32x64 .f32)
    (w : FVec Ideal Cert.Kernel7Ideal.S32x64x128 .f32) (u : FVec Ideal Cert.Kernel7Ideal.S128x64 .f32) (b : Fin 2) (n : Fin 512) (k : Fin 128)
    (hn : (n : ℕ) < 511) :
    Cert.Reference7Ideal.Compress.OUT x p w u (ix3 b n k) = Cert.Kernel7Ideal.Compress.G x p w u (ix3 b n k) := by
  refine (Cert.Reference7Ideal.Compress.out_at x p w u b ⟨n, hn⟩ k).trans ?_
  refine congrArg (fun y => Cert.CompressRule.block _ y _ _ _ _) (funext fun l => funext fun d => ?_)
  refine congrArg (fun r => x (ix4 b r (Cert.CompressRule.group k) d)) (Fin.ext ?_)
  show ((n : ℕ) + 1) * 16 + (l : ℕ) = ((n : ℕ) + 512 - 511) % 512 * 16 + (l : ℕ)
  omega

theorem algebraic : Cert.algebraic_Kernel7Ideal_Reference7Ideal_on_complete_blocks := by
  intro m g m' g' _ hm
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    (θ_run _ _ _).mono (fun r h c => ⟨fun i _ => congrFun (h c).1 i, fun i _ => congrFun (h c).2.1 i, (h c).2.2⟩) (Cert.Kernel7Ideal.Value.run_blocks m g),
    (θ_run _ _ _).mono (fun r h c => ⟨fun i hi => ?_, fun i hi => ?_, (h c).2.2⟩) (Cert.Reference7Ideal.Value.run m' g')⟩
  · refine (congrFun (h c).1 i).trans ?_
    refine Eq.trans ?_ (congrFun (Cert.Kernel7Ideal.Compress.finalK m c) i).symm
    refine (congrFun (Cert.Reference7Ideal.Compress.res0 m' c) i).trans ?_
    obtain ⟨h0, h1, h2, h3, h4, h5, h6, h7⟩ := hm c
    rw [h0, h2, h3, h4]
    have ei : i = (ix3 (i 0) (i 1) (i 2) : Cert.Kernel7Ideal.S2x512x128.Idx) := eq_ix3 i
    rw [ei]
    exact agree _ _ _ _ (i 0) (i 1) (i 2) (complete (i 1) hi)
  · refine (congrFun (h c).2.1 i).trans ?_
    refine Eq.trans ?_ (congrFun (Cert.Kernel7Ideal.Compress.finalV m c) i).symm
    refine (congrFun (Cert.Reference7Ideal.Compress.res1 m' c) i).trans ?_
    obtain ⟨h0, h1, h2, h3, h4, h5, h6, h7⟩ := hm c
    rw [h1, h5, h6, h7]
    have ei : i = (ix3 (i 0) (i 1) (i 2) : Cert.Kernel7Ideal.S2x512x128.Idx) := eq_ix3 i
    rw [ei]
    exact agree _ _ _ _ (i 0) (i 1) (i 2) (complete (i 1) hi)

end Cert.CompressEquation

end
-- ==== Proof.WinTable.lean ====
/- The page tables: the call clips what it reads from them, so that every page lies inside the cache. -/
module

public import proofs.«01_k».proof.Proof.Gen.Kernel8Ideal.Frame.Runs

@[expose] public section

set_option maxRecDepth 16384

noncomputable section

open Idealize.ShloMosaic Idealize.ShloMosaic.TcCoe Idealize.SL.Sem

namespace Cert.WinTable

theorem clipped (x : BitVec 32) : (Scalar.minsi 10239#32 (Scalar.maxsi 0#32 x)).toNat ≤ 10239 := by
  simp only [Scalar.maxsi, Scalar.minsi, IntOp.maxsi, IntOp.minsi, BitVec.slt_eq_decide, decide_eq_true_eq, BitVec.reduceToInt]
  have ht := BitVec.toInt_eq_toNat_cond x
  by_cases hp : x.toInt < 0
  · simp only [hp, ↓reduceIte, BitVec.reduceToInt]; decide
  · simp only [hp, ↓reduceIte]
    by_cases h8 : 10239 < x.toInt
    · simp only [h8, ↓reduceIte]; decide
    · simp only [h8, ↓reduceIte]; split at ht <;> omega

/-- The first group's half of a page. -/
theorem first (x : BitVec 32) : (Scalar.addi (Scalar.muli (Scalar.minsi 10239#32 (Scalar.maxsi 0#32 x)) 2#32) 0#32).toNat < 20480 := by
  have h := clipped x
  generalize Scalar.minsi 10239#32 (Scalar.maxsi 0#32 x) = y at h
  show (y * 2#32 + 0#32).toNat < 20480
  rw [BitVec.toNat_add, BitVec.toNat_mul]
  show (y.toNat * 2 % 4294967296 + 0) % 4294967296 < 20480
  omega

/-- The second group's half of a page. -/
theorem second (x : BitVec 32) : (Scalar.addi (Scalar.muli (Scalar.minsi 10239#32 (Scalar.maxsi 0#32 x)) 2#32) 1#32).toNat < 20480 := by
  have h := clipped x
  generalize Scalar.minsi 10239#32 (Scalar.maxsi 0#32 x) = y at h
  show (y * 2#32 + 1#32).toNat < 20480
  rw [BitVec.toNat_add, BitVec.toNat_mul]
  show (y.toNat * 2 % 4294967296 + 1) % 4294967296 < 20480
  omega

end Cert.WinTable

namespace Cert.Kernel8Ideal.Win

open Cert.Kernel8Ideal Cert.Kernel8Ideal.Gen Cert.WinTable

variable {F : FTy → Type} [FloatOps F]
variable (m : (ℓ : Loc nD τ sig) → Buf (Elt F) ℓ)

theorem inside (n : ℕ) (h : n < 20480) : ∀ a, (![n, 0, 0] a + 1) * S1x64x128.size a ≤ S20480x64x128.size a := fun a =>
  match a with
  | 0 => by show (n + 1) * 1 ≤ 20480; omega
  | 1 => by show (0 + 1) * 64 ≤ 64; omega
  | 2 => by show (0 + 1) * 128 ≤ 128; omega

/-- Whatever the tables hold, every page the call fetches lies inside the cache. -/
theorem ok : Ok m := by
  show ok0 _
  unfold ok0
  exact ⟨fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩⟩

end Cert.Kernel8Ideal.Win

end
-- ==== Proof.WinPages.lean ====
/- The page tables of the call as printed. -/
module

public import proofs.«01_k».proof.Proof.Gen.Kernel8.Frame.Runs
public import proofs.«01_k».proof.Proof.WinTable

@[expose] public section

set_option maxRecDepth 16384

noncomputable section

open Idealize.ShloMosaic Idealize.ShloMosaic.TcCoe Idealize.SL.Sem

namespace Cert.Kernel8.Win

open Cert.Kernel8 Cert.Kernel8.Gen Cert.WinTable

variable {F : FTy → Type} [FloatOps F]
variable (m : (ℓ : Loc nD τ sig) → Buf (Elt F) ℓ)

theorem inside (n : ℕ) (h : n < 20480) : ∀ a, (![n, 0, 0] a + 1) * S1x64x128.size a ≤ S20480x64x128.size a := fun a =>
  match a with
  | 0 => by show (n + 1) * 1 ≤ 20480; omega
  | 1 => by show (0 + 1) * 64 ≤ 64; omega
  | 2 => by show (0 + 1) * 128 ≤ 128; omega

/-- Whatever the tables hold, every page the call fetches lies inside the cache. -/
theorem ok : Ok m := by
  show ok0 _
  unfold ok0
  exact ⟨fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (first _), .inl rfl⟩, fun _ => ⟨inside _ (first _), .inl rfl⟩, fun _ => ⟨inside _ (first _), .inl rfl⟩, fun _ => ⟨inside _ (first _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩,
    fun _ => ⟨inside _ (second _), .inl rfl⟩, fun _ => ⟨inside _ (second _), .inl rfl⟩, fun _ => ⟨inside _ (second _), .inl rfl⟩, fun _ => ⟨inside _ (second _), .inl rfl⟩⟩

end Cert.Kernel8.Win

end
-- ==== Proof.WinRun.lean ====
/- One run of the body: what it stores in the two windows. -/
module

public import proofs.«01_k».proof.Proof.Gen.Kernel8Ideal.Frame.Runs
public import Idealize.ShloMosaic.Lib.Pipeline.ValueKit

@[expose] public section

set_option maxRecDepth 16384

noncomputable section

namespace Cert.Kernel8Ideal.Win

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- Whatever the blocks hold, the body runs to its end, leaves them as they were, and stores the two windows. -/
theorem bodyRun (c : Dev nD) (i : grid0.Coords) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x64x128 .f32) (harg18 : arg18.IsWhole) (arg19 : Memref sig .tc .vmem S1x64x128 .f32) (harg19 : arg19.IsWhole) (arg20 : Memref sig .tc .vmem S1x64x128 .f32) (harg20 : arg20.IsWhole) (arg21 : Memref sig .tc .vmem S1x64x128 .f32) (harg21 : arg21.IsWhole) (arg22 : Memref sig .tc .vmem S1x64x128 .f32) (harg22 : arg22.IsWhole) (arg23 : Memref sig .tc .vmem S1x64x128 .f32) (harg23 : arg23.IsWhole) (arg24 : Memref sig .tc .vmem S1x64x128 .f32) (harg24 : arg24.IsWhole) (arg25 : Memref sig .tc .vmem S1x64x128 .f32) (harg25 : arg25.IsWhole) (arg26 : Memref sig .tc .vmem S1x64x128 .f32) (harg26 : arg26.IsWhole) (arg27 : Memref sig .tc .vmem S1x64x128 .f32) (harg27 : arg27.IsWhole) (arg28 : Memref sig .tc .vmem S1x64x128 .f32) (harg28 : arg28.IsWhole) (arg29 : Memref sig .tc .vmem S1x64x128 .f32) (harg29 : arg29.IsWhole) (arg30 : Memref sig .tc .vmem S1x64x128 .f32) (harg30 : arg30.IsWhole) (arg31 : Memref sig .tc .vmem S1x64x128 .f32) (harg31 : arg31.IsWhole) (arg32 : Memref sig .tc .vmem S1x64x128 .f32) (harg32 : arg32.IsWhole) (arg33 : Memref sig .tc .vmem S1x64x128 .f32) (harg33 : arg33.IsWhole) (arg34 : Memref sig .tc .vmem S1x64x128 .f32) (harg34 : arg34.IsWhole) (arg35 : Memref sig .tc .vmem S1x64x128 .f32) (harg35 : arg35.IsWhole) (arg36 : Memref sig .tc .vmem S1x64x128 .f32) (harg36 : arg36.IsWhole) (arg37 : Memref sig .tc .vmem S1x64x128 .f32) (harg37 : arg37.IsWhole) (arg38 : Memref sig .tc .vmem S1x64x128 .f32) (harg38 : arg38.IsWhole) (arg39 : Memref sig .tc .vmem S1x64x128 .f32) (harg39 : arg39.IsWhole) (arg40 : Memref sig .tc .vmem S1x64x128 .f32) (harg40 : arg40.IsWhole) (arg41 : Memref sig .tc .vmem S1x64x128 .f32) (harg41 : arg41.IsWhole) (arg42 : Memref sig .tc .vmem S1x64x128 .f32) (harg42 : arg42.IsWhole) (arg43 : Memref sig .tc .vmem S1x64x128 .f32) (harg43 : arg43.IsWhole) (arg44 : Memref sig .tc .vmem S1x64x128 .f32) (harg44 : arg44.IsWhole) (arg45 : Memref sig .tc .vmem S1x64x128 .f32) (harg45 : arg45.IsWhole) (arg46 : Memref sig .tc .vmem S1x64x128 .f32) (harg46 : arg46.IsWhole) (arg47 : Memref sig .tc .vmem S1x64x128 .f32) (harg47 : arg47.IsWhole) (arg48 : Memref sig .tc .vmem S1x64x128 .f32) (harg48 : arg48.IsWhole) (arg49 : Memref sig .tc .vmem S1x64x128 .f32) (harg49 : arg49.IsWhole) (arg50 : Memref sig .tc .vmem S1x64x128 .f32) (harg50 : arg50.IsWhole) (arg51 : Memref sig .tc .vmem S1x64x128 .f32) (harg51 : arg51.IsWhole) (arg52 : Memref sig .tc .vmem S1x64x128 .f32) (harg52 : arg52.IsWhole) (arg53 : Memref sig .tc .vmem S1x64x128 .f32) (harg53 : arg53.IsWhole) (arg54 : Memref sig .tc .vmem S1x64x128 .f32) (harg54 : arg54.IsWhole) (arg55 : Memref sig .tc .vmem S1x64x128 .f32) (harg55 : arg55.IsWhole) (arg56 : Memref sig .tc .vmem S1x64x128 .f32) (harg56 : arg56.IsWhole) (arg57 : Memref sig .tc .vmem S1x64x128 .f32) (harg57 : arg57.IsWhole) (arg58 : Memref sig .tc .vmem S1x64x128 .f32) (harg58 : arg58.IsWhole) (arg59 : Memref sig .tc .vmem S1x64x128 .f32) (harg59 : arg59.IsWhole) (arg60 : Memref sig .tc .vmem S1x64x128 .f32) (harg60 : arg60.IsWhole) (arg61 : Memref sig .tc .vmem S1x64x128 .f32) (harg61 : arg61.IsWhole) (arg62 : Memref sig .tc .vmem S1x64x128 .f32) (harg62 : arg62.IsWhole) (arg63 : Memref sig .tc .vmem S1x64x128 .f32) (harg63 : arg63.IsWhole) (arg64 : Memref sig .tc .vmem S1x64x128 .f32) (harg64 : arg64.IsWhole) (arg65 : Memref sig .tc .vmem S1x64x128 .f32) (harg65 : arg65.IsWhole) (arg66 : Memref sig .tc .vmem S1x64x128 .f32) (harg66 : arg66.IsWhole) (arg67 : Memref sig .tc .vmem S1x8x128 .bf16) (harg67 : arg67.IsWhole) (arg68 : Memref sig .tc .vmem S1x8x128 .f32) (harg68 : arg68.IsWhole) (arg69 : Memref sig .tc .vmem S1x3x8x128 .f32) (harg69 : arg69.IsWhole) (arg70 : Memref sig .tc .vmem S1x1x128 .f32) (harg70 : arg70.IsWhole) (arg71 : Memref sig .tc .vmem S1x1x128 .f32) (harg71 : arg71.IsWhole) (arg72 : Memref sig .tc .vmem S1x1x128 .f32) (harg72 : arg72.IsWhole) (arg73 : Memref sig .tc .vmem S1x1x128 .f32) (harg73 : arg73.IsWhole) (arg74 : Memref sig .tc .vmem S1x128x512 .f32) (harg74 : arg74.IsWhole) (arg75 : Memref sig .tc .vmem S1x128x512 .f32) (harg75 : arg75.IsWhole) (arg76 : Memref sig .tc .vmem S3x8x128 .f32) (harg76 : arg76.IsWhole) (arg77 : Memref sig .tc .vmem S8x128 .f32) (harg77 : arg77.IsWhole) (arg78 : Memref sig .tc .vmem S8x512 .f32) (harg78 : arg78.IsWhole) (arg79 : Memref sig .tc .vmem S1x8x128 .bf16) (harg79 : arg79.IsWhole) (arg80 : Memref sig .tc .vmem S1x128x512 .f32) (harg80 : arg80.IsWhole) (arg81 : Memref sig .tc .vmem S1x128x512 .f32) (harg81 : arg81.IsWhole)
    (x0 : Vec F S1x64x128 .f32) (x1 : Vec F S1x64x128 .f32) (x2 : Vec F S1x64x128 .f32) (x3 : Vec F S1x64x128 .f32) (x4 : Vec F S1x64x128 .f32) (x5 : Vec F S1x64x128 .f32) (x6 : Vec F S1x64x128 .f32) (x7 : Vec F S1x64x128 .f32) (x8 : Vec F S1x64x128 .f32) (x9 : Vec F S1x64x128 .f32) (x10 : Vec F S1x64x128 .f32) (x11 : Vec F S1x64x128 .f32) (x12 : Vec F S1x64x128 .f32) (x13 : Vec F S1x64x128 .f32) (x14 : Vec F S1x64x128 .f32) (x15 : Vec F S1x64x128 .f32) (x16 : Vec F S1x64x128 .f32) (x17 : Vec F S1x64x128 .f32) (x18 : Vec F S1x64x128 .f32) (x19 : Vec F S1x64x128 .f32) (x20 : Vec F S1x64x128 .f32) (x21 : Vec F S1x64x128 .f32) (x22 : Vec F S1x64x128 .f32) (x23 : Vec F S1x64x128 .f32) (x24 : Vec F S1x64x128 .f32) (x25 : Vec F S1x64x128 .f32) (x26 : Vec F S1x64x128 .f32) (x27 : Vec F S1x64x128 .f32) (x28 : Vec F S1x64x128 .f32) (x29 : Vec F S1x64x128 .f32) (x30 : Vec F S1x64x128 .f32) (x31 : Vec F S1x64x128 .f32) (x32 : Vec F S1x64x128 .f32) (x33 : Vec F S1x64x128 .f32) (x34 : Vec F S1x64x128 .f32) (x35 : Vec F S1x64x128 .f32) (x36 : Vec F S1x64x128 .f32) (x37 : Vec F S1x64x128 .f32) (x38 : Vec F S1x64x128 .f32) (x39 : Vec F S1x64x128 .f32) (x40 : Vec F S1x64x128 .f32) (x41 : Vec F S1x64x128 .f32) (x42 : Vec F S1x64x128 .f32) (x43 : Vec F S1x64x128 .f32) (x44 : Vec F S1x64x128 .f32) (x45 : Vec F S1x64x128 .f32) (x46 : Vec F S1x64x128 .f32) (x47 : Vec F S1x64x128 .f32) (x48 : Vec F S1x64x128 .f32) (x49 : Vec F S1x64x128 .f32) (x50 : Vec F S1x64x128 .f32) (x51 : Vec F S1x64x128 .f32) (x52 : Vec F S1x64x128 .f32) (x53 : Vec F S1x64x128 .f32) (x54 : Vec F S1x64x128 .f32) (x55 : Vec F S1x64x128 .f32) (x56 : Vec F S1x64x128 .f32) (x57 : Vec F S1x64x128 .f32) (x58 : Vec F S1x64x128 .f32) (x59 : Vec F S1x64x128 .f32) (x60 : Vec F S1x64x128 .f32) (x61 : Vec F S1x64x128 .f32) (x62 : Vec F S1x64x128 .f32) (x63 : Vec F S1x64x128 .f32) (x64 : Vec F S1x8x128 .bf16) (x65 : Vec F S1x8x128 .f32) (x66 : Vec F S1x3x8x128 .f32) (x67 : Vec F S1x1x128 .f32) (x68 : Vec F S1x1x128 .f32) (x69 : Vec F S1x1x128 .f32) (x70 : Vec F S1x1x128 .f32) (x71 : Vec F S1x128x512 .f32) (x72 : Vec F S1x128x512 .f32) (x73 : Vec F S3x8x128 .f32) (x74 : Vec F S8x128 .f32) (x75 : Vec F S8x512 .f32) (xt0 : TbBuf0 (F := F) c tbM0_0) (xt1 : TbBuf0 (F := F) c tbM0_1) :
    ∃ (L76 : List (View.Piece (Elt F) S1x8x128 .bf16)) (L77 : List (View.Piece (Elt F) S1x128x512 .f32)) (L78 : List (View.Piece (Elt F) S1x128x512 .f32)),
      (
      ∀ (E : Set ℕ) (K : PUnit → sProp (MT nD τ sig Unit (Elt F) ℕ (UR sig nD τ) ℕ)),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread x13) ∗ (arg17.view.loc (c : Thread nD τ) ↦[arg17.view.set]{fullShare} harg17.unread x14) ∗ (arg18.view.loc (c : Thread nD τ) ↦[arg18.view.set]{fullShare} harg18.unread x15) ∗ (arg19.view.loc (c : Thread nD τ) ↦[arg19.view.set]{fullShare} harg19.unread x16) ∗ (arg20.view.loc (c : Thread nD τ) ↦[arg20.view.set]{fullShare} harg20.unread x17) ∗ (arg21.view.loc (c : Thread nD τ) ↦[arg21.view.set]{fullShare} harg21.unread x18) ∗ (arg22.view.loc (c : Thread nD τ) ↦[arg22.view.set]{fullShare} harg22.unread x19) ∗ (arg23.view.loc (c : Thread nD τ) ↦[arg23.view.set]{fullShare} harg23.unread x20) ∗ (arg24.view.loc (c : Thread nD τ) ↦[arg24.view.set]{fullShare} harg24.unread x21) ∗ (arg25.view.loc (c : Thread nD τ) ↦[arg25.view.set]{fullShare} harg25.unread x22) ∗ (arg26.view.loc (c : Thread nD τ) ↦[arg26.view.set]{fullShare} harg26.unread x23) ∗ (arg27.view.loc (c : Thread nD τ) ↦[arg27.view.set]{fullShare} harg27.unread x24) ∗ (arg28.view.loc (c : Thread nD τ) ↦[arg28.view.set]{fullShare} harg28.unread x25) ∗ (arg29.view.loc (c : Thread nD τ) ↦[arg29.view.set]{fullShare} harg29.unread x26) ∗ (arg30.view.loc (c : Thread nD τ) ↦[arg30.view.set]{fullShare} harg30.unread x27) ∗ (arg31.view.loc (c : Thread nD τ) ↦[arg31.view.set]{fullShare} harg31.unread x28) ∗ (arg32.view.loc (c : Thread nD τ) ↦[arg32.view.set]{fullShare} harg32.unread x29) ∗ (arg33.view.loc (c : Thread nD τ) ↦[arg33.view.set]{fullShare} harg33.unread x30) ∗ (arg34.view.loc (c : Thread nD τ) ↦[arg34.view.set]{fullShare} harg34.unread x31) ∗ (arg35.view.loc (c : Thread nD τ) ↦[arg35.view.set]{fullShare} harg35.unread x32) ∗ (arg36.view.loc (c : Thread nD τ) ↦[arg36.view.set]{fullShare} harg36.unread x33) ∗ (arg37.view.loc (c : Thread nD τ) ↦[arg37.view.set]{fullShare} harg37.unread x34) ∗ (arg38.view.loc (c : Thread nD τ) ↦[arg38.view.set]{fullShare} harg38.unread x35) ∗ (arg39.view.loc (c : Thread nD τ) ↦[arg39.view.set]{fullShare} harg39.unread x36) ∗ (arg40.view.loc (c : Thread nD τ) ↦[arg40.view.set]{fullShare} harg40.unread x37) ∗ (arg41.view.loc (c : Thread nD τ) ↦[arg41.view.set]{fullShare} harg41.unread x38) ∗ (arg42.view.loc (c : Thread nD τ) ↦[arg42.view.set]{fullShare} harg42.unread x39) ∗ (arg43.view.loc (c : Thread nD τ) ↦[arg43.view.set]{fullShare} harg43.unread x40) ∗ (arg44.view.loc (c : Thread nD τ) ↦[arg44.view.set]{fullShare} harg44.unread x41) ∗ (arg45.view.loc (c : Thread nD τ) ↦[arg45.view.set]{fullShare} harg45.unread x42) ∗ (arg46.view.loc (c : Thread nD τ) ↦[arg46.view.set]{fullShare} harg46.unread x43) ∗ (arg47.view.loc (c : Thread nD τ) ↦[arg47.view.set]{fullShare} harg47.unread x44) ∗ (arg48.view.loc (c : Thread nD τ) ↦[arg48.view.set]{fullShare} harg48.unread x45) ∗ (arg49.view.loc (c : Thread nD τ) ↦[arg49.view.set]{fullShare} harg49.unread x46) ∗ (arg50.view.loc (c : Thread nD τ) ↦[arg50.view.set]{fullShare} harg50.unread x47) ∗ (arg51.view.loc (c : Thread nD τ) ↦[arg51.view.set]{fullShare} harg51.unread x48) ∗ (arg52.view.loc (c : Thread nD τ) ↦[arg52.view.set]{fullShare} harg52.unread x49) ∗ (arg53.view.loc (c : Thread nD τ) ↦[arg53.view.set]{fullShare} harg53.unread x50) ∗ (arg54.view.loc (c : Thread nD τ) ↦[arg54.view.set]{fullShare} harg54.unread x51) ∗ (arg55.view.loc (c : Thread nD τ) ↦[arg55.view.set]{fullShare} harg55.unread x52) ∗ (arg56.view.loc (c : Thread nD τ) ↦[arg56.view.set]{fullShare} harg56.unread x53) ∗ (arg57.view.loc (c : Thread nD τ) ↦[arg57.view.set]{fullShare} harg57.unread x54) ∗ (arg58.view.loc (c : Thread nD τ) ↦[arg58.view.set]{fullShare} harg58.unread x55) ∗ (arg59.view.loc (c : Thread nD τ) ↦[arg59.view.set]{fullShare} harg59.unread x56) ∗ (arg60.view.loc (c : Thread nD τ) ↦[arg60.view.set]{fullShare} harg60.unread x57) ∗ (arg61.view.loc (c : Thread nD τ) ↦[arg61.view.set]{fullShare} harg61.unread x58) ∗ (arg62.view.loc (c : Thread nD τ) ↦[arg62.view.set]{fullShare} harg62.unread x59) ∗ (arg63.view.loc (c : Thread nD τ) ↦[arg63.view.set]{fullShare} harg63.unread x60) ∗ (arg64.view.loc (c : Thread nD τ) ↦[arg64.view.set]{fullShare} harg64.unread x61) ∗ (arg65.view.loc (c : Thread nD τ) ↦[arg65.view.set]{fullShare} harg65.unread x62) ∗ (arg66.view.loc (c : Thread nD τ) ↦[arg66.view.set]{fullShare} harg66.unread x63) ∗ (arg67.view.loc (c : Thread nD τ) ↦[arg67.view.set]{fullShare} harg67.unread x64) ∗ (arg68.view.loc (c : Thread nD τ) ↦[arg68.view.set]{fullShare} harg68.unread x65) ∗ (arg69.view.loc (c : Thread nD τ) ↦[arg69.view.set]{fullShare} harg69.unread x66) ∗ (arg70.view.loc (c : Thread nD τ) ↦[arg70.view.set]{fullShare} harg70.unread x67) ∗ (arg71.view.loc (c : Thread nD τ) ↦[arg71.view.set]{fullShare} harg71.unread x68) ∗ (arg72.view.loc (c : Thread nD τ) ↦[arg72.view.set]{fullShare} harg72.unread x69) ∗ (arg73.view.loc (c : Thread nD τ) ↦[arg73.view.set]{fullShare} harg73.unread x70) ∗ (arg74.view.loc (c : Thread nD τ) ↦[arg74.view.set]{fullShare} harg74.unread x71) ∗ (arg75.view.loc (c : Thread nD τ) ↦[arg75.view.set]{fullShare} harg75.unread x72) ∗ (arg76.view.loc (c : Thread nD τ) ↦[arg76.view.set]{fullShare} harg76.unread x73) ∗ (arg77.view.loc (c : Thread nD τ) ↦[arg77.view.set]{fullShare} harg77.unread x74) ∗ (arg78.view.loc (c : Thread nD τ) ↦[arg78.view.set]{fullShare} harg78.unread x75) ∗ (∃ f, arg79.view.loc (c : Thread nD τ) ↦[arg79.view.set]{fullShare} f) ∗ (∃ f, arg80.view.loc (c : Thread nD τ) ↦[arg80.view.set]{fullShare} f) ∗ (∃ f, arg81.view.loc (c : Thread nD τ) ↦[arg81.view.set]{fullShare} f) ∗ tbPt0 c tbM0_0 xt0 ∗ tbPt0 c tbM0_1 xt1
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread x13) ∗ (arg17.view.loc (c : Thread nD τ) ↦[arg17.view.set]{fullShare} harg17.unread x14) ∗ (arg18.view.loc (c : Thread nD τ) ↦[arg18.view.set]{fullShare} harg18.unread x15) ∗ (arg19.view.loc (c : Thread nD τ) ↦[arg19.view.set]{fullShare} harg19.unread x16) ∗ (arg20.view.loc (c : Thread nD τ) ↦[arg20.view.set]{fullShare} harg20.unread x17) ∗ (arg21.view.loc (c : Thread nD τ) ↦[arg21.view.set]{fullShare} harg21.unread x18) ∗ (arg22.view.loc (c : Thread nD τ) ↦[arg22.view.set]{fullShare} harg22.unread x19) ∗ (arg23.view.loc (c : Thread nD τ) ↦[arg23.view.set]{fullShare} harg23.unread x20) ∗ (arg24.view.loc (c : Thread nD τ) ↦[arg24.view.set]{fullShare} harg24.unread x21) ∗ (arg25.view.loc (c : Thread nD τ) ↦[arg25.view.set]{fullShare} harg25.unread x22) ∗ (arg26.view.loc (c : Thread nD τ) ↦[arg26.view.set]{fullShare} harg26.unread x23) ∗ (arg27.view.loc (c : Thread nD τ) ↦[arg27.view.set]{fullShare} harg27.unread x24) ∗ (arg28.view.loc (c : Thread nD τ) ↦[arg28.view.set]{fullShare} harg28.unread x25) ∗ (arg29.view.loc (c : Thread nD τ) ↦[arg29.view.set]{fullShare} harg29.unread x26) ∗ (arg30.view.loc (c : Thread nD τ) ↦[arg30.view.set]{fullShare} harg30.unread x27) ∗ (arg31.view.loc (c : Thread nD τ) ↦[arg31.view.set]{fullShare} harg31.unread x28) ∗ (arg32.view.loc (c : Thread nD τ) ↦[arg32.view.set]{fullShare} harg32.unread x29) ∗ (arg33.view.loc (c : Thread nD τ) ↦[arg33.view.set]{fullShare} harg33.unread x30) ∗ (arg34.view.loc (c : Thread nD τ) ↦[arg34.view.set]{fullShare} harg34.unread x31) ∗ (arg35.view.loc (c : Thread nD τ) ↦[arg35.view.set]{fullShare} harg35.unread x32) ∗ (arg36.view.loc (c : Thread nD τ) ↦[arg36.view.set]{fullShare} harg36.unread x33) ∗ (arg37.view.loc (c : Thread nD τ) ↦[arg37.view.set]{fullShare} harg37.unread x34) ∗ (arg38.view.loc (c : Thread nD τ) ↦[arg38.view.set]{fullShare} harg38.unread x35) ∗ (arg39.view.loc (c : Thread nD τ) ↦[arg39.view.set]{fullShare} harg39.unread x36) ∗ (arg40.view.loc (c : Thread nD τ) ↦[arg40.view.set]{fullShare} harg40.unread x37) ∗ (arg41.view.loc (c : Thread nD τ) ↦[arg41.view.set]{fullShare} harg41.unread x38) ∗ (arg42.view.loc (c : Thread nD τ) ↦[arg42.view.set]{fullShare} harg42.unread x39) ∗ (arg43.view.loc (c : Thread nD τ) ↦[arg43.view.set]{fullShare} harg43.unread x40) ∗ (arg44.view.loc (c : Thread nD τ) ↦[arg44.view.set]{fullShare} harg44.unread x41) ∗ (arg45.view.loc (c : Thread nD τ) ↦[arg45.view.set]{fullShare} harg45.unread x42) ∗ (arg46.view.loc (c : Thread nD τ) ↦[arg46.view.set]{fullShare} harg46.unread x43) ∗ (arg47.view.loc (c : Thread nD τ) ↦[arg47.view.set]{fullShare} harg47.unread x44) ∗ (arg48.view.loc (c : Thread nD τ) ↦[arg48.view.set]{fullShare} harg48.unread x45) ∗ (arg49.view.loc (c : Thread nD τ) ↦[arg49.view.set]{fullShare} harg49.unread x46) ∗ (arg50.view.loc (c : Thread nD τ) ↦[arg50.view.set]{fullShare} harg50.unread x47) ∗ (arg51.view.loc (c : Thread nD τ) ↦[arg51.view.set]{fullShare} harg51.unread x48) ∗ (arg52.view.loc (c : Thread nD τ) ↦[arg52.view.set]{fullShare} harg52.unread x49) ∗ (arg53.view.loc (c : Thread nD τ) ↦[arg53.view.set]{fullShare} harg53.unread x50) ∗ (arg54.view.loc (c : Thread nD τ) ↦[arg54.view.set]{fullShare} harg54.unread x51) ∗ (arg55.view.loc (c : Thread nD τ) ↦[arg55.view.set]{fullShare} harg55.unread x52) ∗ (arg56.view.loc (c : Thread nD τ) ↦[arg56.view.set]{fullShare} harg56.unread x53) ∗ (arg57.view.loc (c : Thread nD τ) ↦[arg57.view.set]{fullShare} harg57.unread x54) ∗ (arg58.view.loc (c : Thread nD τ) ↦[arg58.view.set]{fullShare} harg58.unread x55) ∗ (arg59.view.loc (c : Thread nD τ) ↦[arg59.view.set]{fullShare} harg59.unread x56) ∗ (arg60.view.loc (c : Thread nD τ) ↦[arg60.view.set]{fullShare} harg60.unread x57) ∗ (arg61.view.loc (c : Thread nD τ) ↦[arg61.view.set]{fullShare} harg61.unread x58) ∗ (arg62.view.loc (c : Thread nD τ) ↦[arg62.view.set]{fullShare} harg62.unread x59) ∗ (arg63.view.loc (c : Thread nD τ) ↦[arg63.view.set]{fullShare} harg63.unread x60) ∗ (arg64.view.loc (c : Thread nD τ) ↦[arg64.view.set]{fullShare} harg64.unread x61) ∗ (arg65.view.loc (c : Thread nD τ) ↦[arg65.view.set]{fullShare} harg65.unread x62) ∗ (arg66.view.loc (c : Thread nD τ) ↦[arg66.view.set]{fullShare} harg66.unread x63) ∗ (arg67.view.loc (c : Thread nD τ) ↦[arg67.view.set]{fullShare} harg67.unread x64) ∗ (arg68.view.loc (c : Thread nD τ) ↦[arg68.view.set]{fullShare} harg68.unread x65) ∗ (arg69.view.loc (c : Thread nD τ) ↦[arg69.view.set]{fullShare} harg69.unread x66) ∗ (arg70.view.loc (c : Thread nD τ) ↦[arg70.view.set]{fullShare} harg70.unread x67) ∗ (arg71.view.loc (c : Thread nD τ) ↦[arg71.view.set]{fullShare} harg71.unread x68) ∗ (arg72.view.loc (c : Thread nD τ) ↦[arg72.view.set]{fullShare} harg72.unread x69) ∗ (arg73.view.loc (c : Thread nD τ) ↦[arg73.view.set]{fullShare} harg73.unread x70) ∗ (arg74.view.loc (c : Thread nD τ) ↦[arg74.view.set]{fullShare} harg74.unread x71) ∗ (arg75.view.loc (c : Thread nD τ) ↦[arg75.view.set]{fullShare} harg75.unread x72) ∗ (arg76.view.loc (c : Thread nD τ) ↦[arg76.view.set]{fullShare} harg76.unread x73) ∗ (arg77.view.loc (c : Thread nD τ) ↦[arg77.view.set]{fullShare} harg77.unread x74) ∗ (arg78.view.loc (c : Thread nD τ) ↦[arg78.view.set]{fullShare} harg78.unread x75) ∗ (∃ f, arg79.view.loc (c : Thread nD τ) ↦[arg79.view.set]{fullShare} arg79.view.writes (Elt F) f L76) ∗ (∃ f, arg80.view.loc (c : Thread nD τ) ↦[arg80.view.set]{fullShare} arg80.view.writes (Elt F) f L77) ∗ (∃ f, arg81.view.loc (c : Thread nD τ) ↦[arg81.view.set]{fullShare} arg81.view.writes (Elt F) f L78) ∗ tbPt0 c tbM0_0 xt0 ∗ tbPt0 c tbM0_1 xt1) -∗ K ⟨⟩))
          ⊢ wp frame (wpE (defs₀ (F := F)) Variants.none c none) E (cc0_nsa_decode_sel i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81) K )
      ∧ (∀ y : S1x8x128.Idx, ∃ pc ∈ L76, y ∈ pc.1.set)
      ∧ (∀ y : S1x128x512.Idx, ∃ pc ∈ L77, y ∈ pc.1.set)
      ∧ (∀ y : S1x128x512.Idx, ∃ pc ∈ L78, y ∈ pc.1.set)
      ∧ VO0_77.read (Elt F) (VO0_77.writes (Elt F) VO0_77.junk L77) = k0_pay117 (k0_pay110 x71) x69
      ∧ VO0_78.read (Elt F) (VO0_78.writes (Elt F) VO0_78.junk L78) = k0_pay1 (k0_pay111 x72) k0_pay116 x70 := by
  refine ⟨?_, ?_, ?_, fun E K => ?run, ?c6, ?c7, ?c8, ?v7, ?v8⟩
  case run =>
    iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, ⟨%f76, H76⟩, ⟨%f77, H77⟩, ⟨%f78, H78⟩, HT0, HT1, Hk⟩
    simp only [cc0_nsa_decode_sel_eq_skeleton]; unfold cc0_nsa_decode_sel_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    sl_exec
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    isplitl [H30]
    · iexact H30
    isplitl [H31]
    · iexact H31
    isplitl [H32]
    · iexact H32
    isplitl [H33]
    · iexact H33
    isplitl [H34]
    · iexact H34
    isplitl [H35]
    · iexact H35
    isplitl [H36]
    · iexact H36
    isplitl [H37]
    · iexact H37
    isplitl [H38]
    · iexact H38
    isplitl [H39]
    · iexact H39
    isplitl [H40]
    · iexact H40
    isplitl [H41]
    · iexact H41
    isplitl [H42]
    · iexact H42
    isplitl [H43]
    · iexact H43
    isplitl [H44]
    · iexact H44
    isplitl [H45]
    · iexact H45
    isplitl [H46]
    · iexact H46
    isplitl [H47]
    · iexact H47
    isplitl [H48]
    · iexact H48
    isplitl [H49]
    · iexact H49
    isplitl [H50]
    · iexact H50
    isplitl [H51]
    · iexact H51
    isplitl [H52]
    · iexact H52
    isplitl [H53]
    · iexact H53
    isplitl [H54]
    · iexact H54
    isplitl [H55]
    · iexact H55
    isplitl [H56]
    · iexact H56
    isplitl [H57]
    · iexact H57
    isplitl [H58]
    · iexact H58
    isplitl [H59]
    · iexact H59
    isplitl [H60]
    · iexact H60
    isplitl [H61]
    · iexact H61
    isplitl [H62]
    · iexact H62
    isplitl [H63]
    · iexact H63
    isplitl [H64]
    · iexact H64
    isplitl [H65]
    · iexact H65
    isplitl [H66]
    · iexact H66
    isplitl [H67]
    · iexact H67
    isplitl [H68]
    · iexact H68
    isplitl [H69]
    · iexact H69
    isplitl [H70]
    · iexact H70
    isplitl [H71]
    · iexact H71
    isplitl [H72]
    · iexact H72
    isplitl [H73]
    · iexact H73
    isplitl [H74]
    · iexact H74
    isplitl [H75]
    · iexact H75
    isplitl [H76]; · iexists _; iexact H76
    isplitl [H77]; · iexists _; iexact H77
    isplitl [H78]; · iexists _; iexact H78
    isplitl [HT0]; · iexact HT0
    iexact HT1
  case c6 => exact fun y => View.cover_of_tiledL _ S1x8x128.size (by sl_kernel_rfl) y
  case c7 => exact fun y => View.cover_of_tiledL _ S1x128x512.size (by sl_kernel_rfl) y
  case c8 => exact fun y => View.cover_of_tiledL _ S1x128x512.size (by sl_kernel_rfl) y
  case v7 =>
    sl_unfold_words
    frame_out
  case v8 =>
    sl_unfold_words
    frame_out

end Cert.Kernel8Ideal.Win

end
-- ==== Proof.WinFrame.lean ====
/- The call around the body: from the body's run to the run of the whole call. -/
module

public import proofs.«01_k».proof.Proof.WinRun
public import Idealize.ShloMosaic.Lib.Claim
public import Idealize.ShloMosaic.Lib.LaneScatter.Own

@[expose] public section

set_option maxRecDepth 16384

noncomputable section

namespace Cert.Kernel8Ideal.Win

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.LaneScatter (owns_raw raw_owns)

variable {F : FTy → Type} [FloatOps F]
variable (m : (ℓ : Loc nD τ sig) → Buf (Elt F) ℓ) (ρ : Dev nD → PrngReg)

/-- A memref that is owned holds something. -/
theorem owns_some (c : Thread nD τ) {sp : Space} {sh : Shape} {e : EltTy} (M : Memref sig c.2.kind sp sh e) {x : sh.Idx → Elt F e} :
    (owns c M fullShare x : sProp (MT nD τ sig Unit (Elt F) ℕ (UR sig nD τ) ℕ)) ⊢ iprop(∃ f, M.view.loc c ↦[M.view.set]{fullShare} f) := by
  unfold owns
  iintro ⟨%f, -, H⟩
  iexists f
  iexact H

/-- The body's run at one point, over the blocks fetched there. -/
def runAt (hO : Ok m) (c : Dev nD) (t : Fin (cfgM m hO).N) :=
  bodyRun (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t) (ms0_51 m hO t) (hs0_51 m hO t) (ms0_52 m hO t) (hs0_52 m hO t) (ms0_53 m hO t) (hs0_53 m hO t) (ms0_54 m hO t) (hs0_54 m hO t) (ms0_55 m hO t) (hs0_55 m hO t) (ms0_56 m hO t) (hs0_56 m hO t) (ms0_57 m hO t) (hs0_57 m hO t) (ms0_58 m hO t) (hs0_58 m hO t) (ms0_59 m hO t) (hs0_59 m hO t) (ms0_60 m hO t) (hs0_60 m hO t) (ms0_61 m hO t) (hs0_61 m hO t) (ms0_62 m hO t) (hs0_62 m hO t) (ms0_63 m hO t) (hs0_63 m hO t) (ms0_64 m hO t) (hs0_64 m hO t) (ms0_65 m hO t) (hs0_65 m hO t) (ms0_66 m hO t) (hs0_66 m hO t) (ms0_67 m hO t) (hs0_67 m hO t) (ms0_68 m hO t) (hs0_68 m hO t) (ms0_69 m hO t) (hs0_69 m hO t) (ms0_70 m hO t) (hs0_70 m hO t) (ms0_71 m hO t) (hs0_71 m hO t) (ms0_72 m hO t) (hs0_72 m hO t) (ms0_73 m hO t) (hs0_73 m hO t) (ms0_74 m hO t) (hs0_74 m hO t) (ms0_75 m hO t) (hs0_75 m hO t) (ms0_76 m hO t) (hs0_76 m hO t) (ms0_77 m hO t) (hs0_77 m hO t) (ms0_78 m hO t) (hs0_78 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (iblk m hO c 53 t) (iblk m hO c 54 t) (iblk m hO c 55 t) (iblk m hO c 56 t) (iblk m hO c 57 t) (iblk m hO c 58 t) (iblk m hO c 59 t) (iblk m hO c 60 t) (iblk m hO c 61 t) (iblk m hO c 62 t) (iblk m hO c 63 t) (iblk m hO c 64 t) (iblk m hO c 65 t) (iblk m hO c 66 t) (iblk m hO c 67 t) (iblk m hO c 68 t) (iblk m hO c 69 t) (iblk m hO c 70 t) (iblk m hO c 71 t) (iblk m hO c 72 t) (iblk m hO c 73 t) (iblk m hO c 74 t) (iblk m hO c 75 t) (tbl m 0) (tbl m 1)

/-- What one point stores of the attention. -/
def attended (hO : Ok m) (c : Dev nD) (t : Fin (cfgM m hO).N) : Vec F S1x8x128 .bf16 :=
  VO0_76.read (Elt F) (VO0_76.writes (Elt F) VO0_76.junk (runAt m hO c t).choose)

/-- What one point stores in the window of the keys. -/
def storedK (hO : Ok m) (c : Dev nD) (t : Fin (cfgM m hO).N) : Vec F S1x128x512 .f32 := k0_pay117 (k0_pay110 (iblk m hO c 71 t)) (iblk m hO c 69 t)

/-- What one point stores in the window of the values. -/
def storedV (hO : Ok m) (c : Dev nD) (t : Fin (cfgM m hO).N) : Vec F S1x128x512 .f32 := k0_pay1 (k0_pay111 (iblk m hO c 72 t)) k0_pay116 (iblk m hO c 70 t)

/-- The call's data: each input at its blocks, each result at what one point stores. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => iblk m hO c 68 t
    | ⟨69, _⟩ => iblk m hO c 69 t
    | ⟨70, _⟩ => iblk m hO c 70 t
    | ⟨71, _⟩ => iblk m hO c 71 t
    | ⟨72, _⟩ => iblk m hO c 72 t
    | ⟨73, _⟩ => iblk m hO c 73 t
    | ⟨74, _⟩ => iblk m hO c 74 t
    | ⟨75, _⟩ => iblk m hO c 75 t
    | ⟨76, _⟩ => attended m hO c t
    | ⟨77, _⟩ => storedK m hO c t
    | ⟨78, _⟩ => storedV m hO c t
    | ⟨_ + 79, h⟩ => absurd h (Nat.not_lt.2 (Nat.le_add_left _ _))
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = iblk m hO c 37 t := by dsimp only [dats]; try rfl
theorem after0_38 (hO : Ok m) (c : Dev nD) (t : Fin (cfgM m hO).N) : (dats m hO 0 c).after 38 t = iblk m hO c 38 t := by dsimp only [dats]; try rfl
theorem after0_39 (hO : Ok m) (c : Dev nD) (t : Fin (cfgM m hO).N) : (dats m hO 0 c).after 39 t = iblk m hO c 39 t := by dsimp only [dats]; try rfl
theorem after0_40 (hO : Ok m) (c : Dev nD) (t : Fin (cfgM m hO).N) : (dats m hO 0 c).after 40 t = iblk m hO c 40 t := by dsimp only [dats]; try rfl
theorem after0_41 (hO : Ok m) (c : Dev nD) (t : Fin (cfgM m hO).N) : (dats m hO 0 c).after 41 t = iblk m hO c 41 t := by dsimp only [dats]; try rfl
theorem after0_42 (hO : Ok m) (c : Dev nD) (t : Fin (cfgM m hO).N) : (dats m hO 0 c).after 42 t = iblk m hO c 42 t := by dsimp only [dats]; try rfl
theorem after0_43 (hO : Ok m) (c : Dev nD) (t : Fin (cfgM m hO).N) : (dats m hO 0 c).after 43 t = iblk m hO c 43 t := by dsimp only [dats]; try rfl
theorem after0_44 (hO : Ok m) (c : Dev nD) (t : Fin (cfgM m hO).N) : (dats m hO 0 c).after 44 t = iblk m hO c 44 t := by dsimp only [dats]; try rfl
theorem after0_45 (hO : Ok m) (c : Dev nD) (t : Fin (cfgM m hO).N) : (dats m hO 0 c).after 45 t = iblk m hO c 45 t := by dsimp only [dats]; try rfl
theorem after0_46 (hO : Ok m) (c : Dev nD) (t : Fin (cfgM m hO).N) : (dats m hO 0 c).after 46 t = iblk m hO c 46 t := by dsimp only [dats]; try rfl
theorem after0_47 (hO : Ok m) (c : Dev nD) (t : Fin (cfgM m hO).N) : (dats m hO 0 c).after 47 t = iblk m hO c 47 t := by dsimp only [dats]; try rfl
theorem after0_48 (hO : Ok m) (c : Dev nD) (t : Fin (cfgM m hO).N) : (dats m hO 0 c).after 48 t = iblk m hO c 48 t := by dsimp only [dats]; try rfl
theorem after0_49 (hO : Ok m) (c : Dev nD) (t : Fin (cfgM m hO).N) : (dats m hO 0 c).after 49 t = iblk m hO c 49 t := by dsimp only [dats]; try rfl
theorem after0_50 (hO : Ok m) (c : Dev nD) (t : Fin (cfgM m hO).N) : (dats m hO 0 c).after 50 t = iblk m hO c 50 t := by dsimp only [dats]; try rfl
theorem after0_51 (hO : Ok m) (c : Dev nD) (t : Fin (cfgM m hO).N) : (dats m hO 0 c).after 51 t = iblk m hO c 51 t := by dsimp only [dats]; try rfl
theorem after0_52 (hO : Ok m) (c : Dev nD) (t : Fin (cfgM m hO).N) : (dats m hO 0 c).after 52 t = iblk m hO c 52 t := by dsimp only [dats]; try rfl
theorem after0_53 (hO : Ok m) (c : Dev nD) (t : Fin (cfgM m hO).N) : (dats m hO 0 c).after 53 t = iblk m hO c 53 t := by dsimp only [dats]; try rfl
theorem after0_54 (hO : Ok m) (c : Dev nD) (t : Fin (cfgM m hO).N) : (dats m hO 0 c).after 54 t = iblk m hO c 54 t := by dsimp only [dats]; try rfl
theorem after0_55 (hO : Ok m) (c : Dev nD) (t : Fin (cfgM m hO).N) : (dats m hO 0 c).after 55 t = iblk m hO c 55 t := by dsimp only [dats]; try rfl
theorem after0_56 (hO : Ok m) (c : Dev nD) (t : Fin (cfgM m hO).N) : (dats m hO 0 c).after 56 t = iblk m hO c 56 t := by dsimp only [dats]; try rfl
theorem after0_57 (hO : Ok m) (c : Dev nD) (t : Fin (cfgM m hO).N) : (dats m hO 0 c).after 57 t = iblk m hO c 57 t := by dsimp only [dats]; try rfl
theorem after0_58 (hO : Ok m) (c : Dev nD) (t : Fin (cfgM m hO).N) : (dats m hO 0 c).after 58 t = iblk m hO c 58 t := by dsimp only [dats]; try rfl
theorem after0_59 (hO : Ok m) (c : Dev nD) (t : Fin (cfgM m hO).N) : (dats m hO 0 c).after 59 t = iblk m hO c 59 t := by dsimp only [dats]; try rfl
theorem after0_60 (hO : Ok m) (c : Dev nD) (t : Fin (cfgM m hO).N) : (dats m hO 0 c).after 60 t = iblk m hO c 60 t := by dsimp only [dats]; try rfl
theorem after0_61 (hO : Ok m) (c : Dev nD) (t : Fin (cfgM m hO).N) : (dats m hO 0 c).after 61 t = iblk m hO c 61 t := by dsimp only [dats]; try rfl
theorem after0_62 (hO : Ok m) (c : Dev nD) (t : Fin (cfgM m hO).N) : (dats m hO 0 c).after 62 t = iblk m hO c 62 t := by dsimp only [dats]; try rfl
theorem after0_63 (hO : Ok m) (c : Dev nD) (t : Fin (cfgM m hO).N) : (dats m hO 0 c).after 63 t = iblk m hO c 63 t := by dsimp only [dats]; try rfl
theorem after0_64 (hO : Ok m) (c : Dev nD) (t : Fin (cfgM m hO).N) : (dats m hO 0 c).after 64 t = iblk m hO c 64 t := by dsimp only [dats]; try rfl
theorem after0_65 (hO : Ok m) (c : Dev nD) (t : Fin (cfgM m hO).N) : (dats m hO 0 c).after 65 t = iblk m hO c 65 t := by dsimp only [dats]; try rfl
theorem after0_66 (hO : Ok m) (c : Dev nD) (t : Fin (cfgM m hO).N) : (dats m hO 0 c).after 66 t = iblk m hO c 66 t := by dsimp only [dats]; try rfl
theorem after0_67 (hO : Ok m) (c : Dev nD) (t : Fin (cfgM m hO).N) : (dats m hO 0 c).after 67 t = iblk m hO c 67 t := by dsimp only [dats]; try rfl
theorem after0_68 (hO : Ok m) (c : Dev nD) (t : Fin (cfgM m hO).N) : (dats m hO 0 c).after 68 t = iblk m hO c 68 t := by dsimp only [dats]; try rfl
theorem after0_69 (hO : Ok m) (c : Dev nD) (t : Fin (cfgM m hO).N) : (dats m hO 0 c).after 69 t = iblk m hO c 69 t := by dsimp only [dats]; try rfl
theorem after0_70 (hO : Ok m) (c : Dev nD) (t : Fin (cfgM m hO).N) : (dats m hO 0 c).after 70 t = iblk m hO c 70 t := by dsimp only [dats]; try rfl
theorem after0_71 (hO : Ok m) (c : Dev nD) (t : Fin (cfgM m hO).N) : (dats m hO 0 c).after 71 t = iblk m hO c 71 t := by dsimp only [dats]; try rfl
theorem after0_72 (hO : Ok m) (c : Dev nD) (t : Fin (cfgM m hO).N) : (dats m hO 0 c).after 72 t = iblk m hO c 72 t := by dsimp only [dats]; try rfl
theorem after0_73 (hO : Ok m) (c : Dev nD) (t : Fin (cfgM m hO).N) : (dats m hO 0 c).after 73 t = iblk m hO c 73 t := by dsimp only [dats]; try rfl
theorem after0_74 (hO : Ok m) (c : Dev nD) (t : Fin (cfgM m hO).N) : (dats m hO 0 c).after 74 t = iblk m hO c 74 t := by dsimp only [dats]; try rfl
theorem after0_75 (hO : Ok m) (c : Dev nD) (t : Fin (cfgM m hO).N) : (dats m hO 0 c).after 75 t = iblk m hO c 75 t := by dsimp only [dats]; try rfl
theorem after0_76 (hO : Ok m) (c : Dev nD) (t : Fin (cfgM m hO).N) : (dats m hO 0 c).after 76 t = attended m hO c t := by dsimp only [dats]; try rfl
theorem after0_77 (hO : Ok m) (c : Dev nD) (t : Fin (cfgM m hO).N) : (dats m hO 0 c).after 77 t = storedK m hO c t := by dsimp only [dats]; try rfl
theorem after0_78 (hO : Ok m) (c : Dev nD) (t : Fin (cfgM m hO).N) : (dats m hO 0 c).after 78 t = storedV m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d
theorem before0_37 (hO : Ok m) (c : Dev nD) (t : Fin (cfgM m hO).N) (d) : (dats m hO 0 c).before 37 t d = iblk m hO c 37 t :=
  before0_37_of m hO (dats m hO 0 c) (A_eq m hO c 37) (after0_37 m hO c) t d
theorem before0_38 (hO : Ok m) (c : Dev nD) (t : Fin (cfgM m hO).N) (d) : (dats m hO 0 c).before 38 t d = iblk m hO c 38 t :=
  before0_38_of m hO (dats m hO 0 c) (A_eq m hO c 38) (after0_38 m hO c) t d
theorem before0_39 (hO : Ok m) (c : Dev nD) (t : Fin (cfgM m hO).N) (d) : (dats m hO 0 c).before 39 t d = iblk m hO c 39 t :=
  before0_39_of m hO (dats m hO 0 c) (A_eq m hO c 39) (after0_39 m hO c) t d
theorem before0_40 (hO : Ok m) (c : Dev nD) (t : Fin (cfgM m hO).N) (d) : (dats m hO 0 c).before 40 t d = iblk m hO c 40 t :=
  before0_40_of m hO (dats m hO 0 c) (A_eq m hO c 40) (after0_40 m hO c) t d
theorem before0_41 (hO : Ok m) (c : Dev nD) (t : Fin (cfgM m hO).N) (d) : (dats m hO 0 c).before 41 t d = iblk m hO c 41 t :=
  before0_41_of m hO (dats m hO 0 c) (A_eq m hO c 41) (after0_41 m hO c) t d
theorem before0_42 (hO : Ok m) (c : Dev nD) (t : Fin (cfgM m hO).N) (d) : (dats m hO 0 c).before 42 t d = iblk m hO c 42 t :=
  before0_42_of m hO (dats m hO 0 c) (A_eq m hO c 42) (after0_42 m hO c) t d
theorem before0_43 (hO : Ok m) (c : Dev nD) (t : Fin (cfgM m hO).N) (d) : (dats m hO 0 c).before 43 t d = iblk m hO c 43 t :=
  before0_43_of m hO (dats m hO 0 c) (A_eq m hO c 43) (after0_43 m hO c) t d
theorem before0_44 (hO : Ok m) (c : Dev nD) (t : Fin (cfgM m hO).N) (d) : (dats m hO 0 c).before 44 t d = iblk m hO c 44 t :=
  before0_44_of m hO (dats m hO 0 c) (A_eq m hO c 44) (after0_44 m hO c) t d
theorem before0_45 (hO : Ok m) (c : Dev nD) (t : Fin (cfgM m hO).N) (d) : (dats m hO 0 c).before 45 t d = iblk m hO c 45 t :=
  before0_45_of m hO (dats m hO 0 c) (A_eq m hO c 45) (after0_45 m hO c) t d
theorem before0_46 (hO : Ok m) (c : Dev nD) (t : Fin (cfgM m hO).N) (d) : (dats m hO 0 c).before 46 t d = iblk m hO c 46 t :=
  before0_46_of m hO (dats m hO 0 c) (A_eq m hO c 46) (after0_46 m hO c) t d
theorem before0_47 (hO : Ok m) (c : Dev nD) (t : Fin (cfgM m hO).N) (d) : (dats m hO 0 c).before 47 t d = iblk m hO c 47 t :=
  before0_47_of m hO (dats m hO 0 c) (A_eq m hO c 47) (after0_47 m hO c) t d
theorem before0_48 (hO : Ok m) (c : Dev nD) (t : Fin (cfgM m hO).N) (d) : (dats m hO 0 c).before 48 t d = iblk m hO c 48 t :=
  before0_48_of m hO (dats m hO 0 c) (A_eq m hO c 48) (after0_48 m hO c) t d
theorem before0_49 (hO : Ok m) (c : Dev nD) (t : Fin (cfgM m hO).N) (d) : (dats m hO 0 c).before 49 t d = iblk m hO c 49 t :=
  before0_49_of m hO (dats m hO 0 c) (A_eq m hO c 49) (after0_49 m hO c) t d
theorem before0_50 (hO : Ok m) (c : Dev nD) (t : Fin (cfgM m hO).N) (d) : (dats m hO 0 c).before 50 t d = iblk m hO c 50 t :=
  before0_50_of m hO (dats m hO 0 c) (A_eq m hO c 50) (after0_50 m hO c) t d
theorem before0_51 (hO : Ok m) (c : Dev nD) (t : Fin (cfgM m hO).N) (d) : (dats m hO 0 c).before 51 t d = iblk m hO c 51 t :=
  before0_51_of m hO (dats m hO 0 c) (A_eq m hO c 51) (after0_51 m hO c) t d
theorem before0_52 (hO : Ok m) (c : Dev nD) (t : Fin (cfgM m hO).N) (d) : (dats m hO 0 c).before 52 t d = iblk m hO c 52 t :=
  before0_52_of m hO (dats m hO 0 c) (A_eq m hO c 52) (after0_52 m hO c) t d
theorem before0_53 (hO : Ok m) (c : Dev nD) (t : Fin (cfgM m hO).N) (d) : (dats m hO 0 c).before 53 t d = iblk m hO c 53 t :=
  before0_53_of m hO (dats m hO 0 c) (A_eq m hO c 53) (after0_53 m hO c) t d
theorem before0_54 (hO : Ok m) (c : Dev nD) (t : Fin (cfgM m hO).N) (d) : (dats m hO 0 c).before 54 t d = iblk m hO c 54 t :=
  before0_54_of m hO (dats m hO 0 c) (A_eq m hO c 54) (after0_54 m hO c) t d
theorem before0_55 (hO : Ok m) (c : Dev nD) (t : Fin (cfgM m hO).N) (d) : (dats m hO 0 c).before 55 t d = iblk m hO c 55 t :=
  before0_55_of m hO (dats m hO 0 c) (A_eq m hO c 55) (after0_55 m hO c) t d
theorem before0_56 (hO : Ok m) (c : Dev nD) (t : Fin (cfgM m hO).N) (d) : (dats m hO 0 c).before 56 t d = iblk m hO c 56 t :=
  before0_56_of m hO (dats m hO 0 c) (A_eq m hO c 56) (after0_56 m hO c) t d
theorem before0_57 (hO : Ok m) (c : Dev nD) (t : Fin (cfgM m hO).N) (d) : (dats m hO 0 c).before 57 t d = iblk m hO c 57 t :=
  before0_57_of m hO (dats m hO 0 c) (A_eq m hO c 57) (after0_57 m hO c) t d
theorem before0_58 (hO : Ok m) (c : Dev nD) (t : Fin (cfgM m hO).N) (d) : (dats m hO 0 c).before 58 t d = iblk m hO c 58 t :=
  before0_58_of m hO (dats m hO 0 c) (A_eq m hO c 58) (after0_58 m hO c) t d
theorem before0_59 (hO : Ok m) (c : Dev nD) (t : Fin (cfgM m hO).N) (d) : (dats m hO 0 c).before 59 t d = iblk m hO c 59 t :=
  before0_59_of m hO (dats m hO 0 c) (A_eq m hO c 59) (after0_59 m hO c) t d
theorem before0_60 (hO : Ok m) (c : Dev nD) (t : Fin (cfgM m hO).N) (d) : (dats m hO 0 c).before 60 t d = iblk m hO c 60 t :=
  before0_60_of m hO (dats m hO 0 c) (A_eq m hO c 60) (after0_60 m hO c) t d
theorem before0_61 (hO : Ok m) (c : Dev nD) (t : Fin (cfgM m hO).N) (d) : (dats m hO 0 c).before 61 t d = iblk m hO c 61 t :=
  before0_61_of m hO (dats m hO 0 c) (A_eq m hO c 61) (after0_61 m hO c) t d
theorem before0_62 (hO : Ok m) (c : Dev nD) (t : Fin (cfgM m hO).N) (d) : (dats m hO 0 c).before 62 t d = iblk m hO c 62 t :=
  before0_62_of m hO (dats m hO 0 c) (A_eq m hO c 62) (after0_62 m hO c) t d
theorem before0_63 (hO : Ok m) (c : Dev nD) (t : Fin (cfgM m hO).N) (d) : (dats m hO 0 c).before 63 t d = iblk m hO c 63 t :=
  before0_63_of m hO (dats m hO 0 c) (A_eq m hO c 63) (after0_63 m hO c) t d
theorem before0_64 (hO : Ok m) (c : Dev nD) (t : Fin (cfgM m hO).N) (d) : (dats m hO 0 c).before 64 t d = iblk m hO c 64 t :=
  before0_64_of m hO (dats m hO 0 c) (A_eq m hO c 64) (after0_64 m hO c) t d
theorem before0_65 (hO : Ok m) (c : Dev nD) (t : Fin (cfgM m hO).N) (d) : (dats m hO 0 c).before 65 t d = iblk m hO c 65 t :=
  before0_65_of m hO (dats m hO 0 c) (A_eq m hO c 65) (after0_65 m hO c) t d
theorem before0_66 (hO : Ok m) (c : Dev nD) (t : Fin (cfgM m hO).N) (d) : (dats m hO 0 c).before 66 t d = iblk m hO c 66 t :=
  before0_66_of m hO (dats m hO 0 c) (A_eq m hO c 66) (after0_66 m hO c) t d
theorem before0_67 (hO : Ok m) (c : Dev nD) (t : Fin (cfgM m hO).N) (d) : (dats m hO 0 c).before 67 t d = iblk m hO c 67 t :=
  before0_67_of m hO (dats m hO 0 c) (A_eq m hO c 67) (after0_67 m hO c) t d
theorem before0_68 (hO : Ok m) (c : Dev nD) (t : Fin (cfgM m hO).N) (d) : (dats m hO 0 c).before 68 t d = iblk m hO c 68 t :=
  before0_68_of m hO (dats m hO 0 c) (A_eq m hO c 68) (after0_68 m hO c) t d
theorem before0_69 (hO : Ok m) (c : Dev nD) (t : Fin (cfgM m hO).N) (d) : (dats m hO 0 c).before 69 t d = iblk m hO c 69 t :=
  before0_69_of m hO (dats m hO 0 c) (A_eq m hO c 69) (after0_69 m hO c) t d
theorem before0_70 (hO : Ok m) (c : Dev nD) (t : Fin (cfgM m hO).N) (d) : (dats m hO 0 c).before 70 t d = iblk m hO c 70 t :=
  before0_70_of m hO (dats m hO 0 c) (A_eq m hO c 70) (after0_70 m hO c) t d
theorem before0_71 (hO : Ok m) (c : Dev nD) (t : Fin (cfgM m hO).N) (d) : (dats m hO 0 c).before 71 t d = iblk m hO c 71 t :=
  before0_71_of m hO (dats m hO 0 c) (A_eq m hO c 71) (after0_71 m hO c) t d
theorem before0_72 (hO : Ok m) (c : Dev nD) (t : Fin (cfgM m hO).N) (d) : (dats m hO 0 c).before 72 t d = iblk m hO c 72 t :=
  before0_72_of m hO (dats m hO 0 c) (A_eq m hO c 72) (after0_72 m hO c) t d
theorem before0_73 (hO : Ok m) (c : Dev nD) (t : Fin (cfgM m hO).N) (d) : (dats m hO 0 c).before 73 t d = iblk m hO c 73 t :=
  before0_73_of m hO (dats m hO 0 c) (A_eq m hO c 73) (after0_73 m hO c) t d
theorem before0_74 (hO : Ok m) (c : Dev nD) (t : Fin (cfgM m hO).N) (d) : (dats m hO 0 c).before 74 t d = iblk m hO c 74 t :=
  before0_74_of m hO (dats m hO 0 c) (A_eq m hO c 74) (after0_74 m hO c) t d
theorem before0_75 (hO : Ok m) (c : Dev nD) (t : Fin (cfgM m hO).N) (d) : (dats m hO 0 c).before 75 t d = iblk m hO c 75 t :=
  before0_75_of m hO (dats m hO 0 c) (A_eq m hO c 75) (after0_75 m hO c) t d

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d))
    ∗ (∃ d, owns (c : Thread nD τ) (ms0_39 m hO t) fullShare ((dats m hO 0 c).before 39 t d))
    ∗ (∃ d, owns (c : Thread nD τ) (ms0_40 m hO t) fullShare ((dats m hO 0 c).before 40 t d))
    ∗ (∃ d, owns (c : Thread nD τ) (ms0_41 m hO t) fullShare ((dats m hO 0 c).before 41 t d))
    ∗ (∃ d, owns (c : Thread nD τ) (ms0_42 m hO t) fullShare ((dats m hO 0 c).before 42 t d))
    ∗ (∃ d, owns (c : Thread nD τ) (ms0_43 m hO t) fullShare ((dats m hO 0 c).before 43 t d))
    ∗ (∃ d, owns (c : Thread nD τ) (ms0_44 m hO t) fullShare ((dats m hO 0 c).before 44 t d))
    ∗ (∃ d, owns (c : Thread nD τ) (ms0_45 m hO t) fullShare ((dats m hO 0 c).before 45 t d))
    ∗ (∃ d, owns (c : Thread nD τ) (ms0_46 m hO t) fullShare ((dats m hO 0 c).before 46 t d))
    ∗ (∃ d, owns (c : Thread nD τ) (ms0_47 m hO t) fullShare ((dats m hO 0 c).before 47 t d))
    ∗ (∃ d, owns (c : Thread nD τ) (ms0_48 m hO t) fullShare ((dats m hO 0 c).before 48 t d))
    ∗ (∃ d, owns (c : Thread nD τ) (ms0_49 m hO t) fullShare ((dats m hO 0 c).before 49 t d))
    ∗ (∃ d, owns (c : Thread nD τ) (ms0_50 m hO t) fullShare ((dats m hO 0 c).before 50 t d))
    ∗ (∃ d, owns (c : Thread nD τ) (ms0_51 m hO t) fullShare ((dats m hO 0 c).before 51 t d))
    ∗ (∃ d, owns (c : Thread nD τ) (ms0_52 m hO t) fullShare ((dats m hO 0 c).before 52 t d))
    ∗ (∃ d, owns (c : Thread nD τ) (ms0_53 m hO t) fullShare ((dats m hO 0 c).before 53 t d))
    ∗ (∃ d, owns (c : Thread nD τ) (ms0_54 m hO t) fullShare ((dats m hO 0 c).before 54 t d))
    ∗ (∃ d, owns (c : Thread nD τ) (ms0_55 m hO t) fullShare ((dats m hO 0 c).before 55 t d))
    ∗ (∃ d, owns (c : Thread nD τ) (ms0_56 m hO t) fullShare ((dats m hO 0 c).before 56 t d))
    ∗ (∃ d, owns (c : Thread nD τ) (ms0_57 m hO t) fullShare ((dats m hO 0 c).before 57 t d))
    ∗ (∃ d, owns (c : Thread nD τ) (ms0_58 m hO t) fullShare ((dats m hO 0 c).before 58 t d))
    ∗ (∃ d, owns (c : Thread nD τ) (ms0_59 m hO t) fullShare ((dats m hO 0 c).before 59 t d))
    ∗ (∃ d, owns (c : Thread nD τ) (ms0_60 m hO t) fullShare ((dats m hO 0 c).before 60 t d))
    ∗ (∃ d, owns (c : Thread nD τ) (ms0_61 m hO t) fullShare ((dats m hO 0 c).before 61 t d))
    ∗ (∃ d, owns (c : Thread nD τ) (ms0_62 m hO t) fullShare ((dats m hO 0 c).before 62 t d))
    ∗ (∃ d, owns (c : Thread nD τ) (ms0_63 m hO t) fullShare ((dats m hO 0 c).before 63 t d))
    ∗ (∃ d, owns (c : Thread nD τ) (ms0_64 m hO t) fullShare ((dats m hO 0 c).before 64 t d))
    ∗ (∃ d, owns (c : Thread nD τ) (ms0_65 m hO t) fullShare ((dats m hO 0 c).before 65 t d))
    ∗ (∃ d, owns (c : Thread nD τ) (ms0_66 m hO t) fullShare ((dats m hO 0 c).before 66 t d))
    ∗ (∃ d, owns (c : Thread nD τ) (ms0_67 m hO t) fullShare ((dats m hO 0 c).before 67 t d))
    ∗ (∃ d, owns (c : Thread nD τ) (ms0_68 m hO t) fullShare ((dats m hO 0 c).before 68 t d))
    ∗ (∃ d, owns (c : Thread nD τ) (ms0_69 m hO t) fullShare ((dats m hO 0 c).before 69 t d))
    ∗ (∃ d, owns (c : Thread nD τ) (ms0_70 m hO t) fullShare ((dats m hO 0 c).before 70 t d))
    ∗ (∃ d, owns (c : Thread nD τ) (ms0_71 m hO t) fullShare ((dats m hO 0 c).before 71 t d))
    ∗ (∃ d, owns (c : Thread nD τ) (ms0_72 m hO t) fullShare ((dats m hO 0 c).before 72 t d))
    ∗ (∃ d, owns (c : Thread nD τ) (ms0_73 m hO t) fullShare ((dats m hO 0 c).before 73 t d))
    ∗ (∃ d, owns (c : Thread nD τ) (ms0_74 m hO t) fullShare ((dats m hO 0 c).before 74 t d))
    ∗ (∃ d, owns (c : Thread nD τ) (ms0_75 m hO t) fullShare ((dats m hO 0 c).before 75 t d))
    ∗ (∃ d, owns (c : Thread nD τ) (ms0_76 m hO t) fullShare ((dats m hO 0 c).before 76 t d))
    ∗ (∃ d, owns (c : Thread nD τ) (ms0_77 m hO t) fullShare ((dats m hO 0 c).before 77 t d))
    ∗ (∃ d, owns (c : Thread nD τ) (ms0_78 m hO t) fullShare ((dats m hO 0 c).before 78 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t)
    ∗ owns (c : Thread nD τ) (ms0_37 m hO t) fullShare ((dats m hO 0 c).after 37 t)
    ∗ owns (c : Thread nD τ) (ms0_38 m hO t) fullShare ((dats m hO 0 c).after 38 t)
    ∗ owns (c : Thread nD τ) (ms0_39 m hO t) fullShare ((dats m hO 0 c).after 39 t)
    ∗ owns (c : Thread nD τ) (ms0_40 m hO t) fullShare ((dats m hO 0 c).after 40 t)
    ∗ owns (c : Thread nD τ) (ms0_41 m hO t) fullShare ((dats m hO 0 c).after 41 t)
    ∗ owns (c : Thread nD τ) (ms0_42 m hO t) fullShare ((dats m hO 0 c).after 42 t)
    ∗ owns (c : Thread nD τ) (ms0_43 m hO t) fullShare ((dats m hO 0 c).after 43 t)
    ∗ owns (c : Thread nD τ) (ms0_44 m hO t) fullShare ((dats m hO 0 c).after 44 t)
    ∗ owns (c : Thread nD τ) (ms0_45 m hO t) fullShare ((dats m hO 0 c).after 45 t)
    ∗ owns (c : Thread nD τ) (ms0_46 m hO t) fullShare ((dats m hO 0 c).after 46 t)
    ∗ owns (c : Thread nD τ) (ms0_47 m hO t) fullShare ((dats m hO 0 c).after 47 t)
    ∗ owns (c : Thread nD τ) (ms0_48 m hO t) fullShare ((dats m hO 0 c).after 48 t)
    ∗ owns (c : Thread nD τ) (ms0_49 m hO t) fullShare ((dats m hO 0 c).after 49 t)
    ∗ owns (c : Thread nD τ) (ms0_50 m hO t) fullShare ((dats m hO 0 c).after 50 t)
    ∗ owns (c : Thread nD τ) (ms0_51 m hO t) fullShare ((dats m hO 0 c).after 51 t)
    ∗ owns (c : Thread nD τ) (ms0_52 m hO t) fullShare ((dats m hO 0 c).after 52 t)
    ∗ owns (c : Thread nD τ) (ms0_53 m hO t) fullShare ((dats m hO 0 c).after 53 t)
    ∗ owns (c : Thread nD τ) (ms0_54 m hO t) fullShare ((dats m hO 0 c).after 54 t)
    ∗ owns (c : Thread nD τ) (ms0_55 m hO t) fullShare ((dats m hO 0 c).after 55 t)
    ∗ owns (c : Thread nD τ) (ms0_56 m hO t) fullShare ((dats m hO 0 c).after 56 t)
    ∗ owns (c : Thread nD τ) (ms0_57 m hO t) fullShare ((dats m hO 0 c).after 57 t)
    ∗ owns (c : Thread nD τ) (ms0_58 m hO t) fullShare ((dats m hO 0 c).after 58 t)
    ∗ owns (c : Thread nD τ) (ms0_59 m hO t) fullShare ((dats m hO 0 c).after 59 t)
    ∗ owns (c : Thread nD τ) (ms0_60 m hO t) fullShare ((dats m hO 0 c).after 60 t)
    ∗ owns (c : Thread nD τ) (ms0_61 m hO t) fullShare ((dats m hO 0 c).after 61 t)
    ∗ owns (c : Thread nD τ) (ms0_62 m hO t) fullShare ((dats m hO 0 c).after 62 t)
    ∗ owns (c : Thread nD τ) (ms0_63 m hO t) fullShare ((dats m hO 0 c).after 63 t)
    ∗ owns (c : Thread nD τ) (ms0_64 m hO t) fullShare ((dats m hO 0 c).after 64 t)
    ∗ owns (c : Thread nD τ) (ms0_65 m hO t) fullShare ((dats m hO 0 c).after 65 t)
    ∗ owns (c : Thread nD τ) (ms0_66 m hO t) fullShare ((dats m hO 0 c).after 66 t)
    ∗ owns (c : Thread nD τ) (ms0_67 m hO t) fullShare ((dats m hO 0 c).after 67 t)
    ∗ owns (c : Thread nD τ) (ms0_68 m hO t) fullShare ((dats m hO 0 c).after 68 t)
    ∗ owns (c : Thread nD τ) (ms0_69 m hO t) fullShare ((dats m hO 0 c).after 69 t)
    ∗ owns (c : Thread nD τ) (ms0_70 m hO t) fullShare ((dats m hO 0 c).after 70 t)
    ∗ owns (c : Thread nD τ) (ms0_71 m hO t) fullShare ((dats m hO 0 c).after 71 t)
    ∗ owns (c : Thread nD τ) (ms0_72 m hO t) fullShare ((dats m hO 0 c).after 72 t)
    ∗ owns (c : Thread nD τ) (ms0_73 m hO t) fullShare ((dats m hO 0 c).after 73 t)
    ∗ owns (c : Thread nD τ) (ms0_74 m hO t) fullShare ((dats m hO 0 c).after 74 t)
    ∗ owns (c : Thread nD τ) (ms0_75 m hO t) fullShare ((dats m hO 0 c).after 75 t)
    ∗ owns (c : Thread nD τ) (ms0_76 m hO t) fullShare ((dats m hO 0 c).after 76 t)
    ∗ owns (c : Thread nD τ) (ms0_77 m hO t) fullShare ((dats m hO 0 c).after 77 t)
    ∗ owns (c : Thread nD τ) (ms0_78 m hO t) fullShare ((dats m hO 0 c).after 78 t))

set_option maxHeartbeats 7600000 in
/-- The body at one point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43, before0_44, before0_45, before0_46, before0_47, before0_48, before0_49, before0_50, before0_51, before0_52, before0_53, before0_54, before0_55, before0_56, before0_57, before0_58, before0_59, before0_60, before0_61, before0_62, before0_63, before0_64, before0_65, before0_66, before0_67, before0_68, before0_69, before0_70, before0_71, before0_72, before0_73, before0_74, before0_75]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68, after0_69, after0_70, after0_71, after0_72, after0_73, after0_74, after0_75, after0_76, after0_77, after0_78]
  rw [show (dats m hO 0 c).Φ t.castSucc = iprop(Pipeline.ΦA spec0 c ∗ Pipeline.ΦT pre0 (tbl m) c) from rfl, PhiT0_eq]
  obtain ⟨L77, L78, run, c6, c7, c8, v7, v8⟩ := (runAt m hO c t).choose_spec
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩⟩
  iapply (run Set.univ _)
  isplitl [H0]; · iapply (owns_raw (c : Thread nD τ) (ms0_0 m hO t) (hs0_0 m hO t) _); iexact H0
  isplitl [H1]; · iapply (owns_raw (c : Thread nD τ) (ms0_1 m hO t) (hs0_1 m hO t) _); iexact H1
  isplitl [H2]; · iapply (owns_raw (c : Thread nD τ) (ms0_2 m hO t) (hs0_2 m hO t) _); iexact H2
  isplitl [H3]; · iapply (owns_raw (c : Thread nD τ) (ms0_3 m hO t) (hs0_3 m hO t) _); iexact H3
  isplitl [H4]; · iapply (owns_raw (c : Thread nD τ) (ms0_4 m hO t) (hs0_4 m hO t) _); iexact H4
  isplitl [H5]; · iapply (owns_raw (c : Thread nD τ) (ms0_5 m hO t) (hs0_5 m hO t) _); iexact H5
  isplitl [H6]; · iapply (owns_raw (c : Thread nD τ) (ms0_6 m hO t) (hs0_6 m hO t) _); iexact H6
  isplitl [H7]; · iapply (owns_raw (c : Thread nD τ) (ms0_7 m hO t) (hs0_7 m hO t) _); iexact H7
  isplitl [H8]; · iapply (owns_raw (c : Thread nD τ) (ms0_8 m hO t) (hs0_8 m hO t) _); iexact H8
  isplitl [H9]; · iapply (owns_raw (c : Thread nD τ) (ms0_9 m hO t) (hs0_9 m hO t) _); iexact H9
  isplitl [H10]; · iapply (owns_raw (c : Thread nD τ) (ms0_10 m hO t) (hs0_10 m hO t) _); iexact H10
  isplitl [H11]; · iapply (owns_raw (c : Thread nD τ) (ms0_11 m hO t) (hs0_11 m hO t) _); iexact H11
  isplitl [H12]; · iapply (owns_raw (c : Thread nD τ) (ms0_12 m hO t) (hs0_12 m hO t) _); iexact H12
  isplitl [H13]; · iapply (owns_raw (c : Thread nD τ) (ms0_13 m hO t) (hs0_13 m hO t) _); iexact H13
  isplitl [H14]; · iapply (owns_raw (c : Thread nD τ) (ms0_14 m hO t) (hs0_14 m hO t) _); iexact H14
  isplitl [H15]; · iapply (owns_raw (c : Thread nD τ) (ms0_15 m hO t) (hs0_15 m hO t) _); iexact H15
  isplitl [H16]; · iapply (owns_raw (c : Thread nD τ) (ms0_16 m hO t) (hs0_16 m hO t) _); iexact H16
  isplitl [H17]; · iapply (owns_raw (c : Thread nD τ) (ms0_17 m hO t) (hs0_17 m hO t) _); iexact H17
  isplitl [H18]; · iapply (owns_raw (c : Thread nD τ) (ms0_18 m hO t) (hs0_18 m hO t) _); iexact H18
  isplitl [H19]; · iapply (owns_raw (c : Thread nD τ) (ms0_19 m hO t) (hs0_19 m hO t) _); iexact H19
  isplitl [H20]; · iapply (owns_raw (c : Thread nD τ) (ms0_20 m hO t) (hs0_20 m hO t) _); iexact H20
  isplitl [H21]; · iapply (owns_raw (c : Thread nD τ) (ms0_21 m hO t) (hs0_21 m hO t) _); iexact H21
  isplitl [H22]; · iapply (owns_raw (c : Thread nD τ) (ms0_22 m hO t) (hs0_22 m hO t) _); iexact H22
  isplitl [H23]; · iapply (owns_raw (c : Thread nD τ) (ms0_23 m hO t) (hs0_23 m hO t) _); iexact H23
  isplitl [H24]; · iapply (owns_raw (c : Thread nD τ) (ms0_24 m hO t) (hs0_24 m hO t) _); iexact H24
  isplitl [H25]; · iapply (owns_raw (c : Thread nD τ) (ms0_25 m hO t) (hs0_25 m hO t) _); iexact H25
  isplitl [H26]; · iapply (owns_raw (c : Thread nD τ) (ms0_26 m hO t) (hs0_26 m hO t) _); iexact H26
  isplitl [H27]; · iapply (owns_raw (c : Thread nD τ) (ms0_27 m hO t) (hs0_27 m hO t) _); iexact H27
  isplitl [H28]; · iapply (owns_raw (c : Thread nD τ) (ms0_28 m hO t) (hs0_28 m hO t) _); iexact H28
  isplitl [H29]; · iapply (owns_raw (c : Thread nD τ) (ms0_29 m hO t) (hs0_29 m hO t) _); iexact H29
  isplitl [H30]; · iapply (owns_raw (c : Thread nD τ) (ms0_30 m hO t) (hs0_30 m hO t) _); iexact H30
  isplitl [H31]; · iapply (owns_raw (c : Thread nD τ) (ms0_31 m hO t) (hs0_31 m hO t) _); iexact H31
  isplitl [H32]; · iapply (owns_raw (c : Thread nD τ) (ms0_32 m hO t) (hs0_32 m hO t) _); iexact H32
  isplitl [H33]; · iapply (owns_raw (c : Thread nD τ) (ms0_33 m hO t) (hs0_33 m hO t) _); iexact H33
  isplitl [H34]; · iapply (owns_raw (c : Thread nD τ) (ms0_34 m hO t) (hs0_34 m hO t) _); iexact H34
  isplitl [H35]; · iapply (owns_raw (c : Thread nD τ) (ms0_35 m hO t) (hs0_35 m hO t) _); iexact H35
  isplitl [H36]; · iapply (owns_raw (c : Thread nD τ) (ms0_36 m hO t) (hs0_36 m hO t) _); iexact H36
  isplitl [H37]; · iapply (owns_raw (c : Thread nD τ) (ms0_37 m hO t) (hs0_37 m hO t) _); iexact H37
  isplitl [H38]; · iapply (owns_raw (c : Thread nD τ) (ms0_38 m hO t) (hs0_38 m hO t) _); iexact H38
  isplitl [H39]; · iapply (owns_raw (c : Thread nD τ) (ms0_39 m hO t) (hs0_39 m hO t) _); iexact H39
  isplitl [H40]; · iapply (owns_raw (c : Thread nD τ) (ms0_40 m hO t) (hs0_40 m hO t) _); iexact H40
  isplitl [H41]; · iapply (owns_raw (c : Thread nD τ) (ms0_41 m hO t) (hs0_41 m hO t) _); iexact H41
  isplitl [H42]; · iapply (owns_raw (c : Thread nD τ) (ms0_42 m hO t) (hs0_42 m hO t) _); iexact H42
  isplitl [H43]; · iapply (owns_raw (c : Thread nD τ) (ms0_43 m hO t) (hs0_43 m hO t) _); iexact H43
  isplitl [H44]; · iapply (owns_raw (c : Thread nD τ) (ms0_44 m hO t) (hs0_44 m hO t) _); iexact H44
  isplitl [H45]; · iapply (owns_raw (c : Thread nD τ) (ms0_45 m hO t) (hs0_45 m hO t) _); iexact H45
  isplitl [H46]; · iapply (owns_raw (c : Thread nD τ) (ms0_46 m hO t) (hs0_46 m hO t) _); iexact H46
  isplitl [H47]; · iapply (owns_raw (c : Thread nD τ) (ms0_47 m hO t) (hs0_47 m hO t) _); iexact H47
  isplitl [H48]; · iapply (owns_raw (c : Thread nD τ) (ms0_48 m hO t) (hs0_48 m hO t) _); iexact H48
  isplitl [H49]; · iapply (owns_raw (c : Thread nD τ) (ms0_49 m hO t) (hs0_49 m hO t) _); iexact H49
  isplitl [H50]; · iapply (owns_raw (c : Thread nD τ) (ms0_50 m hO t) (hs0_50 m hO t) _); iexact H50
  isplitl [H51]; · iapply (owns_raw (c : Thread nD τ) (ms0_51 m hO t) (hs0_51 m hO t) _); iexact H51
  isplitl [H52]; · iapply (owns_raw (c : Thread nD τ) (ms0_52 m hO t) (hs0_52 m hO t) _); iexact H52
  isplitl [H53]; · iapply (owns_raw (c : Thread nD τ) (ms0_53 m hO t) (hs0_53 m hO t) _); iexact H53
  isplitl [H54]; · iapply (owns_raw (c : Thread nD τ) (ms0_54 m hO t) (hs0_54 m hO t) _); iexact H54
  isplitl [H55]; · iapply (owns_raw (c : Thread nD τ) (ms0_55 m hO t) (hs0_55 m hO t) _); iexact H55
  isplitl [H56]; · iapply (owns_raw (c : Thread nD τ) (ms0_56 m hO t) (hs0_56 m hO t) _); iexact H56
  isplitl [H57]; · iapply (owns_raw (c : Thread nD τ) (ms0_57 m hO t) (hs0_57 m hO t) _); iexact H57
  isplitl [H58]; · iapply (owns_raw (c : Thread nD τ) (ms0_58 m hO t) (hs0_58 m hO t) _); iexact H58
  isplitl [H59]; · iapply (owns_raw (c : Thread nD τ) (ms0_59 m hO t) (hs0_59 m hO t) _); iexact H59
  isplitl [H60]; · iapply (owns_raw (c : Thread nD τ) (ms0_60 m hO t) (hs0_60 m hO t) _); iexact H60
  isplitl [H61]; · iapply (owns_raw (c : Thread nD τ) (ms0_61 m hO t) (hs0_61 m hO t) _); iexact H61
  isplitl [H62]; · iapply (owns_raw (c : Thread nD τ) (ms0_62 m hO t) (hs0_62 m hO t) _); iexact H62
  isplitl [H63]; · iapply (owns_raw (c : Thread nD τ) (ms0_63 m hO t) (hs0_63 m hO t) _); iexact H63
  isplitl [H64]; · iapply (owns_raw (c : Thread nD τ) (ms0_64 m hO t) (hs0_64 m hO t) _); iexact H64
  isplitl [H65]; · iapply (owns_raw (c : Thread nD τ) (ms0_65 m hO t) (hs0_65 m hO t) _); iexact H65
  isplitl [H66]; · iapply (owns_raw (c : Thread nD τ) (ms0_66 m hO t) (hs0_66 m hO t) _); iexact H66
  isplitl [H67]; · iapply (owns_raw (c : Thread nD τ) (ms0_67 m hO t) (hs0_67 m hO t) _); iexact H67
  isplitl [H68]; · iapply (owns_raw (c : Thread nD τ) (ms0_68 m hO t) (hs0_68 m hO t) _); iexact H68
  isplitl [H69]; · iapply (owns_raw (c : Thread nD τ) (ms0_69 m hO t) (hs0_69 m hO t) _); iexact H69
  isplitl [H70]; · iapply (owns_raw (c : Thread nD τ) (ms0_70 m hO t) (hs0_70 m hO t) _); iexact H70
  isplitl [H71]; · iapply (owns_raw (c : Thread nD τ) (ms0_71 m hO t) (hs0_71 m hO t) _); iexact H71
  isplitl [H72]; · iapply (owns_raw (c : Thread nD τ) (ms0_72 m hO t) (hs0_72 m hO t) _); iexact H72
  isplitl [H73]; · iapply (owns_raw (c : Thread nD τ) (ms0_73 m hO t) (hs0_73 m hO t) _); iexact H73
  isplitl [H74]; · iapply (owns_raw (c : Thread nD τ) (ms0_74 m hO t) (hs0_74 m hO t) _); iexact H74
  isplitl [H75]; · iapply (owns_raw (c : Thread nD τ) (ms0_75 m hO t) (hs0_75 m hO t) _); iexact H75
  isplitl [H76]; · iapply (owns_some (c : Thread nD τ) (ms0_76 m hO t)); iexact H76
  isplitl [H77]; · iapply (owns_some (c : Thread nD τ) (ms0_77 m hO t)); iexact H77
  isplitl [H78]; · iapply (owns_some (c : Thread nD τ) (ms0_78 m hO t)); iexact H78
  isplitl [HT0]; · iexact HT0
  isplitl [HT1]; · iexact HT1
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, ⟨%e76, H76⟩, ⟨%e77, H77⟩, ⟨%e78, H78⟩, HT0, HT1⟩
  isplitl [HΦ HT0 HT1]
  · isplitl [HΦ]
    · iexact HΦ
    isplitl [HT0]; · iexact HT0
    iexact HT1
  isplitl [Ho]; · iexact Ho
  isplitl [H0]; · iapply (raw_owns (c : Thread nD τ) (ms0_0 m hO t) ((hs0_0 m hO t).read_unread _)); iexact H0
  isplitl [H1]; · iapply (raw_owns (c : Thread nD τ) (ms0_1 m hO t) ((hs0_1 m hO t).read_unread _)); iexact H1
  isplitl [H2]; · iapply (raw_owns (c : Thread nD τ) (ms0_2 m hO t) ((hs0_2 m hO t).read_unread _)); iexact H2
  isplitl [H3]; · iapply (raw_owns (c : Thread nD τ) (ms0_3 m hO t) ((hs0_3 m hO t).read_unread _)); iexact H3
  isplitl [H4]; · iapply (raw_owns (c : Thread nD τ) (ms0_4 m hO t) ((hs0_4 m hO t).read_unread _)); iexact H4
  isplitl [H5]; · iapply (raw_owns (c : Thread nD τ) (ms0_5 m hO t) ((hs0_5 m hO t).read_unread _)); iexact H5
  isplitl [H6]; · iapply (raw_owns (c : Thread nD τ) (ms0_6 m hO t) ((hs0_6 m hO t).read_unread _)); iexact H6
  isplitl [H7]; · iapply (raw_owns (c : Thread nD τ) (ms0_7 m hO t) ((hs0_7 m hO t).read_unread _)); iexact H7
  isplitl [H8]; · iapply (raw_owns (c : Thread nD τ) (ms0_8 m hO t) ((hs0_8 m hO t).read_unread _)); iexact H8
  isplitl [H9]; · iapply (raw_owns (c : Thread nD τ) (ms0_9 m hO t) ((hs0_9 m hO t).read_unread _)); iexact H9
  isplitl [H10]; · iapply (raw_owns (c : Thread nD τ) (ms0_10 m hO t) ((hs0_10 m hO t).read_unread _)); iexact H10
  isplitl [H11]; · iapply (raw_owns (c : Thread nD τ) (ms0_11 m hO t) ((hs0_11 m hO t).read_unread _)); iexact H11
  isplitl [H12]; · iapply (raw_owns (c : Thread nD τ) (ms0_12 m hO t) ((hs0_12 m hO t).read_unread _)); iexact H12
  isplitl [H13]; · iapply (raw_owns (c : Thread nD τ) (ms0_13 m hO t) ((hs0_13 m hO t).read_unread _)); iexact H13
  isplitl [H14]; · iapply (raw_owns (c : Thread nD τ) (ms0_14 m hO t) ((hs0_14 m hO t).read_unread _)); iexact H14
  isplitl [H15]; · iapply (raw_owns (c : Thread nD τ) (ms0_15 m hO t) ((hs0_15 m hO t).read_unread _)); iexact H15
  isplitl [H16]; · iapply (raw_owns (c : Thread nD τ) (ms0_16 m hO t) ((hs0_16 m hO t).read_unread _)); iexact H16
  isplitl [H17]; · iapply (raw_owns (c : Thread nD τ) (ms0_17 m hO t) ((hs0_17 m hO t).read_unread _)); iexact H17
  isplitl [H18]; · iapply (raw_owns (c : Thread nD τ) (ms0_18 m hO t) ((hs0_18 m hO t).read_unread _)); iexact H18
  isplitl [H19]; · iapply (raw_owns (c : Thread nD τ) (ms0_19 m hO t) ((hs0_19 m hO t).read_unread _)); iexact H19
  isplitl [H20]; · iapply (raw_owns (c : Thread nD τ) (ms0_20 m hO t) ((hs0_20 m hO t).read_unread _)); iexact H20
  isplitl [H21]; · iapply (raw_owns (c : Thread nD τ) (ms0_21 m hO t) ((hs0_21 m hO t).read_unread _)); iexact H21
  isplitl [H22]; · iapply (raw_owns (c : Thread nD τ) (ms0_22 m hO t) ((hs0_22 m hO t).read_unread _)); iexact H22
  isplitl [H23]; · iapply (raw_owns (c : Thread nD τ) (ms0_23 m hO t) ((hs0_23 m hO t).read_unread _)); iexact H23
  isplitl [H24]; · iapply (raw_owns (c : Thread nD τ) (ms0_24 m hO t) ((hs0_24 m hO t).read_unread _)); iexact H24
  isplitl [H25]; · iapply (raw_owns (c : Thread nD τ) (ms0_25 m hO t) ((hs0_25 m hO t).read_unread _)); iexact H25
  isplitl [H26]; · iapply (raw_owns (c : Thread nD τ) (ms0_26 m hO t) ((hs0_26 m hO t).read_unread _)); iexact H26
  isplitl [H27]; · iapply (raw_owns (c : Thread nD τ) (ms0_27 m hO t) ((hs0_27 m hO t).read_unread _)); iexact H27
  isplitl [H28]; · iapply (raw_owns (c : Thread nD τ) (ms0_28 m hO t) ((hs0_28 m hO t).read_unread _)); iexact H28
  isplitl [H29]; · iapply (raw_owns (c : Thread nD τ) (ms0_29 m hO t) ((hs0_29 m hO t).read_unread _)); iexact H29
  isplitl [H30]; · iapply (raw_owns (c : Thread nD τ) (ms0_30 m hO t) ((hs0_30 m hO t).read_unread _)); iexact H30
  isplitl [H31]; · iapply (raw_owns (c : Thread nD τ) (ms0_31 m hO t) ((hs0_31 m hO t).read_unread _)); iexact H31
  isplitl [H32]; · iapply (raw_owns (c : Thread nD τ) (ms0_32 m hO t) ((hs0_32 m hO t).read_unread _)); iexact H32
  isplitl [H33]; · iapply (raw_owns (c : Thread nD τ) (ms0_33 m hO t) ((hs0_33 m hO t).read_unread _)); iexact H33
  isplitl [H34]; · iapply (raw_owns (c : Thread nD τ) (ms0_34 m hO t) ((hs0_34 m hO t).read_unread _)); iexact H34
  isplitl [H35]; · iapply (raw_owns (c : Thread nD τ) (ms0_35 m hO t) ((hs0_35 m hO t).read_unread _)); iexact H35
  isplitl [H36]; · iapply (raw_owns (c : Thread nD τ) (ms0_36 m hO t) ((hs0_36 m hO t).read_unread _)); iexact H36
  isplitl [H37]; · iapply (raw_owns (c : Thread nD τ) (ms0_37 m hO t) ((hs0_37 m hO t).read_unread _)); iexact H37
  isplitl [H38]; · iapply (raw_owns (c : Thread nD τ) (ms0_38 m hO t) ((hs0_38 m hO t).read_unread _)); iexact H38
  isplitl [H39]; · iapply (raw_owns (c : Thread nD τ) (ms0_39 m hO t) ((hs0_39 m hO t).read_unread _)); iexact H39
  isplitl [H40]; · iapply (raw_owns (c : Thread nD τ) (ms0_40 m hO t) ((hs0_40 m hO t).read_unread _)); iexact H40
  isplitl [H41]; · iapply (raw_owns (c : Thread nD τ) (ms0_41 m hO t) ((hs0_41 m hO t).read_unread _)); iexact H41
  isplitl [H42]; · iapply (raw_owns (c : Thread nD τ) (ms0_42 m hO t) ((hs0_42 m hO t).read_unread _)); iexact H42
  isplitl [H43]; · iapply (raw_owns (c : Thread nD τ) (ms0_43 m hO t) ((hs0_43 m hO t).read_unread _)); iexact H43
  isplitl [H44]; · iapply (raw_owns (c : Thread nD τ) (ms0_44 m hO t) ((hs0_44 m hO t).read_unread _)); iexact H44
  isplitl [H45]; · iapply (raw_owns (c : Thread nD τ) (ms0_45 m hO t) ((hs0_45 m hO t).read_unread _)); iexact H45
  isplitl [H46]; · iapply (raw_owns (c : Thread nD τ) (ms0_46 m hO t) ((hs0_46 m hO t).read_unread _)); iexact H46
  isplitl [H47]; · iapply (raw_owns (c : Thread nD τ) (ms0_47 m hO t) ((hs0_47 m hO t).read_unread _)); iexact H47
  isplitl [H48]; · iapply (raw_owns (c : Thread nD τ) (ms0_48 m hO t) ((hs0_48 m hO t).read_unread _)); iexact H48
  isplitl [H49]; · iapply (raw_owns (c : Thread nD τ) (ms0_49 m hO t) ((hs0_49 m hO t).read_unread _)); iexact H49
  isplitl [H50]; · iapply (raw_owns (c : Thread nD τ) (ms0_50 m hO t) ((hs0_50 m hO t).read_unread _)); iexact H50
  isplitl [H51]; · iapply (raw_owns (c : Thread nD τ) (ms0_51 m hO t) ((hs0_51 m hO t).read_unread _)); iexact H51
  isplitl [H52]; · iapply (raw_owns (c : Thread nD τ) (ms0_52 m hO t) ((hs0_52 m hO t).read_unread _)); iexact H52
  isplitl [H53]; · iapply (raw_owns (c : Thread nD τ) (ms0_53 m hO t) ((hs0_53 m hO t).read_unread _)); iexact H53
  isplitl [H54]; · iapply (raw_owns (c : Thread nD τ) (ms0_54 m hO t) ((hs0_54 m hO t).read_unread _)); iexact H54
  isplitl [H55]; · iapply (raw_owns (c : Thread nD τ) (ms0_55 m hO t) ((hs0_55 m hO t).read_unread _)); iexact H55
  isplitl [H56]; · iapply (raw_owns (c : Thread nD τ) (ms0_56 m hO t) ((hs0_56 m hO t).read_unread _)); iexact H56
  isplitl [H57]; · iapply (raw_owns (c : Thread nD τ) (ms0_57 m hO t) ((hs0_57 m hO t).read_unread _)); iexact H57
  isplitl [H58]; · iapply (raw_owns (c : Thread nD τ) (ms0_58 m hO t) ((hs0_58 m hO t).read_unread _)); iexact H58
  isplitl [H59]; · iapply (raw_owns (c : Thread nD τ) (ms0_59 m hO t) ((hs0_59 m hO t).read_unread _)); iexact H59
  isplitl [H60]; · iapply (raw_owns (c : Thread nD τ) (ms0_60 m hO t) ((hs0_60 m hO t).read_unread _)); iexact H60
  isplitl [H61]; · iapply (raw_owns (c : Thread nD τ) (ms0_61 m hO t) ((hs0_61 m hO t).read_unread _)); iexact H61
  isplitl [H62]; · iapply (raw_owns (c : Thread nD τ) (ms0_62 m hO t) ((hs0_62 m hO t).read_unread _)); iexact H62
  isplitl [H63]; · iapply (raw_owns (c : Thread nD τ) (ms0_63 m hO t) ((hs0_63 m hO t).read_unread _)); iexact H63
  isplitl [H64]; · iapply (raw_owns (c : Thread nD τ) (ms0_64 m hO t) ((hs0_64 m hO t).read_unread _)); iexact H64
  isplitl [H65]; · iapply (raw_owns (c : Thread nD τ) (ms0_65 m hO t) ((hs0_65 m hO t).read_unread _)); iexact H65
  isplitl [H66]; · iapply (raw_owns (c : Thread nD τ) (ms0_66 m hO t) ((hs0_66 m hO t).read_unread _)); iexact H66
  isplitl [H67]; · iapply (raw_owns (c : Thread nD τ) (ms0_67 m hO t) ((hs0_67 m hO t).read_unread _)); iexact H67
  isplitl [H68]; · iapply (raw_owns (c : Thread nD τ) (ms0_68 m hO t) ((hs0_68 m hO t).read_unread _)); iexact H68
  isplitl [H69]; · iapply (raw_owns (c : Thread nD τ) (ms0_69 m hO t) ((hs0_69 m hO t).read_unread _)); iexact H69
  isplitl [H70]; · iapply (raw_owns (c : Thread nD τ) (ms0_70 m hO t) ((hs0_70 m hO t).read_unread _)); iexact H70
  isplitl [H71]; · iapply (raw_owns (c : Thread nD τ) (ms0_71 m hO t) ((hs0_71 m hO t).read_unread _)); iexact H71
  isplitl [H72]; · iapply (raw_owns (c : Thread nD τ) (ms0_72 m hO t) ((hs0_72 m hO t).read_unread _)); iexact H72
  isplitl [H73]; · iapply (raw_owns (c : Thread nD τ) (ms0_73 m hO t) ((hs0_73 m hO t).read_unread _)); iexact H73
  isplitl [H74]; · iapply (raw_owns (c : Thread nD τ) (ms0_74 m hO t) ((hs0_74 m hO t).read_unread _)); iexact H74
  isplitl [H75]; · iapply (raw_owns (c : Thread nD τ) (ms0_75 m hO t) ((hs0_75 m hO t).read_unread _)); iexact H75
  isplitl [H76]
  · unfold owns; iexists _; isplitr
    swap; · iexact H76
    ipureintro; exact View.read_writes_of_cover _ _ _ _ _ c6
  isplitl [H77]
  · unfold owns; iexists _; isplitr
    swap; · iexact H77
    ipureintro; exact (View.read_writes_of_cover _ _ _ _ _ c7).trans v7
  unfold owns; iexists _; isplitr
  swap; · iexact H78
  ipureintro; exact (View.read_writes_of_cover _ _ _ _ _ c8).trans v8

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 7600000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- Every array of the call, after it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ hO (dats m hO) (A_eq m hO) (run_main m ρ hO)

/-- Whatever the arguments hold, they are left as they were, and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ hO) ((θ_run defs _ _).mono (fun _ h => h.2) (run_main_quiescent m ρ hO))

end Cert.Kernel8Ideal.Win

end
-- ==== Proof.WinBlocks.lean ====
/- The blocks of the windows' arrays that the call fetches for one sequence. -/
module

public import proofs.«01_k».proof.Proof.Gen.Kernel8Ideal.Frame.Runs
public import Idealize.ShloMosaic.Lib.Pointwise
public import Idealize.ShloMosaic.Lib.Pipeline.ValueKit
public import Idealize.ShloMosaic.Lib.StableHlo.RunRead
public import Idealize.ShloMosaic.Lib.Claim
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Kernel8Ideal.Win

open Cert.Kernel8Ideal Cert.Kernel8Ideal.Gen

variable (m : (ℓ : Loc nD τ sig) → Buf (Elt Ideal) ℓ) (hO : Ok m)

/-- The old rows, lanes before rows. -/
def turnedOld (old : FVec Ideal S128x512x2x64 .f32) : FVec Ideal S128x128x512 .f32 :=
  shapeCast S128x128x512 (transpose S128x2x64x512 [0, 2, 3, 1] old transposes_S128x512x2x64_S128x2x64x512_0_2_3_1) shapeCasts_S128x2x64x512_S128x128x512

theorem turnedOld_at (old : FVec Ideal S128x512x2x64 .f32) (b : Fin 128) (k : Fin 128) (j : Fin 512) :
    turnedOld old (ix3 b k j) = old (ix4 b j ⟨(k : ℕ) / 64, by omega⟩ ⟨(k : ℕ) % 64, by omega⟩) := by
  pointwise [turnedOld]

/-- The new rows, one to a sequence. -/
def newRow (new : FVec Ideal S128x128 .f32) : FVec Ideal S128x1x128 .f32 := shapeCast S128x1x128 new shapeCasts_S128x128_S128x1x128

theorem newRow_at (new : FVec Ideal S128x128 .f32) (b : Fin 128) (k : Fin 128) : newRow new (ix3 b 0 k) = new (ix2 b k) := by
  pointwise [newRow]

theorem entryK (c : Dev nD) : V m c main_v17 = turnedOld (m ((c : Thread nD τ).loc main_arg9)) := by
  unfold V
  after_reads_simp
  rfl

theorem entryV (c : Dev nD) : V m c main_v19 = turnedOld (m ((c : Thread nD τ).loc main_arg10)) := by
  unfold V
  after_reads_simp
  rfl

theorem entryNewK (c : Dev nD) : V m c main_v14 = newRow (m ((c : Thread nD τ).loc main_arg5)) := by
  unfold V
  after_reads_simp
  rfl

theorem entryNewV (c : Dev nD) : V m c main_v15 = newRow (m ((c : Thread nD τ).loc main_arg6)) := by
  unfold V
  after_reads_simp
  rfl

theorem idx69 (t : Fin (cfgM m hO).N) : ((cfgM m hO).win 69).index t = ![t.val, 0, 0] :=
  (by decide +kernel : ∀ t : Fin grid0.N, cc0_transform_69 (grid0.coords t) = ![t.val, 0, 0]) t

theorem idx70 (t : Fin (cfgM m hO).N) : ((cfgM m hO).win 70).index t = ![t.val, 0, 0] :=
  (by decide +kernel : ∀ t : Fin grid0.N, cc0_transform_70 (grid0.coords t) = ![t.val, 0, 0]) t

theorem idx71 (t : Fin (cfgM m hO).N) : ((cfgM m hO).win 71).index t = ![t.val, 0, 0] :=
  (by decide +kernel : ∀ t : Fin grid0.N, cc0_transform_71 (grid0.coords t) = ![t.val, 0, 0]) t

theorem idx72 (t : Fin (cfgM m hO).N) : ((cfgM m hO).win 72).index t = ![t.val, 0, 0] :=
  (by decide +kernel : ∀ t : Fin grid0.N, cc0_transform_72 (grid0.coords t) = ![t.val, 0, 0]) t

theorem idx77 (t : Fin (cfgM m hO).N) : ((cfgM m hO).win 77).index t = ![t.val, 0, 0] :=
  (by decide +kernel : ∀ t : Fin grid0.N, cc0_transform_77 (grid0.coords t) = ![t.val, 0, 0]) t

theorem idx78 (t : Fin (cfgM m hO).N) : ((cfgM m hO).win 78).index t = ![t.val, 0, 0] :=
  (by decide +kernel : ∀ t : Fin grid0.N, cc0_transform_78 (grid0.coords t) = ![t.val, 0, 0]) t

theorem blkK (c : Dev nD) (t : Fin (cfgM m hO).N) (b : Fin 128) (hb : (b : ℕ) = t.val) (k : Fin 128) (j : Fin 512) :
    iblk m hO c 71 t (ix3 0 k j) = turnedOld (m ((c : Thread nD τ).loc main_arg9)) (ix3 b k j) := by
  have i0 := idx71 m hO t
  show V m c main_v17 (((View.whole main_v17).slice (((cfgM m hO).win 71).rect t)).emb (ix3 0 k j)) = _
  rw [entryK]
  blk_ext [i0]

theorem blkV (c : Dev nD) (t : Fin (cfgM m hO).N) (b : Fin 128) (hb : (b : ℕ) = t.val) (k : Fin 128) (j : Fin 512) :
    iblk m hO c 72 t (ix3 0 k j) = turnedOld (m ((c : Thread nD τ).loc main_arg10)) (ix3 b k j) := by
  have i0 := idx72 m hO t
  show V m c main_v19 (((View.whole main_v19).slice (((cfgM m hO).win 72).rect t)).emb (ix3 0 k j)) = _
  rw [entryV]
  blk_ext [i0]

theorem blkNewK (c : Dev nD) (t : Fin (cfgM m hO).N) (b : Fin 128) (hb : (b : ℕ) = t.val) (k : Fin 128) :
    iblk m hO c 69 t (ix3 0 0 k) = newRow (m ((c : Thread nD τ).loc main_arg5)) (ix3 b 0 k) := by
  have i0 := idx69 m hO t
  show V m c main_v14 (((View.whole main_v14).slice (((cfgM m hO).win 69).rect t)).emb (ix3 0 0 k)) = _
  rw [entryNewK]
  blk_ext [i0]

theorem blkNewV (c : Dev nD) (t : Fin (cfgM m hO).N) (b : Fin 128) (hb : (b : ℕ) = t.val) (k : Fin 128) :
    iblk m hO c 70 t (ix3 0 0 k) = newRow (m ((c : Thread nD τ).loc main_arg6)) (ix3 b 0 k) := by
  have i0 := idx70 m hO t
  show V m c main_v15 (((View.whole main_v15).slice (((cfgM m hO).win 70).rect t)).emb (ix3 0 0 k)) = _
  rw [entryNewV]
  blk_ext [i0]

/-- A block index of the array is the sequence's. -/
theorem coordinate (β : (a : Fin 3) → Fin ((S128x128x512.size a + S1x128x512.size a - 1) / S1x128x512.size a)) :
    ∃ i : grid0.Coords, ∀ a, (![(BitVec.ofNat 32 (i 0).val).toNat, 0, 0] : Fin 3 → ℕ) a = β a := by
  have h0 : ((β 0 : Fin _) : ℕ) < 128 := (β 0).isLt
  have h1 : ((β 1 : Fin _) : ℕ) < 1 := (β 1).isLt
  have h2 : ((β 2 : Fin _) : ℕ) < 1 := (β 2).isLt
  refine ⟨fun a => match a with | 0 => ⟨((β 0 : Fin _) : ℕ), h0⟩, fun a => ?_⟩
  match a with
  | 0 =>
    show ((β 0 : Fin _) : ℕ) % 2 ^ 32 = _
    omega
  | 1 => show 0 = _; omega
  | 2 => show 0 = _; omega

theorem covers77 : ((cfgM m hO).win 77).Covers :=
  ((cfgM m hO).win 77).covers_of_indexMap_surj rfl (by decide : ∀ a : Fin 3, 0 < S1x128x512.size a) coordinate

theorem covers78 : ((cfgM m hO).win 78).Covers :=
  ((cfgM m hO).win 78).covers_of_indexMap_surj rfl (by decide : ∀ a : Fin 3, 0 < S1x128x512.size a) coordinate

end Cert.Kernel8Ideal.Win

end
-- ==== Proof.WinReference.lean ====
/- The keys and values a window keeps: the old ones but the first, and the new one behind them. -/
module

public import proofs.«01_k».proof.Proof.Gen.Reference8Ideal.Run
public import Idealize.ShloMosaic.Lib.Pointwise
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.WinRule

/-- Lane `k` of row `j` of a window that has moved by one: the next old row, the new row in the last place. -/
def moved (old : Fin 512 → Fin 2 → Fin 64 → EReal) (new : Fin 128 → EReal) (k : Fin 128) (j : Fin 512) : EReal :=
  if h : 1 + (j : ℕ) < 512 then old ⟨1 + (j : ℕ), h⟩ ⟨(k : ℕ) / 64, by omega⟩ ⟨(k : ℕ) % 64, by omega⟩ else new k

end Cert.WinRule

namespace Cert.Reference8Ideal.Win

open Cert.Reference8Ideal Cert.Reference8Ideal.Gen Cert.WinRule

/-- The reference's window: lanes before rows. -/
def OUT (old : FVec Ideal S128x512x2x64 .f32) (new : FVec Ideal S128x128 .f32) : FVec Ideal S128x128x512 .f32 :=
  shapeCast S128x128x512 (transpose S128x2x64x512 [0, 2, 3, 1] (extractStridedSlice S128x512x2x64 ![0, 1, 0, 0]
    (concatenate S128x513x2x64 1 [⟨S128x512x2x64, old⟩, ⟨S128x1x2x64, shapeCast S128x1x2x64 new shapeCasts_S128x128_S128x1x2x64⟩] concatenates_S128x512x2x64_S128x1x2x64_S128x513x2x64_d1)
    slices_S128x513x2x64_S128x512x2x64_0_1_0_0) transposes_S128x512x2x64_S128x2x64x512_0_2_3_1) shapeCasts_S128x2x64x512_S128x128x512

theorem out_at (old : FVec Ideal S128x512x2x64 .f32) (new : FVec Ideal S128x128 .f32) (b : Fin 128) (k : Fin 128) (j : Fin 512) :
    OUT old new (ix3 b k j) = moved (fun j g d => old (ix4 b j g d)) (fun k => new (ix2 b k)) k j := by
  pointwise [OUT, moved]

end Cert.Reference8Ideal.Win

end
-- ==== Proof.WinStores.lean ====
/- What the call stores in the two windows of one sequence. -/
module

public import proofs.«01_k».proof.Proof.Gen.Kernel8Ideal.Skeleton
public import Idealize.ShloMosaic.Lib.Pointwise
public import proofs.«01_k».proof.Proof.WinReference

@[expose] public section

set_option maxRecDepth 16384

noncomputable section

open Idealize.ShloMosaic Idealize.ShloMosaic.TcCoe Idealize.SL.Sem

namespace Cert.Kernel8Ideal.Win

open Cert.Kernel8Ideal Cert.Kernel8Ideal.Gen Cert.WinRule

/-- Only the last row is marked. -/
theorem mark : ∀ j : Fin 512, IntOp.cmpi .eq (BitVec.ofNat 32 (j : ℕ)) 511#32 = if 1 + (j : ℕ) < 512 then 0#1 else 1#1 := by
  decide +kernel

theorem turned (f : Fin 512 → EReal) (a : EReal) (j : Fin 512) (h : ((j : ℕ) + 512 - 511) % 512 < 512) :
    Scalar.select (IntOp.cmpi .eq (BitVec.ofNat 32 (j : ℕ)) 511#32) a (f ⟨((j : ℕ) + 512 - 511) % 512, h⟩) = if h : 1 + (j : ℕ) < 512 then f ⟨1 + (j : ℕ), h⟩ else a := by
  rw [mark]
  by_cases hj : 1 + (j : ℕ) < 512
  · rw [if_pos hj, dif_pos hj]
    exact congrArg f (Fin.ext (by show ((j : ℕ) + 512 - 511) % 512 = 1 + (j : ℕ); omega))
  · rw [if_neg hj, dif_neg hj]
    rfl

theorem storeK (x : Vec Ideal S1x128x512 .f32) (z : Vec Ideal S1x1x128 .f32) (k : Fin 128) (j : Fin 512) :
    k0_pay117 (F := Ideal) (k0_pay110 x) z (ix3 0 k j) = if h : 1 + (j : ℕ) < 512 then x (ix3 0 k ⟨1 + (j : ℕ), h⟩) else z (ix3 0 0 k) := by
  pointwise [k0_pay117, k0_pay110, k0_pay116]
  exact turned (fun j => x (ix3 0 k j)) (z (ix3 0 0 k)) j _

theorem storeV (x : Vec Ideal S1x128x512 .f32) (z : Vec Ideal S1x1x128 .f32) (k : Fin 128) (j : Fin 512) :
    k0_pay1 (F := Ideal) (k0_pay111 x) k0_pay116 z (ix3 0 k j) = if h : 1 + (j : ℕ) < 512 then x (ix3 0 k ⟨1 + (j : ℕ), h⟩) else z (ix3 0 0 k) := by
  pointwise [k0_pay1, k0_pay111, k0_pay116]
  exact turned (fun j => x (ix3 0 k j)) (z (ix3 0 0 k)) j _

end Cert.Kernel8Ideal.Win

end
-- ==== Proof.WinKernel.lean ====
/- The windows after the call: the rows of one sequence at each point, and the points make up the arrays. -/
module

public import proofs.«01_k».proof.Proof.WinFrame
public import proofs.«01_k».proof.Proof.WinBlocks
public import proofs.«01_k».proof.Proof.WinStores
public import proofs.«01_k».proof.Proof.WinTable

@[expose] public section

set_option maxRecDepth 16384

noncomputable section

open Idealize.ShloMosaic Idealize.ShloMosaic.TcCoe Idealize.SL.Sem
open Idealize.ShloMosaic.Pipeline (Dat)

namespace Cert.Kernel8Ideal.Win

open Cert.Kernel8Ideal Cert.Kernel8Ideal.Gen Cert.WinRule

/-- The windows of all sequences, each moved by one row. -/
def G (old : FVec Ideal S128x512x2x64 .f32) (new : FVec Ideal S128x128 .f32) : FVec Ideal S128x128x512 .f32 := fun i =>
  moved (fun j g d => old (ix4 (i 0) j g d)) (fun k => new (ix2 (i 0) k)) (i 1) (i 2)

theorem value (x : Vec Ideal S1x128x512 .f32) (z : Vec Ideal S1x1x128 .f32) (old : FVec Ideal S128x512x2x64 .f32) (new : FVec Ideal S128x128 .f32)
    (b : Fin 128) (hx : ∀ k j, x (ix3 0 k j) = turnedOld old (ix3 b k j)) (hz : ∀ k, z (ix3 0 0 k) = newRow new (ix3 b 0 k)) (k : Fin 128) (j : Fin 512) :
    (if h : 1 + (j : ℕ) < 512 then x (ix3 0 k ⟨1 + (j : ℕ), h⟩) else z (ix3 0 0 k)) = G old new (ix3 b k j) := by
  show _ = moved (fun j g d => old (ix4 b j g d)) (fun k => new (ix2 b k)) k j
  unfold moved
  by_cases h : 1 + (j : ℕ) < 512
  · rw [dif_pos h, dif_pos h]
    exact (hx _ _).trans (turnedOld_at _ _ _ _)
  · rw [dif_neg h, dif_neg h]
    exact (hz _).trans (newRow_at _ _ _)

variable (m : (ℓ : Loc nD τ sig) → Buf (Elt Ideal) ℓ) (hO : Ok m)

theorem blockK (c : Dev nD) (t : Fin (cfgM m hO).N) (b : Fin 128) (hb : (b : ℕ) = t.val) (k : Fin 128) (j : Fin 512) :
    storedK m hO c t (ix3 0 k j) = G (m ((c : Thread nD τ).loc main_arg9)) (m ((c : Thread nD τ).loc main_arg5)) (ix3 b k j) :=
  (storeK _ _ k j).trans (value _ _ _ _ b (blkK m hO c t b hb) (blkNewK m hO c t b hb) k j)

theorem blockV (c : Dev nD) (t : Fin (cfgM m hO).N) (b : Fin 128) (hb : (b : ℕ) = t.val) (k : Fin 128) (j : Fin 512) :
    storedV m hO c t (ix3 0 k j) = G (m ((c : Thread nD τ).loc main_arg10)) (m ((c : Thread nD τ).loc main_arg6)) (ix3 b k j) :=
  (storeV _ _ k j).trans (value _ _ _ _ b (blkV m hO c t b hb) (blkNewV m hO c t b hb) k j)

theorem finalK (c : Dev nD) : (dats m hO 0 c).arrAt 77 (cfgM m hO).N = G (m ((c : Thread nD τ).loc main_arg9)) (m ((c : Thread nD τ).loc main_arg5)) := by
  refine (dats m hO 0 c).arrAt_eq_of_covers 77 _ (covers77 m hO) fun t hf y => ?_
  change S1x128x512.Idx at y
  have ht : t.val < 128 := t.isLt
  have i0 := idx77 m hO t
  have e0 : (show Fin 1 from y 0) = 0 := Subsingleton.elim (α := Fin 1) _ _
  have ey : y = (ix3 0 (y 1) (y 2) : S1x128x512.Idx) := (eq_ix3 y).trans (congrArg (fun z => (ix3 z (y 1) (y 2) : S1x128x512.Idx)) e0)
  have h0 : (y 0 : ℕ) = 0 := congrArg Fin.val e0
  have eo : (((View.whole main_v20_1).slice (((cfgM m hO).win 77).rect t)).emb y) = (ix3 ⟨t.val, ht⟩ (y 1) (y 2) : S128x128x512.Idx) := by
    blk_ext [i0, h0]
  rw [after0_77]
  show storedK m hO c t y = G _ _ (((View.whole main_v20_1).slice (((cfgM m hO).win 77).rect t)).emb y)
  rw [eo]
  exact (congrArg (storedK m hO c t) ey).trans (blockK m hO c t ⟨t.val, ht⟩ rfl (y 1) (y 2))

theorem finalV (c : Dev nD) : (dats m hO 0 c).arrAt 78 (cfgM m hO).N = G (m ((c : Thread nD τ).loc main_arg10)) (m ((c : Thread nD τ).loc main_arg6)) := by
  refine (dats m hO 0 c).arrAt_eq_of_covers 78 _ (covers78 m hO) fun t hf y => ?_
  change S1x128x512.Idx at y
  have ht : t.val < 128 := t.isLt
  have i0 := idx78 m hO t
  have e0 : (show Fin 1 from y 0) = 0 := Subsingleton.elim (α := Fin 1) _ _
  have ey : y = (ix3 0 (y 1) (y 2) : S1x128x512.Idx) := (eq_ix3 y).trans (congrArg (fun z => (ix3 z (y 1) (y 2) : S1x128x512.Idx)) e0)
  have h0 : (y 0 : ℕ) = 0 := congrArg Fin.val e0
  have eo : (((View.whole main_v20_2).slice (((cfgM m hO).win 78).rect t)).emb y) = (ix3 ⟨t.val, ht⟩ (y 1) (y 2) : S128x128x512.Idx) := by
    blk_ext [i0, h0]
  rw [after0_78]
  show storedV m hO c t y = G _ _ (((View.whole main_v20_2).slice (((cfgM m hO).win 78).rect t)).emb y)
  rw [eo]
  exact (congrArg (storedV m hO c t) ey).trans (blockV m hO c t ⟨t.val, ht⟩ rfl (y 1) (y 2))

end Cert.Kernel8Ideal.Win

end
-- ==== Proof.WinEquation.lean ====
/- The windows of the sel attention: the kernel's run against the reference's. -/
module

public import proofs.«01_k».proof.Defs
public import proofs.«01_k».proof.Proof.WinPages
public import proofs.«01_k».proof.Proof.WinFramePrinted
public import proofs.«01_k».proof.Proof.WinKernel
public import proofs.«01_k».proof.Proof.WinReference

@[expose] public section

set_option maxRecDepth 16384

noncomputable section

namespace Cert.WinEquation

open Idealize.ShloMosaic Idealize.ShloMosaic.TcCoe Idealize.SL.Sem

theorem frame_kernel : Cert.quiescent_Kernel8 := fun m ρ _ => Cert.Kernel8.Win.frame m ρ (Cert.Kernel8.Win.ok m)

theorem frame_kernel_ideal : Cert.quiescent_Kernel8Ideal := fun m ρ _ => Cert.Kernel8Ideal.Win.frame m ρ (Cert.Kernel8Ideal.Win.ok m)

theorem frame_reference : Cert.quiescent_Reference8Ideal := fun m ρ _ =>
  (θ_run _ _ _).mono (fun r h => ⟨fun c => (h c).2.2, sem_eq_zero_of_no_sems (by decide) r.2⟩) (Cert.Reference8Ideal.Value.run m ρ)

theorem preserves : Cert.preserves_Kernel8_Kernel8Ideal := trivial

/-- The two sides' windows are one array. -/
theorem agree (old : FVec Ideal Cert.Kernel8Ideal.S128x512x2x64 .f32) (new : FVec Ideal Cert.Kernel8Ideal.S128x128 .f32) :
    Cert.Reference8Ideal.Win.OUT old new = Cert.Kernel8Ideal.Win.G old new := by
  funext i
  have ei : i = (ix3 (i 0) (i 1) (i 2) : Cert.Kernel8Ideal.S128x128x512.Idx) := eq_ix3 i
  rw [ei]
  exact Cert.Reference8Ideal.Win.out_at old new (i 0) (i 1) (i 2)

theorem algebraic : Cert.algebraic_Kernel8Ideal_Reference8Ideal := by
  intro m g m' g' _ hm
  refine ⟨fun c => Cert.Kernel8Ideal.Win.G (m ((c.tc : Thread _ _).loc Cert.Kernel8Ideal.main_arg9)) (m ((c.tc : Thread _ _).loc Cert.Kernel8Ideal.main_arg5)),
    fun c => Cert.Kernel8Ideal.Win.G (m ((c.tc : Thread _ _).loc Cert.Kernel8Ideal.main_arg10)) (m ((c.tc : Thread _ _).loc Cert.Kernel8Ideal.main_arg6)),
    (θ_run _ _ _).mono (fun r h c => ⟨((h.1 c).1 77).trans (Cert.Kernel8Ideal.Win.finalK m (Cert.Kernel8Ideal.Win.ok m) c),
      ((h.1 c).1 78).trans (Cert.Kernel8Ideal.Win.finalV m (Cert.Kernel8Ideal.Win.ok m) c), h.2 c⟩)
      (θ_run_and (Cert.Kernel8Ideal.Win.run_main m g (Cert.Kernel8Ideal.Win.ok m)) (Cert.Kernel8Ideal.Win.unchanged m g (Cert.Kernel8Ideal.Win.ok m))),
    (θ_run _ _ _).mono (fun r h c => ⟨?_, ?_, (h c).2.2⟩) (Cert.Reference8Ideal.Value.run m' g')⟩
  · obtain ⟨_, _, _, _, _, h5, _, _, _, h9, _⟩ := hm c
    refine (show _ = Cert.Reference8Ideal.Win.OUT _ _ from (h c).1).trans ?_
    rw [h5, h9]
    exact agree _ _
  · obtain ⟨_, _, _, _, _, _, h6, _, _, _, h10, _⟩ := hm c
    refine (show _ = Cert.Reference8Ideal.Win.OUT _ _ from (h c).2.1).trans ?_
    rw [h6, h10]
    exact agree _ _

end Cert.WinEquation

end
-- ==== Proof.lean ====
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.On_own_lanes
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_open_forget_gate
public import proofs.«01_k».proof.Proof.Gen.On_complete_blocks
public import proofs.«01_k».proof.Proof.CmpEquation
public import proofs.«01_k».proof.Proof.FfnEquation2
public import proofs.«01_k».proof.Proof.FfnEquation3
public import proofs.«01_k».proof.Proof.ProjEquation
public import proofs.«01_k».proof.Proof.MergeEquation
public import proofs.«01_k».proof.Proof.MdecEquation
public import proofs.«01_k».proof.Proof.CompressEquation
public import proofs.«01_k».proof.Proof.WinEquation

@[expose] public section

noncomputable section

namespace Cert.Proof

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Pre_open_forget_gate.Gen.facts,
    Cert.On_own_lanes.Gen.facts,
    Cert.On_complete_blocks.Gen.facts,
    Cert.CmpEquation.frame_kernel,
    Cert.CmpEquation.frame_kernel_ideal,
    Cert.CmpEquation.frame_reference,
    Cert.FfnEquation2.frame_kernel,
    Cert.FfnEquation2.frame_kernel_ideal,
    Cert.FfnEquation2.frame_reference,
    Cert.FfnEquation3.frame_kernel,
    Cert.FfnEquation3.frame_kernel_ideal,
    Cert.FfnEquation3.frame_reference,
    Cert.ProjEquation.frame_kernel,
    Cert.ProjEquation.frame_kernel_ideal,
    Cert.ProjEquation.frame_reference,
    Cert.MergeEquation.frame_kernel,
    Cert.MergeEquation.frame_kernel_ideal,
    Cert.MergeEquation.frame_reference,
    Cert.MdecEquation.frame_kernel,
    Cert.MdecEquation.frame_kernel_ideal,
    Cert.MdecEquation.frame_kernel_ideal_pre,
    Cert.MdecEquation.frame_reference,
    Cert.MdecEquation.frame_reference_pre,
    Cert.CompressEquation.frame_kernel,
    Cert.CompressEquation.frame_kernel_ideal,
    Cert.CompressEquation.frame_reference,
    Cert.WinEquation.frame_kernel,
    Cert.WinEquation.frame_kernel_ideal,
    Cert.WinEquation.frame_reference,
    Cert.CmpEquation.preserves,
    Cert.CmpEquation.algebraic,
    Cert.FfnEquation2.preserves,
    Cert.FfnEquation2.algebraic,
    Cert.FfnEquation3.preserves,
    Cert.FfnEquation3.algebraic,
    Cert.ProjEquation.preserves,
    Cert.ProjEquation.algebraic,
    Cert.MergeEquation.preserves,
    Cert.MergeEquation.algebraic,
    Cert.MdecEquation.preserves,
    Cert.MdecEquation.algebraic,
    Cert.CompressEquation.preserves,
    Cert.CompressEquation.algebraic,
    Cert.WinEquation.preserves,
    Cert.WinEquation.algebraic⟩

end Cert.Proof

end
